-- ==== Defs.lean ====
def Pre_Kernel [hPre_ids_name_rows : Cert.Pre_ids_name_rows.Facts] (m : (ℓ : Loc Cert.Kernel.nD Cert.Kernel.τ Cert.Kernel.sig) → Buf (Elt Bits) ℓ) : Prop :=
  ∀ c : Dev Cert.Kernel.nD,
    (Cert.Pre_ids_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_name_rows : Cert.Pre_ids_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_rows [hPre_ids_name_rows : Cert.Pre_ids_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ids_name_rows : Cert.Pre_ids_name_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_name_rows : Cert.Pre_ids_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_name_rows [hReferenceIdeal : Cert.ReferenceIdeal.Facts] [hPre_ids_name_rows : Cert.Pre_ids_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39AAAAAB#32 ((1 / 3072 : ℝ) : EReal)

def algebraic_KernelIdeal_ReferenceIdeal [hKernelIdeal : Cert.KernelIdeal.Facts] [hReferenceIdeal : Cert.ReferenceIdeal.Facts] [hPre_ids_name_rows : Cert.Pre_ids_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_name_rows : Cert.Pre_ids_name_rows.Facts),
    quiescent_Kernel (hKernel := hKernel) (hPre_ids_name_rows := hPre_ids_name_rows)
    ∧ quiescent_KernelIdeal (hKernelIdeal := hKernelIdeal) (hPre_ids_name_rows := hPre_ids_name_rows)
    ∧ quiescent_ReferenceIdeal (hReferenceIdeal := hReferenceIdeal)
    ∧ quiescent_ReferenceIdeal_pre_ids_name_rows (hReferenceIdeal := hReferenceIdeal) (hPre_ids_name_rows := hPre_ids_name_rows)
    ∧ preserves_Kernel_KernelIdeal
    ∧ algebraic_KernelIdeal_ReferenceIdeal (hKernelIdeal := hKernelIdeal) (hReferenceIdeal := hReferenceIdeal) (hPre_ids_name_rows := hPre_ids_name_rows)
-- ==== Pre_ids_name_rows.lean ====
abbrev S1x1024 : Shape := ⟨2, ![1, 1024]⟩
abbrev S8064x3072 : Shape := ⟨2, ![8064, 3072]⟩
abbrev S8064 : Shape := ⟨1, ![8064]⟩
abbrev S3072 : Shape := ⟨1, ![3072]⟩
abbrev S_ : Shape := ⟨0, ![]⟩

class Facts : Prop where
  bcast_S_S1x1024 : S_.BroadcastsInDim S1x1024 (![] : Fin 0 → Fin S1x1024.rank)

variable [Facts]

def fn {F : FTy → Type} [FloatOps F] (main_arg0 : IVec S1x1024 32) (main_arg1 : IVec S8064x3072 8) (main_arg2 : FVec F S8064 .f32) (main_arg3 : FVec F S8064 .bf16) (main_arg4 : FVec F S3072 .bf16) : IVec S1x1024 1 :=
  let main_c : IVec S_ 32 := constantI S_ 32 0#32
  let main_v0 : IVec S1x1024 32 := broadcastInDim S1x1024 ![] bcast_S_S1x1024 main_c
  let main_v1 : IVec S1x1024 1 := cmpi .sge main_arg0 main_v0
  let main_c_0 : IVec S_ 32 := constantI S_ 32 8064#32
  let main_v2 : IVec S1x1024 32 := broadcastInDim S1x1024 ![] bcast_S_S1x1024 main_c_0
  let main_v3 : IVec S1x1024 1 := cmpi .slt main_arg0 main_v2
  let main_v4 : IVec S1x1024 1 := andi main_v1 main_v3
  main_v4
-- ==== Kernel.lean ====
abbrev S1x1024 : Shape := ⟨2, ![1, 1024]⟩
abbrev S8064x3072 : Shape := ⟨2, ![8064, 3072]⟩
abbrev S8064 : Shape := ⟨1, ![8064]⟩
abbrev S3072 : Shape := ⟨1, ![3072]⟩
abbrev S2016x4x3072 : Shape := ⟨3, ![2016, 4, 3072]⟩
abbrev S2016x3072x4 : Shape := ⟨3, ![2016, 3072, 4]⟩
abbrev S2016x3072 : Shape := ⟨2, ![2016, 3072]⟩
abbrev S63x128 : Shape := ⟨2, ![63, 128]⟩
abbrev S1x3072 : Shape := ⟨2, ![1, 3072]⟩
abbrev S1024x3072 : Shape := ⟨2, ![1024, 3072]⟩
abbrev S2x32x128 : Shape := ⟨3, ![2, 32, 128]⟩
abbrev S1024x128 : Shape := ⟨2, ![1024, 128]⟩
abbrev S8 : Shape := ⟨1, ![8]⟩
abbrev S_ : Shape := ⟨0, ![]⟩
abbrev S1x1 : Shape := ⟨2, ![1, 1]⟩
abbrev S1 : Shape := ⟨1, ![1]⟩
abbrev S63x256 : Shape := ⟨2, ![63, 256]⟩
abbrev S128x128 : Shape := ⟨2, ![128, 128]⟩
abbrev S1x128 : Shape := ⟨2, ![1, 128]⟩
abbrev S128x63 : Shape := ⟨2, ![128, 63]⟩
abbrev S128x256 : Shape := ⟨2, ![128, 256]⟩
abbrev S128 : Shape := ⟨1, ![128]⟩
abbrev S128x1 : Shape := ⟨2, ![128, 1]⟩
abbrev S32x128 : Shape := ⟨2, ![32, 128]⟩
abbrev S1x32x128 : Shape := ⟨3, ![1, 32, 128]⟩
abbrev S32x3072 : Shape := ⟨2, ![32, 3072]⟩
abbrev S32 : Shape := ⟨1, ![32]⟩
abbrev S32x1 : Shape := ⟨2, ![32, 1]⟩
abbrev S1x1024x3072 : Shape := ⟨3, ![1, 1024, 3072]⟩

abbrev nBuf : Space → Nat
  | .hbm => 15
  | .vmem => 11
  | .smem => 1
  | _ => 0

abbrev bufTy : (tb : Table) → Fin (tcTables nBuf tb) → BufTy
  | .hbm, ⟨0, _⟩ => ⟨S1x1024, .i32⟩
  | .hbm, ⟨1, _⟩ => ⟨S8064x3072, .i8⟩
  | .hbm, ⟨2, _⟩ => ⟨S8064, .f32⟩
  | .hbm, ⟨3, _⟩ => ⟨S8064, .bf16⟩
  | .hbm, ⟨4, _⟩ => ⟨S3072, .bf16⟩
  | .hbm, ⟨5, _⟩ => ⟨S2016x4x3072, .i8⟩
  | .hbm, ⟨6, _⟩ => ⟨S2016x3072x4, .i8⟩
  | .hbm, ⟨7, _⟩ => ⟨S2016x3072, .i32⟩
  | .hbm, ⟨8, _⟩ => ⟨S63x128, .f32⟩
  | .hbm, ⟨9, _⟩ => ⟨S63x128, .bf16⟩
  | .hbm, ⟨10, _⟩ => ⟨S1x3072, .bf16⟩
  | .hbm, ⟨11, _⟩ => ⟨S1024x3072, .bf16⟩
  | .hbm, ⟨12, _⟩ => ⟨S1024x3072, .bf16⟩
  | .hbm, ⟨13, _⟩ => ⟨S1x1024x3072, .bf16⟩
  | .hbm, ⟨14, _⟩ => ⟨S1x1024x3072, .bf16⟩
  | .local _ .vmem, ⟨0, _⟩ => ⟨S1x1024, .i32⟩
  | .local _ .vmem, ⟨1, _⟩ => ⟨S63x128, .f32⟩
  | .local _ .vmem, ⟨2, _⟩ => ⟨S63x128, .bf16⟩
  | .local _ .vmem, ⟨3, _⟩ => ⟨S1x3072, .bf16⟩
  | .local _ .vmem, ⟨4, _⟩ => ⟨S1024x3072, .i32⟩
  | .local _ .vmem, ⟨5, _⟩ => ⟨S1024x3072, .bf16⟩
  | .local _ .vmem, ⟨6, _⟩ => ⟨S1024x3072, .bf16⟩
  | .local _ .vmem, ⟨7, _⟩ => ⟨S2x32x128, .f32⟩
  | .local _ .vmem, ⟨8, _⟩ => ⟨S1024x128, .i32⟩
  | .local _ .vmem, ⟨9, _⟩ => ⟨S1024x128, .bf16⟩
  | .local _ .vmem, ⟨10, _⟩ => ⟨S1024x128, .bf16⟩
  | .local _ .smem, ⟨0, _⟩ => ⟨S1x1024, .i32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 2 → Nat :=
  let c0_448 : Index := 0#32
  let c0_i32 : BitVec 32 := 0#32
  let c1_i32 : BitVec 32 := 1#32
  let arg18 : BitVec 32 := Scf.iv c0_i32 c1_i32 k0_t1
  let c32_i32 : BitVec 32 := 32#32
  let v1264 : BitVec 32 := Scalar.muli arg18 c32_i32
  let c0_i32_447 : BitVec 32 := 0#32
  let v1265 : BitVec 32 := Scalar.addi v1264 c0_i32_447
  let v1266 : Index := Scalar.indexCast v1265
  ![0, v1266.toNat]
def k0_off2 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_450 : BitVec 32 := 8#32
  let c0_i32_451 : BitVec 32 := 0#32
  let v1269 : BitVec 1 := Scalar.cmpi .eq c8_i32_450 c0_i32_451
  let c1_i32_452 : BitVec 32 := 1#32
  let v1270 : BitVec 32 := Scalar.select v1269 c1_i32_452 c8_i32_450
  let v1271 : BitVec 32 := Scalar.remsi arg18 v1270
  let c0_i32_454 : BitVec 32 := 0#32
  let v1273 : BitVec 1 := Scalar.cmpi .slt v1271 c0_i32_454
  let c0_i32_455 : BitVec 32 := 0#32
  let v1274 : BitVec 1 := Scalar.cmpi .slt v1270 c0_i32_455
  let v1275 : BitVec 1 := Scalar.xori v1273 v1274
  let c0_i32_453 : BitVec 32 := 0#32
  let v1272 : BitVec 1 := Scalar.cmpi .ne v1271 c0_i32_453
  let v1276 : BitVec 1 := Scalar.andi v1275 v1272
  let v1277 : BitVec 32 := Scalar.addi v1271 v1270
  let v1278 : BitVec 32 := Scalar.select v1276 v1277 v1271
  ![v1278.toNat]
def k0_off3 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32 : BitVec 32 := 32#32
  let v1264 : BitVec 32 := Scalar.muli arg18 c32_i32
  let c0_i32_447 : BitVec 32 := 0#32
  let v1265 : BitVec 32 := Scalar.addi v1264 c0_i32_447
  let c0_i32_456 : BitVec 32 := 0#32
  ![v1265.toNat, 0]
def k0_off4 (v1267 : BitVec 32) : Fin 2 → Nat :=
  let c2_i32_449 : BitVec 32 := 2#32
  let v1268 : BitVec 32 := Scalar.shrui v1267 c2_i32_449
  let c0_i32_457 : BitVec 32 := 0#32
  ![v1268.toNat, 0]

def k0_chk1 (v1267 : BitVec 32) : Prop :=
  (∀ a, (k0_off4 v1267) a + S1x3072.size a ≤ S2016x3072.size a)
theorem k0_off4_inb : ∀ (v1267 : BitVec 32) (k0_hw1 : k0_chk1 v1267), ∀ a, (k0_off4 v1267) a + S1x3072.size a ≤ S2016x3072.size a := fun v1267 k0_hw1 => k0_hw1

def k0_off5 (k0_t1 : Fin k0_t1_loop.trips) : Fin 2 → Nat :=
  let c0_460 : Index := 0#32
  let c0_i32 : BitVec 32 := 0#32
  let c1_i32 : BitVec 32 := 1#32
  let arg18 : BitVec 32 := Scf.iv c0_i32 c1_i32 k0_t1
  let c32_i32_458 : BitVec 32 := 32#32
  let v1283 : BitVec 32 := Scalar.muli arg18 c32_i32_458
  let c1_i32_459 : BitVec 32 := 1#32
  let v1284 : BitVec 32 := Scalar.addi v1283 c1_i32_459
  let v1285 : Index := Scalar.indexCast v1284
  ![0, v1285.toNat]
def k0_off6 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_462 : BitVec 32 := 8#32
  let c0_i32_463 : BitVec 32 := 0#32
  let v1288 : BitVec 1 := Scalar.cmpi .eq c8_i32_462 c0_i32_463
  let c1_i32_464 : BitVec 32 := 1#32
  let v1289 : BitVec 32 := Scalar.select v1288 c1_i32_464 c8_i32_462
  let v1290 : BitVec 32 := Scalar.remsi arg18 v1289
  let c0_i32_466 : BitVec 32 := 0#32
  let v1292 : BitVec 1 := Scalar.cmpi .slt v1290 c0_i32_466
  let c0_i32_467 : BitVec 32 := 0#32
  let v1293 : BitVec 1 := Scalar.cmpi .slt v1289 c0_i32_467
  let v1294 : BitVec 1 := Scalar.xori v1292 v1293
  let c0_i32_465 : BitVec 32 := 0#32
  let v1291 : BitVec 1 := Scalar.cmpi .ne v1290 c0_i32_465
  let v1295 : BitVec 1 := Scalar.andi v1294 v1291
  let v1296 : BitVec 32 := Scalar.addi v1290 v1289
  let v1297 : BitVec 32 := Scalar.select v1295 v1296 v1290
  ![v1297.toNat]
def k0_off7 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_458 : BitVec 32 := 32#32
  let v1283 : BitVec 32 := Scalar.muli arg18 c32_i32_458
  let c1_i32_459 : BitVec 32 := 1#32
  let v1284 : BitVec 32 := Scalar.addi v1283 c1_i32_459
  let c0_i32_468 : BitVec 32 := 0#32
  ![v1284.toNat, 0]
def k0_off8 (v1286 : BitVec 32) : Fin 2 → Nat :=
  let c2_i32_461 : BitVec 32 := 2#32
  let v1287 : BitVec 32 := Scalar.shrui v1286 c2_i32_461
  let c0_i32_469 : BitVec 32 := 0#32
  ![v1287.toNat, 0]

def k0_chk2 (v1286 : BitVec 32) : Prop :=
  (∀ a, (k0_off8 v1286) a + S1x3072.size a ≤ S2016x3072.size a)
theorem k0_off8_inb : ∀ (v1286 : BitVec 32) (k0_hw2 : k0_chk2 v1286), ∀ a, (k0_off8 v1286) a + S1x3072.size a ≤ S2016x3072.size a := fun v1286 k0_hw2 => k0_hw2

def k0_off9 (k0_t1 : Fin k0_t1_loop.trips) : Fin 2 → Nat :=
  let c0_472 : Index := 0#32
  let c0_i32 : BitVec 32 := 0#32
  let c1_i32 : BitVec 32 := 1#32
  let arg18 : BitVec 32 := Scf.iv c0_i32 c1_i32 k0_t1
  let c32_i32_470 : BitVec 32 := 32#32
  let v1302 : BitVec 32 := Scalar.muli arg18 c32_i32_470
  let c2_i32_471 : BitVec 32 := 2#32
  let v1303 : BitVec 32 := Scalar.addi v1302 c2_i32_471
  let v1304 : Index := Scalar.indexCast v1303
  ![0, v1304.toNat]
def k0_off10 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_474 : BitVec 32 := 8#32
  let c0_i32_475 : BitVec 32 := 0#32
  let v1307 : BitVec 1 := Scalar.cmpi .eq c8_i32_474 c0_i32_475
  let c1_i32_476 : BitVec 32 := 1#32
  let v1308 : BitVec 32 := Scalar.select v1307 c1_i32_476 c8_i32_474
  let v1309 : BitVec 32 := Scalar.remsi arg18 v1308
  let c0_i32_478 : BitVec 32 := 0#32
  let v1311 : BitVec 1 := Scalar.cmpi .slt v1309 c0_i32_478
  let c0_i32_479 : BitVec 32 := 0#32
  let v1312 : BitVec 1 := Scalar.cmpi .slt v1308 c0_i32_479
  let v1313 : BitVec 1 := Scalar.xori v1311 v1312
  let c0_i32_477 : BitVec 32 := 0#32
  let v1310 : BitVec 1 := Scalar.cmpi .ne v1309 c0_i32_477
  let v1314 : BitVec 1 := Scalar.andi v1313 v1310
  let v1315 : BitVec 32 := Scalar.addi v1309 v1308
  let v1316 : BitVec 32 := Scalar.select v1314 v1315 v1309
  ![v1316.toNat]
def k0_off11 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_470 : BitVec 32 := 32#32
  let v1302 : BitVec 32 := Scalar.muli arg18 c32_i32_470
  let c2_i32_471 : BitVec 32 := 2#32
  let v1303 : BitVec 32 := Scalar.addi v1302 c2_i32_471
  let c0_i32_480 : BitVec 32 := 0#32
  ![v1303.toNat, 0]
def k0_off12 (v1305 : BitVec 32) : Fin 2 → Nat :=
  let c2_i32_473 : BitVec 32 := 2#32
  let v1306 : BitVec 32 := Scalar.shrui v1305 c2_i32_473
  let c0_i32_481 : BitVec 32 := 0#32
  ![v1306.toNat, 0]

def k0_chk3 (v1305 : BitVec 32) : Prop :=
  (∀ a, (k0_off12 v1305) a + S1x3072.size a ≤ S2016x3072.size a)
theorem k0_off12_inb : ∀ (v1305 : BitVec 32) (k0_hw3 : k0_chk3 v1305), ∀ a, (k0_off12 v1305) a + S1x3072.size a ≤ S2016x3072.size a := fun v1305 k0_hw3 => k0_hw3

def k0_off13 (k0_t1 : Fin k0_t1_loop.trips) : Fin 2 → Nat :=
  let c0_484 : Index := 0#32
  let c0_i32 : BitVec 32 := 0#32
  let c1_i32 : BitVec 32 := 1#32
  let arg18 : BitVec 32 := Scf.iv c0_i32 c1_i32 k0_t1
  let c32_i32_482 : BitVec 32 := 32#32
  let v1321 : BitVec 32 := Scalar.muli arg18 c32_i32_482
  let c3_i32_483 : BitVec 32 := 3#32
  let v1322 : BitVec 32 := Scalar.addi v1321 c3_i32_483
  let v1323 : Index := Scalar.indexCast v1322
  ![0, v1323.toNat]
def k0_off14 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_486 : BitVec 32 := 8#32
  let c0_i32_487 : BitVec 32 := 0#32
  let v1326 : BitVec 1 := Scalar.cmpi .eq c8_i32_486 c0_i32_487
  let c1_i32_488 : BitVec 32 := 1#32
  let v1327 : BitVec 32 := Scalar.select v1326 c1_i32_488 c8_i32_486
  let v1328 : BitVec 32 := Scalar.remsi arg18 v1327
  let c0_i32_490 : BitVec 32 := 0#32
  let v1330 : BitVec 1 := Scalar.cmpi .slt v1328 c0_i32_490
  let c0_i32_491 : BitVec 32 := 0#32
  let v1331 : BitVec 1 := Scalar.cmpi .slt v1327 c0_i32_491
  let v1332 : BitVec 1 := Scalar.xori v1330 v1331
  let c0_i32_489 : BitVec 32 := 0#32
  let v1329 : BitVec 1 := Scalar.cmpi .ne v1328 c0_i32_489
  let v1333 : BitVec 1 := Scalar.andi v1332 v1329
  let v1334 : BitVec 32 := Scalar.addi v1328 v1327
  let v1335 : BitVec 32 := Scalar.select v1333 v1334 v1328
  ![v1335.toNat]
def k0_off15 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_482 : BitVec 32 := 32#32
  let v1321 : BitVec 32 := Scalar.muli arg18 c32_i32_482
  let c3_i32_483 : BitVec 32 := 3#32
  let v1322 : BitVec 32 := Scalar.addi v1321 c3_i32_483
  let c0_i32_492 : BitVec 32 := 0#32
  ![v1322.toNat, 0]
def k0_off16 (v1324 : BitVec 32) : Fin 2 → Nat :=
  let c2_i32_485 : BitVec 32 := 2#32
  let v1325 : BitVec 32 := Scalar.shrui v1324 c2_i32_485
  let c0_i32_493 : BitVec 32 := 0#32
  ![v1325.toNat, 0]

def k0_chk4 (v1324 : BitVec 32) : Prop :=
  (∀ a, (k0_off16 v1324) a + S1x3072.size a ≤ S2016x3072.size a)
theorem k0_off16_inb : ∀ (v1324 : BitVec 32) (k0_hw4 : k0_chk4 v1324), ∀ a, (k0_off16 v1324) a + S1x3072.size a ≤ S2016x3072.size a := fun v1324 k0_hw4 => k0_hw4

def k0_off17 (k0_t1 : Fin k0_t1_loop.trips) : Fin 2 → Nat :=
  let c0_496 : Index := 0#32
  let c0_i32 : BitVec 32 := 0#32
  let c1_i32 : BitVec 32 := 1#32
  let arg18 : BitVec 32 := Scf.iv c0_i32 c1_i32 k0_t1
  let c32_i32_494 : BitVec 32 := 32#32
  let v1340 : BitVec 32 := Scalar.muli arg18 c32_i32_494
  let c4_i32_495 : BitVec 32 := 4#32
  let v1341 : BitVec 32 := Scalar.addi v1340 c4_i32_495
  let v1342 : Index := Scalar.indexCast v1341
  ![0, v1342.toNat]
def k0_off18 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_498 : BitVec 32 := 8#32
  let c0_i32_499 : BitVec 32 := 0#32
  let v1345 : BitVec 1 := Scalar.cmpi .eq c8_i32_498 c0_i32_499
  let c1_i32_500 : BitVec 32 := 1#32
  let v1346 : BitVec 32 := Scalar.select v1345 c1_i32_500 c8_i32_498
  let v1347 : BitVec 32 := Scalar.remsi arg18 v1346
  let c0_i32_502 : BitVec 32 := 0#32
  let v1349 : BitVec 1 := Scalar.cmpi .slt v1347 c0_i32_502
  let c0_i32_503 : BitVec 32 := 0#32
  let v1350 : BitVec 1 := Scalar.cmpi .slt v1346 c0_i32_503
  let v1351 : BitVec 1 := Scalar.xori v1349 v1350
  let c0_i32_501 : BitVec 32 := 0#32
  let v1348 : BitVec 1 := Scalar.cmpi .ne v1347 c0_i32_501
  let v1352 : BitVec 1 := Scalar.andi v1351 v1348
  let v1353 : BitVec 32 := Scalar.addi v1347 v1346
  let v1354 : BitVec 32 := Scalar.select v1352 v1353 v1347
  ![v1354.toNat]
def k0_off19 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_494 : BitVec 32 := 32#32
  let v1340 : BitVec 32 := Scalar.muli arg18 c32_i32_494
  let c4_i32_495 : BitVec 32 := 4#32
  let v1341 : BitVec 32 := Scalar.addi v1340 c4_i32_495
  let c0_i32_504 : BitVec 32 := 0#32
  ![v1341.toNat, 0]
def k0_off20 (v1343 : BitVec 32) : Fin 2 → Nat :=
  let c2_i32_497 : BitVec 32 := 2#32
  let v1344 : BitVec 32 := Scalar.shrui v1343 c2_i32_497
  let c0_i32_505 : BitVec 32 := 0#32
  ![v1344.toNat, 0]

def k0_chk5 (v1343 : BitVec 32) : Prop :=
  (∀ a, (k0_off20 v1343) a + S1x3072.size a ≤ S2016x3072.size a)
theorem k0_off20_inb : ∀ (v1343 : BitVec 32) (k0_hw5 : k0_chk5 v1343), ∀ a, (k0_off20 v1343) a + S1x3072.size a ≤ S2016x3072.size a := fun v1343 k0_hw5 => k0_hw5

def k0_off21 (k0_t1 : Fin k0_t1_loop.trips) : Fin 2 → Nat :=
  let c0_508 : Index := 0#32
  let c0_i32 : BitVec 32 := 0#32
  let c1_i32 : BitVec 32 := 1#32
  let arg18 : BitVec 32 := Scf.iv c0_i32 c1_i32 k0_t1
  let c32_i32_506 : BitVec 32 := 32#32
  let v1359 : BitVec 32 := Scalar.muli arg18 c32_i32_506
  let c5_i32_507 : BitVec 32 := 5#32
  let v1360 : BitVec 32 := Scalar.addi v1359 c5_i32_507
  let v1361 : Index := Scalar.indexCast v1360
  ![0, v1361.toNat]
def k0_off22 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_510 : BitVec 32 := 8#32
  let c0_i32_511 : BitVec 32 := 0#32
  let v1364 : BitVec 1 := Scalar.cmpi .eq c8_i32_510 c0_i32_511
  let c1_i32_512 : BitVec 32 := 1#32
  let v1365 : BitVec 32 := Scalar.select v1364 c1_i32_512 c8_i32_510
  let v1366 : BitVec 32 := Scalar.remsi arg18 v1365
  let c0_i32_514 : BitVec 32 := 0#32
  let v1368 : BitVec 1 := Scalar.cmpi .slt v1366 c0_i32_514
  let c0_i32_515 : BitVec 32 := 0#32
  let v1369 : BitVec 1 := Scalar.cmpi .slt v1365 c0_i32_515
  let v1370 : BitVec 1 := Scalar.xori v1368 v1369
  let c0_i32_513 : BitVec 32 := 0#32
  let v1367 : BitVec 1 := Scalar.cmpi .ne v1366 c0_i32_513
  let v1371 : BitVec 1 := Scalar.andi v1370 v1367
  let v1372 : BitVec 32 := Scalar.addi v1366 v1365
  let v1373 : BitVec 32 := Scalar.select v1371 v1372 v1366
  ![v1373.toNat]
def k0_off23 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_506 : BitVec 32 := 32#32
  let v1359 : BitVec 32 := Scalar.muli arg18 c32_i32_506
  let c5_i32_507 : BitVec 32 := 5#32
  let v1360 : BitVec 32 := Scalar.addi v1359 c5_i32_507
  let c0_i32_516 : BitVec 32 := 0#32
  ![v1360.toNat, 0]
def k0_off24 (v1362 : BitVec 32) : Fin 2 → Nat :=
  let c2_i32_509 : BitVec 32 := 2#32
  let v1363 : BitVec 32 := Scalar.shrui v1362 c2_i32_509
  let c0_i32_517 : BitVec 32 := 0#32
  ![v1363.toNat, 0]

def k0_chk6 (v1362 : BitVec 32) : Prop :=
  (∀ a, (k0_off24 v1362) a + S1x3072.size a ≤ S2016x3072.size a)
theorem k0_off24_inb : ∀ (v1362 : BitVec 32) (k0_hw6 : k0_chk6 v1362), ∀ a, (k0_off24 v1362) a + S1x3072.size a ≤ S2016x3072.size a := fun v1362 k0_hw6 => k0_hw6

def k0_off25 (k0_t1 : Fin k0_t1_loop.trips) : Fin 2 → Nat :=
  let c0_520 : Index := 0#32
  let c0_i32 : BitVec 32 := 0#32
  let c1_i32 : BitVec 32 := 1#32
  let arg18 : BitVec 32 := Scf.iv c0_i32 c1_i32 k0_t1
  let c32_i32_518 : BitVec 32 := 32#32
  let v1378 : BitVec 32 := Scalar.muli arg18 c32_i32_518
  let c6_i32_519 : BitVec 32 := 6#32
  let v1379 : BitVec 32 := Scalar.addi v1378 c6_i32_519
  let v1380 : Index := Scalar.indexCast v1379
  ![0, v1380.toNat]
def k0_off26 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_522 : BitVec 32 := 8#32
  let c0_i32_523 : BitVec 32 := 0#32
  let v1383 : BitVec 1 := Scalar.cmpi .eq c8_i32_522 c0_i32_523
  let c1_i32_524 : BitVec 32 := 1#32
  let v1384 : BitVec 32 := Scalar.select v1383 c1_i32_524 c8_i32_522
  let v1385 : BitVec 32 := Scalar.remsi arg18 v1384
  let c0_i32_526 : BitVec 32 := 0#32
  let v1387 : BitVec 1 := Scalar.cmpi .slt v1385 c0_i32_526
  let c0_i32_527 : BitVec 32 := 0#32
  let v1388 : BitVec 1 := Scalar.cmpi .slt v1384 c0_i32_527
  let v1389 : BitVec 1 := Scalar.xori v1387 v1388
  let c0_i32_525 : BitVec 32 := 0#32
  let v1386 : BitVec 1 := Scalar.cmpi .ne v1385 c0_i32_525
  let v1390 : BitVec 1 := Scalar.andi v1389 v1386
  let v1391 : BitVec 32 := Scalar.addi v1385 v1384
  let v1392 : BitVec 32 := Scalar.select v1390 v1391 v1385
  ![v1392.toNat]
def k0_off27 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_518 : BitVec 32 := 32#32
  let v1378 : BitVec 32 := Scalar.muli arg18 c32_i32_518
  let c6_i32_519 : BitVec 32 := 6#32
  let v1379 : BitVec 32 := Scalar.addi v1378 c6_i32_519
  let c0_i32_528 : BitVec 32 := 0#32
  ![v1379.toNat, 0]
def k0_off28 (v1381 : BitVec 32) : Fin 2 → Nat :=
  let c2_i32_521 : BitVec 32 := 2#32
  let v1382 : BitVec 32 := Scalar.shrui v1381 c2_i32_521
  let c0_i32_529 : BitVec 32 := 0#32
  ![v1382.toNat, 0]

def k0_chk7 (v1381 : BitVec 32) : Prop :=
  (∀ a, (k0_off28 v1381) a + S1x3072.size a ≤ S2016x3072.size a)
theorem k0_off28_inb : ∀ (v1381 : BitVec 32) (k0_hw7 : k0_chk7 v1381), ∀ a, (k0_off28 v1381) a + S1x3072.size a ≤ S2016x3072.size a := fun v1381 k0_hw7 => k0_hw7

def k0_off29 (k0_t1 : Fin k0_t1_loop.trips) : Fin 2 → Nat :=
  let c0_532 : Index := 0#32
  let c0_i32 : BitVec 32 := 0#32
  let c1_i32 : BitVec 32 := 1#32
  let arg18 : BitVec 32 := Scf.iv c0_i32 c1_i32 k0_t1
  let c32_i32_530 : BitVec 32 := 32#32
  let v1397 : BitVec 32 := Scalar.muli arg18 c32_i32_530
  let c7_i32_531 : BitVec 32 := 7#32
  let v1398 : BitVec 32 := Scalar.addi v1397 c7_i32_531
  let v1399 : Index := Scalar.indexCast v1398
  ![0, v1399.toNat]
def k0_off30 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_534 : BitVec 32 := 8#32
  let c0_i32_535 : BitVec 32 := 0#32
  let v1402 : BitVec 1 := Scalar.cmpi .eq c8_i32_534 c0_i32_535
  let c1_i32_536 : BitVec 32 := 1#32
  let v1403 : BitVec 32 := Scalar.select v1402 c1_i32_536 c8_i32_534
  let v1404 : BitVec 32 := Scalar.remsi arg18 v1403
  let c0_i32_538 : BitVec 32 := 0#32
  let v1406 : BitVec 1 := Scalar.cmpi .slt v1404 c0_i32_538
  let c0_i32_539 : BitVec 32 := 0#32
  let v1407 : BitVec 1 := Scalar.cmpi .slt v1403 c0_i32_539
  let v1408 : BitVec 1 := Scalar.xori v1406 v1407
  let c0_i32_537 : BitVec 32 := 0#32
  let v1405 : BitVec 1 := Scalar.cmpi .ne v1404 c0_i32_537
  let v1409 : BitVec 1 := Scalar.andi v1408 v1405
  let v1410 : BitVec 32 := Scalar.addi v1404 v1403
  let v1411 : BitVec 32 := Scalar.select v1409 v1410 v1404
  ![v1411.toNat]
def k0_off31 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_530 : BitVec 32 := 32#32
  let v1397 : BitVec 32 := Scalar.muli arg18 c32_i32_530
  let c7_i32_531 : BitVec 32 := 7#32
  let v1398 : BitVec 32 := Scalar.addi v1397 c7_i32_531
  let c0_i32_540 : BitVec 32 := 0#32
  ![v1398.toNat, 0]
def k0_off32 (v1400 : BitVec 32) : Fin 2 → Nat :=
  let c2_i32_533 : BitVec 32 := 2#32
  let v1401 : BitVec 32 := Scalar.shrui v1400 c2_i32_533
  let c0_i32_541 : BitVec 32 := 0#32
  ![v1401.toNat, 0]

def k0_chk8 (v1400 : BitVec 32) : Prop :=
  (∀ a, (k0_off32 v1400) a + S1x3072.size a ≤ S2016x3072.size a)
theorem k0_off32_inb : ∀ (v1400 : BitVec 32) (k0_hw8 : k0_chk8 v1400), ∀ a, (k0_off32 v1400) a + S1x3072.size a ≤ S2016x3072.size a := fun v1400 k0_hw8 => k0_hw8

def k0_off33 (k0_t1 : Fin k0_t1_loop.trips) : Fin 2 → Nat :=
  let c0_544 : Index := 0#32
  let c0_i32 : BitVec 32 := 0#32
  let c1_i32 : BitVec 32 := 1#32
  let arg18 : BitVec 32 := Scf.iv c0_i32 c1_i32 k0_t1
  let c32_i32_542 : BitVec 32 := 32#32
  let v1416 : BitVec 32 := Scalar.muli arg18 c32_i32_542
  let c8_i32_543 : BitVec 32 := 8#32
  let v1417 : BitVec 32 := Scalar.addi v1416 c8_i32_543
  let v1418 : Index := Scalar.indexCast v1417
  ![0, v1418.toNat]
def k0_off34 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_546 : BitVec 32 := 8#32
  let c0_i32_547 : BitVec 32 := 0#32
  let v1421 : BitVec 1 := Scalar.cmpi .eq c8_i32_546 c0_i32_547
  let c1_i32_548 : BitVec 32 := 1#32
  let v1422 : BitVec 32 := Scalar.select v1421 c1_i32_548 c8_i32_546
  let v1423 : BitVec 32 := Scalar.remsi arg18 v1422
  let c0_i32_550 : BitVec 32 := 0#32
  let v1425 : BitVec 1 := Scalar.cmpi .slt v1423 c0_i32_550
  let c0_i32_551 : BitVec 32 := 0#32
  let v1426 : BitVec 1 := Scalar.cmpi .slt v1422 c0_i32_551
  let v1427 : BitVec 1 := Scalar.xori v1425 v1426
  let c0_i32_549 : BitVec 32 := 0#32
  let v1424 : BitVec 1 := Scalar.cmpi .ne v1423 c0_i32_549
  let v1428 : BitVec 1 := Scalar.andi v1427 v1424
  let v1429 : BitVec 32 := Scalar.addi v1423 v1422
  let v1430 : BitVec 32 := Scalar.select v1428 v1429 v1423
  ![v1430.toNat]
def k0_off35 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_542 : BitVec 32 := 32#32
  let v1416 : BitVec 32 := Scalar.muli arg18 c32_i32_542
  let c8_i32_543 : BitVec 32 := 8#32
  let v1417 : BitVec 32 := Scalar.addi v1416 c8_i32_543
  let c0_i32_552 : BitVec 32 := 0#32
  ![v1417.toNat, 0]
def k0_off36 (v1419 : BitVec 32) : Fin 2 → Nat :=
  let c2_i32_545 : BitVec 32 := 2#32
  let v1420 : BitVec 32 := Scalar.shrui v1419 c2_i32_545
  let c0_i32_553 : BitVec 32 := 0#32
  ![v1420.toNat, 0]

def k0_chk9 (v1419 : BitVec 32) : Prop :=
  (∀ a, (k0_off36 v1419) a + S1x3072.size a ≤ S2016x3072.size a)
theorem k0_off36_inb : ∀ (v1419 : BitVec 32) (k0_hw9 : k0_chk9 v1419), ∀ a, (k0_off36 v1419) a + S1x3072.size a ≤ S2016x3072.size a := fun v1419 k0_hw9 => k0_hw9

def k0_off37 (k0_t1 : Fin k0_t1_loop.trips) : Fin 2 → Nat :=
  let c0_556 : Index := 0#32
  let c0_i32 : BitVec 32 := 0#32
  let c1_i32 : BitVec 32 := 1#32
  let arg18 : BitVec 32 := Scf.iv c0_i32 c1_i32 k0_t1
  let c32_i32_554 : BitVec 32 := 32#32
  let v1435 : BitVec 32 := Scalar.muli arg18 c32_i32_554
  let c9_i32_555 : BitVec 32 := 9#32
  let v1436 : BitVec 32 := Scalar.addi v1435 c9_i32_555
  let v1437 : Index := Scalar.indexCast v1436
  ![0, v1437.toNat]
def k0_off38 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_558 : BitVec 32 := 8#32
  let c0_i32_559 : BitVec 32 := 0#32
  let v1440 : BitVec 1 := Scalar.cmpi .eq c8_i32_558 c0_i32_559
  let c1_i32_560 : BitVec 32 := 1#32
  let v1441 : BitVec 32 := Scalar.select v1440 c1_i32_560 c8_i32_558
  let v1442 : BitVec 32 := Scalar.remsi arg18 v1441
  let c0_i32_562 : BitVec 32 := 0#32
  let v1444 : BitVec 1 := Scalar.cmpi .slt v1442 c0_i32_562
  let c0_i32_563 : BitVec 32 := 0#32
  let v1445 : BitVec 1 := Scalar.cmpi .slt v1441 c0_i32_563
  let v1446 : BitVec 1 := Scalar.xori v1444 v1445
  let c0_i32_561 : BitVec 32 := 0#32
  let v1443 : BitVec 1 := Scalar.cmpi .ne v1442 c0_i32_561
  let v1447 : BitVec 1 := Scalar.andi v1446 v1443
  let v1448 : BitVec 32 := Scalar.addi v1442 v1441
  let v1449 : BitVec 32 := Scalar.select v1447 v1448 v1442
  ![v1449.toNat]
def k0_off39 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_554 : BitVec 32 := 32#32
  let v1435 : BitVec 32 := Scalar.muli arg18 c32_i32_554
  let c9_i32_555 : BitVec 32 := 9#32
  let v1436 : BitVec 32 := Scalar.addi v1435 c9_i32_555
  let c0_i32_564 : BitVec 32 := 0#32
  ![v1436.toNat, 0]
def k0_off40 (v1438 : BitVec 32) : Fin 2 → Nat :=
  let c2_i32_557 : BitVec 32 := 2#32
  let v1439 : BitVec 32 := Scalar.shrui v1438 c2_i32_557
  let c0_i32_565 : BitVec 32 := 0#32
  ![v1439.toNat, 0]

def k0_chk10 (v1438 : BitVec 32) : Prop :=
  (∀ a, (k0_off40 v1438) a + S1x3072.size a ≤ S2016x3072.size a)
theorem k0_off40_inb : ∀ (v1438 : BitVec 32) (k0_hw10 : k0_chk10 v1438), ∀ a, (k0_off40 v1438) a + S1x3072.size a ≤ S2016x3072.size a := fun v1438 k0_hw10 => k0_hw10

def k0_off41 (k0_t1 : Fin k0_t1_loop.trips) : Fin 2 → Nat :=
  let c0_568 : Index := 0#32
  let c0_i32 : BitVec 32 := 0#32
  let c1_i32 : BitVec 32 := 1#32
  let arg18 : BitVec 32 := Scf.iv c0_i32 c1_i32 k0_t1
  let c32_i32_566 : BitVec 32 := 32#32
  let v1454 : BitVec 32 := Scalar.muli arg18 c32_i32_566
  let c10_i32_567 : BitVec 32 := 10#32
  let v1455 : BitVec 32 := Scalar.addi v1454 c10_i32_567
  let v1456 : Index := Scalar.indexCast v1455
  ![0, v1456.toNat]
def k0_off42 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_570 : BitVec 32 := 8#32
  let c0_i32_571 : BitVec 32 := 0#32
  let v1459 : BitVec 1 := Scalar.cmpi .eq c8_i32_570 c0_i32_571
  let c1_i32_572 : BitVec 32 := 1#32
  let v1460 : BitVec 32 := Scalar.select v1459 c1_i32_572 c8_i32_570
  let v1461 : BitVec 32 := Scalar.remsi arg18 v1460
  let c0_i32_574 : BitVec 32 := 0#32
  let v1463 : BitVec 1 := Scalar.cmpi .slt v1461 c0_i32_574
  let c0_i32_575 : BitVec 32 := 0#32
  let v1464 : BitVec 1 := Scalar.cmpi .slt v1460 c0_i32_575
  let v1465 : BitVec 1 := Scalar.xori v1463 v1464
  let c0_i32_573 : BitVec 32 := 0#32
  let v1462 : BitVec 1 := Scalar.cmpi .ne v1461 c0_i32_573
  let v1466 : BitVec 1 := Scalar.andi v1465 v1462
  let v1467 : BitVec 32 := Scalar.addi v1461 v1460
  let v1468 : BitVec 32 := Scalar.select v1466 v1467 v1461
  ![v1468.toNat]
def k0_off43 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_566 : BitVec 32 := 32#32
  let v1454 : BitVec 32 := Scalar.muli arg18 c32_i32_566
  let c10_i32_567 : BitVec 32 := 10#32
  let v1455 : BitVec 32 := Scalar.addi v1454 c10_i32_567
  let c0_i32_576 : BitVec 32 := 0#32
  ![v1455.toNat, 0]
def k0_off44 (v1457 : BitVec 32) : Fin 2 → Nat :=
  let c2_i32_569 : BitVec 32 := 2#32
  let v1458 : BitVec 32 := Scalar.shrui v1457 c2_i32_569
  let c0_i32_577 : BitVec 32 := 0#32
  ![v1458.toNat, 0]

def k0_chk11 (v1457 : BitVec 32) : Prop :=
  (∀ a, (k0_off44 v1457) a + S1x3072.size a ≤ S2016x3072.size a)
theorem k0_off44_inb : ∀ (v1457 : BitVec 32) (k0_hw11 : k0_chk11 v1457), ∀ a, (k0_off44 v1457) a + S1x3072.size a ≤ S2016x3072.size a := fun v1457 k0_hw11 => k0_hw11

def k0_off45 (k0_t1 : Fin k0_t1_loop.trips) : Fin 2 → Nat :=
  let c0_580 : Index := 0#32
  let c0_i32 : BitVec 32 := 0#32
  let c1_i32 : BitVec 32 := 1#32
  let arg18 : BitVec 32 := Scf.iv c0_i32 c1_i32 k0_t1
  let c32_i32_578 : BitVec 32 := 32#32
  let v1473 : BitVec 32 := Scalar.muli arg18 c32_i32_578
  let c11_i32_579 : BitVec 32 := 11#32
  let v1474 : BitVec 32 := Scalar.addi v1473 c11_i32_579
  let v1475 : Index := Scalar.indexCast v1474
  ![0, v1475.toNat]
def k0_off46 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_582 : BitVec 32 := 8#32
  let c0_i32_583 : BitVec 32 := 0#32
  let v1478 : BitVec 1 := Scalar.cmpi .eq c8_i32_582 c0_i32_583
  let c1_i32_584 : BitVec 32 := 1#32
  let v1479 : BitVec 32 := Scalar.select v1478 c1_i32_584 c8_i32_582
  let v1480 : BitVec 32 := Scalar.remsi arg18 v1479
  let c0_i32_586 : BitVec 32 := 0#32
  let v1482 : BitVec 1 := Scalar.cmpi .slt v1480 c0_i32_586
  let c0_i32_587 : BitVec 32 := 0#32
  let v1483 : BitVec 1 := Scalar.cmpi .slt v1479 c0_i32_587
  let v1484 : BitVec 1 := Scalar.xori v1482 v1483
  let c0_i32_585 : BitVec 32 := 0#32
  let v1481 : BitVec 1 := Scalar.cmpi .ne v1480 c0_i32_585
  let v1485 : BitVec 1 := Scalar.andi v1484 v1481
  let v1486 : BitVec 32 := Scalar.addi v1480 v1479
  let v1487 : BitVec 32 := Scalar.select v1485 v1486 v1480
  ![v1487.toNat]
def k0_off47 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_578 : BitVec 32 := 32#32
  let v1473 : BitVec 32 := Scalar.muli arg18 c32_i32_578
  let c11_i32_579 : BitVec 32 := 11#32
  let v1474 : BitVec 32 := Scalar.addi v1473 c11_i32_579
  let c0_i32_588 : BitVec 32 := 0#32
  ![v1474.toNat, 0]
def k0_off48 (v1476 : BitVec 32) : Fin 2 → Nat :=
  let c2_i32_581 : BitVec 32 := 2#32
  let v1477 : BitVec 32 := Scalar.shrui v1476 c2_i32_581
  let c0_i32_589 : BitVec 32 := 0#32
  ![v1477.toNat, 0]

def k0_chk12 (v1476 : BitVec 32) : Prop :=
  (∀ a, (k0_off48 v1476) a + S1x3072.size a ≤ S2016x3072.size a)
theorem k0_off48_inb : ∀ (v1476 : BitVec 32) (k0_hw12 : k0_chk12 v1476), ∀ a, (k0_off48 v1476) a + S1x3072.size a ≤ S2016x3072.size a := fun v1476 k0_hw12 => k0_hw12

def k0_off49 (k0_t1 : Fin k0_t1_loop.trips) : Fin 2 → Nat :=
  let c0_592 : Index := 0#32
  let c0_i32 : BitVec 32 := 0#32
  let c1_i32 : BitVec 32 := 1#32
  let arg18 : BitVec 32 := Scf.iv c0_i32 c1_i32 k0_t1
  let c32_i32_590 : BitVec 32 := 32#32
  let v1492 : BitVec 32 := Scalar.muli arg18 c32_i32_590
  let c12_i32_591 : BitVec 32 := 12#32
  let v1493 : BitVec 32 := Scalar.addi v1492 c12_i32_591
  let v1494 : Index := Scalar.indexCast v1493
  ![0, v1494.toNat]
def k0_off50 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_594 : BitVec 32 := 8#32
  let c0_i32_595 : BitVec 32 := 0#32
  let v1497 : BitVec 1 := Scalar.cmpi .eq c8_i32_594 c0_i32_595
  let c1_i32_596 : BitVec 32 := 1#32
  let v1498 : BitVec 32 := Scalar.select v1497 c1_i32_596 c8_i32_594
  let v1499 : BitVec 32 := Scalar.remsi arg18 v1498
  let c0_i32_598 : BitVec 32 := 0#32
  let v1501 : BitVec 1 := Scalar.cmpi .slt v1499 c0_i32_598
  let c0_i32_599 : BitVec 32 := 0#32
  let v1502 : BitVec 1 := Scalar.cmpi .slt v1498 c0_i32_599
  let v1503 : BitVec 1 := Scalar.xori v1501 v1502
  let c0_i32_597 : BitVec 32 := 0#32
  let v1500 : BitVec 1 := Scalar.cmpi .ne v1499 c0_i32_597
  let v1504 : BitVec 1 := Scalar.andi v1503 v1500
  let v1505 : BitVec 32 := Scalar.addi v1499 v1498
  let v1506 : BitVec 32 := Scalar.select v1504 v1505 v1499
  ![v1506.toNat]
def k0_off51 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_590 : BitVec 32 := 32#32
  let v1492 : BitVec 32 := Scalar.muli arg18 c32_i32_590
  let c12_i32_591 : BitVec 32 := 12#32
  let v1493 : BitVec 32 := Scalar.addi v1492 c12_i32_591
  let c0_i32_600 : BitVec 32 := 0#32
  ![v1493.toNat, 0]
def k0_off52 (v1495 : BitVec 32) : Fin 2 → Nat :=
  let c2_i32_593 : BitVec 32 := 2#32
  let v1496 : BitVec 32 := Scalar.shrui v1495 c2_i32_593
  let c0_i32_601 : BitVec 32 := 0#32
  ![v1496.toNat, 0]

def k0_chk13 (v1495 : BitVec 32) : Prop :=
  (∀ a, (k0_off52 v1495) a + S1x3072.size a ≤ S2016x3072.size a)
theorem k0_off52_inb : ∀ (v1495 : BitVec 32) (k0_hw13 : k0_chk13 v1495), ∀ a, (k0_off52 v1495) a + S1x3072.size a ≤ S2016x3072.size a := fun v1495 k0_hw13 => k0_hw13

def k0_off53 (k0_t1 : Fin k0_t1_loop.trips) : Fin 2 → Nat :=
  let c0_604 : Index := 0#32
  let c0_i32 : BitVec 32 := 0#32
  let c1_i32 : BitVec 32 := 1#32
  let arg18 : BitVec 32 := Scf.iv c0_i32 c1_i32 k0_t1
  let c32_i32_602 : BitVec 32 := 32#32
  let v1511 : BitVec 32 := Scalar.muli arg18 c32_i32_602
  let c13_i32_603 : BitVec 32 := 13#32
  let v1512 : BitVec 32 := Scalar.addi v1511 c13_i32_603
  let v1513 : Index := Scalar.indexCast v1512
  ![0, v1513.toNat]
def k0_off54 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_606 : BitVec 32 := 8#32
  let c0_i32_607 : BitVec 32 := 0#32
  let v1516 : BitVec 1 := Scalar.cmpi .eq c8_i32_606 c0_i32_607
  let c1_i32_608 : BitVec 32 := 1#32
  let v1517 : BitVec 32 := Scalar.select v1516 c1_i32_608 c8_i32_606
  let v1518 : BitVec 32 := Scalar.remsi arg18 v1517
  let c0_i32_610 : BitVec 32 := 0#32
  let v1520 : BitVec 1 := Scalar.cmpi .slt v1518 c0_i32_610
  let c0_i32_611 : BitVec 32 := 0#32
  let v1521 : BitVec 1 := Scalar.cmpi .slt v1517 c0_i32_611
  let v1522 : BitVec 1 := Scalar.xori v1520 v1521
  let c0_i32_609 : BitVec 32 := 0#32
  let v1519 : BitVec 1 := Scalar.cmpi .ne v1518 c0_i32_609
  let v1523 : BitVec 1 := Scalar.andi v1522 v1519
  let v1524 : BitVec 32 := Scalar.addi v1518 v1517
  let v1525 : BitVec 32 := Scalar.select v1523 v1524 v1518
  ![v1525.toNat]
def k0_off55 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_602 : BitVec 32 := 32#32
  let v1511 : BitVec 32 := Scalar.muli arg18 c32_i32_602
  let c13_i32_603 : BitVec 32 := 13#32
  let v1512 : BitVec 32 := Scalar.addi v1511 c13_i32_603
  let c0_i32_612 : BitVec 32 := 0#32
  ![v1512.toNat, 0]
def k0_off56 (v1514 : BitVec 32) : Fin 2 → Nat :=
  let c2_i32_605 : BitVec 32 := 2#32
  let v1515 : BitVec 32 := Scalar.shrui v1514 c2_i32_605
  let c0_i32_613 : BitVec 32 := 0#32
  ![v1515.toNat, 0]

def k0_chk14 (v1514 : BitVec 32) : Prop :=
  (∀ a, (k0_off56 v1514) a + S1x3072.size a ≤ S2016x3072.size a)
theorem k0_off56_inb : ∀ (v1514 : BitVec 32) (k0_hw14 : k0_chk14 v1514), ∀ a, (k0_off56 v1514) a + S1x3072.size a ≤ S2016x3072.size a := fun v1514 k0_hw14 => k0_hw14

def k0_off57 (k0_t1 : Fin k0_t1_loop.trips) : Fin 2 → Nat :=
  let c0_616 : Index := 0#32
  let c0_i32 : BitVec 32 := 0#32
  let c1_i32 : BitVec 32 := 1#32
  let arg18 : BitVec 32 := Scf.iv c0_i32 c1_i32 k0_t1
  let c32_i32_614 : BitVec 32 := 32#32
  let v1530 : BitVec 32 := Scalar.muli arg18 c32_i32_614
  let c14_i32_615 : BitVec 32 := 14#32
  let v1531 : BitVec 32 := Scalar.addi v1530 c14_i32_615
  let v1532 : Index := Scalar.indexCast v1531
  ![0, v1532.toNat]
def k0_off58 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_618 : BitVec 32 := 8#32
  let c0_i32_619 : BitVec 32 := 0#32
  let v1535 : BitVec 1 := Scalar.cmpi .eq c8_i32_618 c0_i32_619
  let c1_i32_620 : BitVec 32 := 1#32
  let v1536 : BitVec 32 := Scalar.select v1535 c1_i32_620 c8_i32_618
  let v1537 : BitVec 32 := Scalar.remsi arg18 v1536
  let c0_i32_622 : BitVec 32 := 0#32
  let v1539 : BitVec 1 := Scalar.cmpi .slt v1537 c0_i32_622
  let c0_i32_623 : BitVec 32 := 0#32
  let v1540 : BitVec 1 := Scalar.cmpi .slt v1536 c0_i32_623
  let v1541 : BitVec 1 := Scalar.xori v1539 v1540
  let c0_i32_621 : BitVec 32 := 0#32
  let v1538 : BitVec 1 := Scalar.cmpi .ne v1537 c0_i32_621
  let v1542 : BitVec 1 := Scalar.andi v1541 v1538
  let v1543 : BitVec 32 := Scalar.addi v1537 v1536
  let v1544 : BitVec 32 := Scalar.select v1542 v1543 v1537
  ![v1544.toNat]
def k0_off59 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_614 : BitVec 32 := 32#32
  let v1530 : BitVec 32 := Scalar.muli arg18 c32_i32_614
  let c14_i32_615 : BitVec 32 := 14#32
  let v1531 : BitVec 32 := Scalar.addi v1530 c14_i32_615
  let c0_i32_624 : BitVec 32 := 0#32
  ![v1531.toNat, 0]
def k0_off60 (v1533 : BitVec 32) : Fin 2 → Nat :=
  let c2_i32_617 : BitVec 32 := 2#32
  let v1534 : BitVec 32 := Scalar.shrui v1533 c2_i32_617
  let c0_i32_625 : BitVec 32 := 0#32
  ![v1534.toNat, 0]

def k0_chk15 (v1533 : BitVec 32) : Prop :=
  (∀ a, (k0_off60 v1533) a + S1x3072.size a ≤ S2016x3072.size a)
theorem k0_off60_inb : ∀ (v1533 : BitVec 32) (k0_hw15 : k0_chk15 v1533), ∀ a, (k0_off60 v1533) a + S1x3072.size a ≤ S2016x3072.size a := fun v1533 k0_hw15 => k0_hw15

def k0_off61 (k0_t1 : Fin k0_t1_loop.trips) : Fin 2 → Nat :=
  let c0_628 : Index := 0#32
  let c0_i32 : BitVec 32 := 0#32
  let c1_i32 : BitVec 32 := 1#32
  let arg18 : BitVec 32 := Scf.iv c0_i32 c1_i32 k0_t1
  let c32_i32_626 : BitVec 32 := 32#32
  let v1549 : BitVec 32 := Scalar.muli arg18 c32_i32_626
  let c15_i32_627 : BitVec 32 := 15#32
  let v1550 : BitVec 32 := Scalar.addi v1549 c15_i32_627
  let v1551 : Index := Scalar.indexCast v1550
  ![0, v1551.toNat]
def k0_off62 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_630 : BitVec 32 := 8#32
  let c0_i32_631 : BitVec 32 := 0#32
  let v1554 : BitVec 1 := Scalar.cmpi .eq c8_i32_630 c0_i32_631
  let c1_i32_632 : BitVec 32 := 1#32
  let v1555 : BitVec 32 := Scalar.select v1554 c1_i32_632 c8_i32_630
  let v1556 : BitVec 32 := Scalar.remsi arg18 v1555
  let c0_i32_634 : BitVec 32 := 0#32
  let v1558 : BitVec 1 := Scalar.cmpi .slt v1556 c0_i32_634
  let c0_i32_635 : BitVec 32 := 0#32
  let v1559 : BitVec 1 := Scalar.cmpi .slt v1555 c0_i32_635
  let v1560 : BitVec 1 := Scalar.xori v1558 v1559
  let c0_i32_633 : BitVec 32 := 0#32
  let v1557 : BitVec 1 := Scalar.cmpi .ne v1556 c0_i32_633
  let v1561 : BitVec 1 := Scalar.andi v1560 v1557
  let v1562 : BitVec 32 := Scalar.addi v1556 v1555
  let v1563 : BitVec 32 := Scalar.select v1561 v1562 v1556
  ![v1563.toNat]
def k0_off63 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_626 : BitVec 32 := 32#32
  let v1549 : BitVec 32 := Scalar.muli arg18 c32_i32_626
  let c15_i32_627 : BitVec 32 := 15#32
  let v1550 : BitVec 32 := Scalar.addi v1549 c15_i32_627
  let c0_i32_636 : BitVec 32 := 0#32
  ![v1550.toNat, 0]
def k0_off64 (v1552 : BitVec 32) : Fin 2 → Nat :=
  let c2_i32_629 : BitVec 32 := 2#32
  let v1553 : BitVec 32 := Scalar.shrui v1552 c2_i32_629
  let c0_i32_637 : BitVec 32 := 0#32
  ![v1553.toNat, 0]

def k0_chk16 (v1552 : BitVec 32) : Prop :=
  (∀ a, (k0_off64 v1552) a + S1x3072.size a ≤ S2016x3072.size a)
theorem k0_off64_inb : ∀ (v1552 : BitVec 32) (k0_hw16 : k0_chk16 v1552), ∀ a, (k0_off64 v1552) a + S1x3072.size a ≤ S2016x3072.size a := fun v1552 k0_hw16 => k0_hw16

def k0_off65 (k0_t1 : Fin k0_t1_loop.trips) : Fin 2 → Nat :=
  let c0_640 : Index := 0#32
  let c0_i32 : BitVec 32 := 0#32
  let c1_i32 : BitVec 32 := 1#32
  let arg18 : BitVec 32 := Scf.iv c0_i32 c1_i32 k0_t1
  let c32_i32_638 : BitVec 32 := 32#32
  let v1568 : BitVec 32 := Scalar.muli arg18 c32_i32_638
  let c16_i32_639 : BitVec 32 := 16#32
  let v1569 : BitVec 32 := Scalar.addi v1568 c16_i32_639
  let v1570 : Index := Scalar.indexCast v1569
  ![0, v1570.toNat]
def k0_off66 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_642 : BitVec 32 := 8#32
  let c0_i32_643 : BitVec 32 := 0#32
  let v1573 : BitVec 1 := Scalar.cmpi .eq c8_i32_642 c0_i32_643
  let c1_i32_644 : BitVec 32 := 1#32
  let v1574 : BitVec 32 := Scalar.select v1573 c1_i32_644 c8_i32_642
  let v1575 : BitVec 32 := Scalar.remsi arg18 v1574
  let c0_i32_646 : BitVec 32 := 0#32
  let v1577 : BitVec 1 := Scalar.cmpi .slt v1575 c0_i32_646
  let c0_i32_647 : BitVec 32 := 0#32
  let v1578 : BitVec 1 := Scalar.cmpi .slt v1574 c0_i32_647
  let v1579 : BitVec 1 := Scalar.xori v1577 v1578
  let c0_i32_645 : BitVec 32 := 0#32
  let v1576 : BitVec 1 := Scalar.cmpi .ne v1575 c0_i32_645
  let v1580 : BitVec 1 := Scalar.andi v1579 v1576
  let v1581 : BitVec 32 := Scalar.addi v1575 v1574
  let v1582 : BitVec 32 := Scalar.select v1580 v1581 v1575
  ![v1582.toNat]
def k0_off67 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_638 : BitVec 32 := 32#32
  let v1568 : BitVec 32 := Scalar.muli arg18 c32_i32_638
  let c16_i32_639 : BitVec 32 := 16#32
  let v1569 : BitVec 32 := Scalar.addi v1568 c16_i32_639
  let c0_i32_648 : BitVec 32 := 0#32
  ![v1569.toNat, 0]
def k0_off68 (v1571 : BitVec 32) : Fin 2 → Nat :=
  let c2_i32_641 : BitVec 32 := 2#32
  let v1572 : BitVec 32 := Scalar.shrui v1571 c2_i32_641
  let c0_i32_649 : BitVec 32 := 0#32
  ![v1572.toNat, 0]

def k0_chk17 (v1571 : BitVec 32) : Prop :=
  (∀ a, (k0_off68 v1571) a + S1x3072.size a ≤ S2016x3072.size a)
theorem k0_off68_inb : ∀ (v1571 : BitVec 32) (k0_hw17 : k0_chk17 v1571), ∀ a, (k0_off68 v1571) a + S1x3072.size a ≤ S2016x3072.size a := fun v1571 k0_hw17 => k0_hw17

def k0_off69 (k0_t1 : Fin k0_t1_loop.trips) : Fin 2 → Nat :=
  let c0_652 : Index := 0#32
  let c0_i32 : BitVec 32 := 0#32
  let c1_i32 : BitVec 32 := 1#32
  let arg18 : BitVec 32 := Scf.iv c0_i32 c1_i32 k0_t1
  let c32_i32_650 : BitVec 32 := 32#32
  let v1587 : BitVec 32 := Scalar.muli arg18 c32_i32_650
  let c17_i32_651 : BitVec 32 := 17#32
  let v1588 : BitVec 32 := Scalar.addi v1587 c17_i32_651
  let v1589 : Index := Scalar.indexCast v1588
  ![0, v1589.toNat]
def k0_off70 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_654 : BitVec 32 := 8#32
  let c0_i32_655 : BitVec 32 := 0#32
  let v1592 : BitVec 1 := Scalar.cmpi .eq c8_i32_654 c0_i32_655
  let c1_i32_656 : BitVec 32 := 1#32
  let v1593 : BitVec 32 := Scalar.select v1592 c1_i32_656 c8_i32_654
  let v1594 : BitVec 32 := Scalar.remsi arg18 v1593
  let c0_i32_658 : BitVec 32 := 0#32
  let v1596 : BitVec 1 := Scalar.cmpi .slt v1594 c0_i32_658
  let c0_i32_659 : BitVec 32 := 0#32
  let v1597 : BitVec 1 := Scalar.cmpi .slt v1593 c0_i32_659
  let v1598 : BitVec 1 := Scalar.xori v1596 v1597
  let c0_i32_657 : BitVec 32 := 0#32
  let v1595 : BitVec 1 := Scalar.cmpi .ne v1594 c0_i32_657
  let v1599 : BitVec 1 := Scalar.andi v1598 v1595
  let v1600 : BitVec 32 := Scalar.addi v1594 v1593
  let v1601 : BitVec 32 := Scalar.select v1599 v1600 v1594
  ![v1601.toNat]
def k0_off71 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_650 : BitVec 32 := 32#32
  let v1587 : BitVec 32 := Scalar.muli arg18 c32_i32_650
  let c17_i32_651 : BitVec 32 := 17#32
  let v1588 : BitVec 32 := Scalar.addi v1587 c17_i32_651
  let c0_i32_660 : BitVec 32 := 0#32
  ![v1588.toNat, 0]
def k0_off72 (v1590 : BitVec 32) : Fin 2 → Nat :=
  let c2_i32_653 : BitVec 32 := 2#32
  let v1591 : BitVec 32 := Scalar.shrui v1590 c2_i32_653
  let c0_i32_661 : BitVec 32 := 0#32
  ![v1591.toNat, 0]

def k0_chk18 (v1590 : BitVec 32) : Prop :=
  (∀ a, (k0_off72 v1590) a + S1x3072.size a ≤ S2016x3072.size a)
theorem k0_off72_inb : ∀ (v1590 : BitVec 32) (k0_hw18 : k0_chk18 v1590), ∀ a, (k0_off72 v1590) a + S1x3072.size a ≤ S2016x3072.size a := fun v1590 k0_hw18 => k0_hw18

def k0_off73 (k0_t1 : Fin k0_t1_loop.trips) : Fin 2 → Nat :=
  let c0_664 : Index := 0#32
  let c0_i32 : BitVec 32 := 0#32
  let c1_i32 : BitVec 32 := 1#32
  let arg18 : BitVec 32 := Scf.iv c0_i32 c1_i32 k0_t1
  let c32_i32_662 : BitVec 32 := 32#32
  let v1606 : BitVec 32 := Scalar.muli arg18 c32_i32_662
  let c18_i32_663 : BitVec 32 := 18#32
  let v1607 : BitVec 32 := Scalar.addi v1606 c18_i32_663
  let v1608 : Index := Scalar.indexCast v1607
  ![0, v1608.toNat]
def k0_off74 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_666 : BitVec 32 := 8#32
  let c0_i32_667 : BitVec 32 := 0#32
  let v1611 : BitVec 1 := Scalar.cmpi .eq c8_i32_666 c0_i32_667
  let c1_i32_668 : BitVec 32 := 1#32
  let v1612 : BitVec 32 := Scalar.select v1611 c1_i32_668 c8_i32_666
  let v1613 : BitVec 32 := Scalar.remsi arg18 v1612
  let c0_i32_670 : BitVec 32 := 0#32
  let v1615 : BitVec 1 := Scalar.cmpi .slt v1613 c0_i32_670
  let c0_i32_671 : BitVec 32 := 0#32
  let v1616 : BitVec 1 := Scalar.cmpi .slt v1612 c0_i32_671
  let v1617 : BitVec 1 := Scalar.xori v1615 v1616
  let c0_i32_669 : BitVec 32 := 0#32
  let v1614 : BitVec 1 := Scalar.cmpi .ne v1613 c0_i32_669
  let v1618 : BitVec 1 := Scalar.andi v1617 v1614
  let v1619 : BitVec 32 := Scalar.addi v1613 v1612
  let v1620 : BitVec 32 := Scalar.select v1618 v1619 v1613
  ![v1620.toNat]
def k0_off75 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_662 : BitVec 32 := 32#32
  let v1606 : BitVec 32 := Scalar.muli arg18 c32_i32_662
  let c18_i32_663 : BitVec 32 := 18#32
  let v1607 : BitVec 32 := Scalar.addi v1606 c18_i32_663
  let c0_i32_672 : BitVec 32 := 0#32
  ![v1607.toNat, 0]
def k0_off76 (v1609 : BitVec 32) : Fin 2 → Nat :=
  let c2_i32_665 : BitVec 32 := 2#32
  let v1610 : BitVec 32 := Scalar.shrui v1609 c2_i32_665
  let c0_i32_673 : BitVec 32 := 0#32
  ![v1610.toNat, 0]

def k0_chk19 (v1609 : BitVec 32) : Prop :=
  (∀ a, (k0_off76 v1609) a + S1x3072.size a ≤ S2016x3072.size a)
theorem k0_off76_inb : ∀ (v1609 : BitVec 32) (k0_hw19 : k0_chk19 v1609), ∀ a, (k0_off76 v1609) a + S1x3072.size a ≤ S2016x3072.size a := fun v1609 k0_hw19 => k0_hw19

def k0_off77 (k0_t1 : Fin k0_t1_loop.trips) : Fin 2 → Nat :=
  let c0_676 : Index := 0#32
  let c0_i32 : BitVec 32 := 0#32
  let c1_i32 : BitVec 32 := 1#32
  let arg18 : BitVec 32 := Scf.iv c0_i32 c1_i32 k0_t1
  let c32_i32_674 : BitVec 32 := 32#32
  let v1625 : BitVec 32 := Scalar.muli arg18 c32_i32_674
  let c19_i32_675 : BitVec 32 := 19#32
  let v1626 : BitVec 32 := Scalar.addi v1625 c19_i32_675
  let v1627 : Index := Scalar.indexCast v1626
  ![0, v1627.toNat]
def k0_off78 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_678 : BitVec 32 := 8#32
  let c0_i32_679 : BitVec 32 := 0#32
  let v1630 : BitVec 1 := Scalar.cmpi .eq c8_i32_678 c0_i32_679
  let c1_i32_680 : BitVec 32 := 1#32
  let v1631 : BitVec 32 := Scalar.select v1630 c1_i32_680 c8_i32_678
  let v1632 : BitVec 32 := Scalar.remsi arg18 v1631
  let c0_i32_682 : BitVec 32 := 0#32
  let v1634 : BitVec 1 := Scalar.cmpi .slt v1632 c0_i32_682
  let c0_i32_683 : BitVec 32 := 0#32
  let v1635 : BitVec 1 := Scalar.cmpi .slt v1631 c0_i32_683
  let v1636 : BitVec 1 := Scalar.xori v1634 v1635
  let c0_i32_681 : BitVec 32 := 0#32
  let v1633 : BitVec 1 := Scalar.cmpi .ne v1632 c0_i32_681
  let v1637 : BitVec 1 := Scalar.andi v1636 v1633
  let v1638 : BitVec 32 := Scalar.addi v1632 v1631
  let v1639 : BitVec 32 := Scalar.select v1637 v1638 v1632
  ![v1639.toNat]
def k0_off79 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_674 : BitVec 32 := 32#32
  let v1625 : BitVec 32 := Scalar.muli arg18 c32_i32_674
  let c19_i32_675 : BitVec 32 := 19#32
  let v1626 : BitVec 32 := Scalar.addi v1625 c19_i32_675
  let c0_i32_684 : BitVec 32 := 0#32
  ![v1626.toNat, 0]
def k0_off80 (v1628 : BitVec 32) : Fin 2 → Nat :=
  let c2_i32_677 : BitVec 32 := 2#32
  let v1629 : BitVec 32 := Scalar.shrui v1628 c2_i32_677
  let c0_i32_685 : BitVec 32 := 0#32
  ![v1629.toNat, 0]

def k0_chk20 (v1628 : BitVec 32) : Prop :=
  (∀ a, (k0_off80 v1628) a + S1x3072.size a ≤ S2016x3072.size a)
theorem k0_off80_inb : ∀ (v1628 : BitVec 32) (k0_hw20 : k0_chk20 v1628), ∀ a, (k0_off80 v1628) a + S1x3072.size a ≤ S2016x3072.size a := fun v1628 k0_hw20 => k0_hw20

def k0_off81 (k0_t1 : Fin k0_t1_loop.trips) : Fin 2 → Nat :=
  let c0_688 : Index := 0#32
  let c0_i32 : BitVec 32 := 0#32
  let c1_i32 : BitVec 32 := 1#32
  let arg18 : BitVec 32 := Scf.iv c0_i32 c1_i32 k0_t1
  let c32_i32_686 : BitVec 32 := 32#32
  let v1644 : BitVec 32 := Scalar.muli arg18 c32_i32_686
  let c20_i32_687 : BitVec 32 := 20#32
  let v1645 : BitVec 32 := Scalar.addi v1644 c20_i32_687
  let v1646 : Index := Scalar.indexCast v1645
  ![0, v1646.toNat]
def k0_off82 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_690 : BitVec 32 := 8#32
  let c0_i32_691 : BitVec 32 := 0#32
  let v1649 : BitVec 1 := Scalar.cmpi .eq c8_i32_690 c0_i32_691
  let c1_i32_692 : BitVec 32 := 1#32
  let v1650 : BitVec 32 := Scalar.select v1649 c1_i32_692 c8_i32_690
  let v1651 : BitVec 32 := Scalar.remsi arg18 v1650
  let c0_i32_694 : BitVec 32 := 0#32
  let v1653 : BitVec 1 := Scalar.cmpi .slt v1651 c0_i32_694
  let c0_i32_695 : BitVec 32 := 0#32
  let v1654 : BitVec 1 := Scalar.cmpi .slt v1650 c0_i32_695
  let v1655 : BitVec 1 := Scalar.xori v1653 v1654
  let c0_i32_693 : BitVec 32 := 0#32
  let v1652 : BitVec 1 := Scalar.cmpi .ne v1651 c0_i32_693
  let v1656 : BitVec 1 := Scalar.andi v1655 v1652
  let v1657 : BitVec 32 := Scalar.addi v1651 v1650
  let v1658 : BitVec 32 := Scalar.select v1656 v1657 v1651
  ![v1658.toNat]
def k0_off83 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_686 : BitVec 32 := 32#32
  let v1644 : BitVec 32 := Scalar.muli arg18 c32_i32_686
  let c20_i32_687 : BitVec 32 := 20#32
  let v1645 : BitVec 32 := Scalar.addi v1644 c20_i32_687
  let c0_i32_696 : BitVec 32 := 0#32
  ![v1645.toNat, 0]
def k0_off84 (v1647 : BitVec 32) : Fin 2 → Nat :=
  let c2_i32_689 : BitVec 32 := 2#32
  let v1648 : BitVec 32 := Scalar.shrui v1647 c2_i32_689
  let c0_i32_697 : BitVec 32 := 0#32
  ![v1648.toNat, 0]

def k0_chk21 (v1647 : BitVec 32) : Prop :=
  (∀ a, (k0_off84 v1647) a + S1x3072.size a ≤ S2016x3072.size a)
theorem k0_off84_inb : ∀ (v1647 : BitVec 32) (k0_hw21 : k0_chk21 v1647), ∀ a, (k0_off84 v1647) a + S1x3072.size a ≤ S2016x3072.size a := fun v1647 k0_hw21 => k0_hw21

def k0_off85 (k0_t1 : Fin k0_t1_loop.trips) : Fin 2 → Nat :=
  let c0_700 : Index := 0#32
  let c0_i32 : BitVec 32 := 0#32
  let c1_i32 : BitVec 32 := 1#32
  let arg18 : BitVec 32 := Scf.iv c0_i32 c1_i32 k0_t1
  let c32_i32_698 : BitVec 32 := 32#32
  let v1663 : BitVec 32 := Scalar.muli arg18 c32_i32_698
  let c21_i32_699 : BitVec 32 := 21#32
  let v1664 : BitVec 32 := Scalar.addi v1663 c21_i32_699
  let v1665 : Index := Scalar.indexCast v1664
  ![0, v1665.toNat]
def k0_off86 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_702 : BitVec 32 := 8#32
  let c0_i32_703 : BitVec 32 := 0#32
  let v1668 : BitVec 1 := Scalar.cmpi .eq c8_i32_702 c0_i32_703
  let c1_i32_704 : BitVec 32 := 1#32
  let v1669 : BitVec 32 := Scalar.select v1668 c1_i32_704 c8_i32_702
  let v1670 : BitVec 32 := Scalar.remsi arg18 v1669
  let c0_i32_706 : BitVec 32 := 0#32
  let v1672 : BitVec 1 := Scalar.cmpi .slt v1670 c0_i32_706
  let c0_i32_707 : BitVec 32 := 0#32
  let v1673 : BitVec 1 := Scalar.cmpi .slt v1669 c0_i32_707
  let v1674 : BitVec 1 := Scalar.xori v1672 v1673
  let c0_i32_705 : BitVec 32 := 0#32
  let v1671 : BitVec 1 := Scalar.cmpi .ne v1670 c0_i32_705
  let v1675 : BitVec 1 := Scalar.andi v1674 v1671
  let v1676 : BitVec 32 := Scalar.addi v1670 v1669
  let v1677 : BitVec 32 := Scalar.select v1675 v1676 v1670
  ![v1677.toNat]
def k0_off87 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_698 : BitVec 32 := 32#32
  let v1663 : BitVec 32 := Scalar.muli arg18 c32_i32_698
  let c21_i32_699 : BitVec 32 := 21#32
  let v1664 : BitVec 32 := Scalar.addi v1663 c21_i32_699
  let c0_i32_708 : BitVec 32 := 0#32
  ![v1664.toNat, 0]
def k0_off88 (v1666 : BitVec 32) : Fin 2 → Nat :=
  let c2_i32_701 : BitVec 32 := 2#32
  let v1667 : BitVec 32 := Scalar.shrui v1666 c2_i32_701
  let c0_i32_709 : BitVec 32 := 0#32
  ![v1667.toNat, 0]

def k0_chk22 (v1666 : BitVec 32) : Prop :=
  (∀ a, (k0_off88 v1666) a + S1x3072.size a ≤ S2016x3072.size a)
theorem k0_off88_inb : ∀ (v1666 : BitVec 32) (k0_hw22 : k0_chk22 v1666), ∀ a, (k0_off88 v1666) a + S1x3072.size a ≤ S2016x3072.size a := fun v1666 k0_hw22 => k0_hw22

def k0_off89 (k0_t1 : Fin k0_t1_loop.trips) : Fin 2 → Nat :=
  let c0_712 : Index := 0#32
  let c0_i32 : BitVec 32 := 0#32
  let c1_i32 : BitVec 32 := 1#32
  let arg18 : BitVec 32 := Scf.iv c0_i32 c1_i32 k0_t1
  let c32_i32_710 : BitVec 32 := 32#32
  let v1682 : BitVec 32 := Scalar.muli arg18 c32_i32_710
  let c22_i32_711 : BitVec 32 := 22#32
  let v1683 : BitVec 32 := Scalar.addi v1682 c22_i32_711
  let v1684 : Index := Scalar.indexCast v1683
  ![0, v1684.toNat]
def k0_off90 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_714 : BitVec 32 := 8#32
  let c0_i32_715 : BitVec 32 := 0#32
  let v1687 : BitVec 1 := Scalar.cmpi .eq c8_i32_714 c0_i32_715
  let c1_i32_716 : BitVec 32 := 1#32
  let v1688 : BitVec 32 := Scalar.select v1687 c1_i32_716 c8_i32_714
  let v1689 : BitVec 32 := Scalar.remsi arg18 v1688
  let c0_i32_718 : BitVec 32 := 0#32
  let v1691 : BitVec 1 := Scalar.cmpi .slt v1689 c0_i32_718
  let c0_i32_719 : BitVec 32 := 0#32
  let v1692 : BitVec 1 := Scalar.cmpi .slt v1688 c0_i32_719
  let v1693 : BitVec 1 := Scalar.xori v1691 v1692
  let c0_i32_717 : BitVec 32 := 0#32
  let v1690 : BitVec 1 := Scalar.cmpi .ne v1689 c0_i32_717
  let v1694 : BitVec 1 := Scalar.andi v1693 v1690
  let v1695 : BitVec 32 := Scalar.addi v1689 v1688
  let v1696 : BitVec 32 := Scalar.select v1694 v1695 v1689
  ![v1696.toNat]
def k0_off91 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_710 : BitVec 32 := 32#32
  let v1682 : BitVec 32 := Scalar.muli arg18 c32_i32_710
  let c22_i32_711 : BitVec 32 := 22#32
  let v1683 : BitVec 32 := Scalar.addi v1682 c22_i32_711
  let c0_i32_720 : BitVec 32 := 0#32
  ![v1683.toNat, 0]
def k0_off92 (v1685 : BitVec 32) : Fin 2 → Nat :=
  let c2_i32_713 : BitVec 32 := 2#32
  let v1686 : BitVec 32 := Scalar.shrui v1685 c2_i32_713
  let c0_i32_721 : BitVec 32 := 0#32
  ![v1686.toNat, 0]

def k0_chk23 (v1685 : BitVec 32) : Prop :=
  (∀ a, (k0_off92 v1685) a + S1x3072.size a ≤ S2016x3072.size a)
theorem k0_off92_inb : ∀ (v1685 : BitVec 32) (k0_hw23 : k0_chk23 v1685), ∀ a, (k0_off92 v1685) a + S1x3072.size a ≤ S2016x3072.size a := fun v1685 k0_hw23 => k0_hw23

def k0_off93 (k0_t1 : Fin k0_t1_loop.trips) : Fin 2 → Nat :=
  let c0_724 : Index := 0#32
  let c0_i32 : BitVec 32 := 0#32
  let c1_i32 : BitVec 32 := 1#32
  let arg18 : BitVec 32 := Scf.iv c0_i32 c1_i32 k0_t1
  let c32_i32_722 : BitVec 32 := 32#32
  let v1701 : BitVec 32 := Scalar.muli arg18 c32_i32_722
  let c23_i32_723 : BitVec 32 := 23#32
  let v1702 : BitVec 32 := Scalar.addi v1701 c23_i32_723
  let v1703 : Index := Scalar.indexCast v1702
  ![0, v1703.toNat]
def k0_off94 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_726 : BitVec 32 := 8#32
  let c0_i32_727 : BitVec 32 := 0#32
  let v1706 : BitVec 1 := Scalar.cmpi .eq c8_i32_726 c0_i32_727
  let c1_i32_728 : BitVec 32 := 1#32
  let v1707 : BitVec 32 := Scalar.select v1706 c1_i32_728 c8_i32_726
  let v1708 : BitVec 32 := Scalar.remsi arg18 v1707
  let c0_i32_730 : BitVec 32 := 0#32
  let v1710 : BitVec 1 := Scalar.cmpi .slt v1708 c0_i32_730
  let c0_i32_731 : BitVec 32 := 0#32
  let v1711 : BitVec 1 := Scalar.cmpi .slt v1707 c0_i32_731
  let v1712 : BitVec 1 := Scalar.xori v1710 v1711
  let c0_i32_729 : BitVec 32 := 0#32
  let v1709 : BitVec 1 := Scalar.cmpi .ne v1708 c0_i32_729
  let v1713 : BitVec 1 := Scalar.andi v1712 v1709
  let v1714 : BitVec 32 := Scalar.addi v1708 v1707
  let v1715 : BitVec 32 := Scalar.select v1713 v1714 v1708
  ![v1715.toNat]
def k0_off95 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_722 : BitVec 32 := 32#32
  let v1701 : BitVec 32 := Scalar.muli arg18 c32_i32_722
  let c23_i32_723 : BitVec 32 := 23#32
  let v1702 : BitVec 32 := Scalar.addi v1701 c23_i32_723
  let c0_i32_732 : BitVec 32 := 0#32
  ![v1702.toNat, 0]
def k0_off96 (v1704 : BitVec 32) : Fin 2 → Nat :=
  let c2_i32_725 : BitVec 32 := 2#32
  let v1705 : BitVec 32 := Scalar.shrui v1704 c2_i32_725
  let c0_i32_733 : BitVec 32 := 0#32
  ![v1705.toNat, 0]

def k0_chk24 (v1704 : BitVec 32) : Prop :=
  (∀ a, (k0_off96 v1704) a + S1x3072.size a ≤ S2016x3072.size a)
theorem k0_off96_inb : ∀ (v1704 : BitVec 32) (k0_hw24 : k0_chk24 v1704), ∀ a, (k0_off96 v1704) a + S1x3072.size a ≤ S2016x3072.size a := fun v1704 k0_hw24 => k0_hw24

def k0_off97 (k0_t1 : Fin k0_t1_loop.trips) : Fin 2 → Nat :=
  let c0_736 : Index := 0#32
  let c0_i32 : BitVec 32 := 0#32
  let c1_i32 : BitVec 32 := 1#32
  let arg18 : BitVec 32 := Scf.iv c0_i32 c1_i32 k0_t1
  let c32_i32_734 : BitVec 32 := 32#32
  let v1720 : BitVec 32 := Scalar.muli arg18 c32_i32_734
  let c24_i32_735 : BitVec 32 := 24#32
  let v1721 : BitVec 32 := Scalar.addi v1720 c24_i32_735
  let v1722 : Index := Scalar.indexCast v1721
  ![0, v1722.toNat]
def k0_off98 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_738 : BitVec 32 := 8#32
  let c0_i32_739 : BitVec 32 := 0#32
  let v1725 : BitVec 1 := Scalar.cmpi .eq c8_i32_738 c0_i32_739
  let c1_i32_740 : BitVec 32 := 1#32
  let v1726 : BitVec 32 := Scalar.select v1725 c1_i32_740 c8_i32_738
  let v1727 : BitVec 32 := Scalar.remsi arg18 v1726
  let c0_i32_742 : BitVec 32 := 0#32
  let v1729 : BitVec 1 := Scalar.cmpi .slt v1727 c0_i32_742
  let c0_i32_743 : BitVec 32 := 0#32
  let v1730 : BitVec 1 := Scalar.cmpi .slt v1726 c0_i32_743
  let v1731 : BitVec 1 := Scalar.xori v1729 v1730
  let c0_i32_741 : BitVec 32 := 0#32
  let v1728 : BitVec 1 := Scalar.cmpi .ne v1727 c0_i32_741
  let v1732 : BitVec 1 := Scalar.andi v1731 v1728
  let v1733 : BitVec 32 := Scalar.addi v1727 v1726
  let v1734 : BitVec 32 := Scalar.select v1732 v1733 v1727
  ![v1734.toNat]
def k0_off99 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_734 : BitVec 32 := 32#32
  let v1720 : BitVec 32 := Scalar.muli arg18 c32_i32_734
  let c24_i32_735 : BitVec 32 := 24#32
  let v1721 : BitVec 32 := Scalar.addi v1720 c24_i32_735
  let c0_i32_744 : BitVec 32 := 0#32
  ![v1721.toNat, 0]
def k0_off100 (v1723 : BitVec 32) : Fin 2 → Nat :=
  let c2_i32_737 : BitVec 32 := 2#32
  let v1724 : BitVec 32 := Scalar.shrui v1723 c2_i32_737
  let c0_i32_745 : BitVec 32 := 0#32
  ![v1724.toNat, 0]

def k0_chk25 (v1723 : BitVec 32) : Prop :=
  (∀ a, (k0_off100 v1723) a + S1x3072.size a ≤ S2016x3072.size a)
theorem k0_off100_inb : ∀ (v1723 : BitVec 32) (k0_hw25 : k0_chk25 v1723), ∀ a, (k0_off100 v1723) a + S1x3072.size a ≤ S2016x3072.size a := fun v1723 k0_hw25 => k0_hw25

def k0_off101 (k0_t1 : Fin k0_t1_loop.trips) : Fin 2 → Nat :=
  let c0_748 : Index := 0#32
  let c0_i32 : BitVec 32 := 0#32
  let c1_i32 : BitVec 32 := 1#32
  let arg18 : BitVec 32 := Scf.iv c0_i32 c1_i32 k0_t1
  let c32_i32_746 : BitVec 32 := 32#32
  let v1739 : BitVec 32 := Scalar.muli arg18 c32_i32_746
  let c25_i32_747 : BitVec 32 := 25#32
  let v1740 : BitVec 32 := Scalar.addi v1739 c25_i32_747
  let v1741 : Index := Scalar.indexCast v1740
  ![0, v1741.toNat]
def k0_off102 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_750 : BitVec 32 := 8#32
  let c0_i32_751 : BitVec 32 := 0#32
  let v1744 : BitVec 1 := Scalar.cmpi .eq c8_i32_750 c0_i32_751
  let c1_i32_752 : BitVec 32 := 1#32
  let v1745 : BitVec 32 := Scalar.select v1744 c1_i32_752 c8_i32_750
  let v1746 : BitVec 32 := Scalar.remsi arg18 v1745
  let c0_i32_754 : BitVec 32 := 0#32
  let v1748 : BitVec 1 := Scalar.cmpi .slt v1746 c0_i32_754
  let c0_i32_755 : BitVec 32 := 0#32
  let v1749 : BitVec 1 := Scalar.cmpi .slt v1745 c0_i32_755
  let v1750 : BitVec 1 := Scalar.xori v1748 v1749
  let c0_i32_753 : BitVec 32 := 0#32
  let v1747 : BitVec 1 := Scalar.cmpi .ne v1746 c0_i32_753
  let v1751 : BitVec 1 := Scalar.andi v1750 v1747
  let v1752 : BitVec 32 := Scalar.addi v1746 v1745
  let v1753 : BitVec 32 := Scalar.select v1751 v1752 v1746
  ![v1753.toNat]
def k0_off103 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_746 : BitVec 32 := 32#32
  let v1739 : BitVec 32 := Scalar.muli arg18 c32_i32_746
  let c25_i32_747 : BitVec 32 := 25#32
  let v1740 : BitVec 32 := Scalar.addi v1739 c25_i32_747
  let c0_i32_756 : BitVec 32 := 0#32
  ![v1740.toNat, 0]
def k0_off104 (v1742 : BitVec 32) : Fin 2 → Nat :=
  let c2_i32_749 : BitVec 32 := 2#32
  let v1743 : BitVec 32 := Scalar.shrui v1742 c2_i32_749
  let c0_i32_757 : BitVec 32 := 0#32
  ![v1743.toNat, 0]

def k0_chk26 (v1742 : BitVec 32) : Prop :=
  (∀ a, (k0_off104 v1742) a + S1x3072.size a ≤ S2016x3072.size a)
theorem k0_off104_inb : ∀ (v1742 : BitVec 32) (k0_hw26 : k0_chk26 v1742), ∀ a, (k0_off104 v1742) a + S1x3072.size a ≤ S2016x3072.size a := fun v1742 k0_hw26 => k0_hw26

def k0_off105 (k0_t1 : Fin k0_t1_loop.trips) : Fin 2 → Nat :=
  let c0_760 : Index := 0#32
  let c0_i32 : BitVec 32 := 0#32
  let c1_i32 : BitVec 32 := 1#32
  let arg18 : BitVec 32 := Scf.iv c0_i32 c1_i32 k0_t1
  let c32_i32_758 : BitVec 32 := 32#32
  let v1758 : BitVec 32 := Scalar.muli arg18 c32_i32_758
  let c26_i32_759 : BitVec 32 := 26#32
  let v1759 : BitVec 32 := Scalar.addi v1758 c26_i32_759
  let v1760 : Index := Scalar.indexCast v1759
  ![0, v1760.toNat]
def k0_off106 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_762 : BitVec 32 := 8#32
  let c0_i32_763 : BitVec 32 := 0#32
  let v1763 : BitVec 1 := Scalar.cmpi .eq c8_i32_762 c0_i32_763
  let c1_i32_764 : BitVec 32 := 1#32
  let v1764 : BitVec 32 := Scalar.select v1763 c1_i32_764 c8_i32_762
  let v1765 : BitVec 32 := Scalar.remsi arg18 v1764
  let c0_i32_766 : BitVec 32 := 0#32
  let v1767 : BitVec 1 := Scalar.cmpi .slt v1765 c0_i32_766
  let c0_i32_767 : BitVec 32 := 0#32
  let v1768 : BitVec 1 := Scalar.cmpi .slt v1764 c0_i32_767
  let v1769 : BitVec 1 := Scalar.xori v1767 v1768
  let c0_i32_765 : BitVec 32 := 0#32
  let v1766 : BitVec 1 := Scalar.cmpi .ne v1765 c0_i32_765
  let v1770 : BitVec 1 := Scalar.andi v1769 v1766
  let v1771 : BitVec 32 := Scalar.addi v1765 v1764
  let v1772 : BitVec 32 := Scalar.select v1770 v1771 v1765
  ![v1772.toNat]
def k0_off107 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_758 : BitVec 32 := 32#32
  let v1758 : BitVec 32 := Scalar.muli arg18 c32_i32_758
  let c26_i32_759 : BitVec 32 := 26#32
  let v1759 : BitVec 32 := Scalar.addi v1758 c26_i32_759
  let c0_i32_768 : BitVec 32 := 0#32
  ![v1759.toNat, 0]
def k0_off108 (v1761 : BitVec 32) : Fin 2 → Nat :=
  let c2_i32_761 : BitVec 32 := 2#32
  let v1762 : BitVec 32 := Scalar.shrui v1761 c2_i32_761
  let c0_i32_769 : BitVec 32 := 0#32
  ![v1762.toNat, 0]

def k0_chk27 (v1761 : BitVec 32) : Prop :=
  (∀ a, (k0_off108 v1761) a + S1x3072.size a ≤ S2016x3072.size a)
theorem k0_off108_inb : ∀ (v1761 : BitVec 32) (k0_hw27 : k0_chk27 v1761), ∀ a, (k0_off108 v1761) a + S1x3072.size a ≤ S2016x3072.size a := fun v1761 k0_hw27 => k0_hw27

def k0_off109 (k0_t1 : Fin k0_t1_loop.trips) : Fin 2 → Nat :=
  let c0_772 : Index := 0#32
  let c0_i32 : BitVec 32 := 0#32
  let c1_i32 : BitVec 32 := 1#32
  let arg18 : BitVec 32 := Scf.iv c0_i32 c1_i32 k0_t1
  let c32_i32_770 : BitVec 32 := 32#32
  let v1777 : BitVec 32 := Scalar.muli arg18 c32_i32_770
  let c27_i32_771 : BitVec 32 := 27#32
  let v1778 : BitVec 32 := Scalar.addi v1777 c27_i32_771
  let v1779 : Index := Scalar.indexCast v1778
  ![0, v1779.toNat]
def k0_off110 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_774 : BitVec 32 := 8#32
  let c0_i32_775 : BitVec 32 := 0#32
  let v1782 : BitVec 1 := Scalar.cmpi .eq c8_i32_774 c0_i32_775
  let c1_i32_776 : BitVec 32 := 1#32
  let v1783 : BitVec 32 := Scalar.select v1782 c1_i32_776 c8_i32_774
  let v1784 : BitVec 32 := Scalar.remsi arg18 v1783
  let c0_i32_778 : BitVec 32 := 0#32
  let v1786 : BitVec 1 := Scalar.cmpi .slt v1784 c0_i32_778
  let c0_i32_779 : BitVec 32 := 0#32
  let v1787 : BitVec 1 := Scalar.cmpi .slt v1783 c0_i32_779
  let v1788 : BitVec 1 := Scalar.xori v1786 v1787
  let c0_i32_777 : BitVec 32 := 0#32
  let v1785 : BitVec 1 := Scalar.cmpi .ne v1784 c0_i32_777
  let v1789 : BitVec 1 := Scalar.andi v1788 v1785
  let v1790 : BitVec 32 := Scalar.addi v1784 v1783
  let v1791 : BitVec 32 := Scalar.select v1789 v1790 v1784
  ![v1791.toNat]
def k0_off111 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_770 : BitVec 32 := 32#32
  let v1777 : BitVec 32 := Scalar.muli arg18 c32_i32_770
  let c27_i32_771 : BitVec 32 := 27#32
  let v1778 : BitVec 32 := Scalar.addi v1777 c27_i32_771
  let c0_i32_780 : BitVec 32 := 0#32
  ![v1778.toNat, 0]
def k0_off112 (v1780 : BitVec 32) : Fin 2 → Nat :=
  let c2_i32_773 : BitVec 32 := 2#32
  let v1781 : BitVec 32 := Scalar.shrui v1780 c2_i32_773
  let c0_i32_781 : BitVec 32 := 0#32
  ![v1781.toNat, 0]

def k0_chk28 (v1780 : BitVec 32) : Prop :=
  (∀ a, (k0_off112 v1780) a + S1x3072.size a ≤ S2016x3072.size a)
theorem k0_off112_inb : ∀ (v1780 : BitVec 32) (k0_hw28 : k0_chk28 v1780), ∀ a, (k0_off112 v1780) a + S1x3072.size a ≤ S2016x3072.size a := fun v1780 k0_hw28 => k0_hw28

def k0_off113 (k0_t1 : Fin k0_t1_loop.trips) : Fin 2 → Nat :=
  let c0_784 : Index := 0#32
  let c0_i32 : BitVec 32 := 0#32
  let c1_i32 : BitVec 32 := 1#32
  let arg18 : BitVec 32 := Scf.iv c0_i32 c1_i32 k0_t1
  let c32_i32_782 : BitVec 32 := 32#32
  let v1796 : BitVec 32 := Scalar.muli arg18 c32_i32_782
  let c28_i32_783 : BitVec 32 := 28#32
  let v1797 : BitVec 32 := Scalar.addi v1796 c28_i32_783
  let v1798 : Index := Scalar.indexCast v1797
  ![0, v1798.toNat]
def k0_off114 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_786 : BitVec 32 := 8#32
  let c0_i32_787 : BitVec 32 := 0#32
  let v1801 : BitVec 1 := Scalar.cmpi .eq c8_i32_786 c0_i32_787
  let c1_i32_788 : BitVec 32 := 1#32
  let v1802 : BitVec 32 := Scalar.select v1801 c1_i32_788 c8_i32_786
  let v1803 : BitVec 32 := Scalar.remsi arg18 v1802
  let c0_i32_790 : BitVec 32 := 0#32
  let v1805 : BitVec 1 := Scalar.cmpi .slt v1803 c0_i32_790
  let c0_i32_791 : BitVec 32 := 0#32
  let v1806 : BitVec 1 := Scalar.cmpi .slt v1802 c0_i32_791
  let v1807 : BitVec 1 := Scalar.xori v1805 v1806
  let c0_i32_789 : BitVec 32 := 0#32
  let v1804 : BitVec 1 := Scalar.cmpi .ne v1803 c0_i32_789
  let v1808 : BitVec 1 := Scalar.andi v1807 v1804
  let v1809 : BitVec 32 := Scalar.addi v1803 v1802
  let v1810 : BitVec 32 := Scalar.select v1808 v1809 v1803
  ![v1810.toNat]
def k0_off115 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_782 : BitVec 32 := 32#32
  let v1796 : BitVec 32 := Scalar.muli arg18 c32_i32_782
  let c28_i32_783 : BitVec 32 := 28#32
  let v1797 : BitVec 32 := Scalar.addi v1796 c28_i32_783
  let c0_i32_792 : BitVec 32 := 0#32
  ![v1797.toNat, 0]
def k0_off116 (v1799 : BitVec 32) : Fin 2 → Nat :=
  let c2_i32_785 : BitVec 32 := 2#32
  let v1800 : BitVec 32 := Scalar.shrui v1799 c2_i32_785
  let c0_i32_793 : BitVec 32 := 0#32
  ![v1800.toNat, 0]

def k0_chk29 (v1799 : BitVec 32) : Prop :=
  (∀ a, (k0_off116 v1799) a + S1x3072.size a ≤ S2016x3072.size a)
theorem k0_off116_inb : ∀ (v1799 : BitVec 32) (k0_hw29 : k0_chk29 v1799), ∀ a, (k0_off116 v1799) a + S1x3072.size a ≤ S2016x3072.size a := fun v1799 k0_hw29 => k0_hw29

def k0_off117 (k0_t1 : Fin k0_t1_loop.trips) : Fin 2 → Nat :=
  let c0_796 : Index := 0#32
  let c0_i32 : BitVec 32 := 0#32
  let c1_i32 : BitVec 32 := 1#32
  let arg18 : BitVec 32 := Scf.iv c0_i32 c1_i32 k0_t1
  let c32_i32_794 : BitVec 32 := 32#32
  let v1815 : BitVec 32 := Scalar.muli arg18 c32_i32_794
  let c29_i32_795 : BitVec 32 := 29#32
  let v1816 : BitVec 32 := Scalar.addi v1815 c29_i32_795
  let v1817 : Index := Scalar.indexCast v1816
  ![0, v1817.toNat]
def k0_off118 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_798 : BitVec 32 := 8#32
  let c0_i32_799 : BitVec 32 := 0#32
  let v1820 : BitVec 1 := Scalar.cmpi .eq c8_i32_798 c0_i32_799
  let c1_i32_800 : BitVec 32 := 1#32
  let v1821 : BitVec 32 := Scalar.select v1820 c1_i32_800 c8_i32_798
  let v1822 : BitVec 32 := Scalar.remsi arg18 v1821
  let c0_i32_802 : BitVec 32 := 0#32
  let v1824 : BitVec 1 := Scalar.cmpi .slt v1822 c0_i32_802
  let c0_i32_803 : BitVec 32 := 0#32
  let v1825 : BitVec 1 := Scalar.cmpi .slt v1821 c0_i32_803
  let v1826 : BitVec 1 := Scalar.xori v1824 v1825
  let c0_i32_801 : BitVec 32 := 0#32
  let v1823 : BitVec 1 := Scalar.cmpi .ne v1822 c0_i32_801
  let v1827 : BitVec 1 := Scalar.andi v1826 v1823
  let v1828 : BitVec 32 := Scalar.addi v1822 v1821
  let v1829 : BitVec 32 := Scalar.select v1827 v1828 v1822
  ![v1829.toNat]
def k0_off119 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_794 : BitVec 32 := 32#32
  let v1815 : BitVec 32 := Scalar.muli arg18 c32_i32_794
  let c29_i32_795 : BitVec 32 := 29#32
  let v1816 : BitVec 32 := Scalar.addi v1815 c29_i32_795
  let c0_i32_804 : BitVec 32 := 0#32
  ![v1816.toNat, 0]
def k0_off120 (v1818 : BitVec 32) : Fin 2 → Nat :=
  let c2_i32_797 : BitVec 32 := 2#32
  let v1819 : BitVec 32 := Scalar.shrui v1818 c2_i32_797
  let c0_i32_805 : BitVec 32 := 0#32
  ![v1819.toNat, 0]

def k0_chk30 (v1818 : BitVec 32) : Prop :=
  (∀ a, (k0_off120 v1818) a + S1x3072.size a ≤ S2016x3072.size a)
theorem k0_off120_inb : ∀ (v1818 : BitVec 32) (k0_hw30 : k0_chk30 v1818), ∀ a, (k0_off120 v1818) a + S1x3072.size a ≤ S2016x3072.size a := fun v1818 k0_hw30 => k0_hw30

def k0_off121 (k0_t1 : Fin k0_t1_loop.trips) : Fin 2 → Nat :=
  let c0_808 : Index := 0#32
  let c0_i32 : BitVec 32 := 0#32
  let c1_i32 : BitVec 32 := 1#32
  let arg18 : BitVec 32 := Scf.iv c0_i32 c1_i32 k0_t1
  let c32_i32_806 : BitVec 32 := 32#32
  let v1834 : BitVec 32 := Scalar.muli arg18 c32_i32_806
  let c30_i32_807 : BitVec 32 := 30#32
  let v1835 : BitVec 32 := Scalar.addi v1834 c30_i32_807
  let v1836 : Index := Scalar.indexCast v1835
  ![0, v1836.toNat]
def k0_off122 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_810 : BitVec 32 := 8#32
  let c0_i32_811 : BitVec 32 := 0#32
  let v1839 : BitVec 1 := Scalar.cmpi .eq c8_i32_810 c0_i32_811
  let c1_i32_812 : BitVec 32 := 1#32
  let v1840 : BitVec 32 := Scalar.select v1839 c1_i32_812 c8_i32_810
  let v1841 : BitVec 32 := Scalar.remsi arg18 v1840
  let c0_i32_814 : BitVec 32 := 0#32
  let v1843 : BitVec 1 := Scalar.cmpi .slt v1841 c0_i32_814
  let c0_i32_815 : BitVec 32 := 0#32
  let v1844 : BitVec 1 := Scalar.cmpi .slt v1840 c0_i32_815
  let v1845 : BitVec 1 := Scalar.xori v1843 v1844
  let c0_i32_813 : BitVec 32 := 0#32
  let v1842 : BitVec 1 := Scalar.cmpi .ne v1841 c0_i32_813
  let v1846 : BitVec 1 := Scalar.andi v1845 v1842
  let v1847 : BitVec 32 := Scalar.addi v1841 v1840
  let v1848 : BitVec 32 := Scalar.select v1846 v1847 v1841
  ![v1848.toNat]
def k0_off123 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_806 : BitVec 32 := 32#32
  let v1834 : BitVec 32 := Scalar.muli arg18 c32_i32_806
  let c30_i32_807 : BitVec 32 := 30#32
  let v1835 : BitVec 32 := Scalar.addi v1834 c30_i32_807
  let c0_i32_816 : BitVec 32 := 0#32
  ![v1835.toNat, 0]
def k0_off124 (v1837 : BitVec 32) : Fin 2 → Nat :=
  let c2_i32_809 : BitVec 32 := 2#32
  let v1838 : BitVec 32 := Scalar.shrui v1837 c2_i32_809
  let c0_i32_817 : BitVec 32 := 0#32
  ![v1838.toNat, 0]

def k0_chk31 (v1837 : BitVec 32) : Prop :=
  (∀ a, (k0_off124 v1837) a + S1x3072.size a ≤ S2016x3072.size a)
theorem k0_off124_inb : ∀ (v1837 : BitVec 32) (k0_hw31 : k0_chk31 v1837), ∀ a, (k0_off124 v1837) a + S1x3072.size a ≤ S2016x3072.size a := fun v1837 k0_hw31 => k0_hw31

def k0_off125 (k0_t1 : Fin k0_t1_loop.trips) : Fin 2 → Nat :=
  let c0_820 : Index := 0#32
  let c0_i32 : BitVec 32 := 0#32
  let c1_i32 : BitVec 32 := 1#32
  let arg18 : BitVec 32 := Scf.iv c0_i32 c1_i32 k0_t1
  let c32_i32_818 : BitVec 32 := 32#32
  let v1853 : BitVec 32 := Scalar.muli arg18 c32_i32_818
  let c31_i32_819 : BitVec 32 := 31#32
  let v1854 : BitVec 32 := Scalar.addi v1853 c31_i32_819
  let v1855 : Index := Scalar.indexCast v1854
  ![0, v1855.toNat]
def k0_off126 (k0_t1 : Fin k0_t1_loop.trips) : Fin 1 → Nat :=
  let c0_i32 : BitVec 32 := 0#32
  let c1_i32 : BitVec 32 := 1#32
  let arg18 : BitVec 32 := Scf.iv c0_i32 c1_i32 k0_t1
  let c8_i32_822 : BitVec 32 := 8#32
  let c0_i32_823 : BitVec 32 := 0#32
  let v1858 : BitVec 1 := Scalar.cmpi .eq c8_i32_822 c0_i32_823
  let c1_i32_824 : BitVec 32 := 1#32
  let v1859 : BitVec 32 := Scalar.select v1858 c1_i32_824 c8_i32_822
  let v1860 : BitVec 32 := Scalar.remsi arg18 v1859
  let c0_i32_826 : BitVec 32 := 0#32
  let v1862 : BitVec 1 := Scalar.cmpi .slt v1860 c0_i32_826
  let c0_i32_827 : BitVec 32 := 0#32
  let v1863 : BitVec 1 := Scalar.cmpi .slt v1859 c0_i32_827
  let v1864 : BitVec 1 := Scalar.xori v1862 v1863
  let c0_i32_825 : BitVec 32 := 0#32
  let v1861 : BitVec 1 := Scalar.cmpi .ne v1860 c0_i32_825
  let v1865 : BitVec 1 := Scalar.andi v1864 v1861
  let v1866 : BitVec 32 := Scalar.addi v1860 v1859
  let v1867 : BitVec 32 := Scalar.select v1865 v1866 v1860
  ![v1867.toNat]
def k0_off127 (k0_t1 : Fin k0_t1_loop.trips) : Fin 2 → Nat :=
  let c0_i32 : BitVec 32 := 0#32
  let c1_i32 : BitVec 32 := 1#32
  let arg18 : BitVec 32 := Scf.iv c0_i32 c1_i32 k0_t1
  let c32_i32_818 : BitVec 32 := 32#32
  let v1853 : BitVec 32 := Scalar.muli arg18 c32_i32_818
  let c31_i32_819 : BitVec 32 := 31#32
  let v1854 : BitVec 32 := Scalar.addi v1853 c31_i32_819
  let c0_i32_828 : BitVec 32 := 0#32
  ![v1854.toNat, 0]
def k0_off128 (v1856 : BitVec 32) : Fin 2 → Nat :=
  let c2_i32_821 : BitVec 32 := 2#32
  let v1857 : BitVec 32 := Scalar.shrui v1856 c2_i32_821
  let c0_i32_829 : BitVec 32 := 0#32
  ![v1857.toNat, 0]

def k0_chk32 (v1856 : BitVec 32) : Prop :=
  (∀ a, (k0_off128 v1856) a + S1x3072.size a ≤ S2016x3072.size a)
theorem k0_off128_inb : ∀ (v1856 : BitVec 32) (k0_hw32 : k0_chk32 v1856), ∀ a, (k0_off128 v1856) a + S1x3072.size a ≤ S2016x3072.size a := fun v1856 k0_hw32 => k0_hw32

def k0_mult1 : BitVec 32 :=
  let c0_i32_270 : BitVec 32 := 0#32
  c0_i32_270
@[reducible] def k0_t2_loop : Scf.Loop 32 :=
  let c1_i32_334 : BitVec 32 := 1#32
  let c31_i32_335 : BitVec 32 := 31#32
  let v907 : BitVec 32 := Scalar.addi c1_i32_334 c31_i32_335
  let c1_i32_336 : BitVec 32 := 1#32
  ⟨c1_i32_334, v907, c1_i32_336⟩
def k0_off129 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_448 : BitVec 32 := 8#32
  let c0_i32_449 : BitVec 32 := 0#32
  let v1266 : BitVec 1 := Scalar.cmpi .eq c8_i32_448 c0_i32_449
  let c1_i32_450 : BitVec 32 := 1#32
  let v1267 : BitVec 32 := Scalar.select v1266 c1_i32_450 c8_i32_448
  let v1268 : BitVec 32 := Scalar.remsi arg18 v1267
  let c0_i32_452 : BitVec 32 := 0#32
  let v1270 : BitVec 1 := Scalar.cmpi .slt v1268 c0_i32_452
  let c0_i32_453 : BitVec 32 := 0#32
  let v1271 : BitVec 1 := Scalar.cmpi .slt v1267 c0_i32_453
  let v1272 : BitVec 1 := Scalar.xori v1270 v1271
  let c0_i32_451 : BitVec 32 := 0#32
  let v1269 : BitVec 1 := Scalar.cmpi .ne v1268 c0_i32_451
  let v1273 : BitVec 1 := Scalar.andi v1272 v1269
  let v1274 : BitVec 32 := Scalar.addi v1268 v1267
  let v1275 : BitVec 32 := Scalar.select v1273 v1274 v1268
  ![v1275.toNat]
def k0_off130 (k0_t2 : Fin k0_t2_loop.trips) (c0_i32_447 : BitVec 32) : Fin 2 → Nat :=
  let c1_i32_334 : BitVec 32 := 1#32
  let c1_i32_336 : BitVec 32 := 1#32
  let arg18 : BitVec 32 := Scf.iv c1_i32_334 c1_i32_336 k0_t2
  let c32_i32 : BitVec 32 := 32#32
  let v1264 : BitVec 32 := Scalar.muli arg18 c32_i32
  let v1265 : BitVec 32 := Scalar.addi v1264 c0_i32_447
  let c0_i32_454 : BitVec 32 := 0#32
  ![v1265.toNat, 0]
def k0_mult2 (k0_t2 : Fin k0_t2_loop.trips) : BitVec 32 :=
  let c1_i32_334 : BitVec 32 := 1#32
  let c1_i32_336 : BitVec 32 := 1#32
  let arg18 : BitVec 32 := Scf.iv c1_i32_334 c1_i32_336 k0_t2
  let c1_i32_798 : BitVec 32 := 1#32
  let v1776 : BitVec 32 := Scalar.subi arg18 c1_i32_798
  let c32_i32_799 : BitVec 32 := 32#32
  let v1777 : BitVec 32 := Scalar.muli v1776 c32_i32_799
  v1777
def k0_mult3 (k0_t2 : Fin k0_t2_loop.trips) : BitVec 32 :=
  let c1_i32_334 : BitVec 32 := 1#32
  let c1_i32_336 : BitVec 32 := 1#32
  let arg18 : BitVec 32 := Scf.iv c1_i32_334 c1_i32_336 k0_t2
  let c1_i32_798 : BitVec 32 := 1#32
  let v1776 : BitVec 32 := Scalar.subi arg18 c1_i32_798
  let c32_i32_800 : BitVec 32 := 32#32
  let v1779 : BitVec 32 := Scalar.muli v1776 c32_i32_800
  v1779
def k0_off131 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_798 : BitVec 32 := 1#32
  let v1776 : BitVec 32 := Scalar.subi arg18 c1_i32_798
  let c32_i32_800 : BitVec 32 := 32#32
  let v1779 : BitVec 32 := Scalar.muli v1776 c32_i32_800
  let v1780 : BitVec 32 := v1779
  let c0_i32_801 : BitVec 32 := 0#32
  ![v1780.toNat, 0]
def k0_cond1 (k0_t2 : Fin k0_t2_loop.trips) : BitVec 1 :=
  let c1_i32_334 : BitVec 32 := 1#32
  let c1_i32_336 : BitVec 32 := 1#32
  let arg18 : BitVec 32 := Scf.iv c1_i32_334 c1_i32_336 k0_t2
  let c8_i32_803 : BitVec 32 := 8#32
  let v1783 : BitVec 32 := Scalar.addi arg18 c8_i32_803
  let c32_i32_804 : BitVec 32 := 32#32
  let v1784 : BitVec 1 := Scalar.cmpi .sle v1783 c32_i32_804
  let v1785 : BitVec 32 := Scalar.extui v1784
  let c0_i32_805 : BitVec 32 := 0#32
  let v1786 : BitVec 1 := Scalar.cmpi .ne v1785 c0_i32_805
  v1786

def k0_off132 (k0_t2 : Fin k0_t2_loop.trips) : Fin 2 → Nat :=
  let c0_1009 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1007 : BitVec 32 := 32#32
  let v2564 : BitVec 32 := Scalar.muli v2563 c32_i32_1007
  let c0_i32_1008 : BitVec 32 := 0#32
  let v2565 : BitVec 32 := Scalar.addi v2564 c0_i32_1008
  let v2566 : Index := Scalar.indexCast v2565
  ![0, v2566.toNat]
def k0_off133 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1011 : BitVec 32 := 8#32
  let c0_i32_1012 : BitVec 32 := 0#32
  let v2569 : BitVec 1 := Scalar.cmpi .eq c8_i32_1011 c0_i32_1012
  let c1_i32_1013 : BitVec 32 := 1#32
  let v2570 : BitVec 32 := Scalar.select v2569 c1_i32_1013 c8_i32_1011
  let v2571 : BitVec 32 := Scalar.remsi v2563 v2570
  let c0_i32_1015 : BitVec 32 := 0#32
  let v2573 : BitVec 1 := Scalar.cmpi .slt v2571 c0_i32_1015
  let c0_i32_1016 : BitVec 32 := 0#32
  let v2574 : BitVec 1 := Scalar.cmpi .slt v2570 c0_i32_1016
  let v2575 : BitVec 1 := Scalar.xori v2573 v2574
  let c0_i32_1014 : BitVec 32 := 0#32
  let v2572 : BitVec 1 := Scalar.cmpi .ne v2571 c0_i32_1014
  let v2576 : BitVec 1 := Scalar.andi v2575 v2572
  let v2577 : BitVec 32 := Scalar.addi v2571 v2570
  let v2578 : BitVec 32 := Scalar.select v2576 v2577 v2571
  ![v2578.toNat]
def k0_off134 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1007 : BitVec 32 := 32#32
  let v2564 : BitVec 32 := Scalar.muli v2563 c32_i32_1007
  let c0_i32_1008 : BitVec 32 := 0#32
  let v2565 : BitVec 32 := Scalar.addi v2564 c0_i32_1008
  let c0_i32_1017 : BitVec 32 := 0#32
  ![v2565.toNat, 0]
def k0_off135 (v2567 : BitVec 32) : Fin 2 → Nat :=
  let c2_i32_1010 : BitVec 32 := 2#32
  let v2568 : BitVec 32 := Scalar.shrui v2567 c2_i32_1010
  let c0_i32_1018 : BitVec 32 := 0#32
  ![v2568.toNat, 0]

def k0_chk33 (k0_t2 : Fin k0_t2_loop.trips) (v2567 : BitVec 32) : Prop :=
  (∀ (k0_h1 : k0_cond1 k0_t2 = 1#1), ∀ a, (k0_off135 v2567) a + S1x3072.size a ≤ S2016x3072.size a)
theorem k0_off135_inb : ∀ (k0_t2 : Fin k0_t2_loop.trips) (v2567 : BitVec 32) (k0_hw33 : k0_chk33 k0_t2 v2567), ∀ (k0_h1 : k0_cond1 k0_t2 = 1#1), ∀ a, (k0_off135 v2567) a + S1x3072.size a ≤ S2016x3072.size a := fun k0_t2 v2567 k0_hw33 k0_h1 => k0_hw33 k0_h1

def k0_off136 (k0_t2 : Fin k0_t2_loop.trips) : Fin 2 → Nat :=
  let c0_1021 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1019 : BitVec 32 := 32#32
  let v2583 : BitVec 32 := Scalar.muli v2563 c32_i32_1019
  let c1_i32_1020 : BitVec 32 := 1#32
  let v2584 : BitVec 32 := Scalar.addi v2583 c1_i32_1020
  let v2585 : Index := Scalar.indexCast v2584
  ![0, v2585.toNat]
def k0_off137 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1023 : BitVec 32 := 8#32
  let c0_i32_1024 : BitVec 32 := 0#32
  let v2588 : BitVec 1 := Scalar.cmpi .eq c8_i32_1023 c0_i32_1024
  let c1_i32_1025 : BitVec 32 := 1#32
  let v2589 : BitVec 32 := Scalar.select v2588 c1_i32_1025 c8_i32_1023
  let v2590 : BitVec 32 := Scalar.remsi v2563 v2589
  let c0_i32_1027 : BitVec 32 := 0#32
  let v2592 : BitVec 1 := Scalar.cmpi .slt v2590 c0_i32_1027
  let c0_i32_1028 : BitVec 32 := 0#32
  let v2593 : BitVec 1 := Scalar.cmpi .slt v2589 c0_i32_1028
  let v2594 : BitVec 1 := Scalar.xori v2592 v2593
  let c0_i32_1026 : BitVec 32 := 0#32
  let v2591 : BitVec 1 := Scalar.cmpi .ne v2590 c0_i32_1026
  let v2595 : BitVec 1 := Scalar.andi v2594 v2591
  let v2596 : BitVec 32 := Scalar.addi v2590 v2589
  let v2597 : BitVec 32 := Scalar.select v2595 v2596 v2590
  ![v2597.toNat]
def k0_off138 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1019 : BitVec 32 := 32#32
  let v2583 : BitVec 32 := Scalar.muli v2563 c32_i32_1019
  let c1_i32_1020 : BitVec 32 := 1#32
  let v2584 : BitVec 32 := Scalar.addi v2583 c1_i32_1020
  let c0_i32_1029 : BitVec 32 := 0#32
  ![v2584.toNat, 0]
def k0_off139 (v2586 : BitVec 32) : Fin 2 → Nat :=
  let c2_i32_1022 : BitVec 32 := 2#32
  let v2587 : BitVec 32 := Scalar.shrui v2586 c2_i32_1022
  let c0_i32_1030 : BitVec 32 := 0#32
  ![v2587.toNat, 0]

def k0_chk34 (k0_t2 : Fin k0_t2_loop.trips) (v2586 : BitVec 32) : Prop :=
  (∀ (k0_h1 : k0_cond1 k0_t2 = 1#1), ∀ a, (k0_off139 v2586) a + S1x3072.size a ≤ S2016x3072.size a)
theorem k0_off139_inb : ∀ (k0_t2 : Fin k0_t2_loop.trips) (v2586 : BitVec 32) (k0_hw34 : k0_chk34 k0_t2 v2586), ∀ (k0_h1 : k0_cond1 k0_t2 = 1#1), ∀ a, (k0_off139 v2586) a + S1x3072.size a ≤ S2016x3072.size a := fun k0_t2 v2586 k0_hw34 k0_h1 => k0_hw34 k0_h1

def k0_off140 (k0_t2 : Fin k0_t2_loop.trips) : Fin 2 → Nat :=
  let c0_1033 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1031 : BitVec 32 := 32#32
  let v2602 : BitVec 32 := Scalar.muli v2563 c32_i32_1031
  let c2_i32_1032 : BitVec 32 := 2#32
  let v2603 : BitVec 32 := Scalar.addi v2602 c2_i32_1032
  let v2604 : Index := Scalar.indexCast v2603
  ![0, v2604.toNat]
def k0_off141 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1035 : BitVec 32 := 8#32
  let c0_i32_1036 : BitVec 32 := 0#32
  let v2607 : BitVec 1 := Scalar.cmpi .eq c8_i32_1035 c0_i32_1036
  let c1_i32_1037 : BitVec 32 := 1#32
  let v2608 : BitVec 32 := Scalar.select v2607 c1_i32_1037 c8_i32_1035
  let v2609 : BitVec 32 := Scalar.remsi v2563 v2608
  let c0_i32_1039 : BitVec 32 := 0#32
  let v2611 : BitVec 1 := Scalar.cmpi .slt v2609 c0_i32_1039
  let c0_i32_1040 : BitVec 32 := 0#32
  let v2612 : BitVec 1 := Scalar.cmpi .slt v2608 c0_i32_1040
  let v2613 : BitVec 1 := Scalar.xori v2611 v2612
  let c0_i32_1038 : BitVec 32 := 0#32
  let v2610 : BitVec 1 := Scalar.cmpi .ne v2609 c0_i32_1038
  let v2614 : BitVec 1 := Scalar.andi v2613 v2610
  let v2615 : BitVec 32 := Scalar.addi v2609 v2608
  let v2616 : BitVec 32 := Scalar.select v2614 v2615 v2609
  ![v2616.toNat]
def k0_off142 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1031 : BitVec 32 := 32#32
  let v2602 : BitVec 32 := Scalar.muli v2563 c32_i32_1031
  let c2_i32_1032 : BitVec 32 := 2#32
  let v2603 : BitVec 32 := Scalar.addi v2602 c2_i32_1032
  let c0_i32_1041 : BitVec 32 := 0#32
  ![v2603.toNat, 0]
def k0_off143 (v2605 : BitVec 32) : Fin 2 → Nat :=
  let c2_i32_1034 : BitVec 32 := 2#32
  let v2606 : BitVec 32 := Scalar.shrui v2605 c2_i32_1034
  let c0_i32_1042 : BitVec 32 := 0#32
  ![v2606.toNat, 0]

def k0_chk35 (k0_t2 : Fin k0_t2_loop.trips) (v2605 : BitVec 32) : Prop :=
  (∀ (k0_h1 : k0_cond1 k0_t2 = 1#1), ∀ a, (k0_off143 v2605) a + S1x3072.size a ≤ S2016x3072.size a)
theorem k0_off143_inb : ∀ (k0_t2 : Fin k0_t2_loop.trips) (v2605 : BitVec 32) (k0_hw35 : k0_chk35 k0_t2 v2605), ∀ (k0_h1 : k0_cond1 k0_t2 = 1#1), ∀ a, (k0_off143 v2605) a + S1x3072.size a ≤ S2016x3072.size a := fun k0_t2 v2605 k0_hw35 k0_h1 => k0_hw35 k0_h1

def k0_off144 (k0_t2 : Fin k0_t2_loop.trips) : Fin 2 → Nat :=
  let c0_1045 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1043 : BitVec 32 := 32#32
  let v2621 : BitVec 32 := Scalar.muli v2563 c32_i32_1043
  let c3_i32_1044 : BitVec 32 := 3#32
  let v2622 : BitVec 32 := Scalar.addi v2621 c3_i32_1044
  let v2623 : Index := Scalar.indexCast v2622
  ![0, v2623.toNat]
def k0_off145 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1047 : BitVec 32 := 8#32
  let c0_i32_1048 : BitVec 32 := 0#32
  let v2626 : BitVec 1 := Scalar.cmpi .eq c8_i32_1047 c0_i32_1048
  let c1_i32_1049 : BitVec 32 := 1#32
  let v2627 : BitVec 32 := Scalar.select v2626 c1_i32_1049 c8_i32_1047
  let v2628 : BitVec 32 := Scalar.remsi v2563 v2627
  let c0_i32_1051 : BitVec 32 := 0#32
  let v2630 : BitVec 1 := Scalar.cmpi .slt v2628 c0_i32_1051
  let c0_i32_1052 : BitVec 32 := 0#32
  let v2631 : BitVec 1 := Scalar.cmpi .slt v2627 c0_i32_1052
  let v2632 : BitVec 1 := Scalar.xori v2630 v2631
  let c0_i32_1050 : BitVec 32 := 0#32
  let v2629 : BitVec 1 := Scalar.cmpi .ne v2628 c0_i32_1050
  let v2633 : BitVec 1 := Scalar.andi v2632 v2629
  let v2634 : BitVec 32 := Scalar.addi v2628 v2627
  let v2635 : BitVec 32 := Scalar.select v2633 v2634 v2628
  ![v2635.toNat]
def k0_off146 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1043 : BitVec 32 := 32#32
  let v2621 : BitVec 32 := Scalar.muli v2563 c32_i32_1043
  let c3_i32_1044 : BitVec 32 := 3#32
  let v2622 : BitVec 32 := Scalar.addi v2621 c3_i32_1044
  let c0_i32_1053 : BitVec 32 := 0#32
  ![v2622.toNat, 0]
def k0_off147 (v2624 : BitVec 32) : Fin 2 → Nat :=
  let c2_i32_1046 : BitVec 32 := 2#32
  let v2625 : BitVec 32 := Scalar.shrui v2624 c2_i32_1046
  let c0_i32_1054 : BitVec 32 := 0#32
  ![v2625.toNat, 0]

def k0_chk36 (k0_t2 : Fin k0_t2_loop.trips) (v2624 : BitVec 32) : Prop :=
  (∀ (k0_h1 : k0_cond1 k0_t2 = 1#1), ∀ a, (k0_off147 v2624) a + S1x3072.size a ≤ S2016x3072.size a)
theorem k0_off147_inb : ∀ (k0_t2 : Fin k0_t2_loop.trips) (v2624 : BitVec 32) (k0_hw36 : k0_chk36 k0_t2 v2624), ∀ (k0_h1 : k0_cond1 k0_t2 = 1#1), ∀ a, (k0_off147 v2624) a + S1x3072.size a ≤ S2016x3072.size a := fun k0_t2 v2624 k0_hw36 k0_h1 => k0_hw36 k0_h1

def k0_off148 (k0_t2 : Fin k0_t2_loop.trips) : Fin 2 → Nat :=
  let c0_1057 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1055 : BitVec 32 := 32#32
  let v2640 : BitVec 32 := Scalar.muli v2563 c32_i32_1055
  let c4_i32_1056 : BitVec 32 := 4#32
  let v2641 : BitVec 32 := Scalar.addi v2640 c4_i32_1056
  let v2642 : Index := Scalar.indexCast v2641
  ![0, v2642.toNat]
def k0_off149 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1059 : BitVec 32 := 8#32
  let c0_i32_1060 : BitVec 32 := 0#32
  let v2645 : BitVec 1 := Scalar.cmpi .eq c8_i32_1059 c0_i32_1060
  let c1_i32_1061 : BitVec 32 := 1#32
  let v2646 : BitVec 32 := Scalar.select v2645 c1_i32_1061 c8_i32_1059
  let v2647 : BitVec 32 := Scalar.remsi v2563 v2646
  let c0_i32_1063 : BitVec 32 := 0#32
  let v2649 : BitVec 1 := Scalar.cmpi .slt v2647 c0_i32_1063
  let c0_i32_1064 : BitVec 32 := 0#32
  let v2650 : BitVec 1 := Scalar.cmpi .slt v2646 c0_i32_1064
  let v2651 : BitVec 1 := Scalar.xori v2649 v2650
  let c0_i32_1062 : BitVec 32 := 0#32
  let v2648 : BitVec 1 := Scalar.cmpi .ne v2647 c0_i32_1062
  let v2652 : BitVec 1 := Scalar.andi v2651 v2648
  let v2653 : BitVec 32 := Scalar.addi v2647 v2646
  let v2654 : BitVec 32 := Scalar.select v2652 v2653 v2647
  ![v2654.toNat]
def k0_off150 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1055 : BitVec 32 := 32#32
  let v2640 : BitVec 32 := Scalar.muli v2563 c32_i32_1055
  let c4_i32_1056 : BitVec 32 := 4#32
  let v2641 : BitVec 32 := Scalar.addi v2640 c4_i32_1056
  let c0_i32_1065 : BitVec 32 := 0#32
  ![v2641.toNat, 0]
def k0_off151 (v2643 : BitVec 32) : Fin 2 → Nat :=
  let c2_i32_1058 : BitVec 32 := 2#32
  let v2644 : BitVec 32 := Scalar.shrui v2643 c2_i32_1058
  let c0_i32_1066 : BitVec 32 := 0#32
  ![v2644.toNat, 0]

def k0_chk37 (k0_t2 : Fin k0_t2_loop.trips) (v2643 : BitVec 32) : Prop :=
  (∀ (k0_h1 : k0_cond1 k0_t2 = 1#1), ∀ a, (k0_off151 v2643) a + S1x3072.size a ≤ S2016x3072.size a)
theorem k0_off151_inb : ∀ (k0_t2 : Fin k0_t2_loop.trips) (v2643 : BitVec 32) (k0_hw37 : k0_chk37 k0_t2 v2643), ∀ (k0_h1 : k0_cond1 k0_t2 = 1#1), ∀ a, (k0_off151 v2643) a + S1x3072.size a ≤ S2016x3072.size a := fun k0_t2 v2643 k0_hw37 k0_h1 => k0_hw37 k0_h1

def k0_off152 (k0_t2 : Fin k0_t2_loop.trips) : Fin 2 → Nat :=
  let c0_1069 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1067 : BitVec 32 := 32#32
  let v2659 : BitVec 32 := Scalar.muli v2563 c32_i32_1067
  let c5_i32_1068 : BitVec 32 := 5#32
  let v2660 : BitVec 32 := Scalar.addi v2659 c5_i32_1068
  let v2661 : Index := Scalar.indexCast v2660
  ![0, v2661.toNat]
def k0_off153 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1071 : BitVec 32 := 8#32
  let c0_i32_1072 : BitVec 32 := 0#32
  let v2664 : BitVec 1 := Scalar.cmpi .eq c8_i32_1071 c0_i32_1072
  let c1_i32_1073 : BitVec 32 := 1#32
  let v2665 : BitVec 32 := Scalar.select v2664 c1_i32_1073 c8_i32_1071
  let v2666 : BitVec 32 := Scalar.remsi v2563 v2665
  let c0_i32_1075 : BitVec 32 := 0#32
  let v2668 : BitVec 1 := Scalar.cmpi .slt v2666 c0_i32_1075
  let c0_i32_1076 : BitVec 32 := 0#32
  let v2669 : BitVec 1 := Scalar.cmpi .slt v2665 c0_i32_1076
  let v2670 : BitVec 1 := Scalar.xori v2668 v2669
  let c0_i32_1074 : BitVec 32 := 0#32
  let v2667 : BitVec 1 := Scalar.cmpi .ne v2666 c0_i32_1074
  let v2671 : BitVec 1 := Scalar.andi v2670 v2667
  let v2672 : BitVec 32 := Scalar.addi v2666 v2665
  let v2673 : BitVec 32 := Scalar.select v2671 v2672 v2666
  ![v2673.toNat]
def k0_off154 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1067 : BitVec 32 := 32#32
  let v2659 : BitVec 32 := Scalar.muli v2563 c32_i32_1067
  let c5_i32_1068 : BitVec 32 := 5#32
  let v2660 : BitVec 32 := Scalar.addi v2659 c5_i32_1068
  let c0_i32_1077 : BitVec 32 := 0#32
  ![v2660.toNat, 0]
def k0_off155 (v2662 : BitVec 32) : Fin 2 → Nat :=
  let c2_i32_1070 : BitVec 32 := 2#32
  let v2663 : BitVec 32 := Scalar.shrui v2662 c2_i32_1070
  let c0_i32_1078 : BitVec 32 := 0#32
  ![v2663.toNat, 0]

def k0_chk38 (k0_t2 : Fin k0_t2_loop.trips) (v2662 : BitVec 32) : Prop :=
  (∀ (k0_h1 : k0_cond1 k0_t2 = 1#1), ∀ a, (k0_off155 v2662) a + S1x3072.size a ≤ S2016x3072.size a)
theorem k0_off155_inb : ∀ (k0_t2 : Fin k0_t2_loop.trips) (v2662 : BitVec 32) (k0_hw38 : k0_chk38 k0_t2 v2662), ∀ (k0_h1 : k0_cond1 k0_t2 = 1#1), ∀ a, (k0_off155 v2662) a + S1x3072.size a ≤ S2016x3072.size a := fun k0_t2 v2662 k0_hw38 k0_h1 => k0_hw38 k0_h1

def k0_off156 (k0_t2 : Fin k0_t2_loop.trips) : Fin 2 → Nat :=
  let c0_1081 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1079 : BitVec 32 := 32#32
  let v2678 : BitVec 32 := Scalar.muli v2563 c32_i32_1079
  let c6_i32_1080 : BitVec 32 := 6#32
  let v2679 : BitVec 32 := Scalar.addi v2678 c6_i32_1080
  let v2680 : Index := Scalar.indexCast v2679
  ![0, v2680.toNat]
def k0_off157 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1083 : BitVec 32 := 8#32
  let c0_i32_1084 : BitVec 32 := 0#32
  let v2683 : BitVec 1 := Scalar.cmpi .eq c8_i32_1083 c0_i32_1084
  let c1_i32_1085 : BitVec 32 := 1#32
  let v2684 : BitVec 32 := Scalar.select v2683 c1_i32_1085 c8_i32_1083
  let v2685 : BitVec 32 := Scalar.remsi v2563 v2684
  let c0_i32_1087 : BitVec 32 := 0#32
  let v2687 : BitVec 1 := Scalar.cmpi .slt v2685 c0_i32_1087
  let c0_i32_1088 : BitVec 32 := 0#32
  let v2688 : BitVec 1 := Scalar.cmpi .slt v2684 c0_i32_1088
  let v2689 : BitVec 1 := Scalar.xori v2687 v2688
  let c0_i32_1086 : BitVec 32 := 0#32
  let v2686 : BitVec 1 := Scalar.cmpi .ne v2685 c0_i32_1086
  let v2690 : BitVec 1 := Scalar.andi v2689 v2686
  let v2691 : BitVec 32 := Scalar.addi v2685 v2684
  let v2692 : BitVec 32 := Scalar.select v2690 v2691 v2685
  ![v2692.toNat]
def k0_off158 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1079 : BitVec 32 := 32#32
  let v2678 : BitVec 32 := Scalar.muli v2563 c32_i32_1079
  let c6_i32_1080 : BitVec 32 := 6#32
  let v2679 : BitVec 32 := Scalar.addi v2678 c6_i32_1080
  let c0_i32_1089 : BitVec 32 := 0#32
  ![v2679.toNat, 0]
def k0_off159 (v2681 : BitVec 32) : Fin 2 → Nat :=
  let c2_i32_1082 : BitVec 32 := 2#32
  let v2682 : BitVec 32 := Scalar.shrui v2681 c2_i32_1082
  let c0_i32_1090 : BitVec 32 := 0#32
  ![v2682.toNat, 0]

def k0_chk39 (k0_t2 : Fin k0_t2_loop.trips) (v2681 : BitVec 32) : Prop :=
  (∀ (k0_h1 : k0_cond1 k0_t2 = 1#1), ∀ a, (k0_off159 v2681) a + S1x3072.size a ≤ S2016x3072.size a)
theorem k0_off159_inb : ∀ (k0_t2 : Fin k0_t2_loop.trips) (v2681 : BitVec 32) (k0_hw39 : k0_chk39 k0_t2 v2681), ∀ (k0_h1 : k0_cond1 k0_t2 = 1#1), ∀ a, (k0_off159 v2681) a + S1x3072.size a ≤ S2016x3072.size a := fun k0_t2 v2681 k0_hw39 k0_h1 => k0_hw39 k0_h1

def k0_off160 (k0_t2 : Fin k0_t2_loop.trips) : Fin 2 → Nat :=
  let c0_1093 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1091 : BitVec 32 := 32#32
  let v2697 : BitVec 32 := Scalar.muli v2563 c32_i32_1091
  let c7_i32_1092 : BitVec 32 := 7#32
  let v2698 : BitVec 32 := Scalar.addi v2697 c7_i32_1092
  let v2699 : Index := Scalar.indexCast v2698
  ![0, v2699.toNat]
def k0_off161 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1095 : BitVec 32 := 8#32
  let c0_i32_1096 : BitVec 32 := 0#32
  let v2702 : BitVec 1 := Scalar.cmpi .eq c8_i32_1095 c0_i32_1096
  let c1_i32_1097 : BitVec 32 := 1#32
  let v2703 : BitVec 32 := Scalar.select v2702 c1_i32_1097 c8_i32_1095
  let v2704 : BitVec 32 := Scalar.remsi v2563 v2703
  let c0_i32_1099 : BitVec 32 := 0#32
  let v2706 : BitVec 1 := Scalar.cmpi .slt v2704 c0_i32_1099
  let c0_i32_1100 : BitVec 32 := 0#32
  let v2707 : BitVec 1 := Scalar.cmpi .slt v2703 c0_i32_1100
  let v2708 : BitVec 1 := Scalar.xori v2706 v2707
  let c0_i32_1098 : BitVec 32 := 0#32
  let v2705 : BitVec 1 := Scalar.cmpi .ne v2704 c0_i32_1098
  let v2709 : BitVec 1 := Scalar.andi v2708 v2705
  let v2710 : BitVec 32 := Scalar.addi v2704 v2703
  let v2711 : BitVec 32 := Scalar.select v2709 v2710 v2704
  ![v2711.toNat]
def k0_off162 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1091 : BitVec 32 := 32#32
  let v2697 : BitVec 32 := Scalar.muli v2563 c32_i32_1091
  let c7_i32_1092 : BitVec 32 := 7#32
  let v2698 : BitVec 32 := Scalar.addi v2697 c7_i32_1092
  let c0_i32_1101 : BitVec 32 := 0#32
  ![v2698.toNat, 0]
def k0_off163 (v2700 : BitVec 32) : Fin 2 → Nat :=
  let c2_i32_1094 : BitVec 32 := 2#32
  let v2701 : BitVec 32 := Scalar.shrui v2700 c2_i32_1094
  let c0_i32_1102 : BitVec 32 := 0#32
  ![v2701.toNat, 0]

def k0_chk40 (k0_t2 : Fin k0_t2_loop.trips) (v2700 : BitVec 32) : Prop :=
  (∀ (k0_h1 : k0_cond1 k0_t2 = 1#1), ∀ a, (k0_off163 v2700) a + S1x3072.size a ≤ S2016x3072.size a)
theorem k0_off163_inb : ∀ (k0_t2 : Fin k0_t2_loop.trips) (v2700 : BitVec 32) (k0_hw40 : k0_chk40 k0_t2 v2700), ∀ (k0_h1 : k0_cond1 k0_t2 = 1#1), ∀ a, (k0_off163 v2700) a + S1x3072.size a ≤ S2016x3072.size a := fun k0_t2 v2700 k0_hw40 k0_h1 => k0_hw40 k0_h1

def k0_off164 (k0_t2 : Fin k0_t2_loop.trips) : Fin 2 → Nat :=
  let c0_1105 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1103 : BitVec 32 := 32#32
  let v2716 : BitVec 32 := Scalar.muli v2563 c32_i32_1103
  let c8_i32_1104 : BitVec 32 := 8#32
  let v2717 : BitVec 32 := Scalar.addi v2716 c8_i32_1104
  let v2718 : Index := Scalar.indexCast v2717
  ![0, v2718.toNat]
def k0_off165 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1107 : BitVec 32 := 8#32
  let c0_i32_1108 : BitVec 32 := 0#32
  let v2721 : BitVec 1 := Scalar.cmpi .eq c8_i32_1107 c0_i32_1108
  let c1_i32_1109 : BitVec 32 := 1#32
  let v2722 : BitVec 32 := Scalar.select v2721 c1_i32_1109 c8_i32_1107
  let v2723 : BitVec 32 := Scalar.remsi v2563 v2722
  let c0_i32_1111 : BitVec 32 := 0#32
  let v2725 : BitVec 1 := Scalar.cmpi .slt v2723 c0_i32_1111
  let c0_i32_1112 : BitVec 32 := 0#32
  let v2726 : BitVec 1 := Scalar.cmpi .slt v2722 c0_i32_1112
  let v2727 : BitVec 1 := Scalar.xori v2725 v2726
  let c0_i32_1110 : BitVec 32 := 0#32
  let v2724 : BitVec 1 := Scalar.cmpi .ne v2723 c0_i32_1110
  let v2728 : BitVec 1 := Scalar.andi v2727 v2724
  let v2729 : BitVec 32 := Scalar.addi v2723 v2722
  let v2730 : BitVec 32 := Scalar.select v2728 v2729 v2723
  ![v2730.toNat]
def k0_off166 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1103 : BitVec 32 := 32#32
  let v2716 : BitVec 32 := Scalar.muli v2563 c32_i32_1103
  let c8_i32_1104 : BitVec 32 := 8#32
  let v2717 : BitVec 32 := Scalar.addi v2716 c8_i32_1104
  let c0_i32_1113 : BitVec 32 := 0#32
  ![v2717.toNat, 0]
def k0_off167 (v2719 : BitVec 32) : Fin 2 → Nat :=
  let c2_i32_1106 : BitVec 32 := 2#32
  let v2720 : BitVec 32 := Scalar.shrui v2719 c2_i32_1106
  let c0_i32_1114 : BitVec 32 := 0#32
  ![v2720.toNat, 0]

def k0_chk41 (k0_t2 : Fin k0_t2_loop.trips) (v2719 : BitVec 32) : Prop :=
  (∀ (k0_h1 : k0_cond1 k0_t2 = 1#1), ∀ a, (k0_off167 v2719) a + S1x3072.size a ≤ S2016x3072.size a)
theorem k0_off167_inb : ∀ (k0_t2 : Fin k0_t2_loop.trips) (v2719 : BitVec 32) (k0_hw41 : k0_chk41 k0_t2 v2719), ∀ (k0_h1 : k0_cond1 k0_t2 = 1#1), ∀ a, (k0_off167 v2719) a + S1x3072.size a ≤ S2016x3072.size a := fun k0_t2 v2719 k0_hw41 k0_h1 => k0_hw41 k0_h1

def k0_off168 (k0_t2 : Fin k0_t2_loop.trips) : Fin 2 → Nat :=
  let c0_1117 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1115 : BitVec 32 := 32#32
  let v2735 : BitVec 32 := Scalar.muli v2563 c32_i32_1115
  let c9_i32_1116 : BitVec 32 := 9#32
  let v2736 : BitVec 32 := Scalar.addi v2735 c9_i32_1116
  let v2737 : Index := Scalar.indexCast v2736
  ![0, v2737.toNat]
def k0_off169 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1119 : BitVec 32 := 8#32
  let c0_i32_1120 : BitVec 32 := 0#32
  let v2740 : BitVec 1 := Scalar.cmpi .eq c8_i32_1119 c0_i32_1120
  let c1_i32_1121 : BitVec 32 := 1#32
  let v2741 : BitVec 32 := Scalar.select v2740 c1_i32_1121 c8_i32_1119
  let v2742 : BitVec 32 := Scalar.remsi v2563 v2741
  let c0_i32_1123 : BitVec 32 := 0#32
  let v2744 : BitVec 1 := Scalar.cmpi .slt v2742 c0_i32_1123
  let c0_i32_1124 : BitVec 32 := 0#32
  let v2745 : BitVec 1 := Scalar.cmpi .slt v2741 c0_i32_1124
  let v2746 : BitVec 1 := Scalar.xori v2744 v2745
  let c0_i32_1122 : BitVec 32 := 0#32
  let v2743 : BitVec 1 := Scalar.cmpi .ne v2742 c0_i32_1122
  let v2747 : BitVec 1 := Scalar.andi v2746 v2743
  let v2748 : BitVec 32 := Scalar.addi v2742 v2741
  let v2749 : BitVec 32 := Scalar.select v2747 v2748 v2742
  ![v2749.toNat]
def k0_off170 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1115 : BitVec 32 := 32#32
  let v2735 : BitVec 32 := Scalar.muli v2563 c32_i32_1115
  let c9_i32_1116 : BitVec 32 := 9#32
  let v2736 : BitVec 32 := Scalar.addi v2735 c9_i32_1116
  let c0_i32_1125 : BitVec 32 := 0#32
  ![v2736.toNat, 0]
def k0_off171 (v2738 : BitVec 32) : Fin 2 → Nat :=
  let c2_i32_1118 : BitVec 32 := 2#32
  let v2739 : BitVec 32 := Scalar.shrui v2738 c2_i32_1118
  let c0_i32_1126 : BitVec 32 := 0#32
  ![v2739.toNat, 0]

def k0_chk42 (k0_t2 : Fin k0_t2_loop.trips) (v2738 : BitVec 32) : Prop :=
  (∀ (k0_h1 : k0_cond1 k0_t2 = 1#1), ∀ a, (k0_off171 v2738) a + S1x3072.size a ≤ S2016x3072.size a)
theorem k0_off171_inb : ∀ (k0_t2 : Fin k0_t2_loop.trips) (v2738 : BitVec 32) (k0_hw42 : k0_chk42 k0_t2 v2738), ∀ (k0_h1 : k0_cond1 k0_t2 = 1#1), ∀ a, (k0_off171 v2738) a + S1x3072.size a ≤ S2016x3072.size a := fun k0_t2 v2738 k0_hw42 k0_h1 => k0_hw42 k0_h1

def k0_off172 (k0_t2 : Fin k0_t2_loop.trips) : Fin 2 → Nat :=
  let c0_1129 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1127 : BitVec 32 := 32#32
  let v2754 : BitVec 32 := Scalar.muli v2563 c32_i32_1127
  let c10_i32_1128 : BitVec 32 := 10#32
  let v2755 : BitVec 32 := Scalar.addi v2754 c10_i32_1128
  let v2756 : Index := Scalar.indexCast v2755
  ![0, v2756.toNat]
def k0_off173 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1131 : BitVec 32 := 8#32
  let c0_i32_1132 : BitVec 32 := 0#32
  let v2759 : BitVec 1 := Scalar.cmpi .eq c8_i32_1131 c0_i32_1132
  let c1_i32_1133 : BitVec 32 := 1#32
  let v2760 : BitVec 32 := Scalar.select v2759 c1_i32_1133 c8_i32_1131
  let v2761 : BitVec 32 := Scalar.remsi v2563 v2760
  let c0_i32_1135 : BitVec 32 := 0#32
  let v2763 : BitVec 1 := Scalar.cmpi .slt v2761 c0_i32_1135
  let c0_i32_1136 : BitVec 32 := 0#32
  let v2764 : BitVec 1 := Scalar.cmpi .slt v2760 c0_i32_1136
  let v2765 : BitVec 1 := Scalar.xori v2763 v2764
  let c0_i32_1134 : BitVec 32 := 0#32
  let v2762 : BitVec 1 := Scalar.cmpi .ne v2761 c0_i32_1134
  let v2766 : BitVec 1 := Scalar.andi v2765 v2762
  let v2767 : BitVec 32 := Scalar.addi v2761 v2760
  let v2768 : BitVec 32 := Scalar.select v2766 v2767 v2761
  ![v2768.toNat]
def k0_off174 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1127 : BitVec 32 := 32#32
  let v2754 : BitVec 32 := Scalar.muli v2563 c32_i32_1127
  let c10_i32_1128 : BitVec 32 := 10#32
  let v2755 : BitVec 32 := Scalar.addi v2754 c10_i32_1128
  let c0_i32_1137 : BitVec 32 := 0#32
  ![v2755.toNat, 0]
def k0_off175 (v2757 : BitVec 32) : Fin 2 → Nat :=
  let c2_i32_1130 : BitVec 32 := 2#32
  let v2758 : BitVec 32 := Scalar.shrui v2757 c2_i32_1130
  let c0_i32_1138 : BitVec 32 := 0#32
  ![v2758.toNat, 0]

def k0_chk43 (k0_t2 : Fin k0_t2_loop.trips) (v2757 : BitVec 32) : Prop :=
  (∀ (k0_h1 : k0_cond1 k0_t2 = 1#1), ∀ a, (k0_off175 v2757) a + S1x3072.size a ≤ S2016x3072.size a)
theorem k0_off175_inb : ∀ (k0_t2 : Fin k0_t2_loop.trips) (v2757 : BitVec 32) (k0_hw43 : k0_chk43 k0_t2 v2757), ∀ (k0_h1 : k0_cond1 k0_t2 = 1#1), ∀ a, (k0_off175 v2757) a + S1x3072.size a ≤ S2016x3072.size a := fun k0_t2 v2757 k0_hw43 k0_h1 => k0_hw43 k0_h1

def k0_off176 (k0_t2 : Fin k0_t2_loop.trips) : Fin 2 → Nat :=
  let c0_1141 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1139 : BitVec 32 := 32#32
  let v2773 : BitVec 32 := Scalar.muli v2563 c32_i32_1139
  let c11_i32_1140 : BitVec 32 := 11#32
  let v2774 : BitVec 32 := Scalar.addi v2773 c11_i32_1140
  let v2775 : Index := Scalar.indexCast v2774
  ![0, v2775.toNat]
def k0_off177 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1143 : BitVec 32 := 8#32
  let c0_i32_1144 : BitVec 32 := 0#32
  let v2778 : BitVec 1 := Scalar.cmpi .eq c8_i32_1143 c0_i32_1144
  let c1_i32_1145 : BitVec 32 := 1#32
  let v2779 : BitVec 32 := Scalar.select v2778 c1_i32_1145 c8_i32_1143
  let v2780 : BitVec 32 := Scalar.remsi v2563 v2779
  let c0_i32_1147 : BitVec 32 := 0#32
  let v2782 : BitVec 1 := Scalar.cmpi .slt v2780 c0_i32_1147
  let c0_i32_1148 : BitVec 32 := 0#32
  let v2783 : BitVec 1 := Scalar.cmpi .slt v2779 c0_i32_1148
  let v2784 : BitVec 1 := Scalar.xori v2782 v2783
  let c0_i32_1146 : BitVec 32 := 0#32
  let v2781 : BitVec 1 := Scalar.cmpi .ne v2780 c0_i32_1146
  let v2785 : BitVec 1 := Scalar.andi v2784 v2781
  let v2786 : BitVec 32 := Scalar.addi v2780 v2779
  let v2787 : BitVec 32 := Scalar.select v2785 v2786 v2780
  ![v2787.toNat]
def k0_off178 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1139 : BitVec 32 := 32#32
  let v2773 : BitVec 32 := Scalar.muli v2563 c32_i32_1139
  let c11_i32_1140 : BitVec 32 := 11#32
  let v2774 : BitVec 32 := Scalar.addi v2773 c11_i32_1140
  let c0_i32_1149 : BitVec 32 := 0#32
  ![v2774.toNat, 0]
def k0_off179 (v2776 : BitVec 32) : Fin 2 → Nat :=
  let c2_i32_1142 : BitVec 32 := 2#32
  let v2777 : BitVec 32 := Scalar.shrui v2776 c2_i32_1142
  let c0_i32_1150 : BitVec 32 := 0#32
  ![v2777.toNat, 0]

def k0_chk44 (k0_t2 : Fin k0_t2_loop.trips) (v2776 : BitVec 32) : Prop :=
  (∀ (k0_h1 : k0_cond1 k0_t2 = 1#1), ∀ a, (k0_off179 v2776) a + S1x3072.size a ≤ S2016x3072.size a)
theorem k0_off179_inb : ∀ (k0_t2 : Fin k0_t2_loop.trips) (v2776 : BitVec 32) (k0_hw44 : k0_chk44 k0_t2 v2776), ∀ (k0_h1 : k0_cond1 k0_t2 = 1#1), ∀ a, (k0_off179 v2776) a + S1x3072.size a ≤ S2016x3072.size a := fun k0_t2 v2776 k0_hw44 k0_h1 => k0_hw44 k0_h1

def k0_off180 (k0_t2 : Fin k0_t2_loop.trips) : Fin 2 → Nat :=
  let c0_1153 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1151 : BitVec 32 := 32#32
  let v2792 : BitVec 32 := Scalar.muli v2563 c32_i32_1151
  let c12_i32_1152 : BitVec 32 := 12#32
  let v2793 : BitVec 32 := Scalar.addi v2792 c12_i32_1152
  let v2794 : Index := Scalar.indexCast v2793
  ![0, v2794.toNat]
def k0_off181 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1155 : BitVec 32 := 8#32
  let c0_i32_1156 : BitVec 32 := 0#32
  let v2797 : BitVec 1 := Scalar.cmpi .eq c8_i32_1155 c0_i32_1156
  let c1_i32_1157 : BitVec 32 := 1#32
  let v2798 : BitVec 32 := Scalar.select v2797 c1_i32_1157 c8_i32_1155
  let v2799 : BitVec 32 := Scalar.remsi v2563 v2798
  let c0_i32_1159 : BitVec 32 := 0#32
  let v2801 : BitVec 1 := Scalar.cmpi .slt v2799 c0_i32_1159
  let c0_i32_1160 : BitVec 32 := 0#32
  let v2802 : BitVec 1 := Scalar.cmpi .slt v2798 c0_i32_1160
  let v2803 : BitVec 1 := Scalar.xori v2801 v2802
  let c0_i32_1158 : BitVec 32 := 0#32
  let v2800 : BitVec 1 := Scalar.cmpi .ne v2799 c0_i32_1158
  let v2804 : BitVec 1 := Scalar.andi v2803 v2800
  let v2805 : BitVec 32 := Scalar.addi v2799 v2798
  let v2806 : BitVec 32 := Scalar.select v2804 v2805 v2799
  ![v2806.toNat]
def k0_off182 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1151 : BitVec 32 := 32#32
  let v2792 : BitVec 32 := Scalar.muli v2563 c32_i32_1151
  let c12_i32_1152 : BitVec 32 := 12#32
  let v2793 : BitVec 32 := Scalar.addi v2792 c12_i32_1152
  let c0_i32_1161 : BitVec 32 := 0#32
  ![v2793.toNat, 0]
def k0_off183 (v2795 : BitVec 32) : Fin 2 → Nat :=
  let c2_i32_1154 : BitVec 32 := 2#32
  let v2796 : BitVec 32 := Scalar.shrui v2795 c2_i32_1154
  let c0_i32_1162 : BitVec 32 := 0#32
  ![v2796.toNat, 0]

def k0_chk45 (k0_t2 : Fin k0_t2_loop.trips) (v2795 : BitVec 32) : Prop :=
  (∀ (k0_h1 : k0_cond1 k0_t2 = 1#1), ∀ a, (k0_off183 v2795) a + S1x3072.size a ≤ S2016x3072.size a)
theorem k0_off183_inb : ∀ (k0_t2 : Fin k0_t2_loop.trips) (v2795 : BitVec 32) (k0_hw45 : k0_chk45 k0_t2 v2795), ∀ (k0_h1 : k0_cond1 k0_t2 = 1#1), ∀ a, (k0_off183 v2795) a + S1x3072.size a ≤ S2016x3072.size a := fun k0_t2 v2795 k0_hw45 k0_h1 => k0_hw45 k0_h1

def k0_off184 (k0_t2 : Fin k0_t2_loop.trips) : Fin 2 → Nat :=
  let c0_1165 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1163 : BitVec 32 := 32#32
  let v2811 : BitVec 32 := Scalar.muli v2563 c32_i32_1163
  let c13_i32_1164 : BitVec 32 := 13#32
  let v2812 : BitVec 32 := Scalar.addi v2811 c13_i32_1164
  let v2813 : Index := Scalar.indexCast v2812
  ![0, v2813.toNat]
def k0_off185 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1167 : BitVec 32 := 8#32
  let c0_i32_1168 : BitVec 32 := 0#32
  let v2816 : BitVec 1 := Scalar.cmpi .eq c8_i32_1167 c0_i32_1168
  let c1_i32_1169 : BitVec 32 := 1#32
  let v2817 : BitVec 32 := Scalar.select v2816 c1_i32_1169 c8_i32_1167
  let v2818 : BitVec 32 := Scalar.remsi v2563 v2817
  let c0_i32_1171 : BitVec 32 := 0#32
  let v2820 : BitVec 1 := Scalar.cmpi .slt v2818 c0_i32_1171
  let c0_i32_1172 : BitVec 32 := 0#32
  let v2821 : BitVec 1 := Scalar.cmpi .slt v2817 c0_i32_1172
  let v2822 : BitVec 1 := Scalar.xori v2820 v2821
  let c0_i32_1170 : BitVec 32 := 0#32
  let v2819 : BitVec 1 := Scalar.cmpi .ne v2818 c0_i32_1170
  let v2823 : BitVec 1 := Scalar.andi v2822 v2819
  let v2824 : BitVec 32 := Scalar.addi v2818 v2817
  let v2825 : BitVec 32 := Scalar.select v2823 v2824 v2818
  ![v2825.toNat]
def k0_off186 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1163 : BitVec 32 := 32#32
  let v2811 : BitVec 32 := Scalar.muli v2563 c32_i32_1163
  let c13_i32_1164 : BitVec 32 := 13#32
  let v2812 : BitVec 32 := Scalar.addi v2811 c13_i32_1164
  let c0_i32_1173 : BitVec 32 := 0#32
  ![v2812.toNat, 0]
def k0_off187 (v2814 : BitVec 32) : Fin 2 → Nat :=
  let c2_i32_1166 : BitVec 32 := 2#32
  let v2815 : BitVec 32 := Scalar.shrui v2814 c2_i32_1166
  let c0_i32_1174 : BitVec 32 := 0#32
  ![v2815.toNat, 0]

def k0_chk46 (k0_t2 : Fin k0_t2_loop.trips) (v2814 : BitVec 32) : Prop :=
  (∀ (k0_h1 : k0_cond1 k0_t2 = 1#1), ∀ a, (k0_off187 v2814) a + S1x3072.size a ≤ S2016x3072.size a)
theorem k0_off187_inb : ∀ (k0_t2 : Fin k0_t2_loop.trips) (v2814 : BitVec 32) (k0_hw46 : k0_chk46 k0_t2 v2814), ∀ (k0_h1 : k0_cond1 k0_t2 = 1#1), ∀ a, (k0_off187 v2814) a + S1x3072.size a ≤ S2016x3072.size a := fun k0_t2 v2814 k0_hw46 k0_h1 => k0_hw46 k0_h1

def k0_off188 (k0_t2 : Fin k0_t2_loop.trips) : Fin 2 → Nat :=
  let c0_1177 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1175 : BitVec 32 := 32#32
  let v2830 : BitVec 32 := Scalar.muli v2563 c32_i32_1175
  let c14_i32_1176 : BitVec 32 := 14#32
  let v2831 : BitVec 32 := Scalar.addi v2830 c14_i32_1176
  let v2832 : Index := Scalar.indexCast v2831
  ![0, v2832.toNat]
def k0_off189 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1179 : BitVec 32 := 8#32
  let c0_i32_1180 : BitVec 32 := 0#32
  let v2835 : BitVec 1 := Scalar.cmpi .eq c8_i32_1179 c0_i32_1180
  let c1_i32_1181 : BitVec 32 := 1#32
  let v2836 : BitVec 32 := Scalar.select v2835 c1_i32_1181 c8_i32_1179
  let v2837 : BitVec 32 := Scalar.remsi v2563 v2836
  let c0_i32_1183 : BitVec 32 := 0#32
  let v2839 : BitVec 1 := Scalar.cmpi .slt v2837 c0_i32_1183
  let c0_i32_1184 : BitVec 32 := 0#32
  let v2840 : BitVec 1 := Scalar.cmpi .slt v2836 c0_i32_1184
  let v2841 : BitVec 1 := Scalar.xori v2839 v2840
  let c0_i32_1182 : BitVec 32 := 0#32
  let v2838 : BitVec 1 := Scalar.cmpi .ne v2837 c0_i32_1182
  let v2842 : BitVec 1 := Scalar.andi v2841 v2838
  let v2843 : BitVec 32 := Scalar.addi v2837 v2836
  let v2844 : BitVec 32 := Scalar.select v2842 v2843 v2837
  ![v2844.toNat]
def k0_off190 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1175 : BitVec 32 := 32#32
  let v2830 : BitVec 32 := Scalar.muli v2563 c32_i32_1175
  let c14_i32_1176 : BitVec 32 := 14#32
  let v2831 : BitVec 32 := Scalar.addi v2830 c14_i32_1176
  let c0_i32_1185 : BitVec 32 := 0#32
  ![v2831.toNat, 0]
def k0_off191 (v2833 : BitVec 32) : Fin 2 → Nat :=
  let c2_i32_1178 : BitVec 32 := 2#32
  let v2834 : BitVec 32 := Scalar.shrui v2833 c2_i32_1178
  let c0_i32_1186 : BitVec 32 := 0#32
  ![v2834.toNat, 0]

def k0_chk47 (k0_t2 : Fin k0_t2_loop.trips) (v2833 : BitVec 32) : Prop :=
  (∀ (k0_h1 : k0_cond1 k0_t2 = 1#1), ∀ a, (k0_off191 v2833) a + S1x3072.size a ≤ S2016x3072.size a)
theorem k0_off191_inb : ∀ (k0_t2 : Fin k0_t2_loop.trips) (v2833 : BitVec 32) (k0_hw47 : k0_chk47 k0_t2 v2833), ∀ (k0_h1 : k0_cond1 k0_t2 = 1#1), ∀ a, (k0_off191 v2833) a + S1x3072.size a ≤ S2016x3072.size a := fun k0_t2 v2833 k0_hw47 k0_h1 => k0_hw47 k0_h1

def k0_off192 (k0_t2 : Fin k0_t2_loop.trips) : Fin 2 → Nat :=
  let c0_1189 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1187 : BitVec 32 := 32#32
  let v2849 : BitVec 32 := Scalar.muli v2563 c32_i32_1187
  let c15_i32_1188 : BitVec 32 := 15#32
  let v2850 : BitVec 32 := Scalar.addi v2849 c15_i32_1188
  let v2851 : Index := Scalar.indexCast v2850
  ![0, v2851.toNat]
def k0_off193 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1191 : BitVec 32 := 8#32
  let c0_i32_1192 : BitVec 32 := 0#32
  let v2854 : BitVec 1 := Scalar.cmpi .eq c8_i32_1191 c0_i32_1192
  let c1_i32_1193 : BitVec 32 := 1#32
  let v2855 : BitVec 32 := Scalar.select v2854 c1_i32_1193 c8_i32_1191
  let v2856 : BitVec 32 := Scalar.remsi v2563 v2855
  let c0_i32_1195 : BitVec 32 := 0#32
  let v2858 : BitVec 1 := Scalar.cmpi .slt v2856 c0_i32_1195
  let c0_i32_1196 : BitVec 32 := 0#32
  let v2859 : BitVec 1 := Scalar.cmpi .slt v2855 c0_i32_1196
  let v2860 : BitVec 1 := Scalar.xori v2858 v2859
  let c0_i32_1194 : BitVec 32 := 0#32
  let v2857 : BitVec 1 := Scalar.cmpi .ne v2856 c0_i32_1194
  let v2861 : BitVec 1 := Scalar.andi v2860 v2857
  let v2862 : BitVec 32 := Scalar.addi v2856 v2855
  let v2863 : BitVec 32 := Scalar.select v2861 v2862 v2856
  ![v2863.toNat]
def k0_off194 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1187 : BitVec 32 := 32#32
  let v2849 : BitVec 32 := Scalar.muli v2563 c32_i32_1187
  let c15_i32_1188 : BitVec 32 := 15#32
  let v2850 : BitVec 32 := Scalar.addi v2849 c15_i32_1188
  let c0_i32_1197 : BitVec 32 := 0#32
  ![v2850.toNat, 0]
def k0_off195 (v2852 : BitVec 32) : Fin 2 → Nat :=
  let c2_i32_1190 : BitVec 32 := 2#32
  let v2853 : BitVec 32 := Scalar.shrui v2852 c2_i32_1190
  let c0_i32_1198 : BitVec 32 := 0#32
  ![v2853.toNat, 0]

def k0_chk48 (k0_t2 : Fin k0_t2_loop.trips) (v2852 : BitVec 32) : Prop :=
  (∀ (k0_h1 : k0_cond1 k0_t2 = 1#1), ∀ a, (k0_off195 v2852) a + S1x3072.size a ≤ S2016x3072.size a)
theorem k0_off195_inb : ∀ (k0_t2 : Fin k0_t2_loop.trips) (v2852 : BitVec 32) (k0_hw48 : k0_chk48 k0_t2 v2852), ∀ (k0_h1 : k0_cond1 k0_t2 = 1#1), ∀ a, (k0_off195 v2852) a + S1x3072.size a ≤ S2016x3072.size a := fun k0_t2 v2852 k0_hw48 k0_h1 => k0_hw48 k0_h1

def k0_off196 (k0_t2 : Fin k0_t2_loop.trips) : Fin 2 → Nat :=
  let c0_1201 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1199 : BitVec 32 := 32#32
  let v2868 : BitVec 32 := Scalar.muli v2563 c32_i32_1199
  let c16_i32_1200 : BitVec 32 := 16#32
  let v2869 : BitVec 32 := Scalar.addi v2868 c16_i32_1200
  let v2870 : Index := Scalar.indexCast v2869
  ![0, v2870.toNat]
def k0_off197 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1203 : BitVec 32 := 8#32
  let c0_i32_1204 : BitVec 32 := 0#32
  let v2873 : BitVec 1 := Scalar.cmpi .eq c8_i32_1203 c0_i32_1204
  let c1_i32_1205 : BitVec 32 := 1#32
  let v2874 : BitVec 32 := Scalar.select v2873 c1_i32_1205 c8_i32_1203
  let v2875 : BitVec 32 := Scalar.remsi v2563 v2874
  let c0_i32_1207 : BitVec 32 := 0#32
  let v2877 : BitVec 1 := Scalar.cmpi .slt v2875 c0_i32_1207
  let c0_i32_1208 : BitVec 32 := 0#32
  let v2878 : BitVec 1 := Scalar.cmpi .slt v2874 c0_i32_1208
  let v2879 : BitVec 1 := Scalar.xori v2877 v2878
  let c0_i32_1206 : BitVec 32 := 0#32
  let v2876 : BitVec 1 := Scalar.cmpi .ne v2875 c0_i32_1206
  let v2880 : BitVec 1 := Scalar.andi v2879 v2876
  let v2881 : BitVec 32 := Scalar.addi v2875 v2874
  let v2882 : BitVec 32 := Scalar.select v2880 v2881 v2875
  ![v2882.toNat]
def k0_off198 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1199 : BitVec 32 := 32#32
  let v2868 : BitVec 32 := Scalar.muli v2563 c32_i32_1199
  let c16_i32_1200 : BitVec 32 := 16#32
  let v2869 : BitVec 32 := Scalar.addi v2868 c16_i32_1200
  let c0_i32_1209 : BitVec 32 := 0#32
  ![v2869.toNat, 0]
def k0_off199 (v2871 : BitVec 32) : Fin 2 → Nat :=
  let c2_i32_1202 : BitVec 32 := 2#32
  let v2872 : BitVec 32 := Scalar.shrui v2871 c2_i32_1202
  let c0_i32_1210 : BitVec 32 := 0#32
  ![v2872.toNat, 0]

def k0_chk49 (k0_t2 : Fin k0_t2_loop.trips) (v2871 : BitVec 32) : Prop :=
  (∀ (k0_h1 : k0_cond1 k0_t2 = 1#1), ∀ a, (k0_off199 v2871) a + S1x3072.size a ≤ S2016x3072.size a)
theorem k0_off199_inb : ∀ (k0_t2 : Fin k0_t2_loop.trips) (v2871 : BitVec 32) (k0_hw49 : k0_chk49 k0_t2 v2871), ∀ (k0_h1 : k0_cond1 k0_t2 = 1#1), ∀ a, (k0_off199 v2871) a + S1x3072.size a ≤ S2016x3072.size a := fun k0_t2 v2871 k0_hw49 k0_h1 => k0_hw49 k0_h1

def k0_off200 (k0_t2 : Fin k0_t2_loop.trips) : Fin 2 → Nat :=
  let c0_1213 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1211 : BitVec 32 := 32#32
  let v2887 : BitVec 32 := Scalar.muli v2563 c32_i32_1211
  let c17_i32_1212 : BitVec 32 := 17#32
  let v2888 : BitVec 32 := Scalar.addi v2887 c17_i32_1212
  let v2889 : Index := Scalar.indexCast v2888
  ![0, v2889.toNat]
def k0_off201 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1215 : BitVec 32 := 8#32
  let c0_i32_1216 : BitVec 32 := 0#32
  let v2892 : BitVec 1 := Scalar.cmpi .eq c8_i32_1215 c0_i32_1216
  let c1_i32_1217 : BitVec 32 := 1#32
  let v2893 : BitVec 32 := Scalar.select v2892 c1_i32_1217 c8_i32_1215
  let v2894 : BitVec 32 := Scalar.remsi v2563 v2893
  let c0_i32_1219 : BitVec 32 := 0#32
  let v2896 : BitVec 1 := Scalar.cmpi .slt v2894 c0_i32_1219
  let c0_i32_1220 : BitVec 32 := 0#32
  let v2897 : BitVec 1 := Scalar.cmpi .slt v2893 c0_i32_1220
  let v2898 : BitVec 1 := Scalar.xori v2896 v2897
  let c0_i32_1218 : BitVec 32 := 0#32
  let v2895 : BitVec 1 := Scalar.cmpi .ne v2894 c0_i32_1218
  let v2899 : BitVec 1 := Scalar.andi v2898 v2895
  let v2900 : BitVec 32 := Scalar.addi v2894 v2893
  let v2901 : BitVec 32 := Scalar.select v2899 v2900 v2894
  ![v2901.toNat]
def k0_off202 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1211 : BitVec 32 := 32#32
  let v2887 : BitVec 32 := Scalar.muli v2563 c32_i32_1211
  let c17_i32_1212 : BitVec 32 := 17#32
  let v2888 : BitVec 32 := Scalar.addi v2887 c17_i32_1212
  let c0_i32_1221 : BitVec 32 := 0#32
  ![v2888.toNat, 0]
def k0_off203 (v2890 : BitVec 32) : Fin 2 → Nat :=
  let c2_i32_1214 : BitVec 32 := 2#32
  let v2891 : BitVec 32 := Scalar.shrui v2890 c2_i32_1214
  let c0_i32_1222 : BitVec 32 := 0#32
  ![v2891.toNat, 0]

def k0_chk50 (k0_t2 : Fin k0_t2_loop.trips) (v2890 : BitVec 32) : Prop :=
  (∀ (k0_h1 : k0_cond1 k0_t2 = 1#1), ∀ a, (k0_off203 v2890) a + S1x3072.size a ≤ S2016x3072.size a)
theorem k0_off203_inb : ∀ (k0_t2 : Fin k0_t2_loop.trips) (v2890 : BitVec 32) (k0_hw50 : k0_chk50 k0_t2 v2890), ∀ (k0_h1 : k0_cond1 k0_t2 = 1#1), ∀ a, (k0_off203 v2890) a + S1x3072.size a ≤ S2016x3072.size a := fun k0_t2 v2890 k0_hw50 k0_h1 => k0_hw50 k0_h1

def k0_off204 (k0_t2 : Fin k0_t2_loop.trips) : Fin 2 → Nat :=
  let c0_1225 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1223 : BitVec 32 := 32#32
  let v2906 : BitVec 32 := Scalar.muli v2563 c32_i32_1223
  let c18_i32_1224 : BitVec 32 := 18#32
  let v2907 : BitVec 32 := Scalar.addi v2906 c18_i32_1224
  let v2908 : Index := Scalar.indexCast v2907
  ![0, v2908.toNat]
def k0_off205 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1227 : BitVec 32 := 8#32
  let c0_i32_1228 : BitVec 32 := 0#32
  let v2911 : BitVec 1 := Scalar.cmpi .eq c8_i32_1227 c0_i32_1228
  let c1_i32_1229 : BitVec 32 := 1#32
  let v2912 : BitVec 32 := Scalar.select v2911 c1_i32_1229 c8_i32_1227
  let v2913 : BitVec 32 := Scalar.remsi v2563 v2912
  let c0_i32_1231 : BitVec 32 := 0#32
  let v2915 : BitVec 1 := Scalar.cmpi .slt v2913 c0_i32_1231
  let c0_i32_1232 : BitVec 32 := 0#32
  let v2916 : BitVec 1 := Scalar.cmpi .slt v2912 c0_i32_1232
  let v2917 : BitVec 1 := Scalar.xori v2915 v2916
  let c0_i32_1230 : BitVec 32 := 0#32
  let v2914 : BitVec 1 := Scalar.cmpi .ne v2913 c0_i32_1230
  let v2918 : BitVec 1 := Scalar.andi v2917 v2914
  let v2919 : BitVec 32 := Scalar.addi v2913 v2912
  let v2920 : BitVec 32 := Scalar.select v2918 v2919 v2913
  ![v2920.toNat]
def k0_off206 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1223 : BitVec 32 := 32#32
  let v2906 : BitVec 32 := Scalar.muli v2563 c32_i32_1223
  let c18_i32_1224 : BitVec 32 := 18#32
  let v2907 : BitVec 32 := Scalar.addi v2906 c18_i32_1224
  let c0_i32_1233 : BitVec 32 := 0#32
  ![v2907.toNat, 0]
def k0_off207 (v2909 : BitVec 32) : Fin 2 → Nat :=
  let c2_i32_1226 : BitVec 32 := 2#32
  let v2910 : BitVec 32 := Scalar.shrui v2909 c2_i32_1226
  let c0_i32_1234 : BitVec 32 := 0#32
  ![v2910.toNat, 0]

def k0_chk51 (k0_t2 : Fin k0_t2_loop.trips) (v2909 : BitVec 32) : Prop :=
  (∀ (k0_h1 : k0_cond1 k0_t2 = 1#1), ∀ a, (k0_off207 v2909) a + S1x3072.size a ≤ S2016x3072.size a)
theorem k0_off207_inb : ∀ (k0_t2 : Fin k0_t2_loop.trips) (v2909 : BitVec 32) (k0_hw51 : k0_chk51 k0_t2 v2909), ∀ (k0_h1 : k0_cond1 k0_t2 = 1#1), ∀ a, (k0_off207 v2909) a + S1x3072.size a ≤ S2016x3072.size a := fun k0_t2 v2909 k0_hw51 k0_h1 => k0_hw51 k0_h1

def k0_off208 (k0_t2 : Fin k0_t2_loop.trips) : Fin 2 → Nat :=
  let c0_1237 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1235 : BitVec 32 := 32#32
  let v2925 : BitVec 32 := Scalar.muli v2563 c32_i32_1235
  let c19_i32_1236 : BitVec 32 := 19#32
  let v2926 : BitVec 32 := Scalar.addi v2925 c19_i32_1236
  let v2927 : Index := Scalar.indexCast v2926
  ![0, v2927.toNat]
def k0_off209 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1239 : BitVec 32 := 8#32
  let c0_i32_1240 : BitVec 32 := 0#32
  let v2930 : BitVec 1 := Scalar.cmpi .eq c8_i32_1239 c0_i32_1240
  let c1_i32_1241 : BitVec 32 := 1#32
  let v2931 : BitVec 32 := Scalar.select v2930 c1_i32_1241 c8_i32_1239
  let v2932 : BitVec 32 := Scalar.remsi v2563 v2931
  let c0_i32_1243 : BitVec 32 := 0#32
  let v2934 : BitVec 1 := Scalar.cmpi .slt v2932 c0_i32_1243
  let c0_i32_1244 : BitVec 32 := 0#32
  let v2935 : BitVec 1 := Scalar.cmpi .slt v2931 c0_i32_1244
  let v2936 : BitVec 1 := Scalar.xori v2934 v2935
  let c0_i32_1242 : BitVec 32 := 0#32
  let v2933 : BitVec 1 := Scalar.cmpi .ne v2932 c0_i32_1242
  let v2937 : BitVec 1 := Scalar.andi v2936 v2933
  let v2938 : BitVec 32 := Scalar.addi v2932 v2931
  let v2939 : BitVec 32 := Scalar.select v2937 v2938 v2932
  ![v2939.toNat]
def k0_off210 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1235 : BitVec 32 := 32#32
  let v2925 : BitVec 32 := Scalar.muli v2563 c32_i32_1235
  let c19_i32_1236 : BitVec 32 := 19#32
  let v2926 : BitVec 32 := Scalar.addi v2925 c19_i32_1236
  let c0_i32_1245 : BitVec 32 := 0#32
  ![v2926.toNat, 0]
def k0_off211 (v2928 : BitVec 32) : Fin 2 → Nat :=
  let c2_i32_1238 : BitVec 32 := 2#32
  let v2929 : BitVec 32 := Scalar.shrui v2928 c2_i32_1238
  let c0_i32_1246 : BitVec 32 := 0#32
  ![v2929.toNat, 0]

def k0_chk52 (k0_t2 : Fin k0_t2_loop.trips) (v2928 : BitVec 32) : Prop :=
  (∀ (k0_h1 : k0_cond1 k0_t2 = 1#1), ∀ a, (k0_off211 v2928) a + S1x3072.size a ≤ S2016x3072.size a)
theorem k0_off211_inb : ∀ (k0_t2 : Fin k0_t2_loop.trips) (v2928 : BitVec 32) (k0_hw52 : k0_chk52 k0_t2 v2928), ∀ (k0_h1 : k0_cond1 k0_t2 = 1#1), ∀ a, (k0_off211 v2928) a + S1x3072.size a ≤ S2016x3072.size a := fun k0_t2 v2928 k0_hw52 k0_h1 => k0_hw52 k0_h1

def k0_off212 (k0_t2 : Fin k0_t2_loop.trips) : Fin 2 → Nat :=
  let c0_1249 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1247 : BitVec 32 := 32#32
  let v2944 : BitVec 32 := Scalar.muli v2563 c32_i32_1247
  let c20_i32_1248 : BitVec 32 := 20#32
  let v2945 : BitVec 32 := Scalar.addi v2944 c20_i32_1248
  let v2946 : Index := Scalar.indexCast v2945
  ![0, v2946.toNat]
def k0_off213 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1251 : BitVec 32 := 8#32
  let c0_i32_1252 : BitVec 32 := 0#32
  let v2949 : BitVec 1 := Scalar.cmpi .eq c8_i32_1251 c0_i32_1252
  let c1_i32_1253 : BitVec 32 := 1#32
  let v2950 : BitVec 32 := Scalar.select v2949 c1_i32_1253 c8_i32_1251
  let v2951 : BitVec 32 := Scalar.remsi v2563 v2950
  let c0_i32_1255 : BitVec 32 := 0#32
  let v2953 : BitVec 1 := Scalar.cmpi .slt v2951 c0_i32_1255
  let c0_i32_1256 : BitVec 32 := 0#32
  let v2954 : BitVec 1 := Scalar.cmpi .slt v2950 c0_i32_1256
  let v2955 : BitVec 1 := Scalar.xori v2953 v2954
  let c0_i32_1254 : BitVec 32 := 0#32
  let v2952 : BitVec 1 := Scalar.cmpi .ne v2951 c0_i32_1254
  let v2956 : BitVec 1 := Scalar.andi v2955 v2952
  let v2957 : BitVec 32 := Scalar.addi v2951 v2950
  let v2958 : BitVec 32 := Scalar.select v2956 v2957 v2951
  ![v2958.toNat]
def k0_off214 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1247 : BitVec 32 := 32#32
  let v2944 : BitVec 32 := Scalar.muli v2563 c32_i32_1247
  let c20_i32_1248 : BitVec 32 := 20#32
  let v2945 : BitVec 32 := Scalar.addi v2944 c20_i32_1248
  let c0_i32_1257 : BitVec 32 := 0#32
  ![v2945.toNat, 0]
def k0_off215 (v2947 : BitVec 32) : Fin 2 → Nat :=
  let c2_i32_1250 : BitVec 32 := 2#32
  let v2948 : BitVec 32 := Scalar.shrui v2947 c2_i32_1250
  let c0_i32_1258 : BitVec 32 := 0#32
  ![v2948.toNat, 0]

def k0_chk53 (k0_t2 : Fin k0_t2_loop.trips) (v2947 : BitVec 32) : Prop :=
  (∀ (k0_h1 : k0_cond1 k0_t2 = 1#1), ∀ a, (k0_off215 v2947) a + S1x3072.size a ≤ S2016x3072.size a)
theorem k0_off215_inb : ∀ (k0_t2 : Fin k0_t2_loop.trips) (v2947 : BitVec 32) (k0_hw53 : k0_chk53 k0_t2 v2947), ∀ (k0_h1 : k0_cond1 k0_t2 = 1#1), ∀ a, (k0_off215 v2947) a + S1x3072.size a ≤ S2016x3072.size a := fun k0_t2 v2947 k0_hw53 k0_h1 => k0_hw53 k0_h1

def k0_off216 (k0_t2 : Fin k0_t2_loop.trips) : Fin 2 → Nat :=
  let c0_1261 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1259 : BitVec 32 := 32#32
  let v2963 : BitVec 32 := Scalar.muli v2563 c32_i32_1259
  let c21_i32_1260 : BitVec 32 := 21#32
  let v2964 : BitVec 32 := Scalar.addi v2963 c21_i32_1260
  let v2965 : Index := Scalar.indexCast v2964
  ![0, v2965.toNat]
def k0_off217 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1263 : BitVec 32 := 8#32
  let c0_i32_1264 : BitVec 32 := 0#32
  let v2968 : BitVec 1 := Scalar.cmpi .eq c8_i32_1263 c0_i32_1264
  let c1_i32_1265 : BitVec 32 := 1#32
  let v2969 : BitVec 32 := Scalar.select v2968 c1_i32_1265 c8_i32_1263
  let v2970 : BitVec 32 := Scalar.remsi v2563 v2969
  let c0_i32_1267 : BitVec 32 := 0#32
  let v2972 : BitVec 1 := Scalar.cmpi .slt v2970 c0_i32_1267
  let c0_i32_1268 : BitVec 32 := 0#32
  let v2973 : BitVec 1 := Scalar.cmpi .slt v2969 c0_i32_1268
  let v2974 : BitVec 1 := Scalar.xori v2972 v2973
  let c0_i32_1266 : BitVec 32 := 0#32
  let v2971 : BitVec 1 := Scalar.cmpi .ne v2970 c0_i32_1266
  let v2975 : BitVec 1 := Scalar.andi v2974 v2971
  let v2976 : BitVec 32 := Scalar.addi v2970 v2969
  let v2977 : BitVec 32 := Scalar.select v2975 v2976 v2970
  ![v2977.toNat]
def k0_off218 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1259 : BitVec 32 := 32#32
  let v2963 : BitVec 32 := Scalar.muli v2563 c32_i32_1259
  let c21_i32_1260 : BitVec 32 := 21#32
  let v2964 : BitVec 32 := Scalar.addi v2963 c21_i32_1260
  let c0_i32_1269 : BitVec 32 := 0#32
  ![v2964.toNat, 0]
def k0_off219 (v2966 : BitVec 32) : Fin 2 → Nat :=
  let c2_i32_1262 : BitVec 32 := 2#32
  let v2967 : BitVec 32 := Scalar.shrui v2966 c2_i32_1262
  let c0_i32_1270 : BitVec 32 := 0#32
  ![v2967.toNat, 0]

def k0_chk54 (k0_t2 : Fin k0_t2_loop.trips) (v2966 : BitVec 32) : Prop :=
  (∀ (k0_h1 : k0_cond1 k0_t2 = 1#1), ∀ a, (k0_off219 v2966) a + S1x3072.size a ≤ S2016x3072.size a)
theorem k0_off219_inb : ∀ (k0_t2 : Fin k0_t2_loop.trips) (v2966 : BitVec 32) (k0_hw54 : k0_chk54 k0_t2 v2966), ∀ (k0_h1 : k0_cond1 k0_t2 = 1#1), ∀ a, (k0_off219 v2966) a + S1x3072.size a ≤ S2016x3072.size a := fun k0_t2 v2966 k0_hw54 k0_h1 => k0_hw54 k0_h1

def k0_off220 (k0_t2 : Fin k0_t2_loop.trips) : Fin 2 → Nat :=
  let c0_1273 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1271 : BitVec 32 := 32#32
  let v2982 : BitVec 32 := Scalar.muli v2563 c32_i32_1271
  let c22_i32_1272 : BitVec 32 := 22#32
  let v2983 : BitVec 32 := Scalar.addi v2982 c22_i32_1272
  let v2984 : Index := Scalar.indexCast v2983
  ![0, v2984.toNat]
def k0_off221 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1275 : BitVec 32 := 8#32
  let c0_i32_1276 : BitVec 32 := 0#32
  let v2987 : BitVec 1 := Scalar.cmpi .eq c8_i32_1275 c0_i32_1276
  let c1_i32_1277 : BitVec 32 := 1#32
  let v2988 : BitVec 32 := Scalar.select v2987 c1_i32_1277 c8_i32_1275
  let v2989 : BitVec 32 := Scalar.remsi v2563 v2988
  let c0_i32_1279 : BitVec 32 := 0#32
  let v2991 : BitVec 1 := Scalar.cmpi .slt v2989 c0_i32_1279
  let c0_i32_1280 : BitVec 32 := 0#32
  let v2992 : BitVec 1 := Scalar.cmpi .slt v2988 c0_i32_1280
  let v2993 : BitVec 1 := Scalar.xori v2991 v2992
  let c0_i32_1278 : BitVec 32 := 0#32
  let v2990 : BitVec 1 := Scalar.cmpi .ne v2989 c0_i32_1278
  let v2994 : BitVec 1 := Scalar.andi v2993 v2990
  let v2995 : BitVec 32 := Scalar.addi v2989 v2988
  let v2996 : BitVec 32 := Scalar.select v2994 v2995 v2989
  ![v2996.toNat]
def k0_off222 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1271 : BitVec 32 := 32#32
  let v2982 : BitVec 32 := Scalar.muli v2563 c32_i32_1271
  let c22_i32_1272 : BitVec 32 := 22#32
  let v2983 : BitVec 32 := Scalar.addi v2982 c22_i32_1272
  let c0_i32_1281 : BitVec 32 := 0#32
  ![v2983.toNat, 0]
def k0_off223 (v2985 : BitVec 32) : Fin 2 → Nat :=
  let c2_i32_1274 : BitVec 32 := 2#32
  let v2986 : BitVec 32 := Scalar.shrui v2985 c2_i32_1274
  let c0_i32_1282 : BitVec 32 := 0#32
  ![v2986.toNat, 0]

def k0_chk55 (k0_t2 : Fin k0_t2_loop.trips) (v2985 : BitVec 32) : Prop :=
  (∀ (k0_h1 : k0_cond1 k0_t2 = 1#1), ∀ a, (k0_off223 v2985) a + S1x3072.size a ≤ S2016x3072.size a)
theorem k0_off223_inb : ∀ (k0_t2 : Fin k0_t2_loop.trips) (v2985 : BitVec 32) (k0_hw55 : k0_chk55 k0_t2 v2985), ∀ (k0_h1 : k0_cond1 k0_t2 = 1#1), ∀ a, (k0_off223 v2985) a + S1x3072.size a ≤ S2016x3072.size a := fun k0_t2 v2985 k0_hw55 k0_h1 => k0_hw55 k0_h1

def k0_off224 (k0_t2 : Fin k0_t2_loop.trips) : Fin 2 → Nat :=
  let c0_1285 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1283 : BitVec 32 := 32#32
  let v3001 : BitVec 32 := Scalar.muli v2563 c32_i32_1283
  let c23_i32_1284 : BitVec 32 := 23#32
  let v3002 : BitVec 32 := Scalar.addi v3001 c23_i32_1284
  let v3003 : Index := Scalar.indexCast v3002
  ![0, v3003.toNat]
def k0_off225 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1287 : BitVec 32 := 8#32
  let c0_i32_1288 : BitVec 32 := 0#32
  let v3006 : BitVec 1 := Scalar.cmpi .eq c8_i32_1287 c0_i32_1288
  let c1_i32_1289 : BitVec 32 := 1#32
  let v3007 : BitVec 32 := Scalar.select v3006 c1_i32_1289 c8_i32_1287
  let v3008 : BitVec 32 := Scalar.remsi v2563 v3007
  let c0_i32_1291 : BitVec 32 := 0#32
  let v3010 : BitVec 1 := Scalar.cmpi .slt v3008 c0_i32_1291
  let c0_i32_1292 : BitVec 32 := 0#32
  let v3011 : BitVec 1 := Scalar.cmpi .slt v3007 c0_i32_1292
  let v3012 : BitVec 1 := Scalar.xori v3010 v3011
  let c0_i32_1290 : BitVec 32 := 0#32
  let v3009 : BitVec 1 := Scalar.cmpi .ne v3008 c0_i32_1290
  let v3013 : BitVec 1 := Scalar.andi v3012 v3009
  let v3014 : BitVec 32 := Scalar.addi v3008 v3007
  let v3015 : BitVec 32 := Scalar.select v3013 v3014 v3008
  ![v3015.toNat]
def k0_off226 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1283 : BitVec 32 := 32#32
  let v3001 : BitVec 32 := Scalar.muli v2563 c32_i32_1283
  let c23_i32_1284 : BitVec 32 := 23#32
  let v3002 : BitVec 32 := Scalar.addi v3001 c23_i32_1284
  let c0_i32_1293 : BitVec 32 := 0#32
  ![v3002.toNat, 0]
def k0_off227 (v3004 : BitVec 32) : Fin 2 → Nat :=
  let c2_i32_1286 : BitVec 32 := 2#32
  let v3005 : BitVec 32 := Scalar.shrui v3004 c2_i32_1286
  let c0_i32_1294 : BitVec 32 := 0#32
  ![v3005.toNat, 0]

def k0_chk56 (k0_t2 : Fin k0_t2_loop.trips) (v3004 : BitVec 32) : Prop :=
  (∀ (k0_h1 : k0_cond1 k0_t2 = 1#1), ∀ a, (k0_off227 v3004) a + S1x3072.size a ≤ S2016x3072.size a)
theorem k0_off227_inb : ∀ (k0_t2 : Fin k0_t2_loop.trips) (v3004 : BitVec 32) (k0_hw56 : k0_chk56 k0_t2 v3004), ∀ (k0_h1 : k0_cond1 k0_t2 = 1#1), ∀ a, (k0_off227 v3004) a + S1x3072.size a ≤ S2016x3072.size a := fun k0_t2 v3004 k0_hw56 k0_h1 => k0_hw56 k0_h1

def k0_off228 (k0_t2 : Fin k0_t2_loop.trips) : Fin 2 → Nat :=
  let c0_1297 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1295 : BitVec 32 := 32#32
  let v3020 : BitVec 32 := Scalar.muli v2563 c32_i32_1295
  let c24_i32_1296 : BitVec 32 := 24#32
  let v3021 : BitVec 32 := Scalar.addi v3020 c24_i32_1296
  let v3022 : Index := Scalar.indexCast v3021
  ![0, v3022.toNat]
def k0_off229 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1299 : BitVec 32 := 8#32
  let c0_i32_1300 : BitVec 32 := 0#32
  let v3025 : BitVec 1 := Scalar.cmpi .eq c8_i32_1299 c0_i32_1300
  let c1_i32_1301 : BitVec 32 := 1#32
  let v3026 : BitVec 32 := Scalar.select v3025 c1_i32_1301 c8_i32_1299
  let v3027 : BitVec 32 := Scalar.remsi v2563 v3026
  let c0_i32_1303 : BitVec 32 := 0#32
  let v3029 : BitVec 1 := Scalar.cmpi .slt v3027 c0_i32_1303
  let c0_i32_1304 : BitVec 32 := 0#32
  let v3030 : BitVec 1 := Scalar.cmpi .slt v3026 c0_i32_1304
  let v3031 : BitVec 1 := Scalar.xori v3029 v3030
  let c0_i32_1302 : BitVec 32 := 0#32
  let v3028 : BitVec 1 := Scalar.cmpi .ne v3027 c0_i32_1302
  let v3032 : BitVec 1 := Scalar.andi v3031 v3028
  let v3033 : BitVec 32 := Scalar.addi v3027 v3026
  let v3034 : BitVec 32 := Scalar.select v3032 v3033 v3027
  ![v3034.toNat]
def k0_off230 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1295 : BitVec 32 := 32#32
  let v3020 : BitVec 32 := Scalar.muli v2563 c32_i32_1295
  let c24_i32_1296 : BitVec 32 := 24#32
  let v3021 : BitVec 32 := Scalar.addi v3020 c24_i32_1296
  let c0_i32_1305 : BitVec 32 := 0#32
  ![v3021.toNat, 0]
def k0_off231 (v3023 : BitVec 32) : Fin 2 → Nat :=
  let c2_i32_1298 : BitVec 32 := 2#32
  let v3024 : BitVec 32 := Scalar.shrui v3023 c2_i32_1298
  let c0_i32_1306 : BitVec 32 := 0#32
  ![v3024.toNat, 0]

def k0_chk57 (k0_t2 : Fin k0_t2_loop.trips) (v3023 : BitVec 32) : Prop :=
  (∀ (k0_h1 : k0_cond1 k0_t2 = 1#1), ∀ a, (k0_off231 v3023) a + S1x3072.size a ≤ S2016x3072.size a)
theorem k0_off231_inb : ∀ (k0_t2 : Fin k0_t2_loop.trips) (v3023 : BitVec 32) (k0_hw57 : k0_chk57 k0_t2 v3023), ∀ (k0_h1 : k0_cond1 k0_t2 = 1#1), ∀ a, (k0_off231 v3023) a + S1x3072.size a ≤ S2016x3072.size a := fun k0_t2 v3023 k0_hw57 k0_h1 => k0_hw57 k0_h1

def k0_off232 (k0_t2 : Fin k0_t2_loop.trips) : Fin 2 → Nat :=
  let c0_1309 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1307 : BitVec 32 := 32#32
  let v3039 : BitVec 32 := Scalar.muli v2563 c32_i32_1307
  let c25_i32_1308 : BitVec 32 := 25#32
  let v3040 : BitVec 32 := Scalar.addi v3039 c25_i32_1308
  let v3041 : Index := Scalar.indexCast v3040
  ![0, v3041.toNat]
def k0_off233 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1311 : BitVec 32 := 8#32
  let c0_i32_1312 : BitVec 32 := 0#32
  let v3044 : BitVec 1 := Scalar.cmpi .eq c8_i32_1311 c0_i32_1312
  let c1_i32_1313 : BitVec 32 := 1#32
  let v3045 : BitVec 32 := Scalar.select v3044 c1_i32_1313 c8_i32_1311
  let v3046 : BitVec 32 := Scalar.remsi v2563 v3045
  let c0_i32_1315 : BitVec 32 := 0#32
  let v3048 : BitVec 1 := Scalar.cmpi .slt v3046 c0_i32_1315
  let c0_i32_1316 : BitVec 32 := 0#32
  let v3049 : BitVec 1 := Scalar.cmpi .slt v3045 c0_i32_1316
  let v3050 : BitVec 1 := Scalar.xori v3048 v3049
  let c0_i32_1314 : BitVec 32 := 0#32
  let v3047 : BitVec 1 := Scalar.cmpi .ne v3046 c0_i32_1314
  let v3051 : BitVec 1 := Scalar.andi v3050 v3047
  let v3052 : BitVec 32 := Scalar.addi v3046 v3045
  let v3053 : BitVec 32 := Scalar.select v3051 v3052 v3046
  ![v3053.toNat]
def k0_off234 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1307 : BitVec 32 := 32#32
  let v3039 : BitVec 32 := Scalar.muli v2563 c32_i32_1307
  let c25_i32_1308 : BitVec 32 := 25#32
  let v3040 : BitVec 32 := Scalar.addi v3039 c25_i32_1308
  let c0_i32_1317 : BitVec 32 := 0#32
  ![v3040.toNat, 0]
def k0_off235 (v3042 : BitVec 32) : Fin 2 → Nat :=
  let c2_i32_1310 : BitVec 32 := 2#32
  let v3043 : BitVec 32 := Scalar.shrui v3042 c2_i32_1310
  let c0_i32_1318 : BitVec 32 := 0#32
  ![v3043.toNat, 0]

def k0_chk58 (k0_t2 : Fin k0_t2_loop.trips) (v3042 : BitVec 32) : Prop :=
  (∀ (k0_h1 : k0_cond1 k0_t2 = 1#1), ∀ a, (k0_off235 v3042) a + S1x3072.size a ≤ S2016x3072.size a)
theorem k0_off235_inb : ∀ (k0_t2 : Fin k0_t2_loop.trips) (v3042 : BitVec 32) (k0_hw58 : k0_chk58 k0_t2 v3042), ∀ (k0_h1 : k0_cond1 k0_t2 = 1#1), ∀ a, (k0_off235 v3042) a + S1x3072.size a ≤ S2016x3072.size a := fun k0_t2 v3042 k0_hw58 k0_h1 => k0_hw58 k0_h1

def k0_off236 (k0_t2 : Fin k0_t2_loop.trips) : Fin 2 → Nat :=
  let c0_1321 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1319 : BitVec 32 := 32#32
  let v3058 : BitVec 32 := Scalar.muli v2563 c32_i32_1319
  let c26_i32_1320 : BitVec 32 := 26#32
  let v3059 : BitVec 32 := Scalar.addi v3058 c26_i32_1320
  let v3060 : Index := Scalar.indexCast v3059
  ![0, v3060.toNat]
def k0_off237 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1323 : BitVec 32 := 8#32
  let c0_i32_1324 : BitVec 32 := 0#32
  let v3063 : BitVec 1 := Scalar.cmpi .eq c8_i32_1323 c0_i32_1324
  let c1_i32_1325 : BitVec 32 := 1#32
  let v3064 : BitVec 32 := Scalar.select v3063 c1_i32_1325 c8_i32_1323
  let v3065 : BitVec 32 := Scalar.remsi v2563 v3064
  let c0_i32_1327 : BitVec 32 := 0#32
  let v3067 : BitVec 1 := Scalar.cmpi .slt v3065 c0_i32_1327
  let c0_i32_1328 : BitVec 32 := 0#32
  let v3068 : BitVec 1 := Scalar.cmpi .slt v3064 c0_i32_1328
  let v3069 : BitVec 1 := Scalar.xori v3067 v3068
  let c0_i32_1326 : BitVec 32 := 0#32
  let v3066 : BitVec 1 := Scalar.cmpi .ne v3065 c0_i32_1326
  let v3070 : BitVec 1 := Scalar.andi v3069 v3066
  let v3071 : BitVec 32 := Scalar.addi v3065 v3064
  let v3072 : BitVec 32 := Scalar.select v3070 v3071 v3065
  ![v3072.toNat]
def k0_off238 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1319 : BitVec 32 := 32#32
  let v3058 : BitVec 32 := Scalar.muli v2563 c32_i32_1319
  let c26_i32_1320 : BitVec 32 := 26#32
  let v3059 : BitVec 32 := Scalar.addi v3058 c26_i32_1320
  let c0_i32_1329 : BitVec 32 := 0#32
  ![v3059.toNat, 0]
def k0_off239 (v3061 : BitVec 32) : Fin 2 → Nat :=
  let c2_i32_1322 : BitVec 32 := 2#32
  let v3062 : BitVec 32 := Scalar.shrui v3061 c2_i32_1322
  let c0_i32_1330 : BitVec 32 := 0#32
  ![v3062.toNat, 0]

def k0_chk59 (k0_t2 : Fin k0_t2_loop.trips) (v3061 : BitVec 32) : Prop :=
  (∀ (k0_h1 : k0_cond1 k0_t2 = 1#1), ∀ a, (k0_off239 v3061) a + S1x3072.size a ≤ S2016x3072.size a)
theorem k0_off239_inb : ∀ (k0_t2 : Fin k0_t2_loop.trips) (v3061 : BitVec 32) (k0_hw59 : k0_chk59 k0_t2 v3061), ∀ (k0_h1 : k0_cond1 k0_t2 = 1#1), ∀ a, (k0_off239 v3061) a + S1x3072.size a ≤ S2016x3072.size a := fun k0_t2 v3061 k0_hw59 k0_h1 => k0_hw59 k0_h1

def k0_off240 (k0_t2 : Fin k0_t2_loop.trips) : Fin 2 → Nat :=
  let c0_1333 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1331 : BitVec 32 := 32#32
  let v3077 : BitVec 32 := Scalar.muli v2563 c32_i32_1331
  let c27_i32_1332 : BitVec 32 := 27#32
  let v3078 : BitVec 32 := Scalar.addi v3077 c27_i32_1332
  let v3079 : Index := Scalar.indexCast v3078
  ![0, v3079.toNat]
def k0_off241 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1335 : BitVec 32 := 8#32
  let c0_i32_1336 : BitVec 32 := 0#32
  let v3082 : BitVec 1 := Scalar.cmpi .eq c8_i32_1335 c0_i32_1336
  let c1_i32_1337 : BitVec 32 := 1#32
  let v3083 : BitVec 32 := Scalar.select v3082 c1_i32_1337 c8_i32_1335
  let v3084 : BitVec 32 := Scalar.remsi v2563 v3083
  let c0_i32_1339 : BitVec 32 := 0#32
  let v3086 : BitVec 1 := Scalar.cmpi .slt v3084 c0_i32_1339
  let c0_i32_1340 : BitVec 32 := 0#32
  let v3087 : BitVec 1 := Scalar.cmpi .slt v3083 c0_i32_1340
  let v3088 : BitVec 1 := Scalar.xori v3086 v3087
  let c0_i32_1338 : BitVec 32 := 0#32
  let v3085 : BitVec 1 := Scalar.cmpi .ne v3084 c0_i32_1338
  let v3089 : BitVec 1 := Scalar.andi v3088 v3085
  let v3090 : BitVec 32 := Scalar.addi v3084 v3083
  let v3091 : BitVec 32 := Scalar.select v3089 v3090 v3084
  ![v3091.toNat]
def k0_off242 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1331 : BitVec 32 := 32#32
  let v3077 : BitVec 32 := Scalar.muli v2563 c32_i32_1331
  let c27_i32_1332 : BitVec 32 := 27#32
  let v3078 : BitVec 32 := Scalar.addi v3077 c27_i32_1332
  let c0_i32_1341 : BitVec 32 := 0#32
  ![v3078.toNat, 0]
def k0_off243 (v3080 : BitVec 32) : Fin 2 → Nat :=
  let c2_i32_1334 : BitVec 32 := 2#32
  let v3081 : BitVec 32 := Scalar.shrui v3080 c2_i32_1334
  let c0_i32_1342 : BitVec 32 := 0#32
  ![v3081.toNat, 0]

def k0_chk60 (k0_t2 : Fin k0_t2_loop.trips) (v3080 : BitVec 32) : Prop :=
  (∀ (k0_h1 : k0_cond1 k0_t2 = 1#1), ∀ a, (k0_off243 v3080) a + S1x3072.size a ≤ S2016x3072.size a)
theorem k0_off243_inb : ∀ (k0_t2 : Fin k0_t2_loop.trips) (v3080 : BitVec 32) (k0_hw60 : k0_chk60 k0_t2 v3080), ∀ (k0_h1 : k0_cond1 k0_t2 = 1#1), ∀ a, (k0_off243 v3080) a + S1x3072.size a ≤ S2016x3072.size a := fun k0_t2 v3080 k0_hw60 k0_h1 => k0_hw60 k0_h1

def k0_off244 (k0_t2 : Fin k0_t2_loop.trips) : Fin 2 → Nat :=
  let c0_1345 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1343 : BitVec 32 := 32#32
  let v3096 : BitVec 32 := Scalar.muli v2563 c32_i32_1343
  let c28_i32_1344 : BitVec 32 := 28#32
  let v3097 : BitVec 32 := Scalar.addi v3096 c28_i32_1344
  let v3098 : Index := Scalar.indexCast v3097
  ![0, v3098.toNat]
def k0_off245 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1347 : BitVec 32 := 8#32
  let c0_i32_1348 : BitVec 32 := 0#32
  let v3101 : BitVec 1 := Scalar.cmpi .eq c8_i32_1347 c0_i32_1348
  let c1_i32_1349 : BitVec 32 := 1#32
  let v3102 : BitVec 32 := Scalar.select v3101 c1_i32_1349 c8_i32_1347
  let v3103 : BitVec 32 := Scalar.remsi v2563 v3102
  let c0_i32_1351 : BitVec 32 := 0#32
  let v3105 : BitVec 1 := Scalar.cmpi .slt v3103 c0_i32_1351
  let c0_i32_1352 : BitVec 32 := 0#32
  let v3106 : BitVec 1 := Scalar.cmpi .slt v3102 c0_i32_1352
  let v3107 : BitVec 1 := Scalar.xori v3105 v3106
  let c0_i32_1350 : BitVec 32 := 0#32
  let v3104 : BitVec 1 := Scalar.cmpi .ne v3103 c0_i32_1350
  let v3108 : BitVec 1 := Scalar.andi v3107 v3104
  let v3109 : BitVec 32 := Scalar.addi v3103 v3102
  let v3110 : BitVec 32 := Scalar.select v3108 v3109 v3103
  ![v3110.toNat]
def k0_off246 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1343 : BitVec 32 := 32#32
  let v3096 : BitVec 32 := Scalar.muli v2563 c32_i32_1343
  let c28_i32_1344 : BitVec 32 := 28#32
  let v3097 : BitVec 32 := Scalar.addi v3096 c28_i32_1344
  let c0_i32_1353 : BitVec 32 := 0#32
  ![v3097.toNat, 0]
def k0_off247 (v3099 : BitVec 32) : Fin 2 → Nat :=
  let c2_i32_1346 : BitVec 32 := 2#32
  let v3100 : BitVec 32 := Scalar.shrui v3099 c2_i32_1346
  let c0_i32_1354 : BitVec 32 := 0#32
  ![v3100.toNat, 0]

def k0_chk61 (k0_t2 : Fin k0_t2_loop.trips) (v3099 : BitVec 32) : Prop :=
  (∀ (k0_h1 : k0_cond1 k0_t2 = 1#1), ∀ a, (k0_off247 v3099) a + S1x3072.size a ≤ S2016x3072.size a)
theorem k0_off247_inb : ∀ (k0_t2 : Fin k0_t2_loop.trips) (v3099 : BitVec 32) (k0_hw61 : k0_chk61 k0_t2 v3099), ∀ (k0_h1 : k0_cond1 k0_t2 = 1#1), ∀ a, (k0_off247 v3099) a + S1x3072.size a ≤ S2016x3072.size a := fun k0_t2 v3099 k0_hw61 k0_h1 => k0_hw61 k0_h1

def k0_off248 (k0_t2 : Fin k0_t2_loop.trips) : Fin 2 → Nat :=
  let c0_1357 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1355 : BitVec 32 := 32#32
  let v3115 : BitVec 32 := Scalar.muli v2563 c32_i32_1355
  let c29_i32_1356 : BitVec 32 := 29#32
  let v3116 : BitVec 32 := Scalar.addi v3115 c29_i32_1356
  let v3117 : Index := Scalar.indexCast v3116
  ![0, v3117.toNat]
def k0_off249 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1359 : BitVec 32 := 8#32
  let c0_i32_1360 : BitVec 32 := 0#32
  let v3120 : BitVec 1 := Scalar.cmpi .eq c8_i32_1359 c0_i32_1360
  let c1_i32_1361 : BitVec 32 := 1#32
  let v3121 : BitVec 32 := Scalar.select v3120 c1_i32_1361 c8_i32_1359
  let v3122 : BitVec 32 := Scalar.remsi v2563 v3121
  let c0_i32_1363 : BitVec 32 := 0#32
  let v3124 : BitVec 1 := Scalar.cmpi .slt v3122 c0_i32_1363
  let c0_i32_1364 : BitVec 32 := 0#32
  let v3125 : BitVec 1 := Scalar.cmpi .slt v3121 c0_i32_1364
  let v3126 : BitVec 1 := Scalar.xori v3124 v3125
  let c0_i32_1362 : BitVec 32 := 0#32
  let v3123 : BitVec 1 := Scalar.cmpi .ne v3122 c0_i32_1362
  let v3127 : BitVec 1 := Scalar.andi v3126 v3123
  let v3128 : BitVec 32 := Scalar.addi v3122 v3121
  let v3129 : BitVec 32 := Scalar.select v3127 v3128 v3122
  ![v3129.toNat]
def k0_off250 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1355 : BitVec 32 := 32#32
  let v3115 : BitVec 32 := Scalar.muli v2563 c32_i32_1355
  let c29_i32_1356 : BitVec 32 := 29#32
  let v3116 : BitVec 32 := Scalar.addi v3115 c29_i32_1356
  let c0_i32_1365 : BitVec 32 := 0#32
  ![v3116.toNat, 0]
def k0_off251 (v3118 : BitVec 32) : Fin 2 → Nat :=
  let c2_i32_1358 : BitVec 32 := 2#32
  let v3119 : BitVec 32 := Scalar.shrui v3118 c2_i32_1358
  let c0_i32_1366 : BitVec 32 := 0#32
  ![v3119.toNat, 0]

def k0_chk62 (k0_t2 : Fin k0_t2_loop.trips) (v3118 : BitVec 32) : Prop :=
  (∀ (k0_h1 : k0_cond1 k0_t2 = 1#1), ∀ a, (k0_off251 v3118) a + S1x3072.size a ≤ S2016x3072.size a)
theorem k0_off251_inb : ∀ (k0_t2 : Fin k0_t2_loop.trips) (v3118 : BitVec 32) (k0_hw62 : k0_chk62 k0_t2 v3118), ∀ (k0_h1 : k0_cond1 k0_t2 = 1#1), ∀ a, (k0_off251 v3118) a + S1x3072.size a ≤ S2016x3072.size a := fun k0_t2 v3118 k0_hw62 k0_h1 => k0_hw62 k0_h1

def k0_off252 (k0_t2 : Fin k0_t2_loop.trips) : Fin 2 → Nat :=
  let c0_1369 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1367 : BitVec 32 := 32#32
  let v3134 : BitVec 32 := Scalar.muli v2563 c32_i32_1367
  let c30_i32_1368 : BitVec 32 := 30#32
  let v3135 : BitVec 32 := Scalar.addi v3134 c30_i32_1368
  let v3136 : Index := Scalar.indexCast v3135
  ![0, v3136.toNat]
def k0_off253 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1371 : BitVec 32 := 8#32
  let c0_i32_1372 : BitVec 32 := 0#32
  let v3139 : BitVec 1 := Scalar.cmpi .eq c8_i32_1371 c0_i32_1372
  let c1_i32_1373 : BitVec 32 := 1#32
  let v3140 : BitVec 32 := Scalar.select v3139 c1_i32_1373 c8_i32_1371
  let v3141 : BitVec 32 := Scalar.remsi v2563 v3140
  let c0_i32_1375 : BitVec 32 := 0#32
  let v3143 : BitVec 1 := Scalar.cmpi .slt v3141 c0_i32_1375
  let c0_i32_1376 : BitVec 32 := 0#32
  let v3144 : BitVec 1 := Scalar.cmpi .slt v3140 c0_i32_1376
  let v3145 : BitVec 1 := Scalar.xori v3143 v3144
  let c0_i32_1374 : BitVec 32 := 0#32
  let v3142 : BitVec 1 := Scalar.cmpi .ne v3141 c0_i32_1374
  let v3146 : BitVec 1 := Scalar.andi v3145 v3142
  let v3147 : BitVec 32 := Scalar.addi v3141 v3140
  let v3148 : BitVec 32 := Scalar.select v3146 v3147 v3141
  ![v3148.toNat]
def k0_off254 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1367 : BitVec 32 := 32#32
  let v3134 : BitVec 32 := Scalar.muli v2563 c32_i32_1367
  let c30_i32_1368 : BitVec 32 := 30#32
  let v3135 : BitVec 32 := Scalar.addi v3134 c30_i32_1368
  let c0_i32_1377 : BitVec 32 := 0#32
  ![v3135.toNat, 0]
def k0_off255 (v3137 : BitVec 32) : Fin 2 → Nat :=
  let c2_i32_1370 : BitVec 32 := 2#32
  let v3138 : BitVec 32 := Scalar.shrui v3137 c2_i32_1370
  let c0_i32_1378 : BitVec 32 := 0#32
  ![v3138.toNat, 0]

def k0_chk63 (k0_t2 : Fin k0_t2_loop.trips) (v3137 : BitVec 32) : Prop :=
  (∀ (k0_h1 : k0_cond1 k0_t2 = 1#1), ∀ a, (k0_off255 v3137) a + S1x3072.size a ≤ S2016x3072.size a)
theorem k0_off255_inb : ∀ (k0_t2 : Fin k0_t2_loop.trips) (v3137 : BitVec 32) (k0_hw63 : k0_chk63 k0_t2 v3137), ∀ (k0_h1 : k0_cond1 k0_t2 = 1#1), ∀ a, (k0_off255 v3137) a + S1x3072.size a ≤ S2016x3072.size a := fun k0_t2 v3137 k0_hw63 k0_h1 => k0_hw63 k0_h1

def k0_off256 (k0_t2 : Fin k0_t2_loop.trips) : Fin 2 → Nat :=
  let c0_1381 : Index := 0#32
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1379 : BitVec 32 := 32#32
  let v3153 : BitVec 32 := Scalar.muli v2563 c32_i32_1379
  let c31_i32_1380 : BitVec 32 := 31#32
  let v3154 : BitVec 32 := Scalar.addi v3153 c31_i32_1380
  let v3155 : Index := Scalar.indexCast v3154
  ![0, v3155.toNat]
def k0_off257 (k0_t2 : Fin k0_t2_loop.trips) : Fin 1 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c8_i32_1383 : BitVec 32 := 8#32
  let c0_i32_1384 : BitVec 32 := 0#32
  let v3158 : BitVec 1 := Scalar.cmpi .eq c8_i32_1383 c0_i32_1384
  let c1_i32_1385 : BitVec 32 := 1#32
  let v3159 : BitVec 32 := Scalar.select v3158 c1_i32_1385 c8_i32_1383
  let v3160 : BitVec 32 := Scalar.remsi v2563 v3159
  let c0_i32_1387 : BitVec 32 := 0#32
  let v3162 : BitVec 1 := Scalar.cmpi .slt v3160 c0_i32_1387
  let c0_i32_1388 : BitVec 32 := 0#32
  let v3163 : BitVec 1 := Scalar.cmpi .slt v3159 c0_i32_1388
  let v3164 : BitVec 1 := Scalar.xori v3162 v3163
  let c0_i32_1386 : BitVec 32 := 0#32
  let v3161 : BitVec 1 := Scalar.cmpi .ne v3160 c0_i32_1386
  let v3165 : BitVec 1 := Scalar.andi v3164 v3161
  let v3166 : BitVec 32 := Scalar.addi v3160 v3159
  let v3167 : BitVec 32 := Scalar.select v3165 v3166 v3160
  ![v3167.toNat]
def k0_off258 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c8_i32_1005 : BitVec 32 := 8#32
  let v2562 : BitVec 32 := Scalar.addi arg18 c8_i32_1005
  let c1_i32_1006 : BitVec 32 := 1#32
  let v2563 : BitVec 32 := Scalar.subi v2562 c1_i32_1006
  let c32_i32_1379 : BitVec 32 := 32#32
  let v3153 : BitVec 32 := Scalar.muli v2563 c32_i32_1379
  let c31_i32_1380 : BitVec 32 := 31#32
  let v3154 : BitVec 32 := Scalar.addi v3153 c31_i32_1380
  let c0_i32_1389 : BitVec 32 := 0#32
  ![v3154.toNat, 0]
def k0_off259 (v3156 : BitVec 32) : Fin 2 → Nat :=
  let c2_i32_1382 : BitVec 32 := 2#32
  let v3157 : BitVec 32 := Scalar.shrui v3156 c2_i32_1382
  let c0_i32_1390 : BitVec 32 := 0#32
  ![v3157.toNat, 0]

def k0_chk64 (k0_t2 : Fin k0_t2_loop.trips) (v3156 : BitVec 32) : Prop :=
  (∀ (k0_h1 : k0_cond1 k0_t2 = 1#1), ∀ a, (k0_off259 v3156) a + S1x3072.size a ≤ S2016x3072.size a)
theorem k0_off259_inb : ∀ (k0_t2 : Fin k0_t2_loop.trips) (v3156 : BitVec 32) (k0_hw64 : k0_chk64 k0_t2 v3156), ∀ (k0_h1 : k0_cond1 k0_t2 = 1#1), ∀ a, (k0_off259 v3156) a + S1x3072.size a ≤ S2016x3072.size a := fun k0_t2 v3156 k0_hw64 k0_h1 => k0_hw64 k0_h1

def k0_mult4 (k0_t2 : Fin k0_t2_loop.trips) : BitVec 32 :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  v1787
def k0_off260 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1789 : Index := Scalar.indexCast v1788
  let c0_807 : Index := 0#32
  ![v1789.toNat, 0]
def k0_off261 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1796 : Index := Scalar.indexCast v1788
  let c0_811 : Index := 0#32
  ![v1796.toNat, 0]
def k0_off262 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1812 : Index := Scalar.indexCast v1788
  let c128_814 : Index := 128#32
  ![v1812.toNat, 128]
def k0_off263 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1828 : Index := Scalar.indexCast v1788
  let c256_817 : Index := 256#32
  ![v1828.toNat, 256]
def k0_off264 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1844 : Index := Scalar.indexCast v1788
  let c384_820 : Index := 384#32
  ![v1844.toNat, 384]
def k0_off265 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1860 : Index := Scalar.indexCast v1788
  let c512_823 : Index := 512#32
  ![v1860.toNat, 512]
def k0_off266 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1876 : Index := Scalar.indexCast v1788
  let c640_826 : Index := 640#32
  ![v1876.toNat, 640]
def k0_off267 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1892 : Index := Scalar.indexCast v1788
  let c768_829 : Index := 768#32
  ![v1892.toNat, 768]
def k0_off268 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1908 : Index := Scalar.indexCast v1788
  let c896_832 : Index := 896#32
  ![v1908.toNat, 896]
def k0_off269 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1924 : Index := Scalar.indexCast v1788
  let c1024_835 : Index := 1024#32
  ![v1924.toNat, 1024]
def k0_off270 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1940 : Index := Scalar.indexCast v1788
  let c1152_838 : Index := 1152#32
  ![v1940.toNat, 1152]
def k0_off271 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1956 : Index := Scalar.indexCast v1788
  let c1280_841 : Index := 1280#32
  ![v1956.toNat, 1280]
def k0_off272 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1972 : Index := Scalar.indexCast v1788
  let c1408_844 : Index := 1408#32
  ![v1972.toNat, 1408]
def k0_off273 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v1988 : Index := Scalar.indexCast v1788
  let c1536_847 : Index := 1536#32
  ![v1988.toNat, 1536]
def k0_off274 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2004 : Index := Scalar.indexCast v1788
  let c1664_850 : Index := 1664#32
  ![v2004.toNat, 1664]
def k0_off275 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2020 : Index := Scalar.indexCast v1788
  let c1792_853 : Index := 1792#32
  ![v2020.toNat, 1792]
def k0_off276 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2036 : Index := Scalar.indexCast v1788
  let c1920_856 : Index := 1920#32
  ![v2036.toNat, 1920]
def k0_off277 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2052 : Index := Scalar.indexCast v1788
  let c2048_859 : Index := 2048#32
  ![v2052.toNat, 2048]
def k0_off278 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2068 : Index := Scalar.indexCast v1788
  let c2176_862 : Index := 2176#32
  ![v2068.toNat, 2176]
def k0_off279 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2084 : Index := Scalar.indexCast v1788
  let c2304_865 : Index := 2304#32
  ![v2084.toNat, 2304]
def k0_off280 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2100 : Index := Scalar.indexCast v1788
  let c2432_868 : Index := 2432#32
  ![v2100.toNat, 2432]
def k0_off281 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2116 : Index := Scalar.indexCast v1788
  let c2560_871 : Index := 2560#32
  ![v2116.toNat, 2560]
def k0_off282 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2132 : Index := Scalar.indexCast v1788
  let c2688_874 : Index := 2688#32
  ![v2132.toNat, 2688]
def k0_off283 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2148 : Index := Scalar.indexCast v1788
  let c2816_877 : Index := 2816#32
  ![v2148.toNat, 2816]
def k0_off284 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c32_i32_806 : BitVec 32 := 32#32
  let v1787 : BitVec 32 := Scalar.muli arg18 c32_i32_806
  let v1788 : BitVec 32 := v1787
  let v2164 : Index := Scalar.indexCast v1788
  let c2944_880 : Index := 2944#32
  ![v2164.toNat, 2944]
def k0_off285 (k0_t2 : Fin k0_t2_loop.trips) : Fin 3 → Nat :=
  let c1_i32_334 : BitVec 32 := 1#32
  let c1_i32_336 : BitVec 32 := 1#32
  let arg18 : BitVec 32 := Scf.iv c1_i32_334 c1_i32_336 k0_t2
  let c2_i32_883 : BitVec 32 := 2#32
  let c0_i32_884 : BitVec 32 := 0#32
  let v2180 : BitVec 1 := Scalar.cmpi .eq c2_i32_883 c0_i32_884
  let c1_i32_885 : BitVec 32 := 1#32
  let v2181 : BitVec 32 := Scalar.select v2180 c1_i32_885 c2_i32_883
  let v2182 : BitVec 32 := Scalar.remsi arg18 v2181
  let c0_i32_887 : BitVec 32 := 0#32
  let v2184 : BitVec 1 := Scalar.cmpi .slt v2182 c0_i32_887
  let c0_i32_888 : BitVec 32 := 0#32
  let v2185 : BitVec 1 := Scalar.cmpi .slt v2181 c0_i32_888
  let v2186 : BitVec 1 := Scalar.xori v2184 v2185
  let c0_i32_886 : BitVec 32 := 0#32
  let v2183 : BitVec 1 := Scalar.cmpi .ne v2182 c0_i32_886
  let v2187 : BitVec 1 := Scalar.andi v2186 v2183
  let v2188 : BitVec 32 := Scalar.addi v2182 v2181
  let v2189 : BitVec 32 := Scalar.select v2187 v2188 v2182
  let v2190 : Index := Scalar.indexCast v2189
  let c0_889 : Index := 0#32
  let c0_890 : Index := 0#32
  ![v2190.toNat, 0, 0]
def k0_mult5 (k0_t2 : Fin k0_t2_loop.trips) : BitVec 32 :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  v2195
def k0_off286 (k0_t2 : Fin k0_t2_loop.trips) : Fin 3 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c2_i32_893 : BitVec 32 := 2#32
  let c0_i32_894 : BitVec 32 := 0#32
  let v2197 : BitVec 1 := Scalar.cmpi .eq c2_i32_893 c0_i32_894
  let c1_i32_895 : BitVec 32 := 1#32
  let v2198 : BitVec 32 := Scalar.select v2197 c1_i32_895 c2_i32_893
  let v2199 : BitVec 32 := Scalar.remsi v2194 v2198
  let c0_i32_897 : BitVec 32 := 0#32
  let v2201 : BitVec 1 := Scalar.cmpi .slt v2199 c0_i32_897
  let c0_i32_898 : BitVec 32 := 0#32
  let v2202 : BitVec 1 := Scalar.cmpi .slt v2198 c0_i32_898
  let v2203 : BitVec 1 := Scalar.xori v2201 v2202
  let c0_i32_896 : BitVec 32 := 0#32
  let v2200 : BitVec 1 := Scalar.cmpi .ne v2199 c0_i32_896
  let v2204 : BitVec 1 := Scalar.andi v2203 v2200
  let v2205 : BitVec 32 := Scalar.addi v2199 v2198
  let v2206 : BitVec 32 := Scalar.select v2204 v2205 v2199
  let v2207 : Index := Scalar.indexCast v2206
  let c0_899 : Index := 0#32
  let c0_900 : Index := 0#32
  ![v2207.toNat, 0, 0]
def k0_off287 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2219 : Index := Scalar.indexCast v2196
  let c0_904 : Index := 0#32
  ![v2219.toNat, 0]
def k0_off288 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2233 : Index := Scalar.indexCast v2196
  let c128_908 : Index := 128#32
  ![v2233.toNat, 128]
def k0_off289 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2247 : Index := Scalar.indexCast v2196
  let c256_912 : Index := 256#32
  ![v2247.toNat, 256]
def k0_off290 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2261 : Index := Scalar.indexCast v2196
  let c384_916 : Index := 384#32
  ![v2261.toNat, 384]
def k0_off291 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2275 : Index := Scalar.indexCast v2196
  let c512_920 : Index := 512#32
  ![v2275.toNat, 512]
def k0_off292 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2289 : Index := Scalar.indexCast v2196
  let c640_924 : Index := 640#32
  ![v2289.toNat, 640]
def k0_off293 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2303 : Index := Scalar.indexCast v2196
  let c768_928 : Index := 768#32
  ![v2303.toNat, 768]
def k0_off294 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2317 : Index := Scalar.indexCast v2196
  let c896_932 : Index := 896#32
  ![v2317.toNat, 896]
def k0_off295 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2331 : Index := Scalar.indexCast v2196
  let c1024_936 : Index := 1024#32
  ![v2331.toNat, 1024]
def k0_off296 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2345 : Index := Scalar.indexCast v2196
  let c1152_940 : Index := 1152#32
  ![v2345.toNat, 1152]
def k0_off297 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2359 : Index := Scalar.indexCast v2196
  let c1280_944 : Index := 1280#32
  ![v2359.toNat, 1280]
def k0_off298 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2373 : Index := Scalar.indexCast v2196
  let c1408_948 : Index := 1408#32
  ![v2373.toNat, 1408]
def k0_off299 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2387 : Index := Scalar.indexCast v2196
  let c1536_952 : Index := 1536#32
  ![v2387.toNat, 1536]
def k0_off300 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2401 : Index := Scalar.indexCast v2196
  let c1664_956 : Index := 1664#32
  ![v2401.toNat, 1664]
def k0_off301 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2415 : Index := Scalar.indexCast v2196
  let c1792_960 : Index := 1792#32
  ![v2415.toNat, 1792]
def k0_off302 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2429 : Index := Scalar.indexCast v2196
  let c1920_964 : Index := 1920#32
  ![v2429.toNat, 1920]
def k0_off303 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2443 : Index := Scalar.indexCast v2196
  let c2048_968 : Index := 2048#32
  ![v2443.toNat, 2048]
def k0_off304 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2457 : Index := Scalar.indexCast v2196
  let c2176_972 : Index := 2176#32
  ![v2457.toNat, 2176]
def k0_off305 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2471 : Index := Scalar.indexCast v2196
  let c2304_976 : Index := 2304#32
  ![v2471.toNat, 2304]
def k0_off306 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2485 : Index := Scalar.indexCast v2196
  let c2432_980 : Index := 2432#32
  ![v2485.toNat, 2432]
def k0_off307 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2499 : Index := Scalar.indexCast v2196
  let c2560_984 : Index := 2560#32
  ![v2499.toNat, 2560]
def k0_off308 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2513 : Index := Scalar.indexCast v2196
  let c2688_988 : Index := 2688#32
  ![v2513.toNat, 2688]
def k0_off309 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2527 : Index := Scalar.indexCast v2196
  let c2816_992 : Index := 2816#32
  ![v2527.toNat, 2816]
def k0_off310 (k0_t2 : Fin k0_t2_loop.trips) : Fin 2 → Nat :=
  let c1_i32_334 : BitVec 32 := 1#32
  let c1_i32_336 : BitVec 32 := 1#32
  let arg18 : BitVec 32 := Scf.iv c1_i32_334 c1_i32_336 k0_t2
  let c1_i32_891 : BitVec 32 := 1#32
  let v2194 : BitVec 32 := Scalar.subi arg18 c1_i32_891
  let c32_i32_892 : BitVec 32 := 32#32
  let v2195 : BitVec 32 := Scalar.muli v2194 c32_i32_892
  let v2196 : BitVec 32 := v2195
  let v2541 : Index := Scalar.indexCast v2196
  let c2944_996 : Index := 2944#32
  ![v2541.toNat, 2944]
def k0_mult6 (k0_t2 : Fin k0_t2_loop.trips) : BitVec 32 :=
  let c1_i32_334 : BitVec 32 := 1#32
  let c1_i32_336 : BitVec 32 := 1#32
  let arg18 : BitVec 32 := Scf.iv c1_i32_334 c1_i32_336 k0_t2
  let c1_i32_1000 : BitVec 32 := 1#32
  let v2555 : BitVec 32 := Scalar.subi arg18 c1_i32_1000
  let c32_i32_1001 : BitVec 32 := 32#32
  let v2556 : BitVec 32 := Scalar.muli v2555 c32_i32_1001
  v2556
def k0_mult7 (k0_t2 : Fin k0_t2_loop.trips) : BitVec 32 :=
  let c1_i32_334 : BitVec 32 := 1#32
  let c1_i32_336 : BitVec 32 := 1#32
  let arg18 : BitVec 32 := Scf.iv c1_i32_334 c1_i32_336 k0_t2
  let c1_i32_1000 : BitVec 32 := 1#32
  let v2555 : BitVec 32 := Scalar.subi arg18 c1_i32_1000
  let c32_i32_1002 : BitVec 32 := 32#32
  let v2558 : BitVec 32 := Scalar.muli v2555 c32_i32_1002
  v2558
def k0_mult8 : BitVec 32 :=
  let c992_i32 : BitVec 32 := 992#32
  c992_i32
def k0_mult9 : BitVec 32 :=
  let c992_i32_338 : BitVec 32 := 992#32
  c992_i32_338
def k0_mult10 : BitVec 32 :=
  let c992_i32_341 : BitVec 32 := 992#32
  c992_i32_341
def k0_mult11 : BitVec 32 :=
  let c992_i32_443 : BitVec 32 := 992#32
  c992_i32_443
def k0_mult12 : BitVec 32 :=
  let c992_i32_444 : BitVec 32 := 992#32
  c992_i32_444
abbrev stage0_0 : Fin 1 → Memref sig .tc .smem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S63x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S63x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "inv_d" => some ((1 / 3072 : ℝ) : EReal)
  | _ => none
-- ==== ReferenceIdeal.lean ====
abbrev S1x1024 : Shape := ⟨2, ![1, 1024]⟩
abbrev S8064x3072 : Shape := ⟨2, ![8064, 3072]⟩
abbrev S8064 : Shape := ⟨1, ![8064]⟩
abbrev S3072 : Shape := ⟨1, ![3072]⟩
abbrev S_ : Shape := ⟨0, ![]⟩
abbrev S1x1024x1 : Shape := ⟨3, ![1, 1024, 1]⟩
abbrev S1x1024x3072 : Shape := ⟨3, ![1, 1024, 3072]⟩
abbrev S1x1x3072 : Shape := ⟨3, ![1, 1, 3072]⟩

abbrev nBuf : Space → Nat
  | .hbm => 60
  | .vmem => 0
  | .smem => 0
  | _ => 0

abbrev bufTy : (tb : Table) → Fin (tcTables nBuf tb) → BufTy
  | .hbm, ⟨0, _⟩ => ⟨S1x1024, .i32⟩
  | .hbm, ⟨1, _⟩ => ⟨S8064x3072, .i8⟩
  | .hbm, ⟨2, _⟩ => ⟨S8064, .f32⟩
  | .hbm, ⟨3, _⟩ => ⟨S8064, .bf16⟩
  | .hbm, ⟨4, _⟩ => ⟨S3072, .bf16⟩
  | .hbm, ⟨5, _⟩ => ⟨S_, .i32⟩
  | .hbm, ⟨6, _⟩ => ⟨S1x1024, .i32⟩
  | .hbm, ⟨7, _⟩ => ⟨S1x1024, .i1⟩
  | .hbm, ⟨8, _⟩ => ⟨S_, .i32⟩
  | .hbm, ⟨9, _⟩ => ⟨S1x1024, .i32⟩
  | .hbm, ⟨10, _⟩ => ⟨S1x1024, .i32⟩
  | .hbm, ⟨11, _⟩ => ⟨S1x1024, .i32⟩
  | .hbm, ⟨12, _⟩ => ⟨S1x1024x1, .i32⟩
  | .hbm, ⟨13, _⟩ => ⟨S1x1024x3072, .i8⟩
  | .hbm, ⟨14, _⟩ => ⟨S_, .i32⟩
  | .hbm, ⟨15, _⟩ => ⟨S1x1024, .i32⟩
  | .hbm, ⟨16, _⟩ => ⟨S1x1024, .i1⟩
  | .hbm, ⟨17, _⟩ => ⟨S_, .i32⟩
  | .hbm, ⟨18, _⟩ => ⟨S1x1024, .i32⟩
  | .hbm, ⟨19, _⟩ => ⟨S1x1024, .i32⟩
  | .hbm, ⟨20, _⟩ => ⟨S1x1024, .i32⟩
  | .hbm, ⟨21, _⟩ => ⟨S1x1024x1, .i32⟩
  | .hbm, ⟨22, _⟩ => ⟨S1x1024, .f32⟩
  | .hbm, ⟨23, _⟩ => ⟨S1x1024, .bf16⟩
  | .hbm, ⟨24, _⟩ => ⟨S_, .i32⟩
  | .hbm, ⟨25, _⟩ => ⟨S1x1024, .i32⟩
  | .hbm, ⟨26, _⟩ => ⟨S1x1024, .i1⟩
  | .hbm, ⟨27, _⟩ => ⟨S_, .i32⟩
  | .hbm, ⟨28, _⟩ => ⟨S1x1024, .i32⟩
  | .hbm, ⟨29, _⟩ => ⟨S1x1024, .i32⟩
  | .hbm, ⟨30, _⟩ => ⟨S1x1024, .i32⟩
  | .hbm, ⟨31, _⟩ => ⟨S1x1024x1, .i32⟩
  | .hbm, ⟨32, _⟩ => ⟨S1x1024, .bf16⟩
  | .hbm, ⟨33, _⟩ => ⟨S1x1024x3072, .i32⟩
  | .hbm, ⟨34, _⟩ => ⟨S1x1024x3072, .bf16⟩
  | .hbm, ⟨35, _⟩ => ⟨S1x1024x1, .bf16⟩
  | .hbm, ⟨36, _⟩ => ⟨S1x1024x3072, .bf16⟩
  | .hbm, ⟨37, _⟩ => ⟨S1x1024x3072, .bf16⟩
  | .hbm, ⟨38, _⟩ => ⟨S1x1024x1, .bf16⟩
  | .hbm, ⟨39, _⟩ => ⟨S1x1024x3072, .bf16⟩
  | .hbm, ⟨40, _⟩ => ⟨S1x1024x3072, .bf16⟩
  | .hbm, ⟨41, _⟩ => ⟨S1x1024x3072, .f32⟩
  | .hbm, ⟨42, _⟩ => ⟨S1x1024x3072, .f32⟩
  | .hbm, ⟨43, _⟩ => ⟨S_, .f32⟩
  | .hbm, ⟨44, _⟩ => ⟨S1x1024, .f32⟩
  | .hbm, ⟨45, _⟩ => ⟨S1x1024x1, .f32⟩
  | .hbm, ⟨46, _⟩ => ⟨S_, .f32⟩
  | .hbm, ⟨47, _⟩ => ⟨S1x1024x1, .f32⟩
  | .hbm, ⟨48, _⟩ => ⟨S1x1024x1, .f32⟩
  | .hbm, ⟨49, _⟩ => ⟨S_, .f32⟩
  | .hbm, ⟨50, _⟩ => ⟨S1x1024x1, .f32⟩
  | .hbm, ⟨51, _⟩ => ⟨S1x1024x1, .f32⟩
  | .hbm, ⟨52, _⟩ => ⟨S1x1024x1, .f32⟩
  | .hbm, ⟨53, _⟩ => ⟨S1x1024x3072, .f32⟩
  | .hbm, ⟨54, _⟩ => ⟨S1x1024x3072, .f32⟩
  | .hbm, ⟨55, _⟩ => ⟨S3072, .f32⟩
  | .hbm, ⟨56, _⟩ => ⟨S1x1x3072, .f32⟩
  | .hbm, ⟨57, _⟩ => ⟨S1x1024x3072, .f32⟩
  | .hbm, ⟨58, _⟩ => ⟨S1x1024x3072, .f32⟩
  | .hbm, ⟨59, _⟩ => ⟨S1x1024x3072, .bf16⟩
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Proof.Steps.lean ====
/- The kernel's steps as programs of their own: start a group's row copies, wait for them, dequantise a group, normalise
   a group, select the per-token parameters; each a short program over a row number, iterated. The printed kernel
   unrolls them; `Unrolled.lean` proves that it is their composition. -/
module

public import proofs.«01_k».proof.Proof.Gen.Kernel.Skeleton

@[expose] public section

set_option maxRecDepth 16384

noncomputable section

namespace Cert.Kernel.Emb

open Idealize.ShloMosaic Idealize.SL.Sem Cert.Kernel.Gen

variable {F : FTy → Type} [FloatOps F]

/-- The kernel's programs. -/
abbrev P (F : FTy → Type) [FloatOps F] (α : Type) := Prog (TpuEff nD τ sig (Elt F) Λ₀ .tc) α

/-- Run `f` at each of a list in turn. -/
def each {n : ℕ} (f : Fin n → P F Unit) : List (Fin n) → P F Unit
  | [] => pure ()
  | i :: l => f i >>= fun _ => each f l

/-- Run `f` at each of a list in turn, carrying a value. -/
def fold {n : ℕ} {σ : Type} (f : Fin n → σ → P F σ) : List (Fin n) → σ → P F σ
  | [], a => pure a
  | i :: l, a => f i a >>= fun b => fold f l b

/-- Rows `0 … 31` of a group. -/
def l32 : List (Fin 32) := [0,1,2,3,4,5,6,7,8,9,10,11,12,13,14,15,16,17,18,19,20,21,22,23,24,25,26,27,28,29,30,31]
/-- The column tiles. -/
def l24 : List (Fin 24) := [0,1,2,3,4,5,6,7,8,9,10,11,12,13,14,15,16,17,18,19,20,21,22,23]
/-- The chunks of 128 tokens. -/
def l8 : List (Fin 8) := [0,1,2,3,4,5,6,7]

/-! ## Row copies -/

/-- The table row (of packed words) that token id `v` lies in. -/
def offT (v : BitVec 32) : Fin 2 → ℕ := ![(Scalar.shrui v 2#32).toNat, 0]

/-- Read token `oI`'s id and start the copy of its table row into row `oD`, on semaphore cell `oS`. -/
def startRow (arg0 : Memref sig .tc .smem S1x1024 .i32) (arg1 : Memref sig .tc .hbm S2016x3072 .i32)
    (arg8 : Memref sig .tc .vmem S1024x3072 .i32) (arg15 : DmaSems sig S8)
    (C : BitVec 32 → Prop) (dC : ∀ v, Decidable (C v)) (hC : ∀ v, C v → ∀ a, offT v a + S1x3072.size a ≤ S2016x3072.size a)
    (oI : Fin 2 → ℕ) (hI : ∀ a, oI a + S1x1.size a ≤ S1x1024.size a)
    (oS : Fin 1 → ℕ) (hS : ∀ a, oS a + S1.size a ≤ S8.size a)
    (oD : Fin 2 → ℕ) (hD : ∀ a, oD a + S1x3072.size a ≤ S1024x3072.size a) : P F Unit := do
  let v : Elt F .i32 ← smemLoad arg0 (Rect.unit (s := S1x1024) oI S1x1.size hI) numel1_S1x1 rfl
  have hw : C v := (← Prog.lift (TpuEff.assume (C v) (dC v))).down
  Prog.lift (.enqueueDma (arg1.slice (Rect.unit (s := S2016x3072) (offT v) S1x3072.size (hC v hw)) (fun _ => rfl))
    (.here (arg8.slice (Rect.unit (s := S1024x3072) oD S1x3072.size hD) (fun _ => rfl)))
    (.dma ((arg15.slice (Rect.unit (s := S8) oS S1.size hS)).squeeze S_ squeezes_S1_S_).sem)
    (View.wordExact_bits rfl) (View.wordExact_bits rfl) ⟨Or.inl rfl, trivial⟩)

/-- The index word of row `i` of group `g`. -/
def rowWord (g : BitVec 32) (i : Fin 32) : BitVec 32 := Scalar.addi (Scalar.muli g 32#32) (BitVec.ofNat 32 i.val)

/-- `g mod 8` as the kernel computes it: the remainder, moved into range when negative. -/
def cellWord (g : BitVec 32) : BitVec 32 :=
  let n : BitVec 32 := Scalar.select (Scalar.cmpi .eq 8#32 0#32) 1#32 8#32
  let r : BitVec 32 := Scalar.remsi g n
  Scalar.select (Scalar.andi (Scalar.xori (Scalar.cmpi .slt r 0#32) (Scalar.cmpi .slt n 0#32)) (Scalar.cmpi .ne r 0#32)) (Scalar.addi r n) r

/-- Start the copies of 32 rows, the tokens `r i`, on semaphore cell `c`. -/
def startRows (arg0 : Memref sig .tc .smem S1x1024 .i32) (arg1 : Memref sig .tc .hbm S2016x3072 .i32)
    (arg8 : Memref sig .tc .vmem S1024x3072 .i32) (arg15 : DmaSems sig S8)
    (C : BitVec 32 → Prop) (dC : ∀ v, Decidable (C v)) (hC : ∀ v, C v → ∀ a, offT v a + S1x3072.size a ≤ S2016x3072.size a)
    (r : Fin 32 → ℕ) (c : ℕ) (hI : ∀ i, ∀ a, (![0, r i] : Fin 2 → ℕ) a + S1x1.size a ≤ S1x1024.size a)
    (hS : ∀ a, (![c] : Fin 1 → ℕ) a + S1.size a ≤ S8.size a)
    (hD : ∀ i, ∀ a, (![r i, 0] : Fin 2 → ℕ) a + S1x3072.size a ≤ S1024x3072.size a) : P F Unit :=
  each (fun i => startRow arg0 arg1 arg8 arg15 C dC hC ![0, r i] (hI i) ![c] hS ![r i, 0] (hD i)) l32

/-- Wait on semaphore cell `oS` for one row's bytes. -/
def waitRow (arg1 : Memref sig .tc .hbm S2016x3072 .i32) (arg8 : Memref sig .tc .vmem S1024x3072 .i32) (arg15 : DmaSems sig S8)
    (oS : Fin 1 → ℕ) (hS : ∀ a, oS a + S1.size a ≤ S8.size a)
    (oD : Fin 2 → ℕ) (hD : ∀ a, oD a + S1x3072.size a ≤ S1024x3072.size a) : P F Unit :=
  Prog.lift (.waitDma2 ((arg15.slice (Rect.unit (s := S8) oS S1.size hS)).squeeze S_ squeezes_S1_S_).sem
    (arg1.slice (Rect.unit (s := S2016x3072) ![0, 0] S1x3072.size inb_S2016x3072_S1x3072_0_0) (fun _ => rfl))
    (arg8.slice (Rect.unit (s := S1024x3072) oD S1x3072.size hD) (fun _ => rfl))
    (View.wordExact_bits rfl) (View.wordExact_bits rfl))

/-- Wait on semaphore cell `c` for the 32 rows `r i`. -/
def waitRows (arg1 : Memref sig .tc .hbm S2016x3072 .i32) (arg8 : Memref sig .tc .vmem S1024x3072 .i32) (arg15 : DmaSems sig S8)
    (r : Fin 32 → ℕ) (c : ℕ) (hS : ∀ a, (![c] : Fin 1 → ℕ) a + S1.size a ≤ S8.size a)
    (hD : ∀ i, ∀ a, (![r i, 0] : Fin 2 → ℕ) a + S1x3072.size a ≤ S1024x3072.size a) : P F Unit :=
  each (fun i => waitRow arg1 arg8 arg15 ![c] hS ![r i, 0] (hD i)) l32

/-! ## Dequantise -/

/-- One tile dequantised: the code byte of each word, less the zero point, times the scale. -/
def embTile (shift : Vec F S32x128 .i32) (scale zero : Vec F S32x128 .bf16) (w : Vec F S32x128 .i32) : FVec F S32x128 .bf16 :=
  mulf (subf (truncf .bf16 (sitofp .f32 (shrsi (shli w shift) (broadcast S32x128 24#32))) bitsLt_bf16_f32) zero) scale

/-- The squares of one tile added to the running sum. -/
def sqAdd (sq : FVec F S32x128 .f32) (e : FVec F S32x128 .bf16) : FVec F S32x128 .f32 :=
  addf sq (mulf (extf .f32 e bitsLt_bf16_f32) (extf .f32 e bitsLt_bf16_f32))

/-- A row block's tile `j` lies in the buffer. -/
abbrev TileIn (r : ℕ) (j : ℕ) : Prop := ∀ a, (![r, 128 * j] : Fin 2 → ℕ) a + S32x128.size a ≤ S1024x3072.size a
/-- … and covers whole packed rows. -/
abbrev TilePacked (r : ℕ) (j : ℕ) (h : TileIn r j) : Prop :=
  (Rect.unit (s := S1024x3072) ![r, 128 * j] S32x128.size h).PackedRows (EltTy.packing .bf16)

/-- Dequantise tile `j` of rows `r …`, and add its squares. -/
def dqTile (arg8 : Memref sig .tc .vmem S1024x3072 .i32) (arg9 : Memref sig .tc .vmem S1024x3072 .bf16) (harg9 : arg9.IsWhole)
    (r : ℕ) (hB : ∀ j : Fin 24, TileIn r j) (hP : ∀ j : Fin 24, TilePacked r j (hB j))
    (shift : Vec F S32x128 .i32) (scale zero : Vec F S32x128 .bf16) (j : Fin 24) (sq : FVec F S32x128 .f32) : P F (FVec F S32x128 .f32) := do
  let w : Vec F S32x128 .i32 ← Prog.lift (.load arg8 (Rect.unit (s := S1024x3072) ![r, 128 * j.val] S32x128.size (hB j)).toLoadRect (View.loadsAt_vmem h_S32x128))
  let _ : Vec F S32x128 .bf16 ← Prog.lift (.load arg9 (Rect.unit (s := S1024x3072) ![r, 128 * j.val] S32x128.size (hB j)).toLoadRect (View.loadsAt_vmem h_S32x128))
  Prog.lift (.store arg9 (Rect.unit (s := S1024x3072) ![r, 128 * j.val] S32x128.size (hB j))
    (shapeCast S32x128 (embTile shift scale zero w) shapeCasts_S32x128_S32x128) Finset.univ
    (View.stores_vmem h_S32x128 (harg9.storeExact_slice rfl _ (hP j)) (fun _ => rfl)) (.inl rfl))
  pure (sqAdd sq (embTile shift scale zero w))

/-- The zero sum of squares. -/
def sqZero : FVec F S32x128 .f32 := broadcast S32x128 (Scalar.ofBits .f32 0x00000000#32)

/-- Dequantise rows `r …`; the result is the rows' sums of squares, per lane. -/
def dqRows (arg8 : Memref sig .tc .vmem S1024x3072 .i32) (arg9 : Memref sig .tc .vmem S1024x3072 .bf16) (harg9 : arg9.IsWhole)
    (arg12 : Memref sig .tc .vmem S1024x128 .i32) (arg13 arg14 : Memref sig .tc .vmem S1024x128 .bf16)
    (r : ℕ) (hC : ∀ a, (![r, 0] : Fin 2 → ℕ) a + S32x128.size a ≤ S1024x128.size a)
    (hB : ∀ j : Fin 24, TileIn r j) (hP : ∀ j : Fin 24, TilePacked r j (hB j)) : P F (FVec F S32x128 .f32) := do
  let shift : Vec F S32x128 .i32 ← Prog.lift (.load arg12 (Rect.unit (s := S1024x128) ![r, 0] S32x128.size hC).toLoadRect (View.loadsAt_vmem h_S32x128))
  let scale : Vec F S32x128 .bf16 ← Prog.lift (.load arg13 (Rect.unit (s := S1024x128) ![r, 0] S32x128.size hC).toLoadRect (View.loadsAt_vmem h_S32x128))
  let zero : Vec F S32x128 .bf16 ← Prog.lift (.load arg14 (Rect.unit (s := S1024x128) ![r, 0] S32x128.size hC).toLoadRect (View.loadsAt_vmem h_S32x128))
  fold (dqTile arg8 arg9 harg9 r hB hP shift scale zero) l24 sqZero

/-- Write a group's sums of squares to slot `c`. -/
def sqStore (arg11 : Memref sig .tc .vmem S2x32x128 .f32) (c : ℕ)
    (hQ : ∀ a, (![c, 0, 0] : Fin 3 → ℕ) a + S1x32x128.size a ≤ S2x32x128.size a) (sq : FVec F S32x128 .f32) : P F Unit := do
  let _ : Vec F S1x32x128 .f32 ← Prog.lift (.load arg11 (Rect.unit (s := S2x32x128) ![c, 0, 0] S1x32x128.size hQ).toLoadRect (View.loadsAt_vmem h_S1x32x128))
  Prog.lift (.store arg11 (Rect.unit (s := S2x32x128) ![c, 0, 0] S1x32x128.size hQ)
    (shapeCast S1x32x128 sq shapeCasts_S32x128_S1x32x128) Finset.univ (View.stores_vmem_bits_univ h_S1x32x128 rfl) (.inl rfl))

/-- Dequantise rows `r …`, their sums of squares to slot `c`. -/
def dequant (arg8 : Memref sig .tc .vmem S1024x3072 .i32) (arg9 : Memref sig .tc .vmem S1024x3072 .bf16) (harg9 : arg9.IsWhole)
    (arg11 : Memref sig .tc .vmem S2x32x128 .f32)
    (arg12 : Memref sig .tc .vmem S1024x128 .i32) (arg13 arg14 : Memref sig .tc .vmem S1024x128 .bf16)
    (r c : ℕ) (hC : ∀ a, (![r, 0] : Fin 2 → ℕ) a + S32x128.size a ≤ S1024x128.size a)
    (hB : ∀ j : Fin 24, TileIn r j) (hP : ∀ j : Fin 24, TilePacked r j (hB j))
    (hQ : ∀ a, (![c, 0, 0] : Fin 3 → ℕ) a + S1x32x128.size a ≤ S2x32x128.size a) : P F Unit := do
  let sq ← dqRows arg8 arg9 harg9 arg12 arg13 arg14 r hC hB hP
  sqStore arg11 c hQ sq

/-! ## Normalise -/

/-- The rows' factors `1 / √(mean of squares + ε)` from their sums of squares. -/
def factor (sq : Vec F S1x32x128 .f32) : FVec F S32x128 .f32 := k0_pay67 sq

/-- One tile normalised. -/
def outTile (f : FVec F S32x128 .f32) (x : Vec F S32x128 .bf16) (w : Vec F S1x128 .bf16) : FVec F S32x128 .bf16 :=
  truncf .bf16 (mulf (mulf (extf .f32 x bitsLt_bf16_f32) f)
    (broadcastTo S32x128 (extf .f32 (shapeCast S1x128 w shapeCasts_S1x128_S1x128) bitsLt_bf16_f32) broadcasts_S1x128_S32x128)) bitsLt_bf16_f32

theorem weight_inb (j : Fin 24) : ∀ a, (![0, 128 * j.val] : Fin 2 → ℕ) a + S1x128.size a ≤ S1x3072.size a := by
  revert j; decide

/-- Normalise tile `j` of rows `r …`. -/
def nmTile (arg5 : Memref sig .tc .vmem S1x3072 .bf16) (arg9 : Memref sig .tc .vmem S1024x3072 .bf16)
    (arg10 : Memref sig .tc .vmem S1024x3072 .bf16) (harg10 : arg10.IsWhole)
    (r : ℕ) (hB : ∀ j : Fin 24, TileIn r j) (hP : ∀ j : Fin 24, TilePacked r j (hB j)) (f : FVec F S32x128 .f32) (j : Fin 24) : P F Unit := do
  let x : Vec F S32x128 .bf16 ← Prog.lift (.load arg9 (Rect.unit (s := S1024x3072) ![r, 128 * j.val] S32x128.size (hB j)).toLoadRect (View.loadsAt_vmem h_S32x128))
  let w : Vec F S1x128 .bf16 ← Prog.lift (.load arg5 (Rect.unit (s := S1x3072) ![0, 128 * j.val] S1x128.size (weight_inb j)).toLoadRect (View.loadsAt_vmem h_S1x128))
  let _ : Vec F S32x128 .bf16 ← Prog.lift (.load arg10 (Rect.unit (s := S1024x3072) ![r, 128 * j.val] S32x128.size (hB j)).toLoadRect (View.loadsAt_vmem h_S32x128))
  Prog.lift (.store arg10 (Rect.unit (s := S1024x3072) ![r, 128 * j.val] S32x128.size (hB j))
    (shapeCast S32x128 (outTile f x w) shapeCasts_S32x128_S32x128) Finset.univ
    (View.stores_vmem h_S32x128 (harg10.storeExact_slice rfl _ (hP j)) (fun _ => rfl)) (.inl rfl))

/-- Normalise rows `r …` by the sums of squares in slot `c`. -/
def normalise (arg5 : Memref sig .tc .vmem S1x3072 .bf16) (arg9 : Memref sig .tc .vmem S1024x3072 .bf16)
    (arg10 : Memref sig .tc .vmem S1024x3072 .bf16) (harg10 : arg10.IsWhole) (arg11 : Memref sig .tc .vmem S2x32x128 .f32)
    (r c : ℕ) (hB : ∀ j : Fin 24, TileIn r j) (hP : ∀ j : Fin 24, TilePacked r j (hB j))
    (hQ : ∀ a, (![c, 0, 0] : Fin 3 → ℕ) a + S1x32x128.size a ≤ S2x32x128.size a) : P F Unit := do
  let s : Vec F S1x32x128 .f32 ← Prog.lift (.load arg11 (Rect.unit (s := S2x32x128) ![c, 0, 0] S1x32x128.size hQ).toLoadRect (View.loadsAt_vmem h_S1x32x128))
  each (nmTile arg5 arg9 arg10 harg10 r hB hP (factor s)) l24

/-! ## Copy a group out -/

/-- A row block lies in the buffer. -/
abbrev BlockIn (r : ℕ) : Prop := ∀ a, (![r, 0] : Fin 2 → ℕ) a + S32x3072.size a ≤ S1024x3072.size a

/-- Start the copy of rows `r …` of `src` to the same rows of `dst`. -/
def copyOut (src : Memref sig .tc .vmem S1024x3072 .bf16) (hsrc : src.IsWhole) (dst : Memref sig .tc .hbm S1024x3072 .bf16) (hdst : dst.IsWhole)
    (sem : DmaSems sig S_) (r : ℕ) (hB : BlockIn r)
    (hW : (Rect.unit (s := S1024x3072) ![r, 0] S32x3072.size hB).WholeWords (EltTy.packing .bf16)) : P F Unit :=
  Prog.lift (.enqueueDma (src.slice (Rect.unit (s := S1024x3072) ![r, 0] S32x3072.size hB) (fun _ => rfl))
    (.here (dst.slice (Rect.unit (s := S1024x3072) ![r, 0] S32x3072.size hB) (fun _ => rfl)))
    (.dma sem.sem) (hsrc.wordExact_slice rfl _ hW) (hdst.wordExact_slice rfl _ hW) ⟨Or.inl rfl, trivial⟩)

/-! ## The per-token parameters -/

/-- A chunk of ids, one per row, across the lanes. -/
def idRows (ids : Vec F S1x128 .i32) : IVec S128x128 32 :=
  transpose S128x128 [1, 0] (broadcastTo S128x128 (shapeCast S1x128 ids shapeCasts_S1x128_S1x128) broadcasts_S1x128_S128x128) transposes_S128x128_p1_0_S128x128

/-- The 63 parameter rows: scales and zero points side by side. -/
def params (scale : Vec F S63x128 .f32) (zero : Vec F S63x128 .bf16) : FVec F S63x256 .bf16 :=
  concatenate S63x256 1 [⟨S63x128, truncf .bf16 (shapeCast S63x128 scale shapeCasts_S63x128_S63x128) bitsLt_bf16_f32⟩,
    ⟨S63x128, shapeCast S63x128 zero shapeCasts_S63x128_S63x128⟩] concatenates_S63x128_S63x128_S63x256_d1

/-- Each id's parameter row: a one-hot product. -/
def selRows (p : FVec F S63x256 .bf16) (ids : IVec S128x128 32) : FVec F S128x256 .f32 :=
  matmul dot_S128x63_S63x256_S128x256_1_0_0_1_n_n none
    (truncf .bf16 (sitofp .f32 (extui 32 (cmpi .eq (iota .tc S128x63 32 [1] iota_S128x63_d1_w32)
      (extractStridedSlice S128x63 ![0, 0] (shrui ids (broadcast S128x128 7#32)) slices_S128x128_o0_0_S128x63)) natLt_1_32)) bitsLt_bf16_f32)
    p (constant S128x256 .f32 0x00000000#32)

/-- The id's lane of its parameter row. -/
def hit (ids : IVec S128x128 32) : IVec S128x128 1 :=
  cmpi .eq (iota .tc S128x128 32 [1] iota_S128x128_d1_w32) (andi ids (broadcast S128x128 127#32))

/-- The id's entry of 128 lanes, across a row of lanes. -/
def selLane (ids : IVec S128x128 32) (rows : FVec F S128x128 .f32) : FVec F S128x128 .bf16 :=
  truncf .bf16 (broadcastTo S128x128 (shapeCast S128x1 (shapeCast S128x1 (multiReduction .add [1] S128
    (select (hit ids) rows (broadcast S128x128 (Scalar.ofBits .f32 0x00000000#32) : FVec F S128x128 .f32)) 0x00000000#32 reduces_S128x128_S128 (.inl rfl) rfl) shapeCasts_S128_S128x1)
    shapeCasts_S128x1_S128x1) broadcasts_S128x1_S128x128) bitsLt_bf16_f32

/-- The chunk's scales, zero points, and shift amounts. -/
def scaleOf (p : FVec F S63x256 .bf16) (ids : Vec F S1x128 .i32) : FVec F S128x128 .bf16 :=
  selLane (idRows (F := F) ids) (extractStridedSlice S128x128 ![0, 0] (selRows p (idRows (F := F) ids)) slices_S128x256_o0_0_S128x128)
@[inherit_doc scaleOf] def zeroOf (p : FVec F S63x256 .bf16) (ids : Vec F S1x128 .i32) : FVec F S128x128 .bf16 :=
  selLane (idRows (F := F) ids) (extractStridedSlice S128x128 ![0, 128] (selRows p (idRows (F := F) ids)) slices_S128x256_o0_128_S128x128)
@[inherit_doc scaleOf] def shiftOf (ids : Vec F S1x128 .i32) : IVec S128x128 32 :=
  subi (broadcast S128x128 24#32) (muli (broadcast S128x128 8#32) (andi (idRows (F := F) ids) (broadcast S128x128 3#32)))

theorem ids_inb (c : Fin 8) : ∀ a, (![0, 128 * c.val] : Fin 2 → ℕ) a + S1x128.size a ≤ S1x1024.size a := by
  revert c; decide
theorem chunk_inb (c : Fin 8) : ∀ a, (![128 * c.val, 0] : Fin 2 → ℕ) a + S128x128.size a ≤ S1024x128.size a := by
  revert c; decide
theorem chunk_packed (c : Fin 8) :
    (Rect.unit (s := S1024x128) ![128 * c.val, 0] S128x128.size (chunk_inb c)).PackedRows (EltTy.packing .bf16) := by
  revert c; decide

/-- Select chunk `c`'s parameters. -/
def chunk (arg2 : Memref sig .tc .vmem S1x1024 .i32) (arg12 : Memref sig .tc .vmem S1024x128 .i32)
    (arg13 : Memref sig .tc .vmem S1024x128 .bf16) (harg13 : arg13.IsWhole) (arg14 : Memref sig .tc .vmem S1024x128 .bf16) (harg14 : arg14.IsWhole)
    (p : FVec F S63x256 .bf16) (c : Fin 8) : P F Unit := do
  let ids : Vec F S1x128 .i32 ← Prog.lift (.load arg2 (Rect.unit (s := S1x1024) ![0, 128 * c.val] S1x128.size (ids_inb c)).toLoadRect (View.loadsAt_vmem h_S1x128))
  let _ : Vec F S128x128 .bf16 ← Prog.lift (.load arg13 (Rect.unit (s := S1024x128) ![128 * c.val, 0] S128x128.size (chunk_inb c)).toLoadRect (View.loadsAt_vmem h_S128x128))
  Prog.lift (.store arg13 (Rect.unit (s := S1024x128) ![128 * c.val, 0] S128x128.size (chunk_inb c))
    (shapeCast S128x128 (scaleOf p ids) shapeCasts_S128x128_S128x128) Finset.univ
    (View.stores_vmem h_S128x128 (harg13.storeExact_slice rfl _ (chunk_packed c)) (fun _ => rfl)) (.inl rfl))
  let _ : Vec F S128x128 .bf16 ← Prog.lift (.load arg14 (Rect.unit (s := S1024x128) ![128 * c.val, 0] S128x128.size (chunk_inb c)).toLoadRect (View.loadsAt_vmem h_S128x128))
  Prog.lift (.store arg14 (Rect.unit (s := S1024x128) ![128 * c.val, 0] S128x128.size (chunk_inb c))
    (shapeCast S128x128 (zeroOf p ids) shapeCasts_S128x128_S128x128) Finset.univ
    (View.stores_vmem h_S128x128 (harg14.storeExact_slice rfl _ (chunk_packed c)) (fun _ => rfl)) (.inl rfl))
  let _ : Vec F S128x128 .i32 ← Prog.lift (.load arg12 (Rect.unit (s := S1024x128) ![128 * c.val, 0] S128x128.size (chunk_inb c)).toLoadRect (View.loadsAt_vmem h_S128x128))
  Prog.lift (.store arg12 (Rect.unit (s := S1024x128) ![128 * c.val, 0] S128x128.size (chunk_inb c))
    (shapeCast S128x128 (shiftOf (F := F) ids) shapeCasts_S128x128_S128x128) Finset.univ (View.stores_vmem_bits_univ h_S128x128 rfl) (.inl rfl))

/-- Load the parameter tables and select every chunk's parameters. -/
def chunks (arg2 : Memref sig .tc .vmem S1x1024 .i32) (arg3 : Memref sig .tc .vmem S63x128 .f32) (arg4 : Memref sig .tc .vmem S63x128 .bf16)
    (arg12 : Memref sig .tc .vmem S1024x128 .i32)
    (arg13 : Memref sig .tc .vmem S1024x128 .bf16) (harg13 : arg13.IsWhole) (arg14 : Memref sig .tc .vmem S1024x128 .bf16) (harg14 : arg14.IsWhole) : P F Unit := do
  let scale : Vec F S63x128 .f32 ← Prog.lift (.load arg3 (Rect.unit (s := S63x128) ![0, 0] S63x128.size inb_S63x128_S63x128_0_0).toLoadRect (View.loadsAt_vmem h_S63x128))
  let zero : Vec F S63x128 .bf16 ← Prog.lift (.load arg4 (Rect.unit (s := S63x128) ![0, 0] S63x128.size inb_S63x128_S63x128_0_0).toLoadRect (View.loadsAt_vmem h_S63x128))
  each (chunk arg2 arg12 arg13 harg13 arg14 harg14 (params scale zero)) l8

end Cert.Kernel.Emb
end
-- ==== Proof.Hold.lean ====
/- Memrefs held by the values their elements have: `Hold c m A q V` is the elements `A` of memref `m`, at share `q`, holding
   `V`. Loads, stores and copies stated over it; splitting over disjoint sets of elements and over shares is an equation. -/
module

public import Idealize.ShloMosaic.Lib.Batch
public import Idealize.ShloMosaic.Lib.Exec.Geometry
public import Idealize.ShloMosaic.Lib.Tactic

@[expose] public section

set_option maxRecDepth 16384

noncomputable section

namespace Cert.Emb

open Idealize.ShloMosaic
open Idealize.SL
open Idealize.SL.RA Idealize.SL.Sem Idealize.SL.ProofMode
open Idealize.SL.BI (sProp bigSep bigSep_insert bigSep_mono bigSep_empty bigSep_congr Storable)
open scoped Idealize.SL.BI
open Idealize.SL.BI.BIBase Idealize.SL.BI.Laws

/-! ## Indices of matrices by numbers -/

/-- The index of row `a`, column `b`; out of range, some index. -/
def mk2 (n m : ℕ) [NeZero n] [NeZero m] (a b : ℕ) : (⟨2, ![n, m]⟩ : Shape).Idx :=
  fun i => match i with
    | ⟨0, _⟩ => (⟨a % n, Nat.mod_lt _ (Nat.pos_of_ne_zero (NeZero.ne n))⟩ : Fin n)
    | ⟨1, _⟩ => (⟨b % m, Nat.mod_lt _ (Nat.pos_of_ne_zero (NeZero.ne m))⟩ : Fin m)

theorem mk2_zero {n m : ℕ} [NeZero n] [NeZero m] {a b : ℕ} (h : a < n) : (mk2 n m a b 0).val = a :=
  Nat.mod_eq_of_lt h
theorem mk2_one {n m : ℕ} [NeZero n] [NeZero m] {a b : ℕ} (h : b < m) : (mk2 n m a b 1).val = b :=
  Nat.mod_eq_of_lt h

theorem eq_mk2 {n m : ℕ} [NeZero n] [NeZero m] {a b : ℕ} (x : (⟨2, ![n, m]⟩ : Shape).Idx) (ha : (x 0).val = a) (hb : (x 1).val = b) : x = mk2 n m a b := by
  subst ha; subst hb
  funext i
  match i with
  | ⟨0, _⟩ => exact Fin.ext (mk2_zero (n := n) (m := m) (x 0).isLt).symm
  | ⟨1, _⟩ => exact Fin.ext (mk2_one (n := n) (m := m) (x 1).isLt).symm

variable {nD : Nat} {τ : Topo} {sig : RefSig} {Ix : Type} [DecidableEq Ix]
variable {Val : EltTy → Type} [∀ e, Nonempty (Val e)] {Name : Type} [DecidableEq Name]
variable {U : Type} [URA U] {Lvl : Type} {Λ : Labels}

local notation "𝕄" => MT nD τ sig Ix Val Name U Lvl

variable (c : Thread nD τ) {sp sp' : Space} {s s' : Shape} {e : EltTy}

/-- Elements `A` of the memref, at share `q`, holding `V`. -/
def Hold (m : Memref sig c.2.kind sp s e) (A : Finset s.Idx) (q : PosShare TreeShare) (V : s.Idx → Val e) : sProp 𝕄 :=
  m.view.loc c ↦[m.view.setOn A]{q} m.view.rep V

/-- Elements `A` of the memref, owned outright, holding anything. -/
def Any (m : Memref sig c.2.kind sp s e) (A : Finset s.Idx) : sProp 𝕄 :=
  iprop(∃ V : s.Idx → Val e, Hold c m A fullShare V)

variable {c} {m : Memref sig c.2.kind sp s e} {A B : Finset s.Idx} {q : PosShare TreeShare} {V V' : s.Idx → Val e}

theorem hold_congr (h : ∀ x ∈ A, V x = V' x) : (Hold c m A q V : sProp 𝕄) = Hold c m A q V' := by
  unfold Hold
  refine pointsTo_congr fun i hi => ?_
  obtain ⟨x, hx, rfl⟩ := Finset.mem_map.mp hi
  rw [View.rep_emb, View.rep_emb, h x hx]

/-- Holding a buffer's elements at contents `f` is holding what the memref reads of `f`. -/
theorem hold_read (f : Buf Val (m.view.loc c)) :
    (m.view.loc c ↦[m.view.setOn A]{q} f : sProp 𝕄) = Hold c m A q (m.view.read Val f) := by
  unfold Hold
  refine pointsTo_congr fun i hi => ?_
  obtain ⟨x, hx, rfl⟩ := Finset.mem_map.mp hi
  rw [View.rep_emb, View.read_apply, cast_cast, cast_eq]

theorem hold_union (h : Disjoint A B) :
    (Hold c m (A ∪ B) q V : sProp 𝕄) = iprop(Hold c m A q V ∗ Hold c m B q V) := by
  unfold Hold
  have h' : Disjoint (m.view.setOn A) (m.view.setOn B) := by
    unfold View.setOn
    exact (Finset.disjoint_map _).mpr h
  have e : m.view.setOn (A ∪ B) = m.view.setOn A ∪ m.view.setOn B := by
    unfold View.setOn
    exact Finset.map_union _ _
  rw [e]
  exact BI.Entails.antisymm (pointsTo_union h').1 (pointsTo_union h').2

theorem hold_biUnion {T : Type} (S : Finset T) (K : T → Finset s.Idx)
    (h : ∀ t ∈ S, ∀ t' ∈ S, t ≠ t' → Disjoint (K t) (K t')) :
    (Hold c m (S.biUnion K) q V : sProp 𝕄) = bigSep S fun t => Hold c m (K t) q V := by
  unfold Hold
  have e : m.view.setOn (S.biUnion K) = S.biUnion fun t => m.view.setOn (K t) := by
    unfold View.setOn
    ext i
    simp only [Finset.mem_map, Finset.mem_biUnion]
    constructor
    · rintro ⟨x, ⟨t, ht, hx⟩, rfl⟩
      exact ⟨t, ht, x, hx, rfl⟩
    · rintro ⟨t, ht, x, hx, rfl⟩
      exact ⟨x, ⟨t, ht, hx⟩, rfl⟩
  rw [e]
  refine pointsTo_biUnion S _ fun t ht t' ht' hne => ?_
  unfold View.setOn
  exact (Finset.disjoint_map _).mpr (h t ht t' ht' hne)

/-- Halving the share. -/
theorem hold_half : (Hold c m A q V : sProp 𝕄) = iprop(Hold c m A q.left V ∗ Hold c m A q.right V) := by
  unfold Hold
  exact BI.Entails.antisymm (pointsTo_share (PosShare.mem_left_op_right q)).1 (pointsTo_share (PosShare.mem_left_op_right q)).2

/-- Any elements owned are those of disjoint sets of them owned. -/
theorem any_split {T : Type} (S : Finset T) (K : T → Finset s.Idx)
    (h : ∀ t ∈ S, ∀ t' ∈ S, t ≠ t' → Disjoint (K t) (K t')) :
    (Any c m (S.biUnion K) : sProp 𝕄) ⊢ bigSep S fun t => Any c m (K t) := by
  unfold Any
  exact BI.Laws.exists_elim fun V => (Entails.of_eq (hold_biUnion S K h)).trans
    (bigSep_mono fun t _ => BI.Laws.exists_intro (Φ := fun V => Hold c m (K t) fullShare V) V)

theorem any_of_hold : (Hold c m A fullShare V : sProp 𝕄) ⊢ Any c m A := by
  unfold Any
  exact BI.Laws.exists_intro (Φ := fun V => Hold c m A fullShare V) V

instance hold_storable : Storable (upEmb : UEmb _ 𝕄) (Hold c m A q V : sProp 𝕄) := by
  unfold Hold; infer_instance

/-- Holding a box of the memref is holding the box as a memref. -/
theorem hold_slice {r : Rect s} (h : ∀ a, r.stride a = 1) :
    (Hold c m r.set q V : sProp 𝕄) = Hold c (m.slice r h) Finset.univ q (fun y => V (r.emb y)) := by
  have e : m.view.setOn r.set = (m.slice r h).view.setOn Finset.univ := (View.set_slice m.view r).symm
  have e2 : (m.view.loc c ↦[m.view.setOn r.set]{q} m.view.rep V : sProp 𝕄)
      = ((m.slice r h).view.loc c ↦[(m.slice r h).view.setOn Finset.univ]{q} m.view.rep V) := by rw [e]; try rfl
  unfold Hold
  rw [e2]
  refine (hold_read (m := m.slice r h) (A := Finset.univ) (m.view.rep V)).trans ?_
  unfold Hold
  congr 2
  funext y
  exact congrFun (View.read_rep m.view V) (r.emb y)

theorem any_slice {r : Rect s} (h : ∀ a, r.stride a = 1) :
    (Any c m r.set : sProp 𝕄) ⊢ Any c (m.slice r h) Finset.univ := by
  unfold Any
  exact BI.Laws.exists_elim fun V => (Entails.of_eq (hold_slice h)).trans
    (BI.Laws.exists_intro (Φ := fun V => Hold c (m.slice r h) Finset.univ fullShare V) fun y => V (r.emb y))

/-! ## Programs -/

section Wp

variable [Preorder Lvl] {defs : Defs nD τ sig Val Λ} (𝒱 : Variants) (bd : Option 𝒱.V)
variable {α : Type} {Q : α → sProp (MT nD τ sig Ix Val Name U Lvl)}

theorem hold_load {cs : CoreSpace} {m : Memref sig c.2.kind cs s e} {r : Rect s} {hl : m.view.LoadsAt r.toLoadRect}
    {k : (r.shape.Idx → Val e) → Prog (TpuEff nD τ sig Val Λ c.2) α} (hA : r.set ⊆ A) :
    (Hold c m A q V : sProp 𝕄)
      ⊢ iprop((Hold c m A q V -∗ wp frame (wpE defs 𝒱 c bd) Set.univ (k fun x => V (r.emb x)) Q)
        -∗ wp frame (wpE defs 𝒱 c bd) Set.univ (.op (.load m r.toLoadRect hl) k) Q) := by
  have h := wp_load (Q := Q) (defs := defs) 𝒱 c bd Set.univ (m := m) (r := r.toLoadRect) (hl := hl) (k := k)
    (S := m.view.setOn A) (q := q) (f := m.view.rep V) (Γ := []) (Finset.map_subset_map.mpr hA)
  rw [View.readAt_rep] at h
  exact h

theorem hold_smemLoad {m : Memref sig c.2.kind .smem s e} {r : Rect s} {hl : (m.access r).Loads} {x : r.shape.Idx}
    {k : Val e → Prog (TpuEff nD τ sig Val Λ c.2) α} (hA : r.set ⊆ A) :
    (Hold c m A q V : sProp 𝕄)
      ⊢ iprop((Hold c m A q V -∗ wp frame (wpE defs 𝒱 c bd) Set.univ (k (V (r.emb x))) Q)
        -∗ wp frame (wpE defs 𝒱 c bd) Set.univ (smemLoadElt m r hl x k) Q) :=
  hold_load 𝒱 bd (k := fun f => k (f x)) hA

theorem hold_store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} (hA : r.set ⊆ A)
    (hin : ∀ y, V' (r.emb y) = w y) (hout : ∀ x ∈ A, x ∉ r.set → V' x = V x) :
    (Hold c m A fullShare V : sProp 𝕄)
      ⊢ iprop((Hold c m A fullShare V' -∗ wp frame (wpE defs 𝒱 c bd) Set.univ (k ⟨⟩) Q)
        -∗ wp frame (wpE defs 𝒱 c bd) Set.univ (.op (.store m r w Finset.univ hx hm) k) Q) := by
  have h := wp_store (Q := Q) (defs := defs) 𝒱 c bd Set.univ (m := m) (r := r) (w := w) (hx := hx) (hm := hm) (k := k)
    (S := m.view.setOn A) (f := m.view.rep V) (Γ := [])
    (by
      have e : (m.access r).setOn Finset.univ = m.view.setOn r.set := View.set_slice m.view r
      rw [e]; exact Finset.map_subset_map.mpr hA)
  have e : ((m.access r).loc c ↦[m.view.setOn A]{fullShare} ((m.access r).write Val (m.view.rep V) w Finset.univ) : sProp 𝕄)
      = Hold c m A fullShare V' := by
    refine (hold_read (m := m) (A := A) ((m.access r).write Val (m.view.rep V) w Finset.univ)).trans (hold_congr fun x hx => ?_)
    rw [View.read_apply]
    by_cases hr : x ∈ r.set
    · obtain ⟨y, rfl⟩ : ∃ y, r.emb y = x := by
        rw [← Rect.map_emb_univ] at hr
        obtain ⟨y, -, hy⟩ := Finset.mem_map.mp hr
        exact ⟨y, hy⟩
      rw [hin]
      have := View.write_emb_of_mem (v := m.access r) (m.view.rep V) w (M := Finset.univ) (x := y) (Finset.mem_univ y)
      rw [show m.view.emb (r.emb y) = (m.access r).emb y from rfl, this, cast_cast, cast_eq]
    · rw [hout x hx hr, View.write_of_not_mem, View.rep_emb, cast_cast, cast_eq]
      rw [show (m.access r).setOn Finset.univ = m.view.setOn r.set from View.set_slice m.view r]
      exact fun h => hr (View.mem_setOn _ |>.mp h)
  rw [e] at h
  exact h

variable (EC : UEmb Counters (MT nD τ sig Ix Val Name U Lvl))

/-- Issue transfer `j` of a batch: the source's elements arrive. -/
theorem hold_dma [Infinite Name] [EC.LandsIn (upEmb : UEmb _ 𝕄)] {n : ℕ}
    {sm : Memref sig c.2.kind sp s e} {dm : Memref sig c.2.kind sp' s e} {sl : SemLoc sig}
    {hsrc : sm.view.WordExact} {hdst : dm.view.WordExact} {hsem : DmaTarget.Typed (nD := nD) sp sl (.here dm)}
    {k : PUnit → Prog (TpuEff nD τ sig Val Λ c.2) α} {D : Fin n → sProp 𝕄} {j u : ℕ}
    (ι : Ix) (N : ℕ) (hN : dm.view.amount sl = N) (hj : j < n) (hu : u ≤ j * N) {T : s.Idx → Val e}
    (hD : iprop(Hold c dm Finset.univ fullShare T ∗ Hold c sm Finset.univ q T) ⊢ D ⟨j, hj⟩) :
    iprop(Hold c sm Finset.univ q T ∗ Any c dm Finset.univ ∗ Transfers.Batch EC c sl ι N D j u)
      ⊢ iprop((Transfers.Batch EC c sl ι N D (j + 1) u -∗ wp frame (wpE defs 𝒱 c bd) Set.univ (k ⟨⟩) Q)
          -∗ wp frame (wpE defs 𝒱 c bd) Set.univ (.op (.enqueueDma sm (.here dm) sl hsrc hdst hsem) k) Q) := by
  unfold Any
  iintro ⟨Hs, ⟨%W, Hd⟩, HB⟩
  iapply (Transfers.wp_dmaBatch (Q := Q) (defs := defs) EC 𝒱 c bd (src := sm) (dst := dm) (via := .same) (sm := sl) (hsrc := hsrc) (hdst := hdst)
    (hsem := hsem) (k := k) (q := q) (fs := sm.view.rep T) (Sd := dm.view.setOn Finset.univ) (fd := dm.view.rep W) (u := u) ι N hN
    (Finset.Subset.refl _) hj hu (by
      refine Entails.trans ?_ hD
      rw [hold_read, View.read_rep]
      have e : (Hold c dm Finset.univ fullShare
          (dm.view.read Val (dm.view.write Val (dm.view.rep W) (ReadAs.apply .same T) Finset.univ)) : sProp 𝕄)
          = Hold c dm Finset.univ fullShare T :=
        hold_congr fun x _ => by
          rw [View.read_apply, View.write_emb_of_mem _ _ (Finset.mem_univ x), cast_cast, cast_eq]
      rw [e]
      exact .rfl))
  unfold Hold
  isplitl [Hs]; · iexact Hs
  isplitl [Hd]; · iexact Hd
  iexact HB

end Wp

end Cert.Emb
end
-- ==== Proof.Values.lean ====
/- What the kernel's buffers hold, as functions of the arrays it is given: the gathered rows of words, the per-token
   shift amounts, scales and zero points, the dequantised rows, their sums of squares, and the normalised rows. -/
module

public import proofs.«01_k».proof.Proof.Steps
public import proofs.«01_k».proof.Proof.Hold

@[expose] public section

set_option maxRecDepth 16384

noncomputable section

namespace Cert.Kernel.Emb

open Idealize.ShloMosaic Idealize.SL.Sem Cert.Kernel.Gen Cert.Emb

variable {F : FTy → Type} [FloatOps F]

/-- The arrays the kernel is given. -/
structure Args (F : FTy → Type) [FloatOps F] where
  /-- the token ids -/
  ids : S1x1024.Idx → Elt F .i32
  /-- the table, four rows of codes packed to a row of words -/
  table : S2016x3072.Idx → Elt F .i32
  /-- the rows' scales, 128 to a row -/
  scale : S63x128.Idx → Elt F .f32
  /-- the rows' zero points, 128 to a row -/
  zero : S63x128.Idx → Elt F .bf16
  /-- the weight -/
  weight : S1x3072.Idx → Elt F .bf16

variable (A : Args F)

/-- The row of packed words that token `t`'s row of codes lies in. -/
def Args.row (t : ℕ) : ℕ := (Scalar.shrui (A.ids (mk2 1 1024 0 t)) 2#32).toNat

/-- The gathered rows of words. -/
def Args.words (x : S1024x3072.Idx) : Elt F .i32 := A.table (mk2 2016 3072 (A.row (x 0)) (x 1))

/-- A chunk of 128 ids. -/
def Args.idChunk (c : ℕ) : Vec F S1x128 .i32 := fun y => A.ids (mk2 1 1024 0 (128 * c + (y 1 : ℕ)))

/-- The parameter rows. -/
def Args.params : FVec F S63x256 .bf16 := Emb.params A.scale A.zero

/-- The per-token shift amounts, each across a row of lanes. -/
def Args.shiftV (x : S1024x128.Idx) : Elt F .i32 :=
  shapeCast S128x128 (shiftOf (F := F) (A.idChunk ((x 0 : ℕ) / 128))) shapeCasts_S128x128_S128x128 (mk2 128 128 ((x 0 : ℕ) % 128) (x 1))
/-- The per-token scales. -/
def Args.scaleV (x : S1024x128.Idx) : Elt F .bf16 :=
  shapeCast S128x128 (scaleOf A.params (A.idChunk ((x 0 : ℕ) / 128))) shapeCasts_S128x128_S128x128 (mk2 128 128 ((x 0 : ℕ) % 128) (x 1))
/-- The per-token zero points. -/
def Args.zeroV (x : S1024x128.Idx) : Elt F .bf16 :=
  shapeCast S128x128 (zeroOf A.params (A.idChunk ((x 0 : ℕ) / 128))) shapeCasts_S128x128_S128x128 (mk2 128 128 ((x 0 : ℕ) % 128) (x 1))

/-- Element `y` of tile `j` of group `g`. -/
def tileIx (g j : ℕ) (y : S32x128.Idx) : S1024x3072.Idx := mk2 1024 3072 (32 * g + (y 0 : ℕ)) (128 * j + (y 1 : ℕ))
/-- Element `y` of group `g`'s parameters. -/
def prmIx (g : ℕ) (y : S32x128.Idx) : S1024x128.Idx := mk2 1024 128 (32 * g + (y 0 : ℕ)) (y 1 : ℕ)

/-- Tile `j` of group `g`, dequantised. -/
def Args.emb (g j : ℕ) : FVec F S32x128 .bf16 :=
  embTile (fun y => A.shiftV (prmIx g y)) (fun y => A.scaleV (prmIx g y)) (fun y => A.zeroV (prmIx g y)) (fun y => A.words (tileIx g j y))

/-- The dequantised rows. -/
def Args.embV (x : S1024x3072.Idx) : Elt F .bf16 :=
  shapeCast S32x128 (A.emb ((x 0 : ℕ) / 32) ((x 1 : ℕ) / 128)) shapeCasts_S32x128_S32x128 (mk2 32 128 ((x 0 : ℕ) % 32) ((x 1 : ℕ) % 128))

/-- Group `g`'s sums of squares after `n` tiles. -/
def Args.sq (g : ℕ) : ℕ → FVec F S32x128 .f32
  | 0 => sqZero
  | n + 1 => sqAdd (Args.sq g n) (A.emb g n)

/-- Group `g`'s sums of squares, as stored. -/
def Args.sqS (g : ℕ) : FVec F S1x32x128 .f32 := shapeCast S1x32x128 (A.sq g 24) shapeCasts_S32x128_S1x32x128

/-- Tile `j` of group `g`, normalised. -/
def Args.out (g j : ℕ) : FVec F S32x128 .bf16 :=
  outTile (factor (A.sqS g)) (fun y => A.embV (tileIx g j y)) (fun y => A.weight (mk2 1 3072 0 (128 * j + (y 1 : ℕ))))

/-- The normalised rows. -/
def Args.outV (x : S1024x3072.Idx) : Elt F .bf16 :=
  shapeCast S32x128 (A.out ((x 0 : ℕ) / 32) ((x 1 : ℕ) / 128)) shapeCasts_S32x128_S32x128 (mk2 32 128 ((x 0 : ℕ) % 32) ((x 1 : ℕ) % 128))

/-! ## Boxes as sets of indices -/

/-- The rows of a group. -/
def Blk (g : ℕ) : Finset S1024x3072.Idx := Finset.univ.filter fun x => 32 * g ≤ (x 0 : ℕ) ∧ (x 0 : ℕ) < 32 * g + 32
/-- One row. -/
def Row (t : ℕ) : Finset S1024x3072.Idx := Finset.univ.filter fun x => (x 0 : ℕ) = t
/-- The table row that token `t` names. -/
def Args.SRow (t : ℕ) : Finset S2016x3072.Idx := Finset.univ.filter fun x => (x 0 : ℕ) = A.row t

theorem row_set {t : ℕ} (h : ∀ a, (![t, 0] : Fin 2 → ℕ) a + S1x3072.size a ≤ S1024x3072.size a) :
    (Rect.unit (s := S1024x3072) ![t, 0] S1x3072.size h).set = Row t := by
  ext x
  have h1 : (x 1 : ℕ) < 3072 := (x 1).isLt
  rw [Rect.mem_set_unit, Row, Finset.mem_filter, Fin.forall_fin_two]
  simp
  omega

theorem srow_set {t : ℕ} (h : ∀ a, offT (A.ids (mk2 1 1024 0 t)) a + S1x3072.size a ≤ S2016x3072.size a) :
    (Rect.unit (s := S2016x3072) (offT (A.ids (mk2 1 1024 0 t))) S1x3072.size h).set = A.SRow t := by
  ext x
  have h1 : (x 1 : ℕ) < 3072 := (x 1).isLt
  rw [Rect.mem_set_unit, Args.SRow, Finset.mem_filter, Fin.forall_fin_two]
  simp [offT, Args.row]
  omega

theorem blk_set {g : ℕ} (h : BlockIn (32 * g)) :
    (Rect.unit (s := S1024x3072) ![32 * g, 0] S32x3072.size h).set = Blk g := by
  ext x
  have h1 : (x 1 : ℕ) < 3072 := (x 1).isLt
  rw [Rect.mem_set_unit, Blk, Finset.mem_filter, Fin.forall_fin_two]
  simp
  omega

theorem mem_tile {g j : ℕ} (h : TileIn (32 * g) j) {x : S1024x3072.Idx} :
    x ∈ (Rect.unit (s := S1024x3072) ![32 * g, 128 * j] S32x128.size h).set
      ↔ (32 * g ≤ (x 0 : ℕ) ∧ (x 0 : ℕ) < 32 * g + 32) ∧ 128 * j ≤ (x 1 : ℕ) ∧ (x 1 : ℕ) < 128 * j + 128 := by
  rw [Rect.mem_set_unit, Fin.forall_fin_two]
  simp

theorem tile_sub {g j : ℕ} (h : TileIn (32 * g) j) :
    (Rect.unit (s := S1024x3072) ![32 * g, 128 * j] S32x128.size h).set ⊆ Blk g := by
  intro x hx
  rw [mem_tile] at hx
  rw [Blk, Finset.mem_filter]
  exact ⟨Finset.mem_univ _, hx.1⟩

theorem tile_emb {g j : ℕ} (h : TileIn (32 * g) j) (y : S32x128.Idx) :
    (Rect.unit (s := S1024x3072) ![32 * g, 128 * j] S32x128.size h).emb y = tileIx g j y :=
  eq_mk2 _ (by rw [Rect.emb_apply]; simp) (by rw [Rect.emb_apply]; simp)

theorem prm_emb {g : ℕ} (h : ∀ a, (![32 * g, 0] : Fin 2 → ℕ) a + S32x128.size a ≤ S1024x128.size a) (y : S32x128.Idx) :
    (Rect.unit (s := S1024x128) ![32 * g, 0] S32x128.size h).emb y = prmIx g y :=
  eq_mk2 _ (by rw [Rect.emb_apply]; simp) (by rw [Rect.emb_apply]; simp)

theorem tileIx_zero {g j : ℕ} (h : TileIn (32 * g) j) (y : S32x128.Idx) : (tileIx g j y 0 : ℕ) = 32 * g + (y 0 : ℕ) := by
  rw [← tile_emb h, Rect.emb_apply]; simp
theorem tileIx_one {g j : ℕ} (h : TileIn (32 * g) j) (y : S32x128.Idx) : (tileIx g j y 1 : ℕ) = 128 * j + (y 1 : ℕ) := by
  rw [← tile_emb h, Rect.emb_apply]; simp

/-- A tile of the dequantised rows. -/
theorem embV_tile {g j : ℕ} (h : TileIn (32 * g) j) (y : S32x128.Idx) :
    A.embV (tileIx g j y) = shapeCast S32x128 (A.emb g j) shapeCasts_S32x128_S32x128 y := by
  have y0 : (y 0 : ℕ) < 32 := (y 0).isLt
  have y1 : (y 1 : ℕ) < 128 := (y 1).isLt
  have e : (mk2 32 128 ((tileIx g j y 0 : ℕ) % 32) ((tileIx g j y 1 : ℕ) % 128) : S32x128.Idx) = y :=
    (eq_mk2 y (by rw [tileIx_zero h]; omega) (by rw [tileIx_one h]; omega)).symm
  unfold Args.embV
  rw [e, show (tileIx g j y 0 : ℕ) / 32 = g by rw [tileIx_zero h]; omega, show (tileIx g j y 1 : ℕ) / 128 = j by rw [tileIx_one h]; omega]

/-- A tile of the normalised rows. -/
theorem outV_tile {g j : ℕ} (h : TileIn (32 * g) j) (y : S32x128.Idx) :
    A.outV (tileIx g j y) = shapeCast S32x128 (A.out g j) shapeCasts_S32x128_S32x128 y := by
  have y0 : (y 0 : ℕ) < 32 := (y 0).isLt
  have y1 : (y 1 : ℕ) < 128 := (y 1).isLt
  have e : (mk2 32 128 ((tileIx g j y 0 : ℕ) % 32) ((tileIx g j y 1 : ℕ) % 128) : S32x128.Idx) = y :=
    (eq_mk2 y (by rw [tileIx_zero h]; omega) (by rw [tileIx_one h]; omega)).symm
  unfold Args.outV
  rw [e, show (tileIx g j y 0 : ℕ) / 32 = g by rw [tileIx_zero h]; omega, show (tileIx g j y 1 : ℕ) / 128 = j by rw [tileIx_one h]; omega]

/-- A chunk of a buffer of parameters. -/
theorem chunk_emb (c : Fin 8) (y : S128x128.Idx) :
    (Rect.unit (s := S1024x128) ![128 * c.val, 0] S128x128.size (chunk_inb c)).emb y = mk2 1024 128 (128 * c.val + (y 0 : ℕ)) (y 1 : ℕ) :=
  eq_mk2 _ (by rw [Rect.emb_apply]; simp) (by rw [Rect.emb_apply]; simp)

theorem mem_chunk (c : Fin 8) {x : S1024x128.Idx} :
    x ∈ (Rect.unit (s := S1024x128) ![128 * c.val, 0] S128x128.size (chunk_inb c)).set
      ↔ 128 * c.val ≤ (x 0 : ℕ) ∧ (x 0 : ℕ) < 128 * c.val + 128 := by
  have h1 : (x 1 : ℕ) < 128 := (x 1).isLt
  rw [Rect.mem_set_unit, Fin.forall_fin_two]
  simp
  omega

/-- Reading a function of chunk and place at a chunk's element. -/
theorem chunk_read {α : Type} (f : ℕ → S128x128.Idx → α) (c : Fin 8) (y : S128x128.Idx) :
    (fun x : S1024x128.Idx => f ((x 0 : ℕ) / 128) (mk2 128 128 ((x 0 : ℕ) % 128) (x 1)))
      ((Rect.unit (s := S1024x128) ![128 * c.val, 0] S128x128.size (chunk_inb c)).emb y) = f c.val y := by
  have y0 : (y 0 : ℕ) < 128 := (y 0).isLt
  have hc : c.val < 8 := c.isLt
  have e0 : ((Rect.unit (s := S1024x128) ![128 * c.val, 0] S128x128.size (chunk_inb c)).emb y 0 : ℕ) = 128 * c.val + (y 0 : ℕ) := by
    rw [Rect.emb_apply]; simp
  have e1 : ((Rect.unit (s := S1024x128) ![128 * c.val, 0] S128x128.size (chunk_inb c)).emb y 1 : ℕ) = (y 1 : ℕ) := by
    rw [Rect.emb_apply]; simp
  have e : (mk2 128 128 ((((Rect.unit (s := S1024x128) ![128 * c.val, 0] S128x128.size (chunk_inb c)).emb y 0 : ℕ)) % 128)
      ((Rect.unit (s := S1024x128) ![128 * c.val, 0] S128x128.size (chunk_inb c)).emb y 1 : ℕ) : S128x128.Idx) = y :=
    (eq_mk2 y (by rw [e0]; omega) e1.symm).symm
  show f _ _ = _
  rw [e, e0, show (128 * c.val + (y 0 : ℕ)) / 128 = c.val by omega]

theorem ids_emb (c : Fin 8) (y : S1x128.Idx) :
    (Rect.unit (s := S1x1024) ![0, 128 * c.val] S1x128.size (ids_inb c)).emb y = mk2 1 1024 0 (128 * c.val + (y 1 : ℕ)) := by
  have y0 : (y 0 : ℕ) < 1 := (y 0).isLt
  exact eq_mk2 _ (by rw [Rect.emb_apply]; simp; omega) (by rw [Rect.emb_apply]; simp)

theorem weight_emb (j : Fin 24) (y : S1x128.Idx) :
    (Rect.unit (s := S1x3072) ![0, 128 * j.val] S1x128.size (weight_inb j)).emb y = mk2 1 3072 0 (128 * j.val + (y 1 : ℕ)) := by
  have y0 : (y 0 : ℕ) < 1 := (y 0).isLt
  exact eq_mk2 _ (by rw [Rect.emb_apply]; simp; omega) (by rw [Rect.emb_apply]; simp)

/-- The rows of a group, one by one. -/
theorem blk_rows (g : ℕ) : Blk g = (Finset.univ : Finset (Fin 32)).biUnion fun i => Row (32 * g + i.val) := by
  ext x
  simp only [Blk, Row, Finset.mem_filter, Finset.mem_univ, true_and, Finset.mem_biUnion]
  constructor
  · intro h
    exact ⟨⟨(x 0 : ℕ) - 32 * g, by omega⟩, by show (x 0 : ℕ) = 32 * g + ((x 0 : ℕ) - 32 * g); omega⟩
  · rintro ⟨i, hi⟩
    have := i.isLt
    omega

theorem rows_disjoint (g : ℕ) : ∀ t ∈ (Finset.univ : Finset (Fin 32)), ∀ t' ∈ (Finset.univ : Finset (Fin 32)), t ≠ t' →
    Disjoint (Row (32 * g + t.val)) (Row (32 * g + t'.val)) := by
  intro t _ t' _ hne
  rw [Finset.disjoint_left]
  intro x hx hx'
  simp only [Row, Finset.mem_filter, Finset.mem_univ, true_and] at hx hx'
  exact hne (Fin.ext (by omega))

/-- A whole buffer, group by group. -/
theorem univ_blks : (Finset.univ : Finset S1024x3072.Idx) = (Finset.range 32).biUnion Blk := by
  ext x
  have h : (x 0 : ℕ) < 1024 := (x 0).isLt
  simp only [Blk, Finset.mem_filter, Finset.mem_univ, true_and, Finset.mem_biUnion, Finset.mem_range, true_iff]
  exact ⟨(x 0 : ℕ) / 32, by omega, by omega⟩

theorem blks_disjoint : ∀ t ∈ Finset.range 32, ∀ t' ∈ Finset.range 32, t ≠ t' → Disjoint (Blk t) (Blk t') := by
  intro t _ t' _ hne
  rw [Finset.disjoint_left]
  intro x hx hx'
  simp only [Blk, Finset.mem_filter, Finset.mem_univ, true_and] at hx hx'
  omega

end Cert.Kernel.Emb
end
-- ==== Proof.Rows.lean ====
/- The steps run: what each step of the kernel needs and what it leaves, over buffers held by their values. The row
   copies of a group as one batch on the group's semaphore cell; the per-token parameters chunk by chunk. -/
module

public import proofs.«01_k».proof.Proof.Values
public import Idealize.ShloMosaic.Lib.Pipeline.FrameSuffixV

@[expose] public section

set_option maxRecDepth 16384

noncomputable section

namespace Cert.Kernel.Emb

open Idealize.ShloMosaic Cert.Kernel.Gen Cert.Emb
open Idealize.SL
open Idealize.SL.RA Idealize.SL.Sem Idealize.SL.ProofMode
open Idealize.SL.BI (sProp bigSep bigSep_insert bigSep_mono bigSep_empty bigSep_congr bigSep_sep Storable)
open scoped Idealize.SL.BI
open Idealize.SL.BI.BIBase Idealize.SL.BI.Laws

variable {F : FTy → Type} [FloatOps F]

abbrev 𝒱₀ : Variants := Variants.none
/-- Where the copies' counters live. -/
abbrev EC : UEmb Counters (MT nD τ sig Unit (Elt F) ℕ (Pipeline.UD sig nD τ) ℕ) := countersEmb (U := Pipeline.UD sig nD τ)

local notation "𝕄" => MT nD τ sig Unit (Elt F) ℕ (Pipeline.UD sig nD τ) ℕ

variable (d : Dev nD)

local notation "WP" => wp frame (wpE defs₀ 𝒱₀ (d.tc) none) Set.univ

variable {α β σ : Type}

/-! ## Programs in sequence -/

theorem wp_seq {p : P F α} {k : α → P F β} {I : sProp (MT nD τ sig Unit (Elt F) ℕ (Pipeline.UD sig nD τ) ℕ)}
    {J : α → sProp (MT nD τ sig Unit (Elt F) ℕ (Pipeline.UD sig nD τ) ℕ)}
    {Q : β → sProp (MT nD τ sig Unit (Elt F) ℕ (Pipeline.UD sig nD τ) ℕ)}
    (hp : I ⊢ WP p J) : I ⊢ iprop((∀ a, J a -∗ WP (k a) Q) -∗ WP (p >>= k) Q) := by
  rw [wp_bind]
  iintro HI HK
  iapply (wp_wand_r frame (wpE defs₀ 𝒱₀ (d.tc) none) Set.univ)
  isplitl [HI]
  · iapply hp; iexact HI
  · iexact HK

theorem wp_last {p : P F α} {I : sProp (MT nD τ sig Unit (Elt F) ℕ (Pipeline.UD sig nD τ) ℕ)}
    {J Q : α → sProp (MT nD τ sig Unit (Elt F) ℕ (Pipeline.UD sig nD τ) ℕ)}
    (hp : I ⊢ WP p J) : I ⊢ iprop((∀ a, J a -∗ Q a) -∗ WP p Q) := by
  iintro HI HK
  iapply (wp_wand_r frame (wpE defs₀ 𝒱₀ (d.tc) none) Set.univ)
  isplitl [HI]
  · iapply hp; iexact HI
  · iexact HK

theorem each_wp {n : ℕ} (f : Fin n → P F Unit) (I : ℕ → sProp (MT nD τ sig Unit (Elt F) ℕ (Pipeline.UD sig nD τ) ℕ))
    (hf : ∀ i : Fin n, I i.val ⊢ WP (f i) fun _ => I (i.val + 1)) :
    ∀ (l : List (Fin n)) (b : ℕ), (∀ j (h : j < l.length), (l[j]).val = b + j) → I b ⊢ WP (each f l) fun _ => I (b + l.length)
  | [], b, _ => by
    show I b ⊢ WP (pure ()) _
    rw [show (pure () : P F Unit) = .ret () from rfl, wp_ret]
    exact BI.fupd_intro
  | i :: l, b, h => by
    have hi : i.val = b := h 0 (Nat.zero_lt_succ _)
    show I b ⊢ WP (f i >>= fun _ => each f l) _
    rw [wp_bind, ← hi]
    refine (hf i).trans (wp_mono _ _ _ fun _ => ?_)
    have h' := each_wp f I hf l (b + 1) fun j hj => by
      have := h (j + 1) (by simpa using hj)
      simp only [List.getElem_cons_succ] at this
      omega
    rw [hi]
    refine h'.trans (Entails.of_eq ?_)
    rw [List.length_cons, show b + 1 + l.length = b + (l.length + 1) by omega]

theorem fold_wp {n : ℕ} (f : Fin n → σ → P F σ) (a : ℕ → σ) (I : ℕ → sProp (MT nD τ sig Unit (Elt F) ℕ (Pipeline.UD sig nD τ) ℕ))
    (hf : ∀ i : Fin n, I i.val ⊢ WP (f i (a i.val)) fun b => iprop(⌜b = a (i.val + 1)⌝ ∗ I (i.val + 1))) :
    ∀ (l : List (Fin n)) (b : ℕ), (∀ j (h : j < l.length), (l[j]).val = b + j) →
      I b ⊢ WP (fold f l (a b)) fun r => iprop(⌜r = a (b + l.length)⌝ ∗ I (b + l.length))
  | [], b, _ => by
    show I b ⊢ WP (pure (a b)) _
    rw [show (pure (a b) : P F σ) = .ret (a b) from rfl, wp_ret]
    iintro H
    imodintro
    isplitr
    · ipureintro; rfl
    · iexact H
  | i :: l, b, h => by
    have hi : i.val = b := h 0 (Nat.zero_lt_succ _)
    show I b ⊢ WP (f i (a b) >>= fun b => fold f l b) _
    rw [wp_bind, ← hi]
    refine (hf i).trans (wp_mono _ _ _ fun r => ?_)
    have h' := fold_wp f a I hf l (b + 1) fun j hj => by
      have := h (j + 1) (by simpa using hj)
      simp only [List.getElem_cons_succ] at this
      omega
    rw [hi]
    iintro ⟨%hr, HI⟩
    subst hr
    rw [List.length_cons, show b + (l.length + 1) = b + 1 + l.length by omega]
    iapply h'
    iexact HI

theorem l32_val : ∀ j (h : j < l32.length), (l32[j]).val = 0 + j := by decide
theorem l24_val : ∀ j (h : j < l24.length), (l24[j]).val = 0 + j := by decide
theorem l8_val : ∀ j (h : j < l8.length), (l8[j]).val = 0 + j := by decide

/-! ## One operation -/

section Ops

variable {sp sp' : Space} {s : Shape} {e : EltTy} {S : Finset s.Idx} {q : PosShare TreeShare} {V V' : s.Idx → Elt F e}
variable {Q : β → sProp (MT nD τ sig Unit (Elt F) ℕ (Pipeline.UD sig nD τ) ℕ)}

theorem load_bind {cs : CoreSpace} {m : Memref sig .tc cs s e} {r : Rect s} {hl : m.view.LoadsAt r.toLoadRect}
    {k : (r.shape.Idx → Elt F e) → P F β} (hA : r.set ⊆ S) :
    (Hold (d.tc) m S q V : sProp 𝕄) ⊢ iprop((Hold (d.tc) m S q V -∗ WP (k fun x => V (r.emb x)) Q)
      -∗ WP (Prog.lift (.load m r.toLoadRect hl) >>= k) Q) :=
  hold_load (c := d.tc) (defs := defs₀) 𝒱₀ none (k := k) hA

/-- A load of known values. -/
theorem load_val {cs : CoreSpace} {m : Memref sig .tc cs s e} {r : Rect s} {hl : m.view.LoadsAt r.toLoadRect} {v : r.shape.Idx → Elt F e}
    {k : (r.shape.Idx → Elt F e) → P F β} (hA : r.set ⊆ S) (hv : (fun x => V (r.emb x)) = v) :
    (Hold (d.tc) m S q V : sProp 𝕄) ⊢ iprop((Hold (d.tc) m S q V -∗ WP (k v) Q)
      -∗ WP (Prog.lift (.load m r.toLoadRect hl) >>= k) Q) := by
  subst hv
  exact hold_load (c := d.tc) (defs := defs₀) 𝒱₀ none (k := k) hA

theorem smem_bind {m : Memref sig .tc .smem s e} {r : Rect s} {h1 : r.shape.numel = 1} {hp : e.packing = 1}
    {k : Elt F e → P F β} (hA : r.set ⊆ S) :
    (Hold (d.tc) m S q V : sProp 𝕄) ⊢ iprop((Hold (d.tc) m S q V -∗ WP (k (V (r.emb (Shape.Idx.first (h1.symm ▸ Nat.one_pos))))) Q)
      -∗ WP (smemLoad m r h1 hp >>= k) Q) :=
  hold_load (c := d.tc) (defs := defs₀) 𝒱₀ none (k := fun f => k (f (Shape.Idx.first (h1.symm ▸ Nat.one_pos)))) hA

theorem store_lift {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    (hA : r.set ⊆ S) (hin : ∀ y, V' (r.emb y) = w y) (hout : ∀ x ∈ S, x ∉ r.set → V' x = V x) :
    (Hold (d.tc) m S fullShare V : sProp 𝕄) ⊢ WP (Prog.lift (.store m r w Finset.univ hx hm) : P F PUnit) fun _ => Hold (d.tc) m S fullShare V' := by
  iintro H
  iapply (hold_store (c := d.tc) (defs := defs₀) 𝒱₀ none (k := .ret) (w := w) (hx := hx) (hm := hm) hA hin hout) $$ H
  iintro H
  rw [wp_ret]
  imodintro
  iexact H

theorem dma_lift {n : ℕ} {sm : Memref sig .tc sp s e} {dm : Memref sig .tc sp' s e} {sl : SemLoc sig}
    {hsrc : sm.view.WordExact} {hdst : dm.view.WordExact} {hsem : DmaTarget.Typed (nD := nD) sp sl (.here (p := Proc.tc (τ := τ)) dm)}
    {D : Fin n → sProp (MT nD τ sig Unit (Elt F) ℕ (Pipeline.UD sig nD τ) ℕ)} {j u : ℕ}
    (N : ℕ) (hN : dm.view.amount sl = N) (hj : j < n) (hu : u ≤ j * N) {T : s.Idx → Elt F e}
    (hD : iprop(Hold (d.tc) dm Finset.univ fullShare T ∗ Hold (d.tc) sm Finset.univ q T) ⊢ D ⟨j, hj⟩) :
    iprop(Hold (d.tc) sm Finset.univ q T ∗ Any (d.tc) dm Finset.univ ∗ Transfers.Batch EC (d.tc) sl () N D j u)
      ⊢ WP (Prog.lift (.enqueueDma sm (.here dm) sl hsrc hdst hsem) : P F PUnit) fun _ => Transfers.Batch EC (d.tc) sl () N D (j + 1) u := by
  iintro H
  iapply (hold_dma (c := d.tc) (defs := defs₀) 𝒱₀ none (k := .ret) EC () N hN hj hu hD) $$ H
  iintro H
  rw [wp_ret]
  imodintro
  iexact H

theorem assume_bind {C : Prop} {dC : Decidable C} {k : PLift C → P F β} (h : C) :
    WP (k ⟨h⟩) Q ⊢ WP (Prog.lift (TpuEff.assume C dC) >>= k) Q :=
  wp_assume 𝒱₀ (d.tc) none Set.univ (k := k) h

end Ops

/-! ## A group's row copies -/

section Rows

variable (A : Args F) (arg0 : Memref sig .tc .smem S1x1024 .i32) (arg1 : Memref sig .tc .hbm S2016x3072 .i32)
variable (arg8 : Memref sig .tc .vmem S1024x3072 .i32) (arg15 : DmaSems sig S8)

/-- The core owes nothing, whatever it has waited for. -/
def Ow : sProp 𝕄 := iprop(∃ W, owes (d.tc) 0 W)

/-- Token `t`'s share of the table. -/
def tq (t : ℕ) : PosShare TreeShare := Transfers.shareTokN fullShare t

theorem cell_inb (g : ℕ) : ∀ a, (![g % 8] : Fin 1 → ℕ) a + S1.size a ≤ S8.size a := by
  intro a
  have : g % 8 < 8 := Nat.mod_lt _ (by omega)
  obtain rfl : a = 0 := Subsingleton.elim _ _
  show g % 8 + 1 ≤ 8
  omega

/-- The semaphore cell of group `g`. -/
def cell (g : ℕ) : DmaSem sig := ((arg15.slice (Rect.unit (s := S8) ![g % 8] S1.size (cell_inb g))).squeeze S_ squeezes_S1_S_).sem

/-- One row's bytes. -/
def rowN : ℕ := (arg8.slice (Rect.unit (s := S1024x3072) ![0, 0] S1x3072.size (by decide)) (fun _ => rfl)).view.dmaCredit

/-- A row's copy landed. -/
def RowOut (t : ℕ) : sProp 𝕄 :=
  iprop(Hold (d.tc) arg8 (Row t) fullShare A.words ∗ Hold (d.tc) arg1 (A.SRow t) (tq t) A.table)
/-- A row's copy not started. -/
def RowIn (t : ℕ) : sProp 𝕄 :=
  iprop(Any (d.tc) arg8 (Row t) ∗ Hold (d.tc) arg1 (A.SRow t) (tq t) A.table)

/-- Group `g`: not started, -/
def InG (g : ℕ) : sProp 𝕄 := iprop(Any (d.tc) arg8 (Blk g) ∗ bigSep (Finset.univ : Finset (Fin 32)) fun i => Hold (d.tc) arg1 (A.SRow (32 * g + i.val)) (tq (32 * g + i.val)) A.table)
/-- in flight, -/
def Flight (g : ℕ) : sProp 𝕄 :=
  Transfers.Batch EC (d.tc) (.dma (cell arg15 g)) () (rowN arg8) (fun i : Fin 32 => RowOut d A arg1 arg8 (32 * g + i.val)) 32 0
/-- arrived. -/
def OutG (g : ℕ) : sProp 𝕄 := iprop(Hold (d.tc) arg8 (Blk g) fullShare A.words ∗ bigSep (Finset.univ : Finset (Fin 32)) fun i => Hold (d.tc) arg1 (A.SRow (32 * g + i.val)) (tq (32 * g + i.val)) A.table)

instance rowOut_storable (t : ℕ) : Storable (upEmb : UEmb _ 𝕄) (RowOut d A arg1 arg8 t) := by
  unfold RowOut; infer_instance

theorem inG_rows (g : ℕ) : (InG d A arg1 arg8 g : sProp 𝕄) ⊢ bigSep (Finset.univ : Finset (Fin 32)) fun i => RowIn d A arg1 arg8 (32 * g + i.val) := by
  unfold InG RowIn
  refine Entails.trans ?_ (Entails.of_eq (bigSep_sep _ _ _).symm)
  rw [blk_rows]
  exact BI.Laws.sep_mono (any_split _ _ (rows_disjoint g)) .rfl

theorem outG_rows (g : ℕ) : (bigSep (Finset.univ : Finset (Fin 32)) fun i => RowOut d A arg1 arg8 (32 * g + i.val)) ⊢ (OutG d A arg1 arg8 g : sProp 𝕄) := by
  unfold OutG RowOut
  refine Entails.trans (Entails.of_eq (bigSep_sep _ _ _)) ?_
  rw [blk_rows]
  exact BI.Laws.sep_mono (Entails.of_eq (hold_biUnion _ _ (rows_disjoint g)).symm) .rfl

/-- A copied row holds the words of the row its token names. -/
theorem row_words {t : ℕ} (ht : t < 1024) (h : ∀ a, offT (A.ids (mk2 1 1024 0 t)) a + S1x3072.size a ≤ S2016x3072.size a)
    (h' : ∀ a, (![t, 0] : Fin 2 → ℕ) a + S1x3072.size a ≤ S1024x3072.size a) (y : S1x3072.Idx) :
    A.table ((Rect.unit (s := S2016x3072) (offT (A.ids (mk2 1 1024 0 t))) S1x3072.size h).emb y)
      = A.words ((Rect.unit (s := S1024x3072) ![t, 0] S1x3072.size h').emb y) := by
  have y0 : (y 0 : ℕ) < 1 := (y 0).isLt
  have e0 : ((Rect.unit (s := S1024x3072) ![t, 0] S1x3072.size h').emb y 0 : ℕ) = t := by
    rw [Rect.emb_apply]; simp; omega
  have e1 : ((Rect.unit (s := S1024x3072) ![t, 0] S1x3072.size h').emb y 1 : ℕ) = (y 1 : ℕ) := by
    rw [Rect.emb_apply]; simp
  unfold Args.words
  rw [e0, e1]
  exact congrArg A.table (eq_mk2 _ (by rw [Rect.emb_apply]; simp [offT, Args.row]; omega) (by rw [Rect.emb_apply]; simp [offT]))

/-- Every token's row lies in the table. -/
def Args.Ok : Prop := ∀ t, t < 1024 → ∀ a, offT (A.ids (mk2 1 1024 0 t)) a + S1x3072.size a ≤ S2016x3072.size a

variable (hok : A.Ok) {q₀ : PosShare TreeShare}

include hok in
theorem startRows_wp (g : ℕ) (hg : g < 32) {C : BitVec 32 → Prop} {dC : ∀ v, Decidable (C v)}
    {hC : ∀ v, C v → ∀ a, offT v a + S1x3072.size a ≤ S2016x3072.size a}
    (hC' : ∀ v, (∀ a, offT v a + S1x3072.size a ≤ S2016x3072.size a) → C v)
    {r : Fin 32 → ℕ} {c : ℕ} (hr : ∀ i, r i = 32 * g + i.val) (hc : c = g % 8)
    {hI : ∀ i, ∀ a, (![0, r i] : Fin 2 → ℕ) a + S1x1.size a ≤ S1x1024.size a}
    {hS : ∀ a, (![c] : Fin 1 → ℕ) a + S1.size a ≤ S8.size a}
    {hD : ∀ i, ∀ a, (![r i, 0] : Fin 2 → ℕ) a + S1x3072.size a ≤ S1024x3072.size a} :
    iprop(Hold (d.tc) arg0 Finset.univ q₀ A.ids ∗ InG d A arg1 arg8 g ∗ semVal (d.tc, .dma (cell arg15 g)) 0)
      ⊢ WP (startRows arg0 arg1 arg8 arg15 C dC hC r c hI hS hD)
          fun _ => iprop(Hold (d.tc) arg0 Finset.univ q₀ A.ids ∗ Flight d A arg1 arg8 arg15 g) := by
  obtain rfl : r = fun i => 32 * g + i.val := funext hr
  subst hc
  let I : ℕ → sProp 𝕄 := fun n => iprop(Hold (d.tc) arg0 Finset.univ q₀ A.ids
    ∗ (bigSep (Transfers.pending n) fun i : Fin 32 => RowIn d A arg1 arg8 (32 * g + i.val))
    ∗ Transfers.Batch EC (d.tc) (.dma (cell arg15 g)) () (rowN arg8) (fun i : Fin 32 => RowOut d A arg1 arg8 (32 * g + i.val)) n 0)
  have hstep : ∀ i : Fin 32, I i.val ⊢ WP (startRow arg0 arg1 arg8 arg15 C dC hC ![0, 32 * g + i.val] (hI i) ![g % 8] hS ![32 * g + i.val, 0] (hD i)) fun _ => I (i.val + 1) := by
    intro i
    have ht : 32 * g + i.val < 1024 := by omega
    have hrow := hok _ ht
    show iprop(Hold (d.tc) arg0 Finset.univ q₀ A.ids ∗ (bigSep (Transfers.pending i.val) fun i : Fin 32 => RowIn d A arg1 arg8 (32 * g + i.val))
      ∗ Transfers.Batch EC (d.tc) (.dma (cell arg15 g)) () (rowN arg8) (fun i : Fin 32 => RowOut d A arg1 arg8 (32 * g + i.val)) i.val 0) ⊢ _
    rw [Transfers.bigSep_pending_step _ i.val i.isLt]
    unfold RowIn
    iintro ⟨H0, ⟨⟨H8, H1⟩, HI⟩, HB⟩
    unfold startRow
    have ev : ∀ x : (Rect.unit (s := S1x1024) ![0, 32 * g + i.val] S1x1.size (hI i)).shape.Idx,
        A.ids ((Rect.unit (s := S1x1024) ![0, 32 * g + i.val] S1x1.size (hI i)).emb x) = A.ids (mk2 1 1024 0 (32 * g + i.val)) := fun x => by
      have x0 : (x 0 : ℕ) < 1 := (x 0).isLt
      have x1 : (x 1 : ℕ) < 1 := (x 1).isLt
      exact congrArg A.ids (eq_mk2 _ (by rw [Rect.emb_apply]; simp; omega) (by rw [Rect.emb_apply]; simp; omega))
    iapply (smem_bind d (m := arg0) (Finset.subset_univ _)) $$ H0
    iintro H0
    rw [ev]
    iapply (assume_bind d (hC' _ hrow))
    ihave H8' := (Entails.of_eq (congrArg (Any (d.tc) arg8) (row_set (hD i)).symm)) $$ H8
    ihave H8s := (any_slice (c := d.tc) (m := arg8) (r := Rect.unit (s := S1024x3072) ![32 * g + i.val, 0] S1x3072.size (hD i)) (fun _ => rfl)) $$ H8'
    have e1 : (Hold (d.tc) arg1 (A.SRow (32 * g + i.val)) (tq (32 * g + i.val)) A.table : sProp 𝕄)
        = Hold (d.tc) (arg1.slice (Rect.unit (s := S2016x3072) (offT (A.ids (mk2 1 1024 0 (32 * g + i.val)))) S1x3072.size hrow) (fun _ => rfl)) Finset.univ (tq (32 * g + i.val))
            (fun y => A.words ((Rect.unit (s := S1024x3072) ![32 * g + i.val, 0] S1x3072.size (hD i)).emb y)) := by
      rw [← srow_set A hrow, hold_slice (fun _ => rfl)]
      exact hold_congr fun y _ => row_words A ht hrow (hD i) y
    have e8 : (Hold (d.tc) arg8 (Row (32 * g + i.val)) fullShare A.words : sProp 𝕄)
        = Hold (d.tc) (arg8.slice (Rect.unit (s := S1024x3072) ![32 * g + i.val, 0] S1x3072.size (hD i)) (fun _ => rfl)) Finset.univ fullShare
            (fun y => A.words ((Rect.unit (s := S1024x3072) ![32 * g + i.val, 0] S1x3072.size (hD i)).emb y)) := by
      rw [← row_set (hD i), hold_slice (fun _ => rfl)]
    ihave H1' := (Entails.of_eq e1) $$ H1
    iapply (wp_wand_r frame (wpE defs₀ 𝒱₀ (d.tc) none) Set.univ)
    isplitl [H1' H8s HB]
    · iapply (dma_lift d (D := fun i : Fin 32 => RowOut d A arg1 arg8 (32 * g + i.val)) (rowN arg8) rfl i.isLt (Nat.zero_le _)
        (by
          show _ ⊢ RowOut d A arg1 arg8 (32 * g + i.val)
          unfold RowOut
          rw [e1, e8]
          exact .rfl))
      isplitl [H1']; · iexact H1'
      isplitl [H8s]; · iexact H8s
      iexact HB
    · iintro %_ HB
      isplitl [H0]; · iexact H0
      isplitl [HI]; · unfold RowIn; iexact HI
      iexact HB
  iintro ⟨H0, HI, HS⟩
  imod (Transfers.batch_alloc' EC (d.tc) () (rowN arg8) (fun i : Fin 32 => RowOut d A arg1 arg8 (32 * g + i.val)) (E := Set.univ)) $$ HS with HB
  ihave HR := ((inG_rows d A arg1 arg8 g).trans (Entails.of_eq (Transfers.bigSep_pending_zero _))) $$ HI
  iapply (wp_wand_r frame (wpE defs₀ 𝒱₀ (d.tc) none) Set.univ)
  isplitl [H0 HR HB]
  · iapply (each_wp d _ I hstep l32 0 l32_val)
    isplitl [H0]; · iexact H0
    isplitl [HR]; · iexact HR
    iexact HB
  · iintro %_ ⟨H0, -, HB⟩
    isplitl [H0]; · iexact H0
    unfold Flight
    iexact HB

/-- Wait for a group's rows. -/
theorem waitRows_wp (g : ℕ) {r : Fin 32 → ℕ} {c : ℕ} (hc : c = g % 8)
    {hS : ∀ a, (![c] : Fin 1 → ℕ) a + S1.size a ≤ S8.size a}
    {hD : ∀ i, ∀ a, (![r i, 0] : Fin 2 → ℕ) a + S1x3072.size a ≤ S1024x3072.size a} :
    iprop(Flight d A arg1 arg8 arg15 g ∗ Ow d)
      ⊢ WP (waitRows arg1 arg8 arg15 r c hS hD : P F Unit)
          fun _ => iprop(OutG d A arg1 arg8 g ∗ semVal (d.tc, .dma (cell arg15 g)) 0 ∗ Ow d) := by
  subst hc
  have hN0 : 0 < rowN arg8 := View.dmaCredit_pos _ (by decide)
  let I : ℕ → sProp 𝕄 := fun n => if n < 32 then
      iprop(Transfers.Batch EC (d.tc) (.dma (cell arg15 g)) () (rowN arg8) (fun i : Fin 32 => RowOut d A arg1 arg8 (32 * g + i.val)) 32 (n * rowN arg8) ∗ Ow d)
    else iprop(OutG d A arg1 arg8 g ∗ semVal (d.tc, .dma (cell arg15 g)) 0 ∗ Ow d)
  have hstep : ∀ i : Fin 32, I i.val ⊢ WP (waitRow arg1 arg8 arg15 ![g % 8] hS ![r i, 0] (hD i) : P F Unit) fun _ => I (i.val + 1) := by
    intro i
    rw [show I i.val = _ from if_pos i.isLt]
    unfold Ow waitRow
    iintro ⟨HB, ⟨%W, HO⟩⟩
    by_cases hi : i.val + 1 < 32
    · rw [show I (i.val + 1) = _ from if_pos hi]
      iapply (Transfers.wp_waitBatch EC 𝒱₀ (d.tc) none (srcw := arg1.slice (Rect.unit (s := S2016x3072) ![0, 0] S1x3072.size inb_S2016x3072_S1x3072_0_0) (fun _ => rfl))
        (dstw := arg8.slice (Rect.unit (s := S1024x3072) ![r i, 0] S1x3072.size (hD i)) (fun _ => rfl)) (hsrc := View.wordExact_bits rfl) (hdst := View.wordExact_bits rfl)
        (sem := cell arg15 g) (k := .ret) () (N := rowN arg8) rfl (D := fun i : Fin 32 => RowOut d A arg1 arg8 (32 * g + i.val)) (u := i.val * rowN arg8)
        (by have := Nat.mul_lt_mul_of_pos_right hi hN0; rw [Nat.mul_comm (rowN arg8)]; rw [Nat.add_mul, Nat.one_mul] at this; exact this) (W := W)) $$ [HB HO]
      · isplitl [HB]; · iexact HB
        iexact HO
      iintro ⟨HB, HO⟩
      rw [wp_ret]
      imodintro
      rw [Nat.add_mul, Nat.one_mul]
      isplitl [HB]; · iexact HB
      unfold Ow
      iexists _; iexact HO
    · rw [show I (i.val + 1) = _ from if_neg hi]
      have hi' : i.val = 31 := by omega
      have hu : i.val * rowN arg8 + rowN arg8 = rowN arg8 * 32 := by rw [hi']; omega
      iapply (Transfers.wp_waitBatchLast EC 𝒱₀ (d.tc) none (srcw := arg1.slice (Rect.unit (s := S2016x3072) ![0, 0] S1x3072.size inb_S2016x3072_S1x3072_0_0) (fun _ => rfl))
        (dstw := arg8.slice (Rect.unit (s := S1024x3072) ![r i, 0] S1x3072.size (hD i)) (fun _ => rfl)) (hsrc := View.wordExact_bits rfl) (hdst := View.wordExact_bits rfl)
        (sem := cell arg15 g) (k := .ret) () (N := rowN arg8) rfl hN0 (D := fun i : Fin 32 => RowOut d A arg1 arg8 (32 * g + i.val)) (u := i.val * rowN arg8)
        hu (W := W)) $$ [HB HO]
      · isplitl [HB]; · iexact HB
        iexact HO
      iintro ⟨HB, HS, HO⟩
      rw [wp_ret]
      imodintro
      isplitl [HB]
      · iapply (outG_rows d A arg1 arg8 g); iexact HB
      isplitl [HS]; · iexact HS
      unfold Ow
      iexists _; iexact HO
  have h := each_wp d _ I hstep l32 0 l32_val
  rw [show I 0 = _ from if_pos (by decide), show I (0 + l32.length) = _ from if_neg (by decide), Nat.zero_mul] at h
  exact h

end Rows

end Cert.Kernel.Emb
end
-- ==== Proof.Tiles.lean ====
/- The steps run, tile by tile: the per-token parameters selected, a group dequantised, normalised, and copied out. -/
module

public import proofs.«01_k».proof.Proof.Rows

@[expose] public section

set_option maxRecDepth 16384

noncomputable section

namespace Cert.Kernel.Emb

open Idealize.ShloMosaic Cert.Kernel.Gen Cert.Emb
open Idealize.SL
open Idealize.SL.RA Idealize.SL.Sem Idealize.SL.ProofMode
open Idealize.SL.BI (sProp bigSep bigSep_insert bigSep_mono bigSep_empty bigSep_congr bigSep_sep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable (d : Dev nD)

local notation "WP" => wp frame (wpE defs₀ 𝒱₀ (d.tc) none) Set.univ

variable {α β σ : Type} (A : Args F)

/-- The part of a buffer below `n` (by `f`) new, the rest old. -/
def mix {s : Shape} {α : Type} (f : s.Idx → ℕ) (n : ℕ) (V V' : s.Idx → α) (x : s.Idx) : α := if f x < n then V' x else V x

theorem mix_zero {s : Shape} {α : Type} (f : s.Idx → ℕ) (V V' : s.Idx → α) : mix f 0 V V' = V :=
  funext fun x => if_neg (Nat.not_lt_zero _)

theorem mix_full {s : Shape} {α : Type} {f : s.Idx → ℕ} {n : ℕ} (h : ∀ x, f x < n) (V V' : s.Idx → α) : mix f n V V' = V' :=
  funext fun x => if_pos (h x)

/-- A box of the next stretch stored. -/
theorem mix_store {cs : CoreSpace} {s : Shape} {e : EltTy} {S : Finset s.Idx} {V V' : s.Idx → Elt F e} (f : s.Idx → ℕ) (n n' : ℕ)
    {m : Memref sig .tc cs s e} {r : Rect s} {w : r.shape.Idx → Elt F e}
    {hx : (m.access r).Stores Finset.univ} {hm : (Finset.univ : Finset r.shape.Idx) = Finset.univ ∨ ∀ a, r.stride a = 1}
    (hA : r.set ⊆ S) (hin : ∀ y, V' (r.emb y) = w y) (hset : ∀ x ∈ S, x ∈ r.set ↔ n ≤ f x ∧ f x < n') (hn : n ≤ n') :
    (Hold (d.tc) m S fullShare (mix f n V V') : sProp 𝕄) ⊢ WP (Prog.lift (.store m r w Finset.univ hx hm) : P F PUnit)
      fun _ => Hold (d.tc) m S fullShare (mix f n' V V') := by
  refine store_lift d hA (fun y => ?_) fun x hx hr => ?_
  · have h : r.emb y ∈ r.set := by
      rw [← Rect.map_emb_univ]; exact Finset.mem_map.mpr ⟨y, Finset.mem_univ _, rfl⟩
    rw [mix, if_pos ((hset _ (hA h)).mp h).2, hin]
  · have h : ¬ (n ≤ f x ∧ f x < n') := fun h => hr ((hset x hx).mpr h)
    unfold mix
    by_cases h1 : f x < n
    · rw [if_pos h1, if_pos (by omega)]
    · rw [if_neg h1, if_neg (by omega)]

/-! ## The per-token parameters -/

section Chunks

variable (arg2 : Memref sig .tc .vmem S1x1024 .i32) (arg3 : Memref sig .tc .vmem S63x128 .f32) (arg4 : Memref sig .tc .vmem S63x128 .bf16)
  (arg12 : Memref sig .tc .vmem S1024x128 .i32)
  (arg13 : Memref sig .tc .vmem S1024x128 .bf16) (harg13 : arg13.IsWhole) (arg14 : Memref sig .tc .vmem S1024x128 .bf16) (harg14 : arg14.IsWhole)
  {q2 q3 q4 : PosShare TreeShare}

/-- A row number. -/
def row1 (x : S1024x128.Idx) : ℕ := (x 0 : ℕ)

theorem chunk_wp (c : Fin 8) (V12 : S1024x128.Idx → Elt F .i32) (V13 V14 : S1024x128.Idx → Elt F .bf16) :
    (iprop(Hold (d.tc) arg2 Finset.univ q2 A.ids ∗ Hold (d.tc) arg12 Finset.univ fullShare (mix row1 (128 * c.val) V12 A.shiftV)
        ∗ Hold (d.tc) arg13 Finset.univ fullShare (mix row1 (128 * c.val) V13 A.scaleV) ∗ Hold (d.tc) arg14 Finset.univ fullShare (mix row1 (128 * c.val) V14 A.zeroV)) : sProp 𝕄)
      ⊢ WP (chunk arg2 arg12 arg13 harg13 arg14 harg14 A.params c) fun _ =>
        iprop(Hold (d.tc) arg2 Finset.univ q2 A.ids ∗ Hold (d.tc) arg12 Finset.univ fullShare (mix row1 (128 * (c.val + 1)) V12 A.shiftV)
        ∗ Hold (d.tc) arg13 Finset.univ fullShare (mix row1 (128 * (c.val + 1)) V13 A.scaleV) ∗ Hold (d.tc) arg14 Finset.univ fullShare (mix row1 (128 * (c.val + 1)) V14 A.zeroV)) := by
  have hset : ∀ x ∈ (Finset.univ : Finset S1024x128.Idx),
      x ∈ (Rect.unit (s := S1024x128) ![128 * c.val, 0] S128x128.size (chunk_inb c)).set ↔ 128 * c.val ≤ row1 x ∧ row1 x < 128 * (c.val + 1) := by
    intro x _
    rw [mem_chunk c, row1, Nat.mul_add, Nat.mul_one]
  have hids : (fun y : S1x128.Idx => A.ids ((Rect.unit (s := S1x1024) ![0, 128 * c.val] S1x128.size (ids_inb c)).emb y)) = A.idChunk c.val :=
    funext fun y => congrArg A.ids (ids_emb c y)
  iintro ⟨H2, H12, H13, H14⟩
  unfold chunk
  iapply (load_val d (m := arg2) (Finset.subset_univ _) hids) $$ H2
  iintro H2
  iapply (load_bind d (m := arg13) (Finset.subset_univ _)) $$ H13
  iintro H13
  iapply (wp_seq d (mix_store d row1 _ (128 * (c.val + 1)) (m := arg13) (Finset.subset_univ _)
    (fun y => chunk_read (fun c z => shapeCast S128x128 (scaleOf A.params (A.idChunk c)) shapeCasts_S128x128_S128x128 z) c y) hset (by omega))) $$ H13
  iintro %_ H13
  iapply (load_bind d (m := arg14) (Finset.subset_univ _)) $$ H14
  iintro H14
  iapply (wp_seq d (mix_store d row1 _ (128 * (c.val + 1)) (m := arg14) (Finset.subset_univ _)
    (fun y => chunk_read (fun c z => shapeCast S128x128 (zeroOf A.params (A.idChunk c)) shapeCasts_S128x128_S128x128 z) c y) hset (by omega))) $$ H14
  iintro %_ H14
  iapply (load_bind d (m := arg12) (Finset.subset_univ _)) $$ H12
  iintro H12
  iapply (wp_last d (mix_store d row1 _ (128 * (c.val + 1)) (m := arg12) (Finset.subset_univ _)
      (fun y => chunk_read (fun c z => shapeCast S128x128 (shiftOf (F := F) (A.idChunk c)) shapeCasts_S128x128_S128x128 z) c y) hset (by omega))) $$ H12
  iintro %_ H12
  isplitl [H2]; · iexact H2
  isplitl [H12]; · iexact H12
  isplitl [H13]; · iexact H13
  iexact H14

/-- Every token's parameters selected. -/
theorem chunks_wp :
    (iprop(Hold (d.tc) arg2 Finset.univ q2 A.ids ∗ Hold (d.tc) arg3 Finset.univ q3 A.scale ∗ Hold (d.tc) arg4 Finset.univ q4 A.zero
        ∗ Any (d.tc) arg12 Finset.univ ∗ Any (d.tc) arg13 Finset.univ ∗ Any (d.tc) arg14 Finset.univ) : sProp 𝕄)
      ⊢ WP (chunks arg2 arg3 arg4 arg12 arg13 harg13 arg14 harg14) fun _ =>
        iprop(Hold (d.tc) arg2 Finset.univ q2 A.ids ∗ Hold (d.tc) arg3 Finset.univ q3 A.scale ∗ Hold (d.tc) arg4 Finset.univ q4 A.zero
        ∗ Hold (d.tc) arg12 Finset.univ fullShare A.shiftV ∗ Hold (d.tc) arg13 Finset.univ fullShare A.scaleV ∗ Hold (d.tc) arg14 Finset.univ fullShare A.zeroV) := by
  unfold Any
  iintro ⟨H2, H3, H4, ⟨%V12, H12⟩, ⟨%V13, H13⟩, ⟨%V14, H14⟩⟩
  have emb63 : ∀ y : S63x128.Idx, (Rect.unit (s := S63x128) ![0, 0] S63x128.size inb_S63x128_S63x128_0_0).emb y = y := fun y => by
    funext a
    refine Fin.ext ?_
    rw [Rect.emb_apply]
    revert a
    rw [Fin.forall_fin_two]
    exact ⟨by simp, by simp⟩
  have hs : (fun y : S63x128.Idx => A.scale ((Rect.unit (s := S63x128) ![0, 0] S63x128.size inb_S63x128_S63x128_0_0).emb y)) = A.scale :=
    funext fun y => congrArg A.scale (emb63 y)
  have hz : (fun y : S63x128.Idx => A.zero ((Rect.unit (s := S63x128) ![0, 0] S63x128.size inb_S63x128_S63x128_0_0).emb y)) = A.zero :=
    funext fun y => congrArg A.zero (emb63 y)
  have h := each_wp d (chunk arg2 arg12 arg13 harg13 arg14 harg14 A.params)
    (fun n => iprop(Hold (d.tc) arg2 Finset.univ q2 A.ids ∗ Hold (d.tc) arg12 Finset.univ fullShare (mix row1 (128 * n) V12 A.shiftV)
        ∗ Hold (d.tc) arg13 Finset.univ fullShare (mix row1 (128 * n) V13 A.scaleV) ∗ Hold (d.tc) arg14 Finset.univ fullShare (mix row1 (128 * n) V14 A.zeroV)))
    (fun c => chunk_wp d A arg2 arg12 arg13 harg13 arg14 harg14 c V12 V13 V14) l8 0 l8_val
  have hf : ∀ x : S1024x128.Idx, row1 x < 128 * (0 + l8.length) := fun x => (x 0).isLt
  rw [mix_full hf, mix_full hf, mix_full hf, Nat.mul_zero, mix_zero, mix_zero, mix_zero] at h
  unfold chunks
  iapply (load_val d (m := arg3) (Finset.subset_univ _) hs) $$ H3
  iintro H3
  iapply (load_val d (m := arg4) (Finset.subset_univ _) hz) $$ H4
  iintro H4
  iapply (wp_last d h) $$ [H2 H12 H13 H14]
  · isplitl [H2]; · iexact H2
    isplitl [H12]; · iexact H12
    isplitl [H13]; · iexact H13
    iexact H14
  iintro %_ ⟨H2, H12, H13, H14⟩
  isplitl [H2]; · iexact H2
  isplitl [H3]; · iexact H3
  isplitl [H4]; · iexact H4
  isplitl [H12]; · iexact H12
  isplitl [H13]; · iexact H13
  iexact H14

end Chunks

/-! ## A group dequantised -/

section Dequant

variable (arg8 : Memref sig .tc .vmem S1024x3072 .i32) (arg9 : Memref sig .tc .vmem S1024x3072 .bf16) (harg9 : arg9.IsWhole)
  (arg11 : Memref sig .tc .vmem S2x32x128 .f32)
  (arg12 : Memref sig .tc .vmem S1024x128 .i32) (arg13 arg14 : Memref sig .tc .vmem S1024x128 .bf16)
  {q8 q9 q12 q13 q14 : PosShare TreeShare}

/-- A column number. -/
def col (x : S1024x3072.Idx) : ℕ := (x 1 : ℕ)

theorem col_lt (x : S1024x3072.Idx) : col x < 128 * 24 := (x 1).isLt

theorem tile_set {g j : ℕ} (h : TileIn (32 * g) j) : ∀ x ∈ Blk g,
    x ∈ (Rect.unit (s := S1024x3072) ![32 * g, 128 * j] S32x128.size h).set ↔ 128 * j ≤ col x ∧ col x < 128 * (j + 1) := by
  intro x hx
  rw [Blk, Finset.mem_filter] at hx
  rw [mem_tile, col, Nat.mul_add, Nat.mul_one]
  exact ⟨fun h => h.2, fun h => ⟨hx.2, h⟩⟩

theorem dqTile_wp (g : ℕ) {hB : ∀ j : Fin 24, TileIn (32 * g) j} {hP : ∀ j : Fin 24, TilePacked (32 * g) j (hB j)} (j : Fin 24)
    (V9 : S1024x3072.Idx → Elt F .bf16) :
    (iprop(Hold (d.tc) arg8 (Blk g) q8 A.words ∗ Hold (d.tc) arg9 (Blk g) fullShare (mix col (128 * j.val) V9 A.embV)) : sProp 𝕄)
      ⊢ WP (dqTile arg8 arg9 harg9 (32 * g) hB hP (fun y => A.shiftV (prmIx g y)) (fun y => A.scaleV (prmIx g y)) (fun y => A.zeroV (prmIx g y)) j (A.sq g j.val) : P F _)
        fun b => iprop(⌜b = A.sq g (j.val + 1)⌝ ∗ Hold (d.tc) arg8 (Blk g) q8 A.words ∗ Hold (d.tc) arg9 (Blk g) fullShare (mix col (128 * (j.val + 1)) V9 A.embV)) := by
  have hw : (fun y : S32x128.Idx => A.words ((Rect.unit (s := S1024x3072) ![32 * g, 128 * j.val] S32x128.size (hB j)).emb y)) = fun y => A.words (tileIx g j.val y) :=
    funext fun y => congrArg A.words (tile_emb (hB j) y)
  iintro ⟨H8, H9⟩
  unfold dqTile
  iapply (load_val d (m := arg8) (tile_sub (hB j)) hw) $$ H8
  iintro H8
  iapply (load_bind d (m := arg9) (tile_sub (hB j))) $$ H9
  iintro H9
  iapply (wp_seq d (mix_store d col _ (128 * (j.val + 1)) (m := arg9) (tile_sub (hB j))
    (fun y => (congrArg A.embV (tile_emb (hB j) y)).trans (embV_tile A (hB j) y)) (tile_set (hB j)) (by omega))) $$ H9
  iintro %_ H9
  rw [show (pure (sqAdd (A.sq g j.val) (embTile (fun y => A.shiftV (prmIx g y)) (fun y => A.scaleV (prmIx g y)) (fun y => A.zeroV (prmIx g y))
    fun y => A.words (tileIx g j.val y))) : P F (FVec F S32x128 .f32)) = .ret (A.sq g (j.val + 1)) from rfl, wp_ret]
  imodintro
  isplitr
  · ipureintro; rfl
  isplitl [H8]; · iexact H8
  iexact H9

/-- A group's rows dequantised; the result is their sums of squares. -/
theorem dqRows_wp (g : ℕ) {r : ℕ} (hr : r = 32 * g) {hC : ∀ a, (![r, 0] : Fin 2 → ℕ) a + S32x128.size a ≤ S1024x128.size a}
    {hB : ∀ j : Fin 24, TileIn r j} {hP : ∀ j : Fin 24, TilePacked r j (hB j)} :
    (iprop(Hold (d.tc) arg8 (Blk g) q8 A.words ∗ Any (d.tc) arg9 (Blk g) ∗ Hold (d.tc) arg12 Finset.univ q12 A.shiftV
        ∗ Hold (d.tc) arg13 Finset.univ q13 A.scaleV ∗ Hold (d.tc) arg14 Finset.univ q14 A.zeroV) : sProp 𝕄)
      ⊢ WP (dqRows arg8 arg9 harg9 arg12 arg13 arg14 r hC hB hP : P F _) fun b => iprop(⌜b = A.sq g 24⌝
        ∗ Hold (d.tc) arg8 (Blk g) q8 A.words ∗ Hold (d.tc) arg9 (Blk g) fullShare A.embV ∗ Hold (d.tc) arg12 Finset.univ q12 A.shiftV
        ∗ Hold (d.tc) arg13 Finset.univ q13 A.scaleV ∗ Hold (d.tc) arg14 Finset.univ q14 A.zeroV) := by
  subst hr
  have h12 : (fun y : S32x128.Idx => A.shiftV ((Rect.unit (s := S1024x128) ![32 * g, 0] S32x128.size hC).emb y)) = fun y => A.shiftV (prmIx g y) :=
    funext fun y => congrArg A.shiftV (prm_emb hC y)
  have h13 : (fun y : S32x128.Idx => A.scaleV ((Rect.unit (s := S1024x128) ![32 * g, 0] S32x128.size hC).emb y)) = fun y => A.scaleV (prmIx g y) :=
    funext fun y => congrArg A.scaleV (prm_emb hC y)
  have h14 : (fun y : S32x128.Idx => A.zeroV ((Rect.unit (s := S1024x128) ![32 * g, 0] S32x128.size hC).emb y)) = fun y => A.zeroV (prmIx g y) :=
    funext fun y => congrArg A.zeroV (prm_emb hC y)
  unfold Any
  iintro ⟨H8, ⟨%V9, H9⟩, H12, H13, H14⟩
  have h := fold_wp d (dqTile arg8 arg9 harg9 (32 * g) hB hP (fun y => A.shiftV (prmIx g y)) (fun y => A.scaleV (prmIx g y)) (fun y => A.zeroV (prmIx g y)))
    (A.sq g) (fun n => iprop(Hold (d.tc) arg8 (Blk g) q8 A.words ∗ Hold (d.tc) arg9 (Blk g) fullShare (mix col (128 * n) V9 A.embV)))
    (fun j => dqTile_wp d A arg8 arg9 harg9 g j V9) l24 0 l24_val
  rw [Nat.mul_zero, mix_zero, show 0 + l24.length = 24 from rfl, mix_full col_lt] at h
  unfold dqRows
  iapply (load_val d (m := arg12) (Finset.subset_univ _) h12) $$ H12
  iintro H12
  iapply (load_val d (m := arg13) (Finset.subset_univ _) h13) $$ H13
  iintro H13
  iapply (load_val d (m := arg14) (Finset.subset_univ _) h14) $$ H14
  iintro H14
  iapply (wp_last d h) $$ [H8 H9]
  · isplitl [H8]; · iexact H8
    iexact H9
  iintro %_ ⟨%hb, H8, H9⟩
  isplitr
  · ipureintro; exact hb
  isplitl [H8]; · iexact H8
  isplitl [H9]; · iexact H9
  isplitl [H12]; · iexact H12
  isplitl [H13]; · iexact H13
  iexact H14

/-- A slot of the sums of squares. -/
def Slot (c : ℕ) : Finset S2x32x128.Idx := Finset.univ.filter fun x => (x 0 : ℕ) = c

/-- A slot's element. -/
def slotIx (x : S2x32x128.Idx) : S1x32x128.Idx := fun i => match i with
  | ⟨0, _⟩ => (0 : Fin 1)
  | ⟨1, _⟩ => (x 1 : Fin 32)
  | ⟨2, _⟩ => (x 2 : Fin 128)

/-- Group `g`'s sums of squares, in any slot. -/
def Args.sqV (g : ℕ) (x : S2x32x128.Idx) : Elt F .f32 := A.sqS g (slotIx x)

theorem slot_set {c : ℕ} (h : ∀ a, (![c, 0, 0] : Fin 3 → ℕ) a + S1x32x128.size a ≤ S2x32x128.size a) :
    (Rect.unit (s := S2x32x128) ![c, 0, 0] S1x32x128.size h).set = Slot c := by
  ext x
  have h1 : (x 1 : ℕ) < 32 := (x 1).isLt
  have h2 : (x 2 : ℕ) < 128 := (x 2).isLt
  rw [Rect.mem_set_unit, Slot, Finset.mem_filter]
  simp only [Finset.mem_univ, true_and]
  constructor
  · intro hx
    have := hx 0
    simp at this
    omega
  · intro hx a
    match a with
    | ⟨0, _⟩ => show c ≤ (x 0 : ℕ) ∧ (x 0 : ℕ) < c + 1; omega
    | ⟨1, _⟩ => show 0 ≤ (x 1 : ℕ) ∧ (x 1 : ℕ) < 0 + 32; omega
    | ⟨2, _⟩ => show 0 ≤ (x 2 : ℕ) ∧ (x 2 : ℕ) < 0 + 128; omega

theorem slot_emb {c : ℕ} (h : ∀ a, (![c, 0, 0] : Fin 3 → ℕ) a + S1x32x128.size a ≤ S2x32x128.size a) (y : S1x32x128.Idx) :
    slotIx ((Rect.unit (s := S2x32x128) ![c, 0, 0] S1x32x128.size h).emb y) = y := by
  funext a
  refine Fin.ext ?_
  match a with
  | ⟨0, _⟩ => have y0 : (y 0 : ℕ) < 1 := (y 0).isLt; show 0 = (y 0 : ℕ); omega
  | ⟨1, _⟩ => show ((Rect.unit (s := S2x32x128) ![c, 0, 0] S1x32x128.size h).emb y 1 : ℕ) = (y 1 : ℕ); rw [Rect.emb_apply]; simp
  | ⟨2, _⟩ => show ((Rect.unit (s := S2x32x128) ![c, 0, 0] S1x32x128.size h).emb y 2 : ℕ) = (y 2 : ℕ); rw [Rect.emb_apply]; simp

/-- A group's sums of squares stored. -/
theorem sqStore_wp (g c : ℕ) {c' : ℕ} (hc : c' = c) {hQ : ∀ a, (![c', 0, 0] : Fin 3 → ℕ) a + S1x32x128.size a ≤ S2x32x128.size a} :
    (Any (d.tc) arg11 (Slot c) : sProp 𝕄) ⊢ WP (sqStore arg11 c' hQ (A.sq g 24)) fun _ => Hold (d.tc) arg11 (Slot c) fullShare (A.sqV g) := by
  subst hc
  unfold Any sqStore
  iintro ⟨%V, H⟩
  iapply (load_bind d (m := arg11) (slot_set hQ).subset) $$ H
  iintro H
  iapply (store_lift d (m := arg11) (V' := A.sqV g) (slot_set hQ).subset (fun y => congrArg (A.sqS g) (slot_emb hQ y))
    (fun x hx hr => absurd ((slot_set hQ).symm ▸ hx) hr)) $$ H

/-- A group dequantised, its sums of squares stored. -/
theorem dequant_wp (g c : ℕ) {r c' : ℕ} (hr : r = 32 * g) (hc : c' = c) {hC : ∀ a, (![r, 0] : Fin 2 → ℕ) a + S32x128.size a ≤ S1024x128.size a}
    {hB : ∀ j : Fin 24, TileIn r j} {hP : ∀ j : Fin 24, TilePacked r j (hB j)}
    {hQ : ∀ a, (![c', 0, 0] : Fin 3 → ℕ) a + S1x32x128.size a ≤ S2x32x128.size a} :
    (iprop((Hold (d.tc) arg8 (Blk g) q8 A.words ∗ Any (d.tc) arg9 (Blk g) ∗ Hold (d.tc) arg12 Finset.univ q12 A.shiftV
        ∗ Hold (d.tc) arg13 Finset.univ q13 A.scaleV ∗ Hold (d.tc) arg14 Finset.univ q14 A.zeroV) ∗ Any (d.tc) arg11 (Slot c)) : sProp 𝕄)
      ⊢ WP (dequant arg8 arg9 harg9 arg11 arg12 arg13 arg14 r c' hC hB hP hQ : P F Unit) fun _ => iprop(
        (Hold (d.tc) arg8 (Blk g) q8 A.words ∗ Hold (d.tc) arg9 (Blk g) fullShare A.embV ∗ Hold (d.tc) arg12 Finset.univ q12 A.shiftV
        ∗ Hold (d.tc) arg13 Finset.univ q13 A.scaleV ∗ Hold (d.tc) arg14 Finset.univ q14 A.zeroV) ∗ Hold (d.tc) arg11 (Slot c) fullShare (A.sqV g)) := by
  unfold dequant
  iintro ⟨H, HQ⟩
  iapply (wp_seq d (dqRows_wp d A arg8 arg9 harg9 arg12 arg13 arg14 g hr)) $$ H
  iintro %_ ⟨%hb, H⟩
  subst hb
  iapply (wp_last d (sqStore_wp d A arg11 g c hc)) $$ HQ
  iintro %_ HQ
  isplitl [H]; · iexact H
  iexact HQ

end Dequant

/-! ## A group normalised -/

section Normalise

variable (arg5 : Memref sig .tc .vmem S1x3072 .bf16) (arg9 : Memref sig .tc .vmem S1024x3072 .bf16)
  (arg10 : Memref sig .tc .vmem S1024x3072 .bf16) (harg10 : arg10.IsWhole) (arg11 : Memref sig .tc .vmem S2x32x128 .f32)
  {q5 q9 q11 : PosShare TreeShare}

theorem nmTile_wp (g : ℕ) {hB : ∀ j : Fin 24, TileIn (32 * g) j} {hP : ∀ j : Fin 24, TilePacked (32 * g) j (hB j)} (j : Fin 24)
    (V10 : S1024x3072.Idx → Elt F .bf16) :
    (iprop(Hold (d.tc) arg5 Finset.univ q5 A.weight ∗ Hold (d.tc) arg9 (Blk g) q9 A.embV ∗ Hold (d.tc) arg10 (Blk g) fullShare (mix col (128 * j.val) V10 A.outV)) : sProp 𝕄)
      ⊢ WP (nmTile arg5 arg9 arg10 harg10 (32 * g) hB hP (factor (A.sqS g)) j : P F Unit)
        fun _ => iprop(Hold (d.tc) arg5 Finset.univ q5 A.weight ∗ Hold (d.tc) arg9 (Blk g) q9 A.embV ∗ Hold (d.tc) arg10 (Blk g) fullShare (mix col (128 * (j.val + 1)) V10 A.outV)) := by
  have hx : (fun y : S32x128.Idx => A.embV ((Rect.unit (s := S1024x3072) ![32 * g, 128 * j.val] S32x128.size (hB j)).emb y)) = fun y => A.embV (tileIx g j.val y) :=
    funext fun y => congrArg A.embV (tile_emb (hB j) y)
  have hw : (fun y : S1x128.Idx => A.weight ((Rect.unit (s := S1x3072) ![0, 128 * j.val] S1x128.size (weight_inb j)).emb y))
      = fun y => A.weight (mk2 1 3072 0 (128 * j.val + (y 1 : ℕ))) :=
    funext fun y => congrArg A.weight (weight_emb j y)
  iintro ⟨H5, H9, H10⟩
  unfold nmTile
  iapply (load_val d (m := arg9) (tile_sub (hB j)) hx) $$ H9
  iintro H9
  iapply (load_val d (m := arg5) (Finset.subset_univ _) hw) $$ H5
  iintro H5
  iapply (load_bind d (m := arg10) (tile_sub (hB j))) $$ H10
  iintro H10
  iapply (wp_last d (mix_store d col _ (128 * (j.val + 1)) (m := arg10) (tile_sub (hB j))
      (fun y => (congrArg A.outV (tile_emb (hB j) y)).trans (outV_tile A (hB j) y)) (tile_set (hB j)) (by omega))) $$ H10
  iintro %_ H10
  isplitl [H5]; · iexact H5
  isplitl [H9]; · iexact H9
  iexact H10

/-- A group's rows normalised. -/
theorem normalise_wp (g c : ℕ) {r c' : ℕ} (hr : r = 32 * g) (hc : c' = c) {hB : ∀ j : Fin 24, TileIn r j} {hP : ∀ j : Fin 24, TilePacked r j (hB j)}
    {hQ : ∀ a, (![c', 0, 0] : Fin 3 → ℕ) a + S1x32x128.size a ≤ S2x32x128.size a} :
    (iprop(Hold (d.tc) arg5 Finset.univ q5 A.weight ∗ Hold (d.tc) arg9 (Blk g) q9 A.embV ∗ Any (d.tc) arg10 (Blk g) ∗ Hold (d.tc) arg11 (Slot c) q11 (A.sqV g)) : sProp 𝕄)
      ⊢ WP (normalise arg5 arg9 arg10 harg10 arg11 r c' hB hP hQ : P F Unit) fun _ =>
        iprop(Hold (d.tc) arg5 Finset.univ q5 A.weight ∗ Hold (d.tc) arg9 (Blk g) q9 A.embV ∗ Hold (d.tc) arg10 (Blk g) fullShare A.outV ∗ Hold (d.tc) arg11 (Slot c) q11 (A.sqV g)) := by
  subst hr; subst hc
  have hs : (fun y : S1x32x128.Idx => A.sqV g ((Rect.unit (s := S2x32x128) ![c', 0, 0] S1x32x128.size hQ).emb y)) = A.sqS g :=
    funext fun y => congrArg (A.sqS g) (slot_emb hQ y)
  unfold Any
  iintro ⟨H5, H9, ⟨%V10, H10⟩, H11⟩
  have h := each_wp d (nmTile arg5 arg9 arg10 harg10 (32 * g) hB hP (factor (A.sqS g)))
    (fun n => iprop(Hold (d.tc) arg5 Finset.univ q5 A.weight ∗ Hold (d.tc) arg9 (Blk g) q9 A.embV ∗ Hold (d.tc) arg10 (Blk g) fullShare (mix col (128 * n) V10 A.outV)))
    (fun j => nmTile_wp d A arg5 arg9 arg10 harg10 g j V10) l24 0 l24_val
  rw [Nat.mul_zero, mix_zero, show 0 + l24.length = 24 from rfl, mix_full col_lt] at h
  unfold normalise
  iapply (load_val d (m := arg11) (slot_set hQ).subset hs) $$ H11
  iintro H11
  iapply (wp_last d h) $$ [H5 H9 H10]
  · isplitl [H5]; · iexact H5
    isplitl [H9]; · iexact H9
    iexact H10
  iintro %_ ⟨H5, H9, H10⟩
  isplitl [H5]; · iexact H5
  isplitl [H9]; · iexact H9
  isplitl [H10]; · iexact H10
  iexact H11

end Normalise

/-! ## The copies out -/

section Out

variable (src : Memref sig .tc .vmem S1024x3072 .bf16) (hsrc : src.IsWhole) (dst : Memref sig .tc .hbm S1024x3072 .bf16) (hdst : dst.IsWhole)
  (sem : DmaSems sig S_) (q : PosShare TreeShare) (V : S1024x3072.Idx → Elt F .bf16)

/-- One row block's bytes. -/
def blkN : ℕ := (dst.slice (Rect.unit (s := S1024x3072) ![0, 0] S32x3072.size (by decide)) (fun _ => rfl)).view.dmaCredit

/-- Group `j`'s copy landed. -/
def BlkOut (j : ℕ) : sProp 𝕄 := iprop(Hold (d.tc) dst (Blk j) fullShare V ∗ Hold (d.tc) src (Blk j) q V)

instance blkOut_storable (j : ℕ) : Storable (upEmb : UEmb _ 𝕄) (BlkOut d src dst q V j) := by
  unfold BlkOut; infer_instance

/-- The copies out, `n` of them started, none waited for. -/
def Outs (n : ℕ) : sProp 𝕄 := Transfers.Batch EC (d.tc) (.dma sem.sem) () (blkN dst) (fun i : Fin 32 => BlkOut d src dst q V i.val) n 0

theorem outs_start {E : Set ℕ} : (semVal (d.tc, .dma sem.sem) 0 : sProp 𝕄) ⊢ iprop(|={E}=> Outs d src dst sem q V 0) :=
  Transfers.batch_alloc' EC (d.tc) () (blkN dst) (fun i : Fin 32 => BlkOut d src dst q V i.val)

theorem copyOut_wp (g : ℕ) (hg : g < 32) {r : ℕ} (hr : r = 32 * g) {hB : BlockIn r}
    {hW : (Rect.unit (s := S1024x3072) ![r, 0] S32x3072.size hB).WholeWords (EltTy.packing .bf16)} :
    (iprop(Hold (d.tc) src (Blk g) q V ∗ Any (d.tc) dst (Blk g) ∗ Outs d src dst sem q V g) : sProp 𝕄)
      ⊢ WP (copyOut src hsrc dst hdst sem r hB hW : P F Unit) fun _ => Outs d src dst sem q V (g + 1) := by
  subst hr
  unfold copyOut Outs
  have e : ∀ {sp : Space} (m : Memref sig .tc sp S1024x3072 .bf16) (q : PosShare TreeShare), (Hold (d.tc) m (Blk g) q V : sProp 𝕄)
      = Hold (d.tc) (m.slice (Rect.unit (s := S1024x3072) ![32 * g, 0] S32x3072.size hB) (fun _ => rfl)) Finset.univ q
          (fun y => V ((Rect.unit (s := S1024x3072) ![32 * g, 0] S32x3072.size hB).emb y)) := by
    intro sp m q
    rw [← blk_set hB, hold_slice (fun _ => rfl)]
  iintro ⟨HS, HD, HB⟩
  ihave HD' := (Entails.of_eq (congrArg (Any (d.tc) dst) (blk_set hB).symm)) $$ HD
  ihave HDs := (any_slice (c := d.tc) (m := dst) (r := Rect.unit (s := S1024x3072) ![32 * g, 0] S32x3072.size hB) (fun _ => rfl)) $$ HD'
  ihave HS' := (Entails.of_eq (e src q)) $$ HS
  iapply (dma_lift d (D := fun i : Fin 32 => BlkOut d src dst q V i.val) (blkN dst) rfl hg (Nat.zero_le _)
    (by
      show _ ⊢ BlkOut d src dst q V g
      unfold BlkOut
      rw [e dst, e src]))
  isplitl [HS']; · iexact HS'
  isplitl [HDs]; · iexact HDs
  iexact HB

/-- Wait for all the copies out by one wait for the whole buffer. -/
theorem waitOut_wp {h1 : src.view.WordExact} {h2 : dst.view.WordExact} :
    (iprop(Outs d src dst sem q V 32 ∗ Ow d) : sProp 𝕄)
      ⊢ WP (Prog.lift (.waitDma2 sem.sem src dst h1 h2) : P F Unit)
          fun _ => iprop((bigSep (Finset.univ : Finset (Fin 32)) fun i => BlkOut d src dst q V i.val) ∗ semVal (d.tc, .dma sem.sem) 0 ∗ Ow d) := by
  have hN0 : 0 < blkN dst := View.dmaCredit_pos _ (by decide)
  unfold Outs Ow
  iintro ⟨HB, ⟨%W, HO⟩⟩
  iapply (Transfers.wp_waitBatchAll EC 𝒱₀ (d.tc) none (srcw := src) (dstw := dst) (hsrc := h1) (hdst := h2) (sem := sem.sem) (k := .ret) () (N := blkN dst) rfl hN0 (D := fun i : Fin 32 => BlkOut d src dst q V i.val) (u := 0)
    (by
      rw [Nat.zero_add]
      show RefSig.tileCredit S1024x3072 .bf16 = RefSig.tileCredit S32x3072 .bf16 * 32
      decide) (W := W)) $$ [HB HO]
  · isplitl [HB]; · iexact HB
    iexact HO
  iintro ⟨HB, HS, HO⟩
  rw [wp_ret]
  imodintro
  isplitl [HB]; · iexact HB
  isplitl [HS]; · iexact HS
  iexists _; iexact HO

end Out

end Cert.Kernel.Emb
end
-- ==== Proof.Unrolled.lean ====
/- The printed kernel is the composition of the steps of `Steps.lean`: its loops' regions and its body unroll them. -/
module

public import proofs.«01_k».proof.Proof.Steps

@[expose] public section

set_option maxRecDepth 65536

noncomputable section

namespace Cert.Kernel.Emb

open Idealize.ShloMosaic Idealize.SL.Sem Cert.Kernel.Gen

variable {F : FTy → Type} [FloatOps F]

set_option maxHeartbeats 4000000 in
/-- A prologue trip starts one group's row copies. -/
theorem t1_body_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (k : Fin k0_t1_loop.trips) (u : Unit) (hI hS hD) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k u
      = startRows arg0 arg1 arg8 arg15 k0_chk1 k0_chk1.dec (fun _ h => h) (fun i => (rowWord (Scf.iv 0#32 1#32 k) i).toNat)
          (cellWord (Scf.iv 0#32 1#32 k)).toNat hI hS hD := rfl

/-- `n mod 2` as the kernel computes it. -/
def slotWord (g : BitVec 32) : BitVec 32 :=
  let n : BitVec 32 := Scalar.select (Scalar.cmpi .eq 2#32 0#32) 1#32 2#32
  let r : BitVec 32 := Scalar.remsi g n
  Scalar.select (Scalar.andi (Scalar.xori (Scalar.cmpi .slt r 0#32) (Scalar.cmpi .slt n 0#32)) (Scalar.cmpi .ne r 0#32)) (Scalar.addi r n) r

/-- The group of trip `k` of the main loop. -/
def grp (k : Fin k0_t2_loop.trips) : BitVec 32 := Scf.iv 1#32 1#32 k
/-- The group before it. -/
def prv (k : Fin k0_t2_loop.trips) : BitVec 32 := Scalar.subi (grp k) 1#32
/-- The group started ahead of it. -/
def nxt (k : Fin k0_t2_loop.trips) : BitVec 32 := Scalar.subi (Scalar.addi (grp k) 8#32) 1#32

/-- A composition whose first step is itself one, associated to the right. -/
theorem reassoc {α β γ} {x : P F α} {t : P F β} (f : α → P F β) (g : β → P F γ) {r : α → P F γ}
    (ht : t = Prog.bind x f) (h : ∀ a, Prog.bind (f a) g = r a) : Prog.bind t g = Prog.bind x r := by
  subst ht; rw [show Prog.bind (Prog.bind x f) g = Prog.bind x (fun a => Prog.bind (f a) g) from Prog.bind_assoc x f g]
  exact congrArg _ (funext h)

set_option maxHeartbeats 400000 in
/-- The trip's statements around the start of the group ahead, that part given. -/
theorem t2_around (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k0_t2 : Fin k0_t2_loop.trips) (u : Unit) (p50 : BitVec 32 → BitVec 32 → BitVec 32 → Prog (TpuEff nD τ sig (Elt F) Λ₀ .tc) (Σ' (v1788 : BitVec 32) (v1790 : Vec F S32x128 .i32) (v1792 : Vec F S32x128 .bf16) (v1794 : Vec F S32x128 .bf16) (v1811 : FVec F S32x128 .f32), FVec F S32x128 .f32))
    (he : ∀ a b c, k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 a b c = p50 a b c) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k0_t2 u = (do
      let ⟨arg18, v1296, c2_i32_469⟩ : Σ' (arg18 : BitVec 32) (v1296 : BitVec 32), BitVec 32 ← k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 1#32 1#32 k0_t2
      let ⟨c8_i32_492, v1330⟩ : Σ' (c8_i32_492 : BitVec 32), BitVec 1 ← k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1296 c2_i32_469
      let ⟨v1363, v1364, c0_i32_517⟩ : Σ' (v1363 : BitVec 32) (v1364 : BitVec 32), BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 c8_i32_492 v1330
      let ⟨v1395, v1396, v1397, v1398, c0_i32_541⟩ : Σ' (v1395 : BitVec 32) (v1396 : BitVec 32) (v1397 : BitVec 1) (v1398 : BitVec 1), BitVec 32 ← k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1363 v1364 c0_i32_517
      let ⟨v1428, v1433, v1434⟩ : Σ' (v1428 : BitVec 32) (v1433 : BitVec 1), BitVec 32 ← k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1395 v1396 v1397 v1398 c0_i32_541
      k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1428 v1433 v1434
      k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18
      let ⟨v1536, c17_i32_634⟩ : Σ' (v1536 : BitVec 32), BitVec 32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18
      let ⟨c8_i32_657, v1570⟩ : Σ' (c8_i32_657 : BitVec 32), BitVec 1 ← k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1536 c17_i32_634
      let ⟨v1603, v1604, c0_i32_682⟩ : Σ' (v1603 : BitVec 32) (v1604 : BitVec 32), BitVec 32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 c8_i32_657 v1570
      let ⟨v1635, v1636, v1637, v1638, c0_i32_706⟩ : Σ' (v1635 : BitVec 32) (v1636 : BitVec 32) (v1637 : BitVec 1) (v1638 : BitVec 1), BitVec 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1603 v1604 c0_i32_682
      let ⟨v1668, v1673, v1674⟩ : Σ' (v1668 : BitVec 32) (v1673 : BitVec 1), BitVec 32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1635 v1636 v1637 v1638 c0_i32_706
      k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1668 v1673 v1674
      k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18
      let ⟨v1776, c32_i32_799⟩ : Σ' (v1776 : BitVec 32), BitVec 32 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18
      let ⟨v1788, v1790, v1792, v1794, v1811, v1817⟩ : Σ' (v1788 : BitVec 32) (v1790 : Vec F S32x128 .i32) (v1792 : Vec F S32x128 .bf16) (v1794 : Vec F S32x128 .bf16) (v1811 : FVec F S32x128 .f32), FVec F S32x128 .f32 ← p50 arg18 v1776 c32_i32_799
      let ⟨v1859, v1865⟩ : Σ' (v1859 : FVec F S32x128 .f32), FVec F S32x128 .f32 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v1811 v1817
      let ⟨v1907, v1913⟩ : Σ' (v1907 : FVec F S32x128 .f32), FVec F S32x128 .f32 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v1859 v1865
      let ⟨v1955, v1961⟩ : Σ' (v1955 : FVec F S32x128 .f32), FVec F S32x128 .f32 ← k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v1907 v1913
      let ⟨v2003, v2009⟩ : Σ' (v2003 : FVec F S32x128 .f32), FVec F S32x128 .f32 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v1955 v1961
      let ⟨v2051, v2057⟩ : Σ' (v2051 : FVec F S32x128 .f32), FVec F S32x128 .f32 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v2003 v2009
      let ⟨v2099, v2105⟩ : Σ' (v2099 : FVec F S32x128 .f32), FVec F S32x128 .f32 ← k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v2051 v2057
      let ⟨v2147, v2153⟩ : Σ' (v2147 : FVec F S32x128 .f32), FVec F S32x128 .f32 ← k0_part57 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v2099 v2105
      let ⟨v2194, v2196⟩ : Σ' (v2194 : BitVec 32), BitVec 32 ← k0_part58 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1788 v1790 v1792 v1794 v2147 v2153
      let ⟨v2218, v2236, v2237⟩ : Σ' (v2218 : FVec F S32x128 .f32) (v2236 : FVec F S32x128 .f32), Vec F S1x128 .bf16 ← k0_part59 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2194 v2196
      let ⟨v2278, v2282⟩ : Σ' (v2278 : FVec F S32x128 .f32), FVec F S32x128 .f32 ← k0_part60 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2236 v2237
      let v2326 : FVec F S32x128 .bf16 ← k0_part61 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2278 v2282
      let v2368 : FVec F S32x128 .bf16 ← k0_part62 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2326
      k0_part63 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2368
      let v2459 : FVec F S32x128 .f32 ← k0_part64 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218
      let v2502 : FVec F S32x128 .f32 ← k0_part65 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2459
      let ⟨v2544, v2547⟩ : Σ' (v2544 : FVec F S32x128 .f32), FVec F S1x128 .f32 ← k0_part66 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2502
      let v2552 : Vec F S32x128 .bf16 ← Prog.lift (.load arg10 (Rect.unit (s := S1024x3072) (k0_off310 k0_t2) S32x128.size (k0_off310_inb k0_t2)).toLoadRect (View.loadsAt_vmem h_S32x128))
      Prog.lift (.store arg10 (Rect.unit (s := S1024x3072) (k0_off310 k0_t2) S32x128.size (k0_off310_inb k0_t2)) (k0_pay231 v2544 v2547) Finset.univ (View.stores_vmem h_S32x128 (harg10.storeExact_slice rfl _ (k0_off310_packedbf16 k0_t2)) (fun _ => rfl)) (.inl rfl))
      let v2560 : Memref sig .tc .hbm S32x3072 .bf16 := arg6.slice (Rect.unit (s := S1024x3072) (k0_off131 k0_t2) S32x3072.size (k0_off131_inb k0_t2)) (fun _ => rfl)
      let v2561 : Memref sig .tc .vmem S32x3072 .bf16 := arg10.slice (Rect.unit (s := S1024x3072) (k0_off131 k0_t2) S32x3072.size (k0_off131_inb k0_t2)) (fun _ => rfl)
      Prog.lift (.enqueueDma v2561 (.here v2560) (.dma arg17.sem) (harg10.wordExact_slice rfl _ (k0_off131_wordsbf16 k0_t2)) (harg6.wordExact_slice rfl _ (k0_off131_wordsbf16 k0_t2)) ⟨Or.inl rfl, trivial⟩)
      pure ⟨⟩) := by
  have e : p50 = fun a b c => k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 a b c := funext fun a => funext fun b => funext fun c => (he a b c).symm
  rw [e]; rfl

set_option maxHeartbeats 400000 in
theorem part50_pos (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k0_t2 : Fin k0_t2_loop.trips) (arg18 a b) (h : k0_cond1 k0_t2 = 1#1) (hI' hS' hD') :
    k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (F := F) k0_t2 arg18 a b = (do
      let v1781 : Memref sig .tc .hbm S32x3072 .bf16 := arg7.slice (Rect.unit (s := S1024x3072) (k0_off131 k0_t2) S32x3072.size (k0_off131_inb k0_t2)) (fun _ => rfl)
      let v1782 : Memref sig .tc .vmem S32x3072 .bf16 := arg9.slice (Rect.unit (s := S1024x3072) (k0_off131 k0_t2) S32x3072.size (k0_off131_inb k0_t2)) (fun _ => rfl)
      Prog.lift (.enqueueDma v1782 (.here v1781) (.dma arg16.sem) (harg9.wordExact_slice rfl _ (k0_off131_wordsbf16 k0_t2)) (harg7.wordExact_slice rfl _ (k0_off131_wordsbf16 k0_t2)) ⟨Or.inl rfl, trivial⟩)
      startRows arg0 arg1 arg8 arg15 (k0_chk33 k0_t2) (k0_chk33.dec k0_t2) (fun _ hc => hc h) (fun i => (rowWord (nxt k0_t2) i).toNat)
            (cellWord (nxt k0_t2)).toNat hI' hS' hD'
      let v1787 : BitVec 32 := Scalar.muli arg18 32#32
      let v1788 : BitVec 32 := v1787
      let v1790 : Vec F S32x128 .i32 ← Prog.lift (.load arg12 (Rect.unit (s := S1024x128) (k0_off260 k0_t2) S32x128.size (k0_off260_inb k0_t2)).toLoadRect (View.loadsAt_vmem h_S32x128))
      let v1792 : Vec F S32x128 .bf16 ← Prog.lift (.load arg13 (Rect.unit (s := S1024x128) (k0_off260 k0_t2) S32x128.size (k0_off260_inb k0_t2)).toLoadRect (View.loadsAt_vmem h_S32x128))
      let v1794 : Vec F S32x128 .bf16 ← Prog.lift (.load arg14 (Rect.unit (s := S1024x128) (k0_off260 k0_t2) S32x128.size (k0_off260_inb k0_t2)).toLoadRect (View.loadsAt_vmem h_S32x128))
      let v1797 : Vec F S32x128 .i32 ← Prog.lift (.load arg8 (Rect.unit (s := S1024x3072) (k0_off261 k0_t2) S32x128.size (k0_off261_inb k0_t2)).toLoadRect (View.loadsAt_vmem h_S32x128))
      let v1806 : Vec F S32x128 .bf16 ← Prog.lift (.load arg9 (Rect.unit (s := S1024x3072) (k0_off261 k0_t2) S32x128.size (k0_off261_inb k0_t2)).toLoadRect (View.loadsAt_vmem h_S32x128))
      Prog.lift (.store arg9 (Rect.unit (s := S1024x3072) (k0_off261 k0_t2) S32x128.size (k0_off261_inb k0_t2)) (k0_pay3 v1790 v1792 v1794 v1797) Finset.univ (View.stores_vmem h_S32x128 (harg9.storeExact_slice rfl _ (k0_off261_packedbf16 k0_t2)) (fun _ => rfl)) (.inl rfl))
      let v1813 : Vec F S32x128 .i32 ← Prog.lift (.load arg8 (Rect.unit (s := S1024x3072) (k0_off262 k0_t2) S32x128.size (k0_off262_inb k0_t2)).toLoadRect (View.loadsAt_vmem h_S32x128))
      pure ⟨v1788, v1790, v1792, v1794, k0_pay4 v1790 v1792 v1794 v1797, k0_pay5 v1790 v1813⟩) :=
  (congrArg (Prog.op _) (funext fun _ => dif_pos h)).trans rfl

set_option maxHeartbeats 400000 in
theorem part50_neg (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k0_t2 : Fin k0_t2_loop.trips) (arg18 a b) (h : ¬ k0_cond1 k0_t2 = 1#1)  :
    k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (F := F) k0_t2 arg18 a b = (do
      let v1781 : Memref sig .tc .hbm S32x3072 .bf16 := arg7.slice (Rect.unit (s := S1024x3072) (k0_off131 k0_t2) S32x3072.size (k0_off131_inb k0_t2)) (fun _ => rfl)
      let v1782 : Memref sig .tc .vmem S32x3072 .bf16 := arg9.slice (Rect.unit (s := S1024x3072) (k0_off131 k0_t2) S32x3072.size (k0_off131_inb k0_t2)) (fun _ => rfl)
      Prog.lift (.enqueueDma v1782 (.here v1781) (.dma arg16.sem) (harg9.wordExact_slice rfl _ (k0_off131_wordsbf16 k0_t2)) (harg7.wordExact_slice rfl _ (k0_off131_wordsbf16 k0_t2)) ⟨Or.inl rfl, trivial⟩)
      pure ()
      let v1787 : BitVec 32 := Scalar.muli arg18 32#32
      let v1788 : BitVec 32 := v1787
      let v1790 : Vec F S32x128 .i32 ← Prog.lift (.load arg12 (Rect.unit (s := S1024x128) (k0_off260 k0_t2) S32x128.size (k0_off260_inb k0_t2)).toLoadRect (View.loadsAt_vmem h_S32x128))
      let v1792 : Vec F S32x128 .bf16 ← Prog.lift (.load arg13 (Rect.unit (s := S1024x128) (k0_off260 k0_t2) S32x128.size (k0_off260_inb k0_t2)).toLoadRect (View.loadsAt_vmem h_S32x128))
      let v1794 : Vec F S32x128 .bf16 ← Prog.lift (.load arg14 (Rect.unit (s := S1024x128) (k0_off260 k0_t2) S32x128.size (k0_off260_inb k0_t2)).toLoadRect (View.loadsAt_vmem h_S32x128))
      let v1797 : Vec F S32x128 .i32 ← Prog.lift (.load arg8 (Rect.unit (s := S1024x3072) (k0_off261 k0_t2) S32x128.size (k0_off261_inb k0_t2)).toLoadRect (View.loadsAt_vmem h_S32x128))
      let v1806 : Vec F S32x128 .bf16 ← Prog.lift (.load arg9 (Rect.unit (s := S1024x3072) (k0_off261 k0_t2) S32x128.size (k0_off261_inb k0_t2)).toLoadRect (View.loadsAt_vmem h_S32x128))
      Prog.lift (.store arg9 (Rect.unit (s := S1024x3072) (k0_off261 k0_t2) S32x128.size (k0_off261_inb k0_t2)) (k0_pay3 v1790 v1792 v1794 v1797) Finset.univ (View.stores_vmem h_S32x128 (harg9.storeExact_slice rfl _ (k0_off261_packedbf16 k0_t2)) (fun _ => rfl)) (.inl rfl))
      let v1813 : Vec F S32x128 .i32 ← Prog.lift (.load arg8 (Rect.unit (s := S1024x3072) (k0_off262 k0_t2) S32x128.size (k0_off262_inb k0_t2)).toLoadRect (View.loadsAt_vmem h_S32x128))
      pure ⟨v1788, v1790, v1792, v1794, k0_pay4 v1790 v1792 v1794 v1797, k0_pay5 v1790 v1813⟩) :=
  (congrArg (Prog.op _) (funext fun _ => dif_neg h)).trans rfl

set_option maxHeartbeats 400000 in
/-- A trip of the main loop: wait for the group's rows, copy the group before out, start a group ahead, dequantise the
    group, normalise the group before and copy that out. -/
theorem t2_body_eq_pos (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k : Fin k0_t2_loop.trips) (u : Unit) (h : k0_cond1 k = 1#1) (hS hD hB hW) (hI' hS' hD') (hC hT hP hQ hT' hP' hQ') :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u
      = (do
        waitRows arg1 arg8 arg15 (fun i => (rowWord (grp k) i).toNat) (cellWord (grp k)).toNat hS hD
        copyOut arg9 harg9 arg7 harg7 arg16 (Scalar.muli (prv k) 32#32).toNat hB hW
        startRows arg0 arg1 arg8 arg15 (k0_chk33 k) (k0_chk33.dec k) (fun _ hc => hc h) (fun i => (rowWord (nxt k) i).toNat)
            (cellWord (nxt k)).toNat hI' hS' hD'
        dequant arg8 arg9 harg9 arg11 arg12 arg13 arg14 (Scalar.muli (grp k) 32#32).toNat (slotWord (grp k)).toNat hC hT hP hQ
        normalise arg5 arg9 arg10 harg10 arg11 (Scalar.muli (prv k) 32#32).toNat (slotWord (prv k)).toNat hT' hP' hQ'
        copyOut arg10 harg10 arg6 harg6 arg17 (Scalar.muli (prv k) 32#32).toNat hB hW) :=
  (t2_around arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u _ (fun a b c => part50_pos arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k a b c h hI' hS' hD')).trans rfl

set_option maxHeartbeats 400000 in
/-- A trip with no group left to start. -/
theorem t2_body_eq_neg (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k : Fin k0_t2_loop.trips) (u : Unit) (h : ¬ k0_cond1 k = 1#1) (hS hD hB hW)  (hC hT hP hQ hT' hP' hQ') :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u
      = (do
        waitRows arg1 arg8 arg15 (fun i => (rowWord (grp k) i).toNat) (cellWord (grp k)).toNat hS hD
        copyOut arg9 harg9 arg7 harg7 arg16 (Scalar.muli (prv k) 32#32).toNat hB hW
        dequant arg8 arg9 harg9 arg11 arg12 arg13 arg14 (Scalar.muli (grp k) 32#32).toNat (slotWord (grp k)).toNat hC hT hP hQ
        normalise arg5 arg9 arg10 harg10 arg11 (Scalar.muli (prv k) 32#32).toNat (slotWord (prv k)).toNat hT' hP' hQ'
        copyOut arg10 harg10 arg6 harg6 arg17 (Scalar.muli (prv k) 32#32).toNat hB hW) :=
  (t2_around arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u _ (fun a b c => part50_neg arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k a b c h)).trans rfl

set_option maxHeartbeats 400000 in
/-- The body from the main loop on. -/
theorem tail_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (hB hW hT' hP' hQ') :
    (do
      let ⟨v912, v923, v941⟩ : Σ' (v912 : BitVec 32) (v923 : FVec F S32x128 .f32), FVec F S32x128 .f32 ← (do
          Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906)
          let v910 : Memref sig .tc .hbm S32x3072 .bf16 := arg7.slice (Rect.unit (s := S1024x3072) ![992, 0] S32x3072.size inb_S1024x3072_S32x3072_992_0) (fun _ => rfl)
          let v911 : Memref sig .tc .vmem S32x3072 .bf16 := arg9.slice (Rect.unit (s := S1024x3072) ![992, 0] S32x3072.size inb_S1024x3072_S32x3072_992_0) (fun _ => rfl)
          Prog.lift (.enqueueDma v911 (.here v910) (.dma arg16.sem) (harg9.wordExact_slice rfl _ wordsbf16_S1024x3072_S32x3072_992_0) (harg7.wordExact_slice rfl _ wordsbf16_S1024x3072_S32x3072_992_0) ⟨Or.inl rfl, trivial⟩)
          let v912 : BitVec 32 := 992#32
          let v913 : Vec F S1x32x128 .f32 ← Prog.lift (.load arg11 (Rect.unit (s := S2x32x128) ![1, 0, 0] S1x32x128.size inb_S2x32x128_S1x32x128_1_0_0).toLoadRect (View.loadsAt_vmem h_S1x32x128))
          let v925 : Vec F S32x128 .bf16 ← Prog.lift (.load arg9 (Rect.unit (s := S1024x3072) ![992, 0] S32x128.size inb_S1024x3072_S32x128_992_0).toLoadRect (View.loadsAt_vmem h_S32x128))
          let v928 : Vec F S1x128 .bf16 ← Prog.lift (.load arg5 (Rect.unit (s := S1x3072) ![0, 0] S1x128.size inb_S1x3072_S1x128_0_0).toLoadRect (View.loadsAt_vmem h_S1x128))
          let v935 : Vec F S32x128 .bf16 ← Prog.lift (.load arg10 (Rect.unit (s := S1024x3072) ![992, 0] S32x128.size inb_S1024x3072_S32x128_992_0).toLoadRect (View.loadsAt_vmem h_S32x128))
          Prog.lift (.store arg10 (Rect.unit (s := S1024x3072) ![992, 0] S32x128.size inb_S1024x3072_S32x128_992_0) (k0_pay233 v913 v925 v928) Finset.univ (View.stores_vmem h_S32x128 (harg10.storeExact_slice rfl _ packedbf16_S1024x3072_S32x128_992_0) (fun _ => rfl)) (.inl rfl))
          let v939 : Vec F S32x128 .bf16 ← Prog.lift (.load arg9 (Rect.unit (s := S1024x3072) ![992, 128] S32x128.size inb_S1024x3072_S32x128_992_128).toLoadRect (View.loadsAt_vmem h_S32x128))
          pure ⟨v912, k0_pay232 v913, k0_pay234 v913 v939⟩ : Prog (TpuEff nD τ sig (Elt F) Λ₀ .tc) (Σ' (v912 : BitVec 32) (v923 : FVec F S32x128 .f32), FVec F S32x128 .f32))
      let ⟨v983, v985⟩ : Σ' (v983 : FVec F S32x128 .f32), FVec F S1x128 .bf16 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v941
      let v1030 : FVec F S32x128 .f32 ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v983 v985
      let v1073 : FVec F S32x128 .bf16 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1030
      let v1119 : FVec F S32x128 .bf16 ← k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1073
      k0_part95 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1119
      let v1207 : FVec F S32x128 .f32 ← k0_part96 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923
      let ⟨v1249, v1250⟩ : Σ' (v1249 : FVec F S32x128 .f32), Vec F S1x128 .bf16 ← k0_part97 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1207
      let v1257 : Vec F S32x128 .bf16 ← Prog.lift (.load arg10 (Rect.unit (s := S1024x3072) ![992, 2944] S32x128.size inb_S1024x3072_S32x128_992_2944).toLoadRect (View.loadsAt_vmem h_S32x128))
      Prog.lift (.store arg10 (Rect.unit (s := S1024x3072) ![992, 2944] S32x128.size inb_S1024x3072_S32x128_992_2944) (k0_pay1 v1249 v1250) Finset.univ (View.stores_vmem h_S32x128 (harg10.storeExact_slice rfl _ packedbf16_S1024x3072_S32x128_992_2944) (fun _ => rfl)) (.inl rfl))
      let v1262 : Memref sig .tc .hbm S32x3072 .bf16 := arg6.slice (Rect.unit (s := S1024x3072) ![992, 0] S32x3072.size inb_S1024x3072_S32x3072_992_0) (fun _ => rfl)
      let v1263 : Memref sig .tc .vmem S32x3072 .bf16 := arg10.slice (Rect.unit (s := S1024x3072) ![992, 0] S32x3072.size inb_S1024x3072_S32x3072_992_0) (fun _ => rfl)
      Prog.lift (.enqueueDma v1263 (.here v1262) (.dma arg17.sem) (harg10.wordExact_slice rfl _ wordsbf16_S1024x3072_S32x3072_992_0) (harg6.wordExact_slice rfl _ wordsbf16_S1024x3072_S32x3072_992_0) ⟨Or.inl rfl, trivial⟩)
      Prog.lift (.waitDma2 arg16.sem arg9 arg7 harg9.wordExact harg7.wordExact)
      Prog.lift (.waitDma2 arg17.sem arg10 arg6 harg10.wordExact harg6.wordExact)
      pure ⟨⟩) = (do
        Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906)
        copyOut arg9 harg9 arg7 harg7 arg16 992 hB hW
        normalise arg5 arg9 arg10 harg10 arg11 992 1 hT' hP' hQ'
        copyOut arg10 harg10 arg6 harg6 arg17 992 hB hW
        Prog.lift (.waitDma2 arg16.sem arg9 arg7 harg9.wordExact harg7.wordExact)
        Prog.lift (.waitDma2 arg17.sem arg10 arg6 harg10.wordExact harg6.wordExact)) := reassoc _ _ rfl (fun _ => rfl)

set_option maxHeartbeats 400000 in
/-- The statements after the prologue's loop select the parameters and wait for rows 0 to 26, whatever follows. -/
theorem head_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (hS : ∀ a, (![0] : Fin 1 → ℕ) a + S1.size a ≤ S8.size a) (hD : ∀ i : Fin 32, ∀ a, (![i.val, 0] : Fin 2 → ℕ) a + S1x3072.size a ≤ S1024x3072.size a) (K : P F Unit) : Prog.bind (do
      let v1 : Vec F S63x128 .f32 ← Prog.lift (.load arg3 (Rect.unit (s := S63x128) ![0, 0] S63x128.size inb_S63x128_S63x128_0_0).toLoadRect (View.loadsAt_vmem h_S63x128))
      let v4 : Vec F S63x128 .bf16 ← Prog.lift (.load arg4 (Rect.unit (s := S63x128) ![0, 0] S63x128.size inb_S63x128_S63x128_0_0).toLoadRect (View.loadsAt_vmem h_S63x128))
      have v7 : IVec S128x128 32 := iota .tc S128x128 32 [1] iota_S128x128_d1_w32
      let v8 : Vec F S1x128 .i32 ← Prog.lift (.load arg2 (Rect.unit (s := S1x1024) ![0, 0] S1x128.size inb_S1x1024_S1x128_0_0).toLoadRect (View.loadsAt_vmem h_S1x128))
      let v37 : Vec F S128x128 .bf16 ← Prog.lift (.load arg13 (Rect.unit (s := S1024x128) ![0, 0] S128x128.size inb_S1024x128_S128x128_0_0).toLoadRect (View.loadsAt_vmem h_S128x128))
      pure ⟨k0_pay100 v1 v4, v7, k0_pay101 v8, k0_pay104 v1 v4 v8, k0_pay105 v1 v4 v8⟩ : P F _) (fun x => do
      let ⟨v6, v7, v11, v33, v39⟩ : Σ' (v6 : FVec F S63x256 .bf16) (v7 : IVec S128x128 32) (v11 : IVec S128x128 32) (v33 : FVec F S128x1 .f32), FVec F S128x128 .bf16 := x
      let ⟨v58, v75, v80⟩ : Σ' (v58 : IVec S128x128 32) (v75 : FVec F S128x1 .f32), FVec F S128x1 .f32 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v11 v33 v39
      let ⟨v105, v114, v117, v121⟩ : Σ' (v105 : IVec S128x128 32) (v114 : FVec F S128x256 .f32) (v117 : IVec S128x128 1), FVec F S128 .f32 ← k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v58 v75 v80
      let ⟨v152, v161, v162⟩ : Σ' (v152 : IVec S128x128 32) (v161 : FVec F S128x256 .f32), IVec S128x128 32 ← k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v105 v114 v117 v121
      let ⟨v199, v200, v203⟩ : Σ' (v199 : IVec S128x128 32) (v200 : IVec S128x63 32), IVec S128x63 32 ← k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v7 v152 v161 v162
      let v243 : Vec F S1x128 .i32 ← k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v199 v200 v203
      let v286 : IVec S128x128 32 ← k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v243
      let ⟨v293, v328⟩ : Σ' (v293 : IVec S128x128 32), IVec S128x128 32 ← k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v286
      let ⟨v340, v371⟩ : Σ' (v340 : IVec S128x128 32), FVec F S128x128 .bf16 ← k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v293 v328
      k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v340 v371
      k0_part77 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part78 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part79 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      K) = (do
        chunks arg2 arg3 arg4 arg12 arg13 harg13 arg14 harg14
        each (fun i : Fin 32 => waitRow (F := F) arg1 arg8 arg15 ![0] hS ![i.val, 0] (hD i)) (l32.take 27)
        K) := rfl

set_option maxHeartbeats 400000 in
/-- Then they wait for the others and dequantise the group. -/
theorem first_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (hS : ∀ a, (![0] : Fin 1 → ℕ) a + S1.size a ≤ S8.size a) (hD : ∀ i : Fin 32, ∀ a, (![i.val, 0] : Fin 2 → ℕ) a + S1x3072.size a ≤ S1024x3072.size a) (hC hT hP hQ) (K : FVec F S1x32x128 .f32 → P F Unit) : (do
      let ⟨v512, v514, v516, v518, v519, v522, v523⟩ : Σ' (v512 : BitVec 32) (v514 : Vec F S32x128 .i32) (v516 : Vec F S32x128 .bf16) (v518 : Vec F S32x128 .bf16) (v519 : FVec F S32x128 .f32) (v522 : IVec S32x128 32), IVec S32x128 32 ← k0_part81 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      let ⟨v567, v570, v571⟩ : Σ' (v567 : FVec F S32x128 .f32) (v570 : IVec S32x128 32), IVec S32x128 32 ← k0_part82 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v519 v522 v523
      let ⟨v615, v618, v619⟩ : Σ' (v615 : FVec F S32x128 .f32) (v618 : IVec S32x128 32), IVec S32x128 32 ← k0_part83 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v567 v570 v571
      let ⟨v663, v666, v667⟩ : Σ' (v663 : FVec F S32x128 .f32) (v666 : IVec S32x128 32), IVec S32x128 32 ← k0_part84 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v615 v618 v619
      let ⟨v711, v714, v715⟩ : Σ' (v711 : FVec F S32x128 .f32) (v714 : IVec S32x128 32), IVec S32x128 32 ← k0_part85 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v663 v666 v667
      let ⟨v759, v762, v763⟩ : Σ' (v759 : FVec F S32x128 .f32) (v762 : IVec S32x128 32), IVec S32x128 32 ← k0_part86 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v711 v714 v715
      let ⟨v807, v810, v811⟩ : Σ' (v807 : FVec F S32x128 .f32) (v810 : IVec S32x128 32), IVec S32x128 32 ← k0_part87 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v759 v762 v763
      let ⟨v855, v858, v859⟩ : Σ' (v855 : FVec F S32x128 .f32) (v858 : IVec S32x128 32), IVec S32x128 32 ← k0_part88 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v807 v810 v811
      let v906 : FVec F S1x32x128 .f32 ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v855 v858 v859
      K v906 : P F Unit) = (do
        each (fun i : Fin 32 => waitRow (F := F) arg1 arg8 arg15 ![0] hS ![i.val, 0] (hD i)) (l32.drop 27)
        let sq ← dqRows arg8 arg9 harg9 arg12 arg13 arg14 0 hC hT hP
        let _ : Vec F S1x32x128 .f32 ← Prog.lift (.load arg11 (Rect.unit (s := S2x32x128) ![0, 0, 0] S1x32x128.size hQ).toLoadRect (View.loadsAt_vmem h_S1x32x128))
        K (shapeCast S1x32x128 sq shapeCasts_S32x128_S1x32x128)) := rfl

set_option maxHeartbeats 400000 in
theorem joined_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (hS : ∀ a, (![0] : Fin 1 → ℕ) a + S1.size a ≤ S8.size a) (hD : ∀ i : Fin 32, ∀ a, (![i.val, 0] : Fin 2 → ℕ) a + S1x3072.size a ≤ S1024x3072.size a) (hC hT hP hQ) (K : FVec F S1x32x128 .f32 → P F Unit) : (do
        each (fun i : Fin 32 => waitRow (F := F) arg1 arg8 arg15 ![0] hS ![i.val, 0] (hD i)) (l32.take 27)
        each (fun i : Fin 32 => waitRow (F := F) arg1 arg8 arg15 ![0] hS ![i.val, 0] (hD i)) (l32.drop 27)
        let sq ← dqRows arg8 arg9 harg9 arg12 arg13 arg14 0 hC hT hP
        let _ : Vec F S1x32x128 .f32 ← Prog.lift (.load arg11 (Rect.unit (s := S2x32x128) ![0, 0, 0] S1x32x128.size hQ).toLoadRect (View.loadsAt_vmem h_S1x32x128))
        let v906 : FVec F S1x32x128 .f32 := shapeCast S1x32x128 sq shapeCasts_S32x128_S1x32x128
        Prog.lift (.store arg11 (Rect.unit (s := S2x32x128) ![0, 0, 0] S1x32x128.size inb_S2x32x128_S1x32x128_0_0_0) v906 Finset.univ (View.stores_vmem_bits_univ h_S1x32x128 rfl) (.inl rfl))
        K v906 : P F Unit) = (do
        waitRows arg1 arg8 arg15 (fun i => i.val) 0 hS hD
        let sq ← dqRows arg8 arg9 harg9 arg12 arg13 arg14 0 hC hT hP
        sqStore arg11 0 hQ sq
        K (shapeCast S1x32x128 sq shapeCasts_S32x128_S1x32x128)) := rfl

set_option maxHeartbeats 400000 in
/-- The kernel's body. -/
theorem body_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (hS : ∀ a, (![0] : Fin 1 → ℕ) a + S1.size a ≤ S8.size a) (hD : ∀ i : Fin 32, ∀ a, (![i.val, 0] : Fin 2 → ℕ) a + S1x3072.size a ≤ S1024x3072.size a) (hC hT hP hQ) (hB hW hT' hP' hQ') :
    cc0_embed_rmsnorm (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      = (do
        Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17)
        chunks arg2 arg3 arg4 arg12 arg13 harg13 arg14 harg14
        waitRows arg1 arg8 arg15 (fun i => i.val) 0 hS hD
        let sq ← dqRows arg8 arg9 harg9 arg12 arg13 arg14 0 hC hT hP
        sqStore arg11 0 hQ sq
        Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (shapeCast S1x32x128 sq shapeCasts_S32x128_S1x32x128))
        copyOut arg9 harg9 arg7 harg7 arg16 992 hB hW
        normalise arg5 arg9 arg10 harg10 arg11 992 1 hT' hP' hQ'
        copyOut arg10 harg10 arg6 harg6 arg17 992 hB hW
        Prog.lift (.waitDma2 arg16.sem arg9 arg7 harg9.wordExact harg7.wordExact)
        Prog.lift (.waitDma2 arg17.sem arg10 arg6 harg10.wordExact harg6.wordExact)) := by
  let K : FVec F S1x32x128 .f32 → P F Unit := fun v906 => (do
      let ⟨v912, v923, v941⟩ : Σ' (v912 : BitVec 32) (v923 : FVec F S32x128 .f32), FVec F S32x128 .f32 ← (do
          Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906)
          let v910 : Memref sig .tc .hbm S32x3072 .bf16 := arg7.slice (Rect.unit (s := S1024x3072) ![992, 0] S32x3072.size inb_S1024x3072_S32x3072_992_0) (fun _ => rfl)
          let v911 : Memref sig .tc .vmem S32x3072 .bf16 := arg9.slice (Rect.unit (s := S1024x3072) ![992, 0] S32x3072.size inb_S1024x3072_S32x3072_992_0) (fun _ => rfl)
          Prog.lift (.enqueueDma v911 (.here v910) (.dma arg16.sem) (harg9.wordExact_slice rfl _ wordsbf16_S1024x3072_S32x3072_992_0) (harg7.wordExact_slice rfl _ wordsbf16_S1024x3072_S32x3072_992_0) ⟨Or.inl rfl, trivial⟩)
          let v912 : BitVec 32 := 992#32
          let v913 : Vec F S1x32x128 .f32 ← Prog.lift (.load arg11 (Rect.unit (s := S2x32x128) ![1, 0, 0] S1x32x128.size inb_S2x32x128_S1x32x128_1_0_0).toLoadRect (View.loadsAt_vmem h_S1x32x128))
          let v925 : Vec F S32x128 .bf16 ← Prog.lift (.load arg9 (Rect.unit (s := S1024x3072) ![992, 0] S32x128.size inb_S1024x3072_S32x128_992_0).toLoadRect (View.loadsAt_vmem h_S32x128))
          let v928 : Vec F S1x128 .bf16 ← Prog.lift (.load arg5 (Rect.unit (s := S1x3072) ![0, 0] S1x128.size inb_S1x3072_S1x128_0_0).toLoadRect (View.loadsAt_vmem h_S1x128))
          let v935 : Vec F S32x128 .bf16 ← Prog.lift (.load arg10 (Rect.unit (s := S1024x3072) ![992, 0] S32x128.size inb_S1024x3072_S32x128_992_0).toLoadRect (View.loadsAt_vmem h_S32x128))
          Prog.lift (.store arg10 (Rect.unit (s := S1024x3072) ![992, 0] S32x128.size inb_S1024x3072_S32x128_992_0) (k0_pay233 v913 v925 v928) Finset.univ (View.stores_vmem h_S32x128 (harg10.storeExact_slice rfl _ packedbf16_S1024x3072_S32x128_992_0) (fun _ => rfl)) (.inl rfl))
          let v939 : Vec F S32x128 .bf16 ← Prog.lift (.load arg9 (Rect.unit (s := S1024x3072) ![992, 128] S32x128.size inb_S1024x3072_S32x128_992_128).toLoadRect (View.loadsAt_vmem h_S32x128))
          pure ⟨v912, k0_pay232 v913, k0_pay234 v913 v939⟩ : Prog (TpuEff nD τ sig (Elt F) Λ₀ .tc) (Σ' (v912 : BitVec 32) (v923 : FVec F S32x128 .f32), FVec F S32x128 .f32))
      let ⟨v983, v985⟩ : Σ' (v983 : FVec F S32x128 .f32), FVec F S1x128 .bf16 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v941
      let v1030 : FVec F S32x128 .f32 ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v983 v985
      let v1073 : FVec F S32x128 .bf16 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1030
      let v1119 : FVec F S32x128 .bf16 ← k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1073
      k0_part95 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1119
      let v1207 : FVec F S32x128 .f32 ← k0_part96 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923
      let ⟨v1249, v1250⟩ : Σ' (v1249 : FVec F S32x128 .f32), Vec F S1x128 .bf16 ← k0_part97 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1207
      let v1257 : Vec F S32x128 .bf16 ← Prog.lift (.load arg10 (Rect.unit (s := S1024x3072) ![992, 2944] S32x128.size inb_S1024x3072_S32x128_992_2944).toLoadRect (View.loadsAt_vmem h_S32x128))
      Prog.lift (.store arg10 (Rect.unit (s := S1024x3072) ![992, 2944] S32x128.size inb_S1024x3072_S32x128_992_2944) (k0_pay1 v1249 v1250) Finset.univ (View.stores_vmem h_S32x128 (harg10.storeExact_slice rfl _ packedbf16_S1024x3072_S32x128_992_2944) (fun _ => rfl)) (.inl rfl))
      let v1262 : Memref sig .tc .hbm S32x3072 .bf16 := arg6.slice (Rect.unit (s := S1024x3072) ![992, 0] S32x3072.size inb_S1024x3072_S32x3072_992_0) (fun _ => rfl)
      let v1263 : Memref sig .tc .vmem S32x3072 .bf16 := arg10.slice (Rect.unit (s := S1024x3072) ![992, 0] S32x3072.size inb_S1024x3072_S32x3072_992_0) (fun _ => rfl)
      Prog.lift (.enqueueDma v1263 (.here v1262) (.dma arg17.sem) (harg10.wordExact_slice rfl _ wordsbf16_S1024x3072_S32x3072_992_0) (harg6.wordExact_slice rfl _ wordsbf16_S1024x3072_S32x3072_992_0) ⟨Or.inl rfl, trivial⟩)
      Prog.lift (.waitDma2 arg16.sem arg9 arg7 harg9.wordExact harg7.wordExact)
      Prog.lift (.waitDma2 arg17.sem arg10 arg6 harg10.wordExact harg6.wordExact)
      pure ⟨⟩)
  refine (reassoc (x := Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17))
    (t := k0_part67 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17)
    (fun _ => (do
      let v1 : Vec F S63x128 .f32 ← Prog.lift (.load arg3 (Rect.unit (s := S63x128) ![0, 0] S63x128.size inb_S63x128_S63x128_0_0).toLoadRect (View.loadsAt_vmem h_S63x128))
      let v4 : Vec F S63x128 .bf16 ← Prog.lift (.load arg4 (Rect.unit (s := S63x128) ![0, 0] S63x128.size inb_S63x128_S63x128_0_0).toLoadRect (View.loadsAt_vmem h_S63x128))
      have v7 : IVec S128x128 32 := iota .tc S128x128 32 [1] iota_S128x128_d1_w32
      let v8 : Vec F S1x128 .i32 ← Prog.lift (.load arg2 (Rect.unit (s := S1x1024) ![0, 0] S1x128.size inb_S1x1024_S1x128_0_0).toLoadRect (View.loadsAt_vmem h_S1x128))
      let v37 : Vec F S128x128 .bf16 ← Prog.lift (.load arg13 (Rect.unit (s := S1024x128) ![0, 0] S128x128.size inb_S1024x128_S128x128_0_0).toLoadRect (View.loadsAt_vmem h_S128x128))
      pure ⟨k0_pay100 v1 v4, v7, k0_pay101 v8, k0_pay104 v1 v4 v8, k0_pay105 v1 v4 v8⟩ : Prog (TpuEff nD τ sig (Elt F) Λ₀ .tc) (Σ' (v6 : FVec F S63x256 .bf16) (v7 : IVec S128x128 32) (v11 : IVec S128x128 32) (v33 : FVec F S128x1 .f32), FVec F S128x128 .bf16)))
    (fun x => do
      let ⟨v6, v7, v11, v33, v39⟩ : Σ' (v6 : FVec F S63x256 .bf16) (v7 : IVec S128x128 32) (v11 : IVec S128x128 32) (v33 : FVec F S128x1 .f32), FVec F S128x128 .bf16 := x
      let ⟨v58, v75, v80⟩ : Σ' (v58 : IVec S128x128 32) (v75 : FVec F S128x1 .f32), FVec F S128x1 .f32 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v11 v33 v39
      let ⟨v105, v114, v117, v121⟩ : Σ' (v105 : IVec S128x128 32) (v114 : FVec F S128x256 .f32) (v117 : IVec S128x128 1), FVec F S128 .f32 ← k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v58 v75 v80
      let ⟨v152, v161, v162⟩ : Σ' (v152 : IVec S128x128 32) (v161 : FVec F S128x256 .f32), IVec S128x128 32 ← k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v105 v114 v117 v121
      let ⟨v199, v200, v203⟩ : Σ' (v199 : IVec S128x128 32) (v200 : IVec S128x63 32), IVec S128x63 32 ← k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v7 v152 v161 v162
      let v243 : Vec F S1x128 .i32 ← k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v199 v200 v203
      let v286 : IVec S128x128 32 ← k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v243
      let ⟨v293, v328⟩ : Σ' (v293 : IVec S128x128 32), IVec S128x128 32 ← k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v286
      let ⟨v340, v371⟩ : Σ' (v340 : IVec S128x128 32), FVec F S128x128 .bf16 ← k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v293 v328
      k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v340 v371
      k0_part77 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part78 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part79 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      let ⟨v512, v514, v516, v518, v519, v522, v523⟩ : Σ' (v512 : BitVec 32) (v514 : Vec F S32x128 .i32) (v516 : Vec F S32x128 .bf16) (v518 : Vec F S32x128 .bf16) (v519 : FVec F S32x128 .f32) (v522 : IVec S32x128 32), IVec S32x128 32 ← k0_part81 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      let ⟨v567, v570, v571⟩ : Σ' (v567 : FVec F S32x128 .f32) (v570 : IVec S32x128 32), IVec S32x128 32 ← k0_part82 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v519 v522 v523
      let ⟨v615, v618, v619⟩ : Σ' (v615 : FVec F S32x128 .f32) (v618 : IVec S32x128 32), IVec S32x128 32 ← k0_part83 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v567 v570 v571
      let ⟨v663, v666, v667⟩ : Σ' (v663 : FVec F S32x128 .f32) (v666 : IVec S32x128 32), IVec S32x128 32 ← k0_part84 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v615 v618 v619
      let ⟨v711, v714, v715⟩ : Σ' (v711 : FVec F S32x128 .f32) (v714 : IVec S32x128 32), IVec S32x128 32 ← k0_part85 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v663 v666 v667
      let ⟨v759, v762, v763⟩ : Σ' (v759 : FVec F S32x128 .f32) (v762 : IVec S32x128 32), IVec S32x128 32 ← k0_part86 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v711 v714 v715
      let ⟨v807, v810, v811⟩ : Σ' (v807 : FVec F S32x128 .f32) (v810 : IVec S32x128 32), IVec S32x128 32 ← k0_part87 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v759 v762 v763
      let ⟨v855, v858, v859⟩ : Σ' (v855 : FVec F S32x128 .f32) (v858 : IVec S32x128 32), IVec S32x128 32 ← k0_part88 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v807 v810 v811
      let v906 : FVec F S1x32x128 .f32 ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v855 v858 v859
      Prog.lift (.store arg11 (Rect.unit (s := S2x32x128) ![0, 0, 0] S1x32x128.size inb_S2x32x128_S1x32x128_0_0_0) v906 Finset.univ (View.stores_vmem_bits_univ h_S1x32x128 rfl) (.inl rfl))
      K v906) rfl (fun _ => head_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hS hD _)).trans ?_
  refine congrArg (Prog.bind _) (funext fun _ => congrArg (Prog.bind _) (funext fun _ => ?_))
  refine (congrArg (Prog.bind _) (funext fun _ => first_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hS hD hC hT hP hQ (fun v906 => do
        Prog.lift (.store arg11 (Rect.unit (s := S2x32x128) ![0, 0, 0] S1x32x128.size inb_S2x32x128_S1x32x128_0_0_0) v906 Finset.univ (View.stores_vmem_bits_univ h_S1x32x128 rfl) (.inl rfl))
        K v906))).trans ?_
  refine (joined_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hS hD hC hT hP hQ K).trans ?_
  have e : K = _ := funext fun v906 => tail_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 hB hW hT' hP' hQ'
  rw [e]

end Cert.Kernel.Emb
end
-- ==== Proof.Main.lean ====
/- The kernel's body run: the first copies started, the parameters selected, the first group dequantised, one trip per
   further group, and the last group's copies out waited for. The groups' states between trips are one list. -/
module

public import proofs.«01_k».proof.Proof.Tiles
public import proofs.«01_k».proof.Proof.Unrolled
public import Idealize.ShloMosaic.Lib.PageRing.Basic

@[expose] public section

set_option maxRecDepth 16384

noncomputable section

namespace Cert.Kernel.Emb

open Idealize.ShloMosaic Cert.Kernel.Gen Cert.Emb
open Idealize.SL
open Idealize.SL.RA Idealize.SL.Sem Idealize.SL.ProofMode
open Idealize.SL.BI (sProp bigSep bigSep_insert bigSep_mono bigSep_empty bigSep_congr bigSep_sep bigSep_singleton bigSep_sdiff_split bigSep_map Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable (d : Dev nD)

local notation "WP" => wp frame (wpE defs₀ 𝒱₀ (d.tc) none) Set.univ

/-! ## Lists of resources -/

section Lists

variable {M : Type} [URA M]

/-- Some entries of a list taken out, to be put back changed. -/
theorem focus {S T : Finset ℕ} (hT : T ⊆ S) (Φ Ψ : ℕ → sProp M) (h : ∀ j ∈ S, j ∉ T → Φ j = Ψ j) :
    bigSep S Φ ⊢ iprop(bigSep T Φ ∗ (bigSep T Ψ -∗ bigSep S Ψ)) := by
  have e : ∀ Φ : ℕ → sProp M, bigSep S Φ = iprop(bigSep T Φ ∗ bigSep (S \ T) Φ) := fun Φ => bigSep_sdiff_split hT
  rw [e Φ, e Ψ,
    bigSep_congr (s := S \ T) (Φ := Φ) (Ψ := Ψ) fun j hj => h j (Finset.mem_sdiff.mp hj).1 (Finset.mem_sdiff.mp hj).2]
  iintro ⟨H, HR⟩
  isplitl [H]; · iexact H
  iintro H
  isplitl [H]; · iexact H
  iexact HR

theorem one_entry (a : ℕ) (Φ : ℕ → sProp M) : bigSep {a} Φ = Φ a := bigSep_singleton

theorem two_entries {a b : ℕ} (h : a ≠ b) (Φ : ℕ → sProp M) : bigSep {a, b} Φ = iprop(Φ a ∗ Φ b) := by
  rw [bigSep_insert (by simpa using h), one_entry]; rfl

theorem three_entries {a b c : ℕ} (h : a ≠ b) (h' : a ≠ c) (h'' : b ≠ c) (Φ : ℕ → sProp M) : bigSep {a, b, c} Φ = iprop(Φ a ∗ Φ b ∗ Φ c) := by
  rw [bigSep_insert (by simpa using ⟨h, h'⟩), two_entries h'']; rfl

theorem fin_range (n : ℕ) (Φ : ℕ → sProp M) : (bigSep (Finset.univ : Finset (Fin n)) fun i => Φ i.val) = bigSep (Finset.range n) Φ := by
  rw [← Nat.Iio_eq_range, ← Fin.map_valEmbedding_univ, bigSep_map]; rfl

theorem swap_sep (X Y Z : sProp M) : iprop(X ∗ Y ∗ Z) = iprop(Y ∗ X ∗ Z) := by
  have h : ∀ X Y Z : sProp M, iprop(X ∗ Y ∗ Z) ⊢ iprop(Y ∗ X ∗ Z) := by
    intro X Y Z
    iintro ⟨H, H', H''⟩
    isplitl [H']; · iexact H'
    isplitl [H]; · iexact H
    iexact H''
  exact Idealize.SL.BI.Entails.antisymm (h X Y Z) (h Y X Z)

theorem assoc_sep (X Y Z : sProp M) : iprop((X ∗ Y) ∗ Z) = iprop(X ∗ Y ∗ Z) := by
  exact Idealize.SL.BI.Entails.antisymm Idealize.SL.BI.sep_assoc Idealize.SL.BI.sep_assoc'

theorem emp_list (S : Finset ℕ) : (emp : sProp M) ⊢ bigSep S fun _ => (emp : sProp M) := by
  induction S using Finset.induction_on with
  | empty => rw [bigSep_empty]; exact .rfl
  | insert a s ha ih =>
    have e : bigSep (insert a s) (fun _ => (emp : sProp M)) = iprop(emp ∗ bigSep s fun _ => (emp : sProp M)) := bigSep_insert ha
    rw [e]
    iintro H
    isplitl []; · iempintro
    iapply ih; iexact H

theorem list_sep (S : Finset ℕ) (Φ Ψ : ℕ → sProp M) : bigSep S (fun j => iprop(Φ j ∗ Ψ j)) = iprop(bigSep S Φ ∗ bigSep S Ψ) := bigSep_sep S Φ Ψ

/-- A list of some entries is one of all, the others empty. -/
theorem list_first {m n : ℕ} (h : m ≤ n) (Φ : ℕ → sProp M) :
    bigSep (Finset.range m) Φ ⊢ bigSep (Finset.range n) fun j => if j < m then Φ j else iprop(emp) := by
  have e : ∀ Ψ : ℕ → sProp M, bigSep (Finset.range n) Ψ = iprop(bigSep (Finset.range m) Ψ ∗ bigSep (Finset.range n \ Finset.range m) Ψ) :=
    fun Ψ => bigSep_sdiff_split (Finset.range_subset_range.mpr h)
  rw [e, bigSep_congr (s := Finset.range m) (Ψ := Φ) (fun j hj => if_pos (Finset.mem_range.mp hj)),
    bigSep_congr (s := Finset.range n \ Finset.range m) (Ψ := fun _ => (emp : sProp M)) (fun j hj => if_neg fun hj' => (Finset.mem_sdiff.mp hj).2 (Finset.mem_range.mpr hj'))]
  iintro H
  isplitl [H]; · iexact H
  iapply (emp_list (M := M)); iempintro

/-- A list's last entries. -/
theorem list_last {m n : ℕ} (Φ : ℕ → sProp M) :
    (bigSep (Finset.range (n + m)) fun j => if n ≤ j then Φ j else iprop(emp)) ⊢ bigSep (Finset.range m) fun j => Φ (n + j) := by
  have e : ∀ Ψ : ℕ → sProp M, bigSep (Finset.range (n + m)) Ψ
      = iprop(bigSep ((Finset.range m).map (addLeftEmbedding n)) Ψ ∗ bigSep (Finset.range (n + m) \ (Finset.range m).map (addLeftEmbedding n)) Ψ) :=
    fun Ψ => bigSep_sdiff_split fun j hj => by
      obtain ⟨i, hi, rfl⟩ := Finset.mem_map.mp hj
      simpa using hi
  rw [e, bigSep_map]
  iintro ⟨H, -⟩
  have e' : bigSep (Finset.range m) (fun j => (fun j => if n ≤ j then Φ j else iprop(emp)) (addLeftEmbedding n j)) = bigSep (Finset.range m) fun j => Φ (n + j) :=
    bigSep_congr fun j _ => if_pos (Nat.le_add_right n j)
  ihave H' := (Entails.of_eq e') $$ H
  iexact H'

end Lists

/-! ## The words of the loops -/

theorem row_first (k : Fin k0_t1_loop.trips) (i : Fin 32) : (rowWord (Scf.iv 0#32 1#32 k) i).toNat = 32 * k.val + i.val :=
  (by decide +kernel : ∀ (k : Fin k0_t1_loop.trips) (i : Fin 32), (rowWord (Scf.iv 0#32 1#32 k) i).toNat = 32 * k.val + i.val) k i
theorem cell_first (k : Fin k0_t1_loop.trips) : (cellWord (Scf.iv 0#32 1#32 k)).toNat = k.val % 8 :=
  (by decide +kernel : ∀ k : Fin k0_t1_loop.trips, (cellWord (Scf.iv 0#32 1#32 k)).toNat = k.val % 8) k
theorem row_grp (k : Fin k0_t2_loop.trips) (i : Fin 32) : (rowWord (grp k) i).toNat = 32 * (k.val + 1) + i.val :=
  (by decide +kernel : ∀ (k : Fin k0_t2_loop.trips) (i : Fin 32), (rowWord (grp k) i).toNat = 32 * (k.val + 1) + i.val) k i
theorem cell_grp (k : Fin k0_t2_loop.trips) : (cellWord (grp k)).toNat = (k.val + 1) % 8 :=
  (by decide +kernel : ∀ k : Fin k0_t2_loop.trips, (cellWord (grp k)).toNat = (k.val + 1) % 8) k
theorem row_nxt (k : Fin k0_t2_loop.trips) (i : Fin 32) : (rowWord (nxt k) i).toNat = 32 * (k.val + 8) + i.val :=
  (by decide +kernel : ∀ (k : Fin k0_t2_loop.trips) (i : Fin 32), (rowWord (nxt k) i).toNat = 32 * (k.val + 8) + i.val) k i
theorem cell_nxt (k : Fin k0_t2_loop.trips) : (cellWord (nxt k)).toNat = (k.val + 8) % 8 :=
  (by decide +kernel : ∀ k : Fin k0_t2_loop.trips, (cellWord (nxt k)).toNat = (k.val + 8) % 8) k
theorem base_grp (k : Fin k0_t2_loop.trips) : (Scalar.muli (grp k) 32#32).toNat = 32 * (k.val + 1) :=
  (by decide +kernel : ∀ k : Fin k0_t2_loop.trips, (Scalar.muli (grp k) 32#32).toNat = 32 * (k.val + 1)) k
theorem base_prv (k : Fin k0_t2_loop.trips) : (Scalar.muli (prv k) 32#32).toNat = 32 * k.val :=
  (by decide +kernel : ∀ k : Fin k0_t2_loop.trips, (Scalar.muli (prv k) 32#32).toNat = 32 * k.val) k
theorem slot_grp (k : Fin k0_t2_loop.trips) : (slotWord (grp k)).toNat = (k.val + 1) % 2 :=
  (by decide +kernel : ∀ k : Fin k0_t2_loop.trips, (slotWord (grp k)).toNat = (k.val + 1) % 2) k
theorem slot_prv (k : Fin k0_t2_loop.trips) : (slotWord (prv k)).toNat = k.val % 2 :=
  (by decide +kernel : ∀ k : Fin k0_t2_loop.trips, (slotWord (prv k)).toNat = k.val % 2) k
/-- A trip starts a group's copies exactly when that group exists. -/
theorem more_iff (k : Fin k0_t2_loop.trips) : k0_cond1 k = 1#1 ↔ k.val + 8 < 32 :=
  (by decide +kernel : ∀ k : Fin k0_t2_loop.trips, k0_cond1 k = 1#1 ↔ k.val + 8 < 32) k
theorem trips_first : k0_t1_loop.trips = 8 := by decide +kernel
theorem trips_main : k0_t2_loop.trips = 31 := by decide +kernel

/-! ## Boxes in range -/

theorem row_in {r : ℕ} (h : r < 1024) : ∀ a, (![r, 0] : Fin 2 → ℕ) a + S1x3072.size a ≤ S1024x3072.size a := by
  rw [Fin.forall_fin_two]
  exact ⟨by simp; omega, by simp⟩
theorem id_in {r : ℕ} (h : r < 1024) : ∀ a, (![0, r] : Fin 2 → ℕ) a + S1x1.size a ≤ S1x1024.size a := by
  rw [Fin.forall_fin_two]
  exact ⟨by simp, by simp; omega⟩
theorem cell_in {c : ℕ} (h : c < 8) : ∀ a, (![c] : Fin 1 → ℕ) a + S1.size a ≤ S8.size a := by
  intro a
  obtain rfl : a = 0 := Subsingleton.elim _ _
  show c + 1 ≤ 8
  omega
theorem block_in {r g : ℕ} (hr : r = 32 * g) (hg : g < 32) : BlockIn r := by
  subst hr
  rw [BlockIn, Fin.forall_fin_two]
  exact ⟨by simp; omega, by simp⟩
theorem block_words {r g : ℕ} (hr : r = 32 * g) (hg : g < 32) (hB : BlockIn r) :
    (Rect.unit (s := S1024x3072) ![r, 0] S32x3072.size hB).WholeWords (EltTy.packing .bf16) := by
  subst hr
  exact (by decide +kernel : ∀ g : Fin 32, (Rect.unit (s := S1024x3072) ![32 * g.val, 0] S32x3072.size (block_in rfl g.isLt)).WholeWords (EltTy.packing .bf16)) ⟨g, hg⟩
theorem tile_in {r g : ℕ} (hr : r = 32 * g) (hg : g < 32) (j : Fin 24) : TileIn r j := by
  subst hr
  have := j.isLt
  rw [TileIn, Fin.forall_fin_two]
  exact ⟨by simp; omega, by simp; omega⟩
theorem tile_packed {r g : ℕ} (hr : r = 32 * g) (hg : g < 32) (j : Fin 24) (hB : TileIn r j) : TilePacked r j hB := by
  subst hr
  exact (by decide +kernel : ∀ (g : Fin 32) (j : Fin 24), TilePacked (32 * g.val) j (tile_in rfl g.isLt j)) ⟨g, hg⟩ j
theorem prm_in {r g : ℕ} (hr : r = 32 * g) (hg : g < 32) : ∀ a, (![r, 0] : Fin 2 → ℕ) a + S32x128.size a ≤ S1024x128.size a := by
  subst hr
  rw [Fin.forall_fin_two]
  exact ⟨by simp; omega, by simp⟩
theorem slot_in {c : ℕ} (h : c < 2) : ∀ a, (![c, 0, 0] : Fin 3 → ℕ) a + S1x32x128.size a ≤ S2x32x128.size a := by
  intro a
  match a with
  | ⟨0, _⟩ => show c + 1 ≤ 2; omega
  | ⟨1, _⟩ => show 0 + 32 ≤ 32; omega
  | ⟨2, _⟩ => show 0 + 128 ≤ 128; omega

section Body

variable (A : Args F)
variable (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_)

/-! ## The groups between trips -/

/-- A group's semaphore cell at rest. -/
def Rest (j : ℕ) : sProp 𝕄 := semVal (d.tc, .dma (cell arg15 j)) 0

theorem cell_congr {j j' : ℕ} (h : j % 8 = j' % 8) : cell arg15 j = cell arg15 j' := by
  have e : ∀ (c c' : ℕ) (hc hc'), c = c' → ((arg15.slice (Rect.unit (s := S8) ![c] S1.size hc)).squeeze S_ squeezes_S1_S_).sem
      = ((arg15.slice (Rect.unit (s := S8) ![c'] S1.size hc')).squeeze S_ squeezes_S1_S_).sem := by
    intro c c' hc hc' h; subst h; rfl
  exact e _ _ _ _ h

/-- A group's part of the buffers nothing has been written to yet. -/
def Free (j : ℕ) : sProp 𝕄 := iprop(Any (d.tc) arg10 (Blk j) ∗ Any (d.tc) arg6 (Blk j) ∗ Any (d.tc) arg7 (Blk j))

/-- A group done, its copies out on the way. -/
def Done (j : ℕ) : sProp 𝕄 :=
  iprop(OutG d A arg1 arg8 j ∗ Hold (d.tc) arg9 (Blk j) fullShare.right A.embV ∗ (if 24 ≤ j then Rest (F := F) d arg15 j else iprop(emp)))
/-- A group dequantised. -/
def Half (j : ℕ) : sProp 𝕄 :=
  iprop(OutG d A arg1 arg8 j ∗ Hold (d.tc) arg9 (Blk j) fullShare A.embV ∗ Rest (F := F) d arg15 j ∗ Free (F := F) d arg6 arg7 arg10 j)
/-- A group on its way in, or not yet. -/
def Ahead (k j : ℕ) : sProp 𝕄 :=
  iprop((if j < k + 8 then Flight d A arg1 arg8 arg15 j else InG d A arg1 arg8 j) ∗ Any (d.tc) arg9 (Blk j) ∗ Free (F := F) d arg6 arg7 arg10 j)

/-- Group `j` when group `k` is the last dequantised. -/
def St (k j : ℕ) : sProp 𝕄 :=
  if j < k then Done d A arg1 arg8 arg9 arg15 j
  else if j = k then Half d A arg1 arg6 arg7 arg8 arg9 arg10 arg15 j
  else Ahead d A arg1 arg6 arg7 arg8 arg9 arg10 arg15 k j

local notation "ST" => St d A arg1 arg6 arg7 arg8 arg9 arg10 arg15

theorem st_done {k j : ℕ} (h : j < k) : ST k j = Done d A arg1 arg8 arg9 arg15 j := if_pos h
theorem st_half (k : ℕ) : ST k k = Half d A arg1 arg6 arg7 arg8 arg9 arg10 arg15 k := by
  unfold St; rw [if_neg (lt_irrefl _), if_pos rfl]
theorem st_ahead {k j : ℕ} (h : k < j) : ST k j = Ahead d A arg1 arg6 arg7 arg8 arg9 arg10 arg15 k j := by
  unfold St; rw [if_neg (by omega), if_neg (by omega)]

theorem st_same {k j : ℕ} (h1 : j ≠ k) (h2 : j ≠ k + 1) (h3 : j ≠ k + 8) : ST k j = ST (k + 1) j := by
  by_cases h : j < k
  · rw [st_done d A _ _ _ _ _ _ _ h, st_done d A _ _ _ _ _ _ _ (by omega)]
  · rw [st_ahead d A _ _ _ _ _ _ _ (by omega : k < j), st_ahead d A _ _ _ _ _ _ _ (by omega : k + 1 < j)]
    unfold Ahead
    by_cases h' : j < k + 8
    · rw [if_pos h', if_pos (by omega)]
    · rw [if_neg h', if_neg (by omega)]

/-- What every trip reads. -/
def Fixed (q0 q5 : PosShare TreeShare) : sProp 𝕄 :=
  iprop(Hold (d.tc) arg0 Finset.univ q0 A.ids ∗ Hold (d.tc) arg5 Finset.univ q5 A.weight
    ∗ Hold (d.tc) arg12 Finset.univ fullShare A.shiftV ∗ Hold (d.tc) arg13 Finset.univ fullShare A.scaleV ∗ Hold (d.tc) arg14 Finset.univ fullShare A.zeroV)

/-- The slots and the copies out at entry of trip `k`. -/
def Moving (k : ℕ) : sProp 𝕄 :=
  iprop(Hold (d.tc) arg11 (Slot (k % 2)) fullShare (A.sqV k) ∗ Any (d.tc) arg11 (Slot ((k + 1) % 2))
    ∗ Outs d arg9 arg7 arg16 fullShare.left A.embV k ∗ Outs d arg10 arg6 arg17 fullShare A.outV k ∗ Ow (F := F) d)

/-- Before trip `k`. -/
def Inv (q0 q5 : PosShare TreeShare) (k : ℕ) : sProp 𝕄 :=
  iprop(bigSep (Finset.range 32) (ST k) ∗ Moving d A arg6 arg7 arg9 arg10 arg11 arg16 arg17 k ∗ Fixed d A arg0 arg5 arg12 arg13 arg14 q0 q5)

variable {q0 q5 : PosShare TreeShare} (hok : A.Ok)

/-- A trip from the dequantisation on. -/
theorem rest_wp (k : ℕ) (hk : k + 1 < 32) {r r' c c' : ℕ} (hr : r = 32 * (k + 1)) (hr' : r' = 32 * k) (hc : c = (k + 1) % 2) (hc' : c' = k % 2)
    {hC hT hP hQ hT' hP' hQ' hB hW} :
    (iprop(OutG d A arg1 arg8 (k + 1) ∗ Any (d.tc) arg9 (Blk (k + 1)) ∗ Hold (d.tc) arg9 (Blk k) fullShare.right A.embV
        ∗ Any (d.tc) arg10 (Blk k) ∗ Any (d.tc) arg6 (Blk k)
        ∗ Hold (d.tc) arg11 (Slot (k % 2)) fullShare (A.sqV k) ∗ Any (d.tc) arg11 (Slot ((k + 1) % 2)) ∗ Outs d arg10 arg6 arg17 fullShare A.outV k
        ∗ Fixed d A arg0 arg5 arg12 arg13 arg14 q0 q5) : sProp 𝕄)
      ⊢ WP (do
        dequant arg8 arg9 harg9 arg11 arg12 arg13 arg14 r c hC hT hP hQ
        normalise arg5 arg9 arg10 harg10 arg11 r' c' hT' hP' hQ'
        copyOut arg10 harg10 arg6 harg6 arg17 r' hB hW : P F Unit) fun _ =>
        iprop(OutG d A arg1 arg8 (k + 1) ∗ Hold (d.tc) arg9 (Blk (k + 1)) fullShare A.embV ∗ Hold (d.tc) arg9 (Blk k) fullShare.right A.embV
        ∗ Hold (d.tc) arg11 (Slot ((k + 1) % 2)) fullShare (A.sqV (k + 1)) ∗ Any (d.tc) arg11 (Slot ((k + 1 + 1) % 2)) ∗ Outs d arg10 arg6 arg17 fullShare A.outV (k + 1)
        ∗ Fixed d A arg0 arg5 arg12 arg13 arg14 q0 q5) := by
  unfold Fixed OutG
  iintro ⟨⟨H8, HT⟩, H9, H9r, H10, H6, HQ, HQ', HO, H0, H5, H12, H13, H14⟩
  iapply (wp_seq d (dequant_wp d A arg8 arg9 harg9 arg11 arg12 arg13 arg14 (k + 1) ((k + 1) % 2) hr hc)) $$ [H8 H9 H12 H13 H14 HQ']
  · isplitl [H8 H9 H12 H13 H14]
    · isplitl [H8]; · iexact H8
      isplitl [H9]; · iexact H9
      isplitl [H12]; · iexact H12
      isplitl [H13]; · iexact H13
      iexact H14
    iexact HQ'
  iintro %_ ⟨⟨H8, H9, H12, H13, H14⟩, HQ'⟩
  iapply (wp_seq d (normalise_wp d A arg5 arg9 arg10 harg10 arg11 k (k % 2) hr' hc')) $$ [H5 H9r H10 HQ]
  · isplitl [H5]; · iexact H5
    isplitl [H9r]; · iexact H9r
    isplitl [H10]; · iexact H10
    iexact HQ
  iintro %_ ⟨H5, H9r, H10, HQ⟩
  iapply (wp_last d (copyOut_wp d arg10 harg10 arg6 harg6 arg17 fullShare A.outV k (by omega) hr')) $$ [H10 H6 HO]
  · isplitl [H10]; · iexact H10
    isplitl [H6]; · iexact H6
    iexact HO
  iintro %_ HO
  isplitl [H8 HT]
  · isplitl [H8]; · iexact H8
    iexact HT
  isplitl [H9]; · iexact H9
  isplitl [H9r]; · iexact H9r
  isplitl [HQ']; · iexact HQ'
  isplitl [HQ]
  · rw [show (k + 1 + 1) % 2 = k % 2 by omega]
    iapply (any_of_hold (c := d.tc)) $$ HQ
  isplitl [HO]; · iexact HO
  isplitl [H0]; · iexact H0
  isplitl [H5]; · iexact H5
  isplitl [H12]; · iexact H12
  isplitl [H13]; · iexact H13
  iexact H14

include hok in
theorem trip_wp (v906 : FVec F S1x32x128 .f32) (k : Fin k0_t2_loop.trips) (u : Unit) :
    Inv d A arg0 arg1 arg5 arg6 arg7 arg8 arg9 arg10 arg11 arg12 arg13 arg14 arg15 arg16 arg17 q0 q5 k.val
      ⊢ WP (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u)
        fun _ => Inv d A arg0 arg1 arg5 arg6 arg7 arg8 arg9 arg10 arg11 arg12 arg13 arg14 arg15 arg16 arg17 q0 q5 (k.val + 1) := by
  have hk : k.val < 31 := trips_main ▸ k.isLt
  have hS : ∀ a, (![(cellWord (grp k)).toNat] : Fin 1 → ℕ) a + S1.size a ≤ S8.size a := cell_in (by rw [cell_grp]; omega)
  have hD : ∀ i : Fin 32, ∀ a, (![(rowWord (grp k) i).toNat, 0] : Fin 2 → ℕ) a + S1x3072.size a ≤ S1024x3072.size a := fun i => row_in (by rw [row_grp]; omega)
  have hB : BlockIn (Scalar.muli (prv k) 32#32).toNat := block_in (base_prv k) (by omega)
  have hW := block_words (base_prv k) (by omega) hB
  have hC := prm_in (base_grp k) (by omega)
  have hT := tile_in (base_grp k) (by omega)
  have hP := fun j : Fin 24 => tile_packed (base_grp k) (by omega) j (hT j)
  have hQ := slot_in (c := (slotWord (grp k)).toNat) (by rw [slot_grp]; omega)
  have hT' := tile_in (base_prv k) (by omega)
  have hP' := fun j : Fin 24 => tile_packed (base_prv k) (by omega) j (hT' j)
  have hQ' := slot_in (c := (slotWord (prv k)).toNat) (by rw [slot_prv]; omega)
  have eA : ST k.val (k.val + 1) = iprop(Flight d A arg1 arg8 arg15 (k.val + 1) ∗ Any (d.tc) arg9 (Blk (k.val + 1)) ∗ Free (F := F) d arg6 arg7 arg10 (k.val + 1)) := by
    rw [st_ahead d A _ _ _ _ _ _ _ (by omega : k.val < k.val + 1), Ahead, if_pos (by omega)]
  by_cases h : k0_cond1 k = 1#1
  · have h32 := (more_iff k).mp h
    have hI' : ∀ i : Fin 32, ∀ a, (![0, (rowWord (nxt k) i).toNat] : Fin 2 → ℕ) a + S1x1.size a ≤ S1x1024.size a := fun i => id_in (by rw [row_nxt]; omega)
    have hS' : ∀ a, (![(cellWord (nxt k)).toNat] : Fin 1 → ℕ) a + S1.size a ≤ S8.size a := cell_in (by rw [cell_nxt]; omega)
    have hD' : ∀ i : Fin 32, ∀ a, (![(rowWord (nxt k) i).toNat, 0] : Fin 2 → ℕ) a + S1x3072.size a ≤ S1024x3072.size a := fun i => row_in (by rw [row_nxt]; omega)
    rw [t2_body_eq_pos (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u h hS hD hB hW hI' hS' hD' hC hT hP hQ hT' hP' hQ']
    have eN : ST k.val (k.val + 8) = iprop(InG d A arg1 arg8 (k.val + 8) ∗ Any (d.tc) arg9 (Blk (k.val + 8)) ∗ Free (F := F) d arg6 arg7 arg10 (k.val + 8)) := by
      rw [st_ahead d A _ _ _ _ _ _ _ (by omega : k.val < k.val + 8), Ahead, if_neg (by omega)]
    have eN' : ST (k.val + 1) (k.val + 8) = iprop(Flight d A arg1 arg8 arg15 (k.val + 8) ∗ Any (d.tc) arg9 (Blk (k.val + 8)) ∗ Free (F := F) d arg6 arg7 arg10 (k.val + 8)) := by
      rw [st_ahead d A _ _ _ _ _ _ _ (by omega : k.val + 1 < k.val + 8), Ahead, if_pos (by omega)]
    have hf := focus (S := Finset.range 32) (T := {k.val, k.val + 1, k.val + 8}) (by
        intro j hj
        simp only [Finset.mem_insert, Finset.mem_singleton] at hj
        rw [Finset.mem_range]; omega) (ST k.val) (ST (k.val + 1)) (by
        intro j _ hj
        simp only [Finset.mem_insert, Finset.mem_singleton, not_or] at hj
        exact st_same d A arg1 arg6 arg7 arg8 arg9 arg10 arg15 hj.1 hj.2.1 hj.2.2)
    rw [three_entries (by omega) (by omega) (by omega), three_entries (by omega) (by omega) (by omega), st_half, st_half, eA, eN, eN',
      st_done d A _ _ _ _ _ _ _ (by omega : k.val < k.val + 1)] at hf
    unfold Inv Moving Fixed
    iintro ⟨HS, ⟨HQ, HQ', HE, HO, HW⟩, H0, H5, H12, H13, H14⟩
    ihave HS' := hf $$ HS
    unfold Half Done Free
    icases HS' with ⟨⟨⟨HG, H9, HR, H10, H6, H7⟩, ⟨HF, H9n, H10n, H6n, H7n⟩, HN, H9m, HFm⟩, HK⟩
    iapply (wp_seq d (waitRows_wp d A arg1 arg8 arg15 (k.val + 1) (cell_grp k))) $$ [HF HW]
    · isplitl [HF]; · iexact HF
      iexact HW
    iintro %_ ⟨HGn, HRn, HW⟩
    ihave H9' := (Entails.of_eq (hold_half (c := d.tc))) $$ H9
    icases H9' with ⟨H9l, H9r⟩
    iapply (wp_seq d (copyOut_wp d arg9 harg9 arg7 harg7 arg16 fullShare.left A.embV k.val (by omega) (base_prv k))) $$ [H9l H7 HE]
    · isplitl [H9l]; · iexact H9l
      isplitl [H7]; · iexact H7
      iexact HE
    iintro %_ HE
    iapply (wp_seq d (startRows_wp d A arg0 arg1 arg8 arg15 hok (k.val + 8) h32 (fun v hv _ => hv) (row_nxt k) (cell_nxt k))) $$ [H0 HN HR]
    · isplitl [H0]; · iexact H0
      isplitl [HN]; · iexact HN
      unfold Rest
      rw [cell_congr arg15 (show (k.val + 8) % 8 = k.val % 8 by omega)]
      iexact HR
    iintro %_ ⟨H0, HFn⟩
    iapply (wp_last d (rest_wp d A arg0 arg1 arg5 arg6 harg6 arg8 arg9 harg9 arg10 harg10 arg11 arg12 arg13 arg14 arg17 (q0 := q0) (q5 := q5) k.val (by omega) (base_grp k) (base_prv k) (slot_grp k) (slot_prv k))) $$ [HGn H9n H9r H10 H6 HQ HQ' HO H0 H5 H12 H13 H14]
    · unfold Fixed
      isplitl [HGn]; · iexact HGn
      isplitl [H9n]; · iexact H9n
      isplitl [H9r]; · iexact H9r
      isplitl [H10]; · iexact H10
      isplitl [H6]; · iexact H6
      isplitl [HQ]; · iexact HQ
      isplitl [HQ']; · iexact HQ'
      isplitl [HO]; · iexact HO
      isplitl [H0]; · iexact H0
      isplitl [H5]; · iexact H5
      isplitl [H12]; · iexact H12
      isplitl [H13]; · iexact H13
      iexact H14
    iintro %_ ⟨HGn, H9n, H9r, HQ, HQ', HO, HC⟩
    isplitl [HK HG H9r HGn H9n HRn H10n H6n H7n HFn H9m HFm]
    · iapply HK
      isplitl [HG H9r]
      · isplitl [HG]; · iexact HG
        isplitl [H9r]; · iexact H9r
        rw [if_neg (by omega)]
        iempintro
      isplitl [HGn H9n HRn H10n H6n H7n]
      · isplitl [HGn]; · iexact HGn
        isplitl [H9n]; · iexact H9n
        isplitl [HRn]; · unfold Rest; iexact HRn
        isplitl [H10n]; · iexact H10n
        isplitl [H6n]; · iexact H6n
        iexact H7n
      isplitl [HFn]; · iexact HFn
      isplitl [H9m]; · iexact H9m
      iexact HFm
    isplitl [HQ HQ' HE HO HW]
    · isplitl [HQ]; · iexact HQ
      isplitl [HQ']; · iexact HQ'
      isplitl [HE]; · iexact HE
      isplitl [HO]; · iexact HO
      iexact HW
    unfold Fixed
    iexact HC
  · have h32 : ¬ k.val + 8 < 32 := fun h' => h ((more_iff k).mpr h')
    rw [t2_body_eq_neg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u h hS hD hB hW hC hT hP hQ hT' hP' hQ']
    have hf := focus (S := Finset.range 32) (T := {k.val, k.val + 1}) (by
        intro j hj
        simp only [Finset.mem_insert, Finset.mem_singleton] at hj
        rw [Finset.mem_range]; omega) (ST k.val) (ST (k.val + 1)) (by
        intro j hj' hj
        simp only [Finset.mem_insert, Finset.mem_singleton, not_or] at hj
        rw [Finset.mem_range] at hj'
        exact st_same d A arg1 arg6 arg7 arg8 arg9 arg10 arg15 hj.1 hj.2 (by omega))
    rw [two_entries (by omega), two_entries (by omega), st_half, st_half, eA,
      st_done d A _ _ _ _ _ _ _ (by omega : k.val < k.val + 1)] at hf
    unfold Inv Moving Fixed
    iintro ⟨HS, ⟨HQ, HQ', HE, HO, HW⟩, H0, H5, H12, H13, H14⟩
    ihave HS' := hf $$ HS
    unfold Half Done Free
    icases HS' with ⟨⟨⟨HG, H9, HR, H10, H6, H7⟩, HF, H9n, H10n, H6n, H7n⟩, HK⟩
    iapply (wp_seq d (waitRows_wp d A arg1 arg8 arg15 (k.val + 1) (cell_grp k))) $$ [HF HW]
    · isplitl [HF]; · iexact HF
      iexact HW
    iintro %_ ⟨HGn, HRn, HW⟩
    ihave H9' := (Entails.of_eq (hold_half (c := d.tc))) $$ H9
    icases H9' with ⟨H9l, H9r⟩
    iapply (wp_seq d (copyOut_wp d arg9 harg9 arg7 harg7 arg16 fullShare.left A.embV k.val (by omega) (base_prv k))) $$ [H9l H7 HE]
    · isplitl [H9l]; · iexact H9l
      isplitl [H7]; · iexact H7
      iexact HE
    iintro %_ HE
    iapply (wp_last d (rest_wp d A arg0 arg1 arg5 arg6 harg6 arg8 arg9 harg9 arg10 harg10 arg11 arg12 arg13 arg14 arg17 (q0 := q0) (q5 := q5) k.val (by omega) (base_grp k) (base_prv k) (slot_grp k) (slot_prv k))) $$ [HGn H9n H9r H10 H6 HQ HQ' HO H0 H5 H12 H13 H14]
    · unfold Fixed
      isplitl [HGn]; · iexact HGn
      isplitl [H9n]; · iexact H9n
      isplitl [H9r]; · iexact H9r
      isplitl [H10]; · iexact H10
      isplitl [H6]; · iexact H6
      isplitl [HQ]; · iexact HQ
      isplitl [HQ']; · iexact HQ'
      isplitl [HO]; · iexact HO
      isplitl [H0]; · iexact H0
      isplitl [H5]; · iexact H5
      isplitl [H12]; · iexact H12
      isplitl [H13]; · iexact H13
      iexact H14
    iintro %_ ⟨HGn, H9n, H9r, HQ, HQ', HO, HC⟩
    isplitl [HK HG HR H9r HGn H9n HRn H10n H6n H7n]
    · iapply HK
      isplitl [HG HR H9r]
      · isplitl [HG]; · iexact HG
        isplitl [H9r]; · iexact H9r
        rw [if_pos (by omega)]
        iexact HR
      isplitl [HGn]; · iexact HGn
      isplitl [H9n]; · iexact H9n
      isplitl [HRn]; · unfold Rest; iexact HRn
      isplitl [H10n]; · iexact H10n
      isplitl [H6n]; · iexact H6n
      iexact H7n
    isplitl [HQ HQ' HE HO HW]
    · isplitl [HQ]; · iexact HQ
      isplitl [HQ']; · iexact HQ'
      isplitl [HE]; · iexact HE
      isplitl [HO]; · iexact HO
      iexact HW
    unfold Fixed
    iexact HC

/-! ## The table's shares -/

/-- What of the table no copy reads. -/
def Others : sProp 𝕄 :=
  iprop(Hold (d.tc) arg1 Finset.univ (Transfers.shareDrop fullShare 1024) A.table
    ∗ bigSep (Finset.range 1024) fun t => Hold (d.tc) arg1 (Finset.univ \ A.SRow t) (tq t) A.table)

theorem table_shares : (Hold (d.tc) arg1 Finset.univ fullShare A.table : sProp 𝕄)
    = iprop((bigSep (Finset.range 32) fun g => bigSep (Finset.univ : Finset (Fin 32)) fun i => Hold (d.tc) arg1 (A.SRow (32 * g + i.val)) (tq (32 * g + i.val)) A.table)
      ∗ Others d A arg1) := by
  have h1 : (Hold (d.tc) arg1 Finset.univ fullShare A.table : sProp 𝕄)
      = iprop(Hold (d.tc) arg1 Finset.univ (Transfers.shareDrop fullShare 1024) A.table
        ∗ bigSep (Finset.range 1024) fun t => Hold (d.tc) arg1 Finset.univ (tq t) A.table) := by
    unfold Hold tq
    exact BI.Entails.antisymm (Transfers.pointsTo_toks_range fullShare 1024).1 (Transfers.pointsTo_toks_range fullShare 1024).2
  have h2 : ∀ t, (Hold (d.tc) arg1 Finset.univ (tq t) A.table : sProp 𝕄)
      = iprop(Hold (d.tc) arg1 (A.SRow t) (tq t) A.table ∗ Hold (d.tc) arg1 (Finset.univ \ A.SRow t) (tq t) A.table) := fun t => by
    rw [← hold_union Finset.disjoint_sdiff, Finset.union_sdiff_of_subset (Finset.subset_univ _)]
  have h3 : (bigSep (Finset.range 1024) fun t => (Hold (d.tc) arg1 (A.SRow t) (tq t) A.table : sProp 𝕄))
      = bigSep (Finset.range 32) fun g => bigSep (Finset.univ : Finset (Fin 32)) fun i => Hold (d.tc) arg1 (A.SRow (32 * g + i.val)) (tq (32 * g + i.val)) A.table := by
    rw [show (1024 : ℕ) = 32 * 32 from rfl, PageRing.bigSep_range_mul]
    exact bigSep_congr fun g _ => (fin_range 32 fun i => Hold (d.tc) arg1 (A.SRow (32 * g + i)) (tq (32 * g + i)) A.table).symm
  rw [h1, bigSep_congr (s := Finset.range 1024) (fun t _ => h2 t), list_sep, h3]
  unfold Others
  exact swap_sep _ _ _

/-! ## Slots -/

theorem slots_univ : (Finset.univ : Finset S2x32x128.Idx) = Slot 0 ∪ Slot 1 := by
  ext x
  have h : (x 0 : ℕ) < 2 := (x 0).isLt
  simp only [Slot, Finset.mem_univ, Finset.mem_union, Finset.mem_filter, true_and, true_iff]
  omega

theorem slots_disjoint : Disjoint (Slot 0) (Slot 1) := by
  rw [Finset.disjoint_left]
  intro x hx hx'
  simp only [Slot, Finset.mem_filter, Finset.mem_univ, true_and] at hx hx'
  omega

theorem slots_split : (Any (d.tc) arg11 Finset.univ : sProp 𝕄) ⊢ iprop(Any (d.tc) arg11 (Slot 0) ∗ Any (d.tc) arg11 (Slot 1)) := by
  rw [slots_univ]
  unfold Any
  iintro ⟨%V, H⟩
  ihave H' := (Entails.of_eq (hold_union (c := d.tc) slots_disjoint)) $$ H
  icases H' with ⟨H0, H1⟩
  isplitl [H0]
  · iexists V; iexact H0
  · iexists V; iexact H1

theorem slots_join : (iprop(Any (d.tc) arg11 (Slot 0) ∗ Any (d.tc) arg11 (Slot 1)) : sProp 𝕄) ⊢ Any (d.tc) arg11 Finset.univ := by
  rw [slots_univ]
  unfold Any
  iintro ⟨⟨%V, H0⟩, ⟨%V', H1⟩⟩
  iexists (fun x => if x ∈ Slot 0 then V x else V' x)
  iapply (Entails.of_eq (hold_union (c := d.tc) slots_disjoint).symm)
  isplitl [H0]
  · iapply (Entails.of_eq (hold_congr (c := d.tc) (V := V) (V' := fun x => if x ∈ Slot 0 then V x else V' x) fun x hx => (if_pos hx).symm)) $$ H0
  · iapply (Entails.of_eq (hold_congr (c := d.tc) (V := V') (V' := fun x => if x ∈ Slot 0 then V x else V' x)
      fun x hx => (if_neg (Finset.disjoint_right.mp slots_disjoint hx)).symm)) $$ H1

/-! ## The first copies -/

/-- Group `j` when the copies of the first `k` groups have been started. -/
def Pt (k j : ℕ) : sProp 𝕄 :=
  if j < k then Flight d A arg1 arg8 arg15 j else iprop(InG d A arg1 arg8 j ∗ (if j < 8 then Rest (F := F) d arg15 j else iprop(emp)))

include hok in
theorem first_trip (k : Fin k0_t1_loop.trips) (u : Unit) :
    (iprop(bigSep (Finset.range 32) (Pt d A arg1 arg8 arg15 k.val) ∗ Hold (d.tc) arg0 Finset.univ q0 A.ids) : sProp 𝕄)
      ⊢ WP (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k u)
        fun _ => iprop(bigSep (Finset.range 32) (Pt d A arg1 arg8 arg15 (k.val + 1)) ∗ Hold (d.tc) arg0 Finset.univ q0 A.ids) := by
  have hk : k.val < 8 := trips_first ▸ k.isLt
  rw [t1_body_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k u (fun i => id_in (by rw [row_first]; omega)) (cell_in (by rw [cell_first]; omega)) (fun i => row_in (by rw [row_first]; omega))]
  have hf := focus (S := Finset.range 32) (T := {k.val}) (by
      intro j hj
      rw [Finset.mem_singleton] at hj
      rw [Finset.mem_range]; omega) (Pt d A arg1 arg8 arg15 k.val) (Pt d A arg1 arg8 arg15 (k.val + 1)) (by
      intro j _ hj
      rw [Finset.mem_singleton] at hj
      unfold Pt
      by_cases h : j < k.val
      · rw [if_pos h, if_pos (by omega)]
      · rw [if_neg h, if_neg (show ¬ j < k.val + 1 by omega)])
  rw [one_entry, one_entry] at hf
  have e : Pt d A arg1 arg8 arg15 k.val k.val = iprop(InG d A arg1 arg8 k.val ∗ Rest (F := F) d arg15 k.val) := by
    unfold Pt; rw [if_neg (lt_irrefl _), if_pos hk]
  have e' : Pt d A arg1 arg8 arg15 (k.val + 1) k.val = Flight d A arg1 arg8 arg15 k.val := by
    unfold Pt; rw [if_pos (by omega)]
  rw [e, e'] at hf
  iintro ⟨HS, H0⟩
  ihave HS' := hf $$ HS
  unfold Rest
  icases HS' with ⟨⟨HI, HR⟩, HK⟩
  iapply (wp_last d (startRows_wp d A arg0 arg1 arg8 arg15 hok k.val (by omega) (fun v hv => hv) (row_first k) (cell_first k))) $$ [H0 HI HR]
  · isplitl [H0]; · iexact H0
    isplitl [HI]; · iexact HI
    iexact HR
  iintro %_ ⟨H0, HF⟩
  isplitl [HK HF]
  · iapply HK; iexact HF
  iexact H0

/-- The groups before the first wait, from the buffers as they come. -/
theorem groups_start :
    (iprop(Hold (d.tc) arg1 Finset.univ fullShare A.table ∗ Any (d.tc) arg8 Finset.univ ∗ bigSep (Finset.range 8) (Rest (F := F) d arg15)) : sProp 𝕄)
      ⊢ iprop(bigSep (Finset.range 32) (Pt d A arg1 arg8 arg15 0) ∗ Others d A arg1) := by
  have e : bigSep (Finset.range 32) (Pt d A arg1 arg8 arg15 0) = iprop((bigSep (Finset.range 32) fun j => Any (d.tc) arg8 (Blk j))
      ∗ (bigSep (Finset.range 32) fun g => bigSep (Finset.univ : Finset (Fin 32)) fun i => Hold (d.tc) arg1 (A.SRow (32 * g + i.val)) (tq (32 * g + i.val)) A.table)
      ∗ bigSep (Finset.range 32) fun j => if j < 8 then Rest (F := F) d arg15 j else iprop(emp)) := by
    rw [bigSep_congr (s := Finset.range 32) (Φ := Pt d A arg1 arg8 arg15 0) (Ψ := fun j => iprop(InG d A arg1 arg8 j ∗ (if j < 8 then Rest (F := F) d arg15 j else iprop(emp)))) (fun j _ => if_neg (Nat.not_lt_zero j)),
      list_sep]
    unfold InG
    rw [list_sep]
    exact assoc_sep _ _ _
  rw [e, table_shares]
  iintro ⟨⟨HT, HO⟩, H8, HR⟩
  isplitr [HO]
  · isplitl [H8]
    · iapply (any_split (c := d.tc) (m := arg8) (Finset.range 32) Blk blks_disjoint)
      rw [← univ_blks]; iexact H8
    isplitl [HT]; · iexact HT
    iapply (list_first (by omega)); iexact HR
  iexact HO

/-- The groups before the first trip, all but the first's. -/
theorem groups_ahead :
    (iprop(bigSep (Finset.range 32) (Pt d A arg1 arg8 arg15 8) ∗ Any (d.tc) arg9 Finset.univ ∗ Any (d.tc) arg10 Finset.univ
        ∗ Any (d.tc) arg6 Finset.univ ∗ Any (d.tc) arg7 Finset.univ) : sProp 𝕄)
      ⊢ bigSep (Finset.range 32) (Ahead d A arg1 arg6 arg7 arg8 arg9 arg10 arg15 0) := by
  have e : bigSep (Finset.range 32) (Ahead d A arg1 arg6 arg7 arg8 arg9 arg10 arg15 0)
      = iprop((bigSep (Finset.range 32) fun j => if j < 0 + 8 then Flight d A arg1 arg8 arg15 j else InG d A arg1 arg8 j)
        ∗ (bigSep (Finset.range 32) fun j => Any (d.tc) arg9 (Blk j)) ∗ (bigSep (Finset.range 32) fun j => Any (d.tc) arg10 (Blk j))
        ∗ (bigSep (Finset.range 32) fun j => Any (d.tc) arg6 (Blk j)) ∗ bigSep (Finset.range 32) fun j => Any (d.tc) arg7 (Blk j)) := by
    unfold Ahead Free
    rw [list_sep, list_sep, list_sep, list_sep]
  have hs : ∀ {sp : Space} (m : Memref sig .tc sp S1024x3072 .bf16), (Any (d.tc) m Finset.univ : sProp 𝕄) ⊢ bigSep (Finset.range 32) fun j => Any (d.tc) m (Blk j) := by
    intro sp m
    rw [univ_blks]
    exact any_split (c := d.tc) (m := m) (Finset.range 32) Blk blks_disjoint
  have hm : (bigSep (Finset.range 32) (Pt d A arg1 arg8 arg15 8) : sProp 𝕄)
      ⊢ bigSep (Finset.range 32) fun j => if j < 0 + 8 then Flight d A arg1 arg8 arg15 j else InG d A arg1 arg8 j := by
    refine bigSep_mono fun j _ => ?_
    have hj : (Pt d A arg1 arg8 arg15 8 j : sProp 𝕄) ⊢ if j < 0 + 8 then Flight d A arg1 arg8 arg15 j else InG d A arg1 arg8 j := by
      unfold Pt
      by_cases h : j < 8
      · rw [if_pos h, if_pos (by omega)]
      · rw [if_neg h, if_neg h, if_neg (show ¬ j < 0 + 8 by omega)]
        iintro ⟨H, -⟩
        iexact H
    exact hj
  rw [e]
  iintro ⟨HP, H9, H10, H6, H7⟩
  isplitl [HP]
  · iapply hm; iexact HP
  isplitl [H9]; · iapply (hs arg9); iexact H9
  isplitl [H10]; · iapply (hs arg10); iexact H10
  isplitl [H6]; · iapply (hs arg6); iexact H6
  iapply (hs arg7); iexact H7

/-! ## The end -/

/-- All groups done and all copies out arrived: the buffers whole again. -/
theorem groups_end :
    (iprop(bigSep (Finset.range 32) (ST 32) ∗ Others d A arg1
        ∗ (bigSep (Finset.univ : Finset (Fin 32)) fun i => BlkOut d arg9 arg7 fullShare.left A.embV i.val)
        ∗ (bigSep (Finset.univ : Finset (Fin 32)) fun i => BlkOut d arg10 arg6 fullShare A.outV i.val)) : sProp 𝕄)
      ⊢ iprop(Hold (d.tc) arg1 Finset.univ fullShare A.table ∗ Hold (d.tc) arg6 Finset.univ fullShare A.outV ∗ Hold (d.tc) arg7 Finset.univ fullShare A.embV
        ∗ Any (d.tc) arg8 Finset.univ ∗ Any (d.tc) arg9 Finset.univ ∗ Any (d.tc) arg10 Finset.univ ∗ bigSep (Finset.range 8) (Rest (F := F) d arg15)) := by
  have hj : ∀ {sp : Space} {e : EltTy} (m : Memref sig .tc sp S1024x3072 e) (V : S1024x3072.Idx → Elt F e),
      (Hold (d.tc) m Finset.univ fullShare V : sProp 𝕄) = bigSep (Finset.range 32) fun j => Hold (d.tc) m (Blk j) fullShare V := by
    intro sp e m V
    rw [univ_blks, hold_biUnion (c := d.tc) (Finset.range 32) Blk blks_disjoint]
  have e : bigSep (Finset.range 32) (ST 32) = iprop(((bigSep (Finset.range 32) fun j => Hold (d.tc) arg8 (Blk j) fullShare A.words)
      ∗ bigSep (Finset.range 32) fun g => bigSep (Finset.univ : Finset (Fin 32)) fun i => Hold (d.tc) arg1 (A.SRow (32 * g + i.val)) (tq (32 * g + i.val)) A.table)
      ∗ (bigSep (Finset.range 32) fun j => Hold (d.tc) arg9 (Blk j) fullShare.right A.embV)
      ∗ bigSep (Finset.range 32) fun j => if 24 ≤ j then Rest (F := F) d arg15 j else iprop(emp)) := by
    rw [bigSep_congr (s := Finset.range 32) (Φ := ST 32) (Ψ := Done d A arg1 arg8 arg9 arg15) (fun j hj => st_done d A _ _ _ _ _ _ _ (Finset.mem_range.mp hj))]
    unfold Done OutG
    rw [list_sep, list_sep, list_sep]
  have e9 : (Hold (d.tc) arg9 Finset.univ fullShare A.embV : sProp 𝕄)
      = iprop((bigSep (Finset.range 32) fun j => Hold (d.tc) arg9 (Blk j) fullShare.left A.embV) ∗ bigSep (Finset.range 32) fun j => Hold (d.tc) arg9 (Blk j) fullShare.right A.embV) := by
    rw [hj, ← list_sep]
    exact bigSep_congr fun j _ => hold_half
  have h8 : (bigSep (Finset.range 32) fun j => if 24 ≤ j then Rest (F := F) d arg15 j else iprop(emp)) ⊢ bigSep (Finset.range 8) (Rest (F := F) d arg15) := by
    refine (list_last (m := 8) (n := 24) (Rest (F := F) d arg15)).trans (Entails.of_eq (bigSep_congr fun j _ => ?_))
    unfold Rest
    rw [cell_congr arg15 (show (24 + j) % 8 = j % 8 by omega)]
  rw [fin_range 32 fun i => BlkOut d arg9 arg7 fullShare.left A.embV i, fin_range 32 fun i => BlkOut d arg10 arg6 fullShare A.outV i, e]
  unfold BlkOut
  rw [list_sep, list_sep, table_shares, hj arg6, hj arg7]
  iintro ⟨⟨⟨H8, HT⟩, H9r, HR⟩, HO, ⟨H7, H9l⟩, H6, H10⟩
  isplitl [HT HO]
  · isplitl [HT]; · iexact HT
    iexact HO
  isplitl [H6]; · iexact H6
  isplitl [H7]; · iexact H7
  isplitl [H8]
  · iapply (any_of_hold (c := d.tc) (V := A.words))
    rw [hj arg8]; iexact H8
  isplitl [H9l H9r]
  · iapply (any_of_hold (c := d.tc) (V := A.embV))
    rw [e9]
    isplitl [H9l]; · iexact H9l
    iexact H9r
  isplitl [H10]
  · iapply (any_of_hold (c := d.tc) (V := A.outV))
    rw [hj arg10]; iexact H10
  iapply h8; iexact HR

/-! ## The body -/

/-- What the body is given: its inputs' contents, the results' and the scratch's buffers whole, and all semaphores at rest. -/
def Pre (q0 q2 q3 q4 q5 : PosShare TreeShare) : sProp 𝕄 :=
  iprop(Hold (d.tc) arg0 Finset.univ q0 A.ids ∗ Hold (d.tc) arg1 Finset.univ fullShare A.table
    ∗ (Hold (d.tc) arg2 Finset.univ q2 A.ids ∗ Hold (d.tc) arg3 Finset.univ q3 A.scale ∗ Hold (d.tc) arg4 Finset.univ q4 A.zero)
    ∗ Hold (d.tc) arg5 Finset.univ q5 A.weight
    ∗ (Any (d.tc) arg6 Finset.univ ∗ Any (d.tc) arg7 Finset.univ)
    ∗ (Any (d.tc) arg8 Finset.univ ∗ Any (d.tc) arg9 Finset.univ ∗ Any (d.tc) arg10 Finset.univ ∗ Any (d.tc) arg11 Finset.univ
      ∗ Any (d.tc) arg12 Finset.univ ∗ Any (d.tc) arg13 Finset.univ ∗ Any (d.tc) arg14 Finset.univ)
    ∗ bigSep (Finset.range 8) (Rest (F := F) d arg15) ∗ semVal (d.tc, .dma arg16.sem) 0 ∗ semVal (d.tc, .dma arg17.sem) 0 ∗ Ow (F := F) d)

/-- What the body leaves: the same, the results written. -/
def Post (q0 q2 q3 q4 q5 : PosShare TreeShare) : sProp 𝕄 :=
  iprop(Hold (d.tc) arg0 Finset.univ q0 A.ids ∗ Hold (d.tc) arg1 Finset.univ fullShare A.table
    ∗ (Hold (d.tc) arg2 Finset.univ q2 A.ids ∗ Hold (d.tc) arg3 Finset.univ q3 A.scale ∗ Hold (d.tc) arg4 Finset.univ q4 A.zero)
    ∗ Hold (d.tc) arg5 Finset.univ q5 A.weight
    ∗ (Hold (d.tc) arg6 Finset.univ fullShare A.outV ∗ Hold (d.tc) arg7 Finset.univ fullShare A.embV)
    ∗ (Any (d.tc) arg8 Finset.univ ∗ Any (d.tc) arg9 Finset.univ ∗ Any (d.tc) arg10 Finset.univ ∗ Any (d.tc) arg11 Finset.univ
      ∗ Any (d.tc) arg12 Finset.univ ∗ Any (d.tc) arg13 Finset.univ ∗ Any (d.tc) arg14 Finset.univ)
    ∗ bigSep (Finset.range 8) (Rest (F := F) d arg15) ∗ semVal (d.tc, .dma arg16.sem) 0 ∗ semVal (d.tc, .dma arg17.sem) 0 ∗ Ow (F := F) d)

variable {q2 q3 q4 : PosShare TreeShare}

include hok in
/-- The body writes the normalised rows and the dequantised rows, and gives everything else back. -/
theorem body_wp :
    Pre d A arg0 arg1 arg2 arg3 arg4 arg5 arg6 arg7 arg8 arg9 arg10 arg11 arg12 arg13 arg14 arg15 arg16 arg17 q0 q2 q3 q4 q5
      ⊢ WP (cc0_embed_rmsnorm (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17) fun _ =>
        Post d A arg0 arg1 arg2 arg3 arg4 arg5 arg6 arg7 arg8 arg9 arg10 arg11 arg12 arg13 arg14 arg15 arg16 arg17 q0 q2 q3 q4 q5 := by
  have r0 : (0 : ℕ) = 32 * 0 := rfl
  have r31 : (992 : ℕ) = 32 * 31 := rfl
  have hB := block_in r31 (by omega)
  have hT := tile_in r0 (by omega)
  have hT' := tile_in r31 (by omega)
  rw [body_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (cell_in (c := 0) (by omega)) (fun i => row_in (by have := i.isLt; omega)) (prm_in r0 (by omega)) hT (fun j => tile_packed r0 (by omega) j (hT j))
    (slot_in (by omega)) hB (block_words r31 (by omega) hB) hT' (fun j => tile_packed r31 (by omega) j (hT' j)) (slot_in (by omega))]
  unfold Pre Post
  iintro ⟨H0, H1, ⟨H2, H3, H4⟩, H5, ⟨H6, H7⟩, ⟨H8, H9, H10, H11, H12, H13, H14⟩, HR, HS16, HS17, HW⟩
  ihave HG := (groups_start d A arg1 arg8 arg15) $$ [H1 H8 HR]
  · isplitl [H1]; · iexact H1
    isplitl [H8]; · iexact H8
    iexact HR
  icases HG with ⟨HP, HOth⟩
  iapply (Scf.wp_for_bind frame (wpE defs₀ 𝒱₀ (d.tc) none) Set.univ _ _ _ k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17)
    (fun n _ => iprop(bigSep (Finset.range 32) (Pt d A arg1 arg8 arg15 n) ∗ Hold (d.tc) arg0 Finset.univ q0 A.ids))
    (fun k u => first_trip d A arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hok k u)) $$ [HP H0]
  · isplitl [HP]; · iexact HP
    iexact H0
  iintro %_ ⟨HP, H0⟩
  ihave HP' := (Entails.of_eq (congrArg (fun n => bigSep (Finset.range 32) (Pt d A arg1 arg8 arg15 n)) trips_first)) $$ HP
  ihave HA := (groups_ahead d A arg1 arg6 arg7 arg8 arg9 arg10 arg15) $$ [HP' H9 H10 H6 H7]
  · isplitl [HP']; · iexact HP'
    isplitl [H9]; · iexact H9
    isplitl [H10]; · iexact H10
    isplitl [H6]; · iexact H6
    iexact H7
  have hf := focus (S := Finset.range 32) (T := {0}) (by decide) (Ahead d A arg1 arg6 arg7 arg8 arg9 arg10 arg15 0) (ST 0) (by
      intro j _ hj
      rw [Finset.mem_singleton] at hj
      exact (st_ahead d A arg1 arg6 arg7 arg8 arg9 arg10 arg15 (by omega)).symm)
  have eA : Ahead d A arg1 arg6 arg7 arg8 arg9 arg10 arg15 0 0 = iprop(Flight d A arg1 arg8 arg15 0 ∗ Any (d.tc) arg9 (Blk 0) ∗ Free (F := F) d arg6 arg7 arg10 0) := by
    rw [Ahead, if_pos (by omega)]
  rw [one_entry, one_entry, eA, st_half] at hf
  ihave HA' := hf $$ HA
  unfold Half OutG
  icases HA' with ⟨⟨HF, H9, HFr⟩, HK⟩
  iapply (wp_seq d (chunks_wp d A arg2 arg3 arg4 arg12 arg13 harg13 arg14 harg14)) $$ [H2 H3 H4 H12 H13 H14]
  · isplitl [H2]; · iexact H2
    isplitl [H3]; · iexact H3
    isplitl [H4]; · iexact H4
    isplitl [H12]; · iexact H12
    isplitl [H13]; · iexact H13
    iexact H14
  iintro %_ ⟨H2, H3, H4, H12, H13, H14⟩
  iapply (wp_seq d (waitRows_wp d A arg1 arg8 arg15 0 rfl)) $$ [HF HW]
  · isplitl [HF]; · iexact HF
    iexact HW
  unfold OutG
  iintro %_ ⟨⟨H8, HT⟩, HR, HW⟩
  iapply (wp_seq d (dqRows_wp d A arg8 arg9 harg9 arg12 arg13 arg14 0 r0)) $$ [H8 H9 H12 H13 H14]
  · isplitl [H8]; · iexact H8
    isplitl [H9]; · iexact H9
    isplitl [H12]; · iexact H12
    isplitl [H13]; · iexact H13
    iexact H14
  iintro %b ⟨%hb, H8, H9, H12, H13, H14⟩
  subst hb
  ihave H11' := (slots_split d arg11) $$ H11
  icases H11' with ⟨HQ, HQ'⟩
  iapply (wp_seq d (sqStore_wp d A arg11 0 0 rfl)) $$ [HQ]
  · iexact HQ
  iintro %_ HQ
  imod (outs_start d arg9 arg7 arg16 fullShare.left A.embV (E := Set.univ)) $$ HS16 with HE
  imod (outs_start d arg10 arg6 arg17 fullShare A.outV (E := Set.univ)) $$ HS17 with HO
  iapply (Scf.wp_for_bind frame (wpE defs₀ 𝒱₀ (d.tc) none) Set.univ _ _ _ k0_t2_ok ⟨⟩ _
    (fun n _ => Inv d A arg0 arg1 arg5 arg6 arg7 arg8 arg9 arg10 arg11 arg12 arg13 arg14 arg15 arg16 arg17 q0 q5 n)
    (fun k u => trip_wp d A arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hok _ k u)) $$ [H0 H5 H8 HT HR HK H9 HFr HQ HQ' HE HO HW H12 H13 H14]
  · unfold Inv Moving Fixed
    isplitl [H8 HT HR HK H9 HFr]
    · iapply HK
      isplitl [H8 HT]
      · isplitl [H8]; · iexact H8
        iexact HT
      isplitl [H9]; · iexact H9
      isplitl [HR]; · unfold Rest; iexact HR
      iexact HFr
    isplitl [HQ HQ' HE HO HW]
    · isplitl [HQ]; · iexact HQ
      isplitl [HQ']; · iexact HQ'
      isplitl [HE]; · iexact HE
      isplitl [HO]; · iexact HO
      iexact HW
    isplitl [H0]; · iexact H0
    isplitl [H5]; · iexact H5
    isplitl [H12]; · iexact H12
    isplitl [H13]; · iexact H13
    iexact H14
  iintro %_ HI
  ihave HI' := (Entails.of_eq (congrArg (fun n => Inv d A arg0 arg1 arg5 arg6 arg7 arg8 arg9 arg10 arg11 arg12 arg13 arg14 arg15 arg16 arg17 q0 q5 n) trips_main)) $$ HI
  have hl := focus (S := Finset.range 32) (T := {31}) (by decide) (ST 31) (ST 32) (by
      intro j hj' hj
      rw [Finset.mem_singleton] at hj
      rw [Finset.mem_range] at hj'
      rw [st_done d A _ _ _ _ _ _ _ (by omega : j < 31), st_done d A _ _ _ _ _ _ _ (by omega : j < 32)])
  rw [one_entry, one_entry, st_half, st_done d A _ _ _ _ _ _ _ (by omega : 31 < 32)] at hl
  unfold Inv Moving Fixed
  icases HI' with ⟨HS, ⟨HQ, HQ', HE, HO, HW⟩, H0, H5, H12, H13, H14⟩
  ihave HS' := hl $$ HS
  unfold Half Done Free
  icases HS' with ⟨⟨HG, H9, HR, H10, H6, H7⟩, HK⟩
  ihave H9' := (Entails.of_eq (hold_half (c := d.tc))) $$ H9
  icases H9' with ⟨H9l, H9r⟩
  iapply (wp_seq d (copyOut_wp d arg9 harg9 arg7 harg7 arg16 fullShare.left A.embV 31 (by omega) r31)) $$ [H9l H7 HE]
  · isplitl [H9l]; · iexact H9l
    isplitl [H7]; · iexact H7
    iexact HE
  iintro %_ HE
  iapply (wp_seq d (normalise_wp d A arg5 arg9 arg10 harg10 arg11 31 1 r31 rfl)) $$ [H5 H9r H10 HQ]
  · isplitl [H5]; · iexact H5
    isplitl [H9r]; · iexact H9r
    isplitl [H10]; · iexact H10
    iexact HQ
  iintro %_ ⟨H5, H9r, H10, HQ⟩
  iapply (wp_seq d (copyOut_wp d arg10 harg10 arg6 harg6 arg17 fullShare A.outV 31 (by omega) r31)) $$ [H10 H6 HO]
  · isplitl [H10]; · iexact H10
    isplitl [H6]; · iexact H6
    iexact HO
  iintro %_ HO
  iapply (wp_seq d (waitOut_wp d arg9 arg7 arg16 fullShare.left A.embV)) $$ [HE HW]
  · isplitl [HE]; · iexact HE
    iexact HW
  iintro %_ ⟨HE, HS16, HW⟩
  iapply (wp_last d (waitOut_wp d arg10 arg6 arg17 fullShare A.outV)) $$ [HO HW]
  · isplitl [HO]; · iexact HO
    iexact HW
  iintro %_ ⟨HO, HS17, HW⟩
  ihave HX := (groups_end d A arg1 arg6 arg7 arg8 arg9 arg10 arg15) $$ [HK HG H9r HR HOth HE HO]
  · isplitl [HK HG H9r HR]
    · iapply HK
      isplitl [HG]; · iexact HG
      isplitl [H9r]; · iexact H9r
      rw [if_pos (by omega)]
      iexact HR
    isplitl [HOth]; · iexact HOth
    isplitl [HE]; · iexact HE
    iexact HO
  icases HX with ⟨H1, H6, H7, H8, H9, H10, HR⟩
  isplitl [H0]; · iexact H0
  isplitl [H1]; · iexact H1
  isplitl [H2 H3 H4]
  · isplitl [H2]; · iexact H2
    isplitl [H3]; · iexact H3
    iexact H4
  isplitl [H5]; · iexact H5
  isplitl [H6 H7]
  · isplitl [H6]; · iexact H6
    iexact H7
  isplitl [H8 H9 H10 HQ HQ' H12 H13 H14]
  · isplitl [H8]; · iexact H8
    isplitl [H9]; · iexact H9
    isplitl [H10]; · iexact H10
    isplitl [HQ HQ']
    · iapply (slots_join d arg11)
      isplitl [HQ']; · iexact HQ'
      iapply (any_of_hold (c := d.tc)) $$ HQ
    isplitl [H12]; · iapply (any_of_hold (c := d.tc)) $$ H12
    isplitl [H13]; · iapply (any_of_hold (c := d.tc)) $$ H13
    iapply (any_of_hold (c := d.tc)) $$ H14
  isplitl [HR]; · iexact HR
  isplitl [HS16]; · iexact HS16
  isplitl [HS17]; · iexact HS17
  iexact HW

end Body

end Cert.Kernel.Emb
end
-- ==== Proof.Owns.lean ====
/- Owned memrefs and memrefs held are the same. -/
module

public import proofs.«01_k».proof.Proof.Hold
public import Idealize.ShloMosaic.Lib.Pipeline.FrameSuffixV

@[expose] public section

noncomputable section

namespace Cert.Emb

open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws

/-! ## Whole buffers and staged blocks as memrefs held -/

section Whole

variable {nD : Nat} {τ : Topo} {sig : RefSig} {Ix : Type} [DecidableEq Ix]
variable {Val : EltTy → Type} [∀ e, Nonempty (Val e)] {Name : Type} [DecidableEq Name]
variable {U : Type} [URA U] {Lvl : Type}

local notation "𝕄" => MT nD τ sig Ix Val Name U Lvl

variable (c : Thread nD τ)

section Part

variable {sp : Space} {s : Shape} {e : EltTy} (m : Memref sig c.2.kind sp s e) (q : PosShare TreeShare) (X : s.Idx → Val e)

theorem hold_of_owns : (owns c m q X : sProp 𝕄) ⊢ Hold c m Finset.univ q X := by
  have hr : ∀ f, (m.view.loc c ↦[m.view.set]{q} f : sProp 𝕄) ⊢ Hold c m Finset.univ q (m.view.read Val f) :=
    fun f => Entails.of_eq (hold_read (c := c) (m := m) (A := Finset.univ) (q := q) f)
  unfold owns
  iintro ⟨%f, %h, H⟩
  subst h
  iapply (hr f) $$ H

theorem owns_of_hold : (Hold c m Finset.univ q X : sProp 𝕄) ⊢ owns c m q X := by
  unfold owns Hold
  iintro H
  iexists (m.view.rep X)
  isplitr
  · ipureintro
    funext x
    rw [View.read_apply, View.rep_emb, cast_cast, cast_eq]
  · iexact H

end Part

/-- A buffer owned is its whole memref held. -/
theorem hold_whole (b : Ref sig c.2.kind) (q : PosShare TreeShare) (f : b.ty.Contents Val) :
    ((c.loc b) ↦{q} f : sProp 𝕄) = Hold c (Memref.whole b) Finset.univ q f := by
  rw [← owns_whole c b q f]
  exact Idealize.SL.BI.Entails.antisymm (hold_of_owns c _ q f) (owns_of_hold c _ q f)

end Whole

end Cert.Emb
end
-- ==== Proof.Launch.lean ====
/- The program's run: the host lines before the kernel, the kernel on its buffers as they find them, the host lines
   after it. It ends with the arguments as they were, every semaphore at rest, and the results the kernel's rows. -/
module

public import proofs.«01_k».proof.Proof.Main
public import proofs.«01_k».proof.Proof.Owns
public import proofs.«01_k».proof.Proof.Gen.Kernel.Frame

@[expose] public section

set_option maxRecDepth 16384

noncomputable section

namespace Cert.Kernel.Emb

open Idealize.ShloMosaic Idealize.ShloMosaic.TcCoe Idealize.ShloMosaic.Tactic Cert.Kernel.Gen Cert.Emb
open Idealize.SL
open Idealize.SL.RA Idealize.SL.Sem Idealize.SL.ProofMode
open Idealize.SL.BI (sProp bigSep bigSep_insert bigSep_mono bigSep_empty bigSep_congr bigSep_singleton)
open scoped Idealize.SL.BI
open Idealize.SL.BI.BIBase Idealize.SL.BI.Laws
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel is given and gives -/

/-- The kernel's inputs as the lines before it leave them. -/
def inp (c : Dev nD) : Args F where
  ids := iblk m c 0 t0_0
  table := V m c main_v2
  scale := iblk m c 2 t0_0
  zero := iblk m c 3 t0_0
  weight := iblk m c 4 t0_0

/-- The tokens are staged twice, to the same contents. -/
theorem ids_twice (c : Dev nD) : (iblk m c 1 t0_0 : S1x1024.Idx → Elt F .i32) = (inp m c).ids := rfl

/-- The buffers the kernel copies rows out of, and those it copies rows to. -/
def HH : Finset (Ref sig .tc) := {main_v2}
def RR : Finset (Ref sig .tc) := {main_v6_0, main_v6_1}
theorem HH_sub : HH ⊆ Pipeline.restRefsP sig Pipeline.Prefetch.none spec0 := by decide
theorem RR_sub : RR ⊆ Pipeline.restRefsP sig Pipeline.Prefetch.none spec0 \ HH := by decide

/-- The kernel's own semaphores: the eight cells of the copies in, and one each for the copies out. -/
def semAt (j : ℕ) : DmaSem sig := if j < 8 then cell cc0_scratch7 j else if j = 8 then cc0_scratch8.sem else cc0_scratch9.sem
def osem (k : Fin 10) : SemLoc sig := .dma (semAt k.val)
theorem osem_facts : Pipeline.OwnSemFacts spec0 osem := by decide

/-- What the kernel leaves: the results' rows. -/
def outs (c : Dev nD) : (b : Ref sig .tc) → Buf (Elt F) ((c.tc : Thread nD τ).loc b) :=
  Function.update (Function.update (V m c) main_v6_0 (inp m c).outV) main_v6_1 (inp m c).embV

theorem outs_out (c : Dev nD) : outs m c main_v6_0 = (inp m c).outV := by
  unfold outs
  rw [Function.update_of_ne (by decide), Function.update_self]
theorem outs_emb (c : Dev nD) : outs m c main_v6_1 = (inp m c).embV := by
  unfold outs
  rw [Function.update_self]

/-- The invariant's results: as found, then as left. -/
def Res (t : Fin (cfg0.N + 1)) (c : Dev nD) (b : Ref sig .tc) : Buf (Elt F) ((c.tc : Thread nD τ).loc b) :=
  if t = 0 then V m c b else outs m c b

theorem Res_zero : Res m 0 = V m := by
  funext c b; unfold Res; rw [if_pos rfl]
theorem Res_succ (t : Fin cfg0.N) : Res m t.succ = outs m := by
  funext c b; unfold Res; rw [if_neg (Fin.succ_ne_zero t)]
theorem Res_last : Res m (Fin.last cfg0.N) = outs m := by
  rw [show Fin.last cfg0.N = Fin.succ t0_0 from rfl, Res_succ]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Pipeline.ΦDRV osem spec0 HH RR (V m) (Res m t) c
  q w := Pipeline.shareOf spec0 w
  owed _ := 0

theorem A_eq (c : Dev nD) (w : Fin cfg0.W) : (dats m 0 c).A w = V m c (Pipeline.arrRef spec0 w) := by
  dsimp only [dats]

/-- An input's staging buffer holds its block. -/
theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_4 (c : Dev nD) (t : Fin cfg0.N) (d) : (dats m 0 c).before 4 t d = iblk m c 4 t := by
  unfold Dat.before; rw [if_pos (fetch0_4 t)]; unfold Dat.fetched Dat.blockOf iblk; dsimp only [dats]; rfl

/-! ## The body's obligation -/

theorem ownSems_eq (c : Dev nD) : (Pipeline.ownSems0 (Ix := Unit) (Name := ℕ) (U := Pipeline.UD sig nD τ) (Lvl := ℕ) (Val := Elt F) (τ := τ) osem c : sProp 𝕄)
    = iprop(semVal (c.tc, .dma cc0_scratch9.sem) 0 ∗ semVal (c.tc, .dma cc0_scratch8.sem) 0 ∗ bigSep (Finset.range 8) (Rest (F := F) c cc0_scratch7)) := by
  unfold Pipeline.ownSems0 osem
  rw [fin_range 10 fun j => (semVal ((c.tc : Thread nD τ), .dma (semAt j)) 0 : sProp 𝕄)]
  have e : ∀ (n : ℕ) (Φ : ℕ → sProp 𝕄), bigSep (Finset.range (n + 1)) Φ = iprop(Φ n ∗ bigSep (Finset.range n) Φ) := fun n Φ => by
    rw [Finset.range_add_one]
    exact bigSep_insert Finset.notMem_range_self
  rw [e, e]
  have e8 : bigSep (Finset.range 8) (fun j => (semVal ((c.tc : Thread nD τ), .dma (semAt j)) 0 : sProp 𝕄)) = bigSep (Finset.range 8) (Rest (F := F) c cc0_scratch7) :=
    bigSep_congr fun j hj => by
      unfold Rest semAt
      rw [if_pos (Finset.mem_range.mp hj)]
  rw [e8]
  rfl

theorem HH_eq (c : Dev nD) (Φ : Ref sig .tc → sProp 𝕄) : bigSep HH Φ = Φ main_v2 := bigSep_singleton
theorem RR_eq (c : Dev nD) (Φ : Ref sig .tc → sProp 𝕄) : bigSep RR Φ = iprop(Φ main_v6_0 ∗ Φ main_v6_1) := by
  unfold RR
  rw [bigSep_insert (by decide), bigSep_singleton]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem any_of_buf (c : Dev nD) (b : Ref sig .tc) :
    (iprop(∃ f : Buf (Elt F) ((c : Thread nD τ).loc b), ((c : Thread nD τ).loc b) ↦{fullShare} f) : sProp 𝕄) ⊢ Any (c.tc) (Memref.whole b) Finset.univ := by
  unfold Any
  iintro ⟨%f, H⟩
  iexists f
  iapply (Entails.of_eq (hold_whole (c.tc) b fullShare f)) $$ H

theorem buf_of_any (c : Dev nD) (b : Ref sig .tc) :
    (Any (c.tc) (Memref.whole b) Finset.univ : sProp 𝕄) ⊢ iprop(∃ f : Buf (Elt F) ((c : Thread nD τ).loc b), ((c : Thread nD τ).loc b) ↦{fullShare} f) := by
  unfold Any
  iintro ⟨%f, H⟩
  iexists f
  iapply (Entails.of_eq (hold_whole (c.tc) b fullShare f).symm) $$ H

set_option maxHeartbeats 1600000 in
theorem body_sound (hok : ∀ c, (inp m c).Ok) (c : Dev nD) (t : Fin cfg0.N) :
    bodyPre m c t ⊢ wp frame (wpE (defs₀ (F := F)) 𝒱₀ (c : Thread nD τ) none) Set.univ (bodyAt0 t) (fun _ => bodyPost m c t) := by
  obtain rfl := fin_N0 t
  unfold bodyPre bodyPost
  rw [show (dats m 0 c).Φ (Fin.castSucc t0_0) = Pipeline.ΦDRV osem spec0 HH RR (V m) (Res m (Fin.castSucc t0_0)) c from rfl,
    show (dats m 0 c).Φ (Fin.succ t0_0) = Pipeline.ΦDRV osem spec0 HH RR (V m) (Res m (Fin.succ t0_0)) c from rfl]
  unfold Pipeline.ΦDRV Dat.owesAt Pipeline.owesWithin
  rw [scopedRest0_eq, ownSems_eq, HH_eq c, RR_eq c, RR_eq c,
    show (dats m 0 c).owed (Fin.castSucc t0_0) = 0 from rfl, show (dats m 0 c).owed (Fin.succ t0_0) = 0 from rfl,
    Res_succ, outs_out, outs_emb]
  have hT : ((c.tc : Thread nD τ).loc main_v2 ↦{fullShare} V m c main_v2 : sProp 𝕄) = Hold (c.tc) (Memref.whole main_v2) Finset.univ fullShare (inp m c).table :=
    hold_whole (c.tc) main_v2 fullShare (V m c main_v2)
  have hX : ((c.tc : Thread nD τ).loc main_v6_0 ↦{fullShare} (inp m c).outV : sProp 𝕄) = Hold (c.tc) (Memref.whole main_v6_0) Finset.univ fullShare (inp m c).outV :=
    hold_whole (c.tc) main_v6_0 fullShare (inp m c).outV
  have hY : ((c.tc : Thread nD τ).loc main_v6_1 ↦{fullShare} (inp m c).embV : sProp 𝕄) = Hold (c.tc) (Memref.whole main_v6_1) Finset.univ fullShare (inp m c).embV :=
    hold_whole (c.tc) main_v6_1 fullShare (inp m c).embV
  have h := body_wp c (inp m c) (st0_0 t0_0) (hstage0_0 0) (Memref.whole main_v2) (Memref.isWhole_whole _) (st0_1 t0_0) (hstage0_1 0) (st0_2 t0_0) (hstage0_2 0)
    (st0_3 t0_0) (hstage0_3 0) (st0_4 t0_0) (hstage0_4 0) (Memref.whole main_v6_0) (Memref.isWhole_whole _) (Memref.whole main_v6_1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scratch8 cc0_scratch9 (hok c)
    (q0 := fullShare) (q2 := fullShare) (q3 := fullShare) (q4 := fullShare) (q5 := fullShare)
  iintro ⟨⟨⟨HS0, HS1, HS2, HS3, HS4, HS5, HS6⟩, ⟨HQ9, HQ8, HQ⟩, HT, HX, HY⟩, ⟨%W, -, HW⟩, ⟨%d0, H0⟩, ⟨%d1, H1⟩, ⟨%d2, H2⟩, ⟨%d3, H3⟩, ⟨%d4, H4⟩⟩
  rw [before_0, before_1, before_2, before_3, before_4]
  iapply (wp_last c h) $$ [HS0 HS1 HS2 HS3 HS4 HS5 HS6 HQ9 HQ8 HQ HT HX HY HW H0 H1 H2 H3 H4]
  · unfold Pre Ow
    isplitl [H0]; · iapply (hold_of_owns (c.tc)); iexact H0
    isplitl [HT]; · iapply (Entails.of_eq hT) $$ HT
    isplitl [H1 H2 H3]
    · isplitl [H1]; · iapply (hold_of_owns (c.tc)); iexact H1
      isplitl [H2]; · iapply (hold_of_owns (c.tc)); iexact H2
      iapply (hold_of_owns (c.tc)); iexact H3
    isplitl [H4]; · iapply (hold_of_owns (c.tc)); iexact H4
    isplitl [HX HY]
    · isplitl [HX]
      · iapply (any_of_buf c main_v6_0); iexists _; iexact HX
      iapply (any_of_buf c main_v6_1); iexists _; iexact HY
    isplitl [HS0 HS1 HS2 HS3 HS4 HS5 HS6]
    · isplitl [HS0]; · iapply (any_of_buf c cc0_scratch0); iexact HS0
      isplitl [HS1]; · iapply (any_of_buf c cc0_scratch1); iexact HS1
      isplitl [HS2]; · iapply (any_of_buf c cc0_scratch2); iexact HS2
      isplitl [HS3]; · iapply (any_of_buf c cc0_scratch3); iexact HS3
      isplitl [HS4]; · iapply (any_of_buf c cc0_scratch4); iexact HS4
      isplitl [HS5]; · iapply (any_of_buf c cc0_scratch5); iexact HS5
      iapply (any_of_buf c cc0_scratch6); iexact HS6
    isplitl [HQ]; · iexact HQ
    isplitl [HQ8]; · iexact HQ8
    isplitl [HQ9]; · iexact HQ9
    iexists W; iexact HW
  unfold Post Ow
  iintro %_ ⟨H0, HT, ⟨H1, H2, H3⟩, H4, ⟨HX, HY⟩, ⟨HS0, HS1, HS2, HS3, HS4, HS5, HS6⟩, HQ, HQ8, HQ9, ⟨%W', HW⟩⟩
  isplitl [HT HX HY HS0 HS1 HS2 HS3 HS4 HS5 HS6 HQ HQ8 HQ9]
  · isplitl [HS0 HS1 HS2 HS3 HS4 HS5 HS6]
    · isplitl [HS0]; · iapply (buf_of_any c cc0_scratch0); iexact HS0
      isplitl [HS1]; · iapply (buf_of_any c cc0_scratch1); iexact HS1
      isplitl [HS2]; · iapply (buf_of_any c cc0_scratch2); iexact HS2
      isplitl [HS3]; · iapply (buf_of_any c cc0_scratch3); iexact HS3
      isplitl [HS4]; · iapply (buf_of_any c cc0_scratch4); iexact HS4
      isplitl [HS5]; · iapply (buf_of_any c cc0_scratch5); iexact HS5
      iapply (buf_of_any c cc0_scratch6); iexact HS6
    isplitl [HQ HQ8 HQ9]
    · isplitl [HQ9]; · iexact HQ9
      isplitl [HQ8]; · iexact HQ8
      iexact HQ
    isplitl [HT]; · iapply (Entails.of_eq hT.symm) $$ HT
    isplitl [HX]; · iapply (Entails.of_eq hX.symm) $$ HX
    iapply (Entails.of_eq hY.symm) $$ HY
  isplitl [HW]
  · iexists W'; isplitr; · ipureintro; exact fun _ _ => Or.inl trivial
    iexact HW
  isplitl [H0]; · iapply (owns_of_hold (c.tc)); iexact H0
  isplitl [H1]; · iapply (owns_of_hold (c.tc)); iexact H1
  isplitl [H2]; · iapply (owns_of_hold (c.tc)); iexact H2
  isplitl [H3]; · iapply (owns_of_hold (c.tc)); iexact H3
  iapply (owns_of_hold (c.tc)); iexact H4

theorem defs₀_row (t : Fin cfg0.N) : defs₀ (F := F) .tc cfg0.body (cfg0.bodyArgs t (cfg0.slots t)) = bodyAt0 t := by
  unfold defs₀; rw [Defs.onTc_tc]

theorem body_obligation (hok : ∀ c, (inp m c).Ok) (c : Dev nD) : BodyObligation (dats (F := F) m 0 c) (defs₀ (F := F)) 𝒱₀ () Set.univ := fun t => by
  rw [bigSep_W0, bigSep_W0, defs₀_row]
  exact triple_restated (body_sound m hok c t) rfl .rfl fun _ => .rfl

/-! ## The run -/

theorem main_around : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers as the kernel leaves them. -/
abbrev left (c : Dev nD) : Valuation τ sig (Elt F) :=
  Pipeline.withArrays spec0 c (Pipeline.withR (V0 m c) RR c (outs m c)) fun w => (dats m 0 c).arrAt w cfg0.N

theorem start (c : Dev nD) (X : sProp 𝕄) : (iprop(Pipeline.ΦDRV osem spec0 HH RR (V m) (V m) c ∗ X) : sProp 𝕄) ⊢ (dats m 0 c).Φ 0 := by
  rw [show (dats m 0 c).Φ 0 = Pipeline.ΦDRV osem spec0 HH RR (V m) (Res m 0) c from rfl, Res_zero]
  iintro ⟨H, -⟩
  iexact H

theorem finish (c : Dev nD) : (dats m 0 c).Φ (Fin.last cfg0.N) ⊢ (Pipeline.ΦDRV osem spec0 HH RR (V m) (outs m) c : sProp 𝕄) := by
  rw [show (dats m 0 c).Φ (Fin.last cfg0.N) = Pipeline.ΦDRV osem spec0 HH RR (V m) (Res m (Fin.last cfg0.N)) c from rfl, Res_last]

set_option backward.isDefEq.respectTransparency.types false in
theorem run_main (hok : ∀ c, (inp m c).Ok) : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefsP sig Pipeline.Prefetch.none spec0, r.2.mem ((c.tc : Thread nD τ).loc b) = StableHlo.after (List.flatten [hostOps1]) (left m c) (Proc.devRef .tc b))
      ∧ r.2.sem = fun _ => 0) :=
  Pipeline.θ_run_frameP_dmaR_aroundV_shared (fun q => (cfgs q).toPCfg (Val := Elt F)) (fun q => (cfgs q).toPCfg_adm) (dats m) (0 : Fin 1) launch₀0.toP osem defs₀ 𝒱₀
    osem_facts HH RR HH_sub RR_sub m ρ main
    (hbody := fun c => (body_obligation m hok c).loose) (hq := fun _ _ _ => rfl) (howed := fun _ _ => rfl) (V₀ := V0 m) (opss := [hostOps1])
    (hsub := sfx_sub) (hfresh := sfx_fresh) (hkeep := sfx_keeps) (G := outs m) (hmain := main_around m) (hA := A_eq m) (hpf := fun _ k => k.elim0)
    (hin := fun c => start m c _) (hout := finish m) (Q' := _) (hQ' := fun _ h => h)

end Cert.Kernel.Emb
end
-- ==== Proof.Run.lean ====
/- The program's run, read at its arguments and results: what the lines before the kernel give it, and what the lines after
   it make of the rows it leaves. -/
module

public import proofs.«01_k».proof.Proof.Launch
public import proofs.«01_k».proof.Pre_ids_name_rows
public import Idealize.ShloMosaic.Lib.StableHlo.Run

@[expose] public section

set_option maxRecDepth 16384

noncomputable section

namespace Cert.Kernel.Emb

open Idealize.ShloMosaic Idealize.ShloMosaic.TcCoe Idealize.ShloMosaic.StableHlo Cert.Kernel.Gen Cert.Emb Idealize.SL.Sem

variable {F : FTy → Type} [FloatOps F]
variable (m : (ℓ : Loc nD τ sig) → Buf (Elt F) ℓ) (ρ : Dev nD → PrngReg)

/-! ## What the kernel is given -/

theorem inp_ids (c : Dev nD) : (inp m c).ids = m ((c.tc : Thread nD τ).loc main_arg0) := by
  have h : (inp m c).ids = V m c main_arg0 := by
    have hz : (fun a => (win0_0.index t0_0) a * main_arg0.ty.shape.size a) = fun _ => 0 := funext fun a => by fin_cases a <;> decide
    exact Memref.read_access_unit_zero (Elt F) main_arg0 hz (fun a => by fin_cases a <;> decide) (V m c main_arg0)
  rw [h, V_main_arg0]

theorem inp_table (c : Dev nD) : (inp m c).table
    = Host.bitcastConvertWiden S2016x3072 32 (transpose S2016x3072x4 [0, 2, 1] (shapeCast S2016x4x3072 (m ((c.tc : Thread nD τ).loc main_arg1) : S8064x3072.Idx → BitVec 8)
        shapeCasts_S8064x3072_S2016x4x3072) transposes_S2016x4x3072_S2016x3072x4_0_2_1) splits_S2016x3072_w32_S2016x3072x4_w8 := by
  show V m c main_v2 = _
  simp only [V, V0, hostOps0, List.flatten_cons, List.flatten_nil, List.append_nil]
  after_results_simp <;> rfl

theorem inp_scale (c : Dev nD) : (inp m c).scale = shapeCast S63x128 (m ((c.tc : Thread nD τ).loc main_arg2) : S8064.Idx → Elt F .f32) shapeCasts_S8064_S63x128 := by
  have h : (inp m c).scale = V m c main_v3 := by
    have hz : (fun a => (win0_2.index t0_0) a * main_v3.ty.shape.size a) = fun _ => 0 := funext fun a => by fin_cases a <;> decide
    exact Memref.read_access_unit_zero (Elt F) main_v3 hz (fun a => by fin_cases a <;> decide) (V m c main_v3)
  rw [h]
  simp only [V, V0, hostOps0, List.flatten_cons, List.flatten_nil, List.append_nil]
  after_results_simp <;> rfl

theorem inp_zero (c : Dev nD) : (inp m c).zero = shapeCast S63x128 (m ((c.tc : Thread nD τ).loc main_arg3) : S8064.Idx → Elt F .bf16) shapeCasts_S8064_S63x128 := by
  have h : (inp m c).zero = V m c main_v4 := by
    have hz : (fun a => (win0_3.index t0_0) a * main_v4.ty.shape.size a) = fun _ => 0 := funext fun a => by fin_cases a <;> decide
    exact Memref.read_access_unit_zero (Elt F) main_v4 hz (fun a => by fin_cases a <;> decide) (V m c main_v4)
  rw [h]
  simp only [V, V0, hostOps0, List.flatten_cons, List.flatten_nil, List.append_nil]
  after_results_simp <;> rfl

theorem inp_weight (c : Dev nD) : (inp m c).weight = shapeCast S1x3072 (m ((c.tc : Thread nD τ).loc main_arg4) : S3072.Idx → Elt F .bf16) shapeCasts_S3072_S1x3072 := by
  have h : (inp m c).weight = V m c main_v5 := by
    have hz : (fun a => (win0_4.index t0_0) a * main_v5.ty.shape.size a) = fun _ => 0 := funext fun a => by fin_cases a <;> decide
    exact Memref.read_access_unit_zero (Elt F) main_v5 hz (fun a => by fin_cases a <;> decide) (V m c main_v5)
  rw [h]
  simp only [V, V0, hostOps0, List.flatten_cons, List.flatten_nil, List.append_nil]
  after_results_simp <;> rfl

/-! ## The precondition: every id names a row -/

/-- Every token names a row of the table. -/
def InRange : Prop := ∀ (c : Dev nD) (x : S1x1024.Idx), (m ((c.tc : Thread nD τ).loc main_arg0) x : BitVec 32).toNat < 8064

theorem inRange_of_pre [hPre : Cert.Pre_ids_name_rows.Facts] (h : ∀ c : Dev nD, Cert.Pre_ids_name_rows.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) : InRange m := by
  intro c x
  have e := congrFun (h c) x
  have k : ∀ v : BitVec 32, IntOp.andi (IntOp.cmpi .sge v 0#32) (IntOp.cmpi .slt v 8064#32) = 1#1 → v.toNat < 8064 := by
    intro v hv
    have b : ∀ a b : Bool, BitVec.ofBool a &&& BitVec.ofBool b = 1#1 → a = true ∧ b = true := by decide
    obtain ⟨h0, h1⟩ := b _ _ hv
    rw [BitVec.sle_iff_toInt_le] at h0
    rw [BitVec.slt_iff_toInt_lt] at h1
    have e0 : (0#32 : BitVec 32).toInt = 0 := by decide
    have e1 : (8064#32 : BitVec 32).toInt = 8064 := by decide
    rw [e0] at h0
    rw [e1] at h1
    rw [BitVec.toInt_eq_toNat_cond] at h0 h1
    split at h0 <;> split at h1 <;> omega
  exact k _ e

theorem ok_of_inRange (h : InRange m) (c : Dev nD) : (inp m c).Ok := by
  intro t ht a
  have hv := h c (mk2 1 1024 0 t)
  rw [inp_ids]
  have k : ∀ v : BitVec 32, v.toNat < 8064 → (Scalar.shrui v 2#32).toNat + 1 ≤ 2016 := by
    intro v hv
    have e : (Scalar.shrui v 2#32).toNat = v.toNat / 4 := by
      show (v >>> (2#32 : BitVec 32).toNat).toNat = _
      rw [BitVec.toNat_ushiftRight, Nat.shiftRight_eq_div_pow]; rfl
    omega
  fin_cases a
  · exact k _ hv
  · show 0 + 3072 ≤ 3072
    omega

/-! ## The run -/

theorem left_out (c : Dev nD) : left m c (Proc.devRef .tc main_v6_0) = (inp m c).outV := by
  unfold left
  rw [Pipeline.withArrays_of_ne _ c _ _ main_v6_0 (by exact (by decide : ∀ w, Pipeline.arrRef spec0 w ≠ main_v6_0)), Pipeline.withR_of_mem _ _ _ _ _ (by decide), outs_out]
theorem left_emb (c : Dev nD) : left m c (Proc.devRef .tc main_v6_1) = (inp m c).embV := by
  unfold left
  rw [Pipeline.withArrays_of_ne _ c _ _ main_v6_1 (by exact (by decide : ∀ w, Pipeline.arrRef spec0 w ≠ main_v6_1)), Pipeline.withR_of_mem _ _ _ _ _ (by decide), outs_emb]

theorem after_out (W : Valuation τ sig (Elt F)) : StableHlo.after (List.flatten [hostOps1]) W (Proc.devRef .tc main_v7)
    = shapeCast S1x1024x3072 (W (Proc.devRef .tc main_v6_0) : S1024x3072.Idx → Elt F .bf16) shapeCasts_S1024x3072_S1x1024x3072 := by
  simp only [hostOps1, List.flatten_cons, List.flatten_nil, List.append_nil]
  after_results_simp <;> rfl
theorem after_emb (W : Valuation τ sig (Elt F)) : StableHlo.after (List.flatten [hostOps1]) W (Proc.devRef .tc main_v8)
    = shapeCast S1x1024x3072 (W (Proc.devRef .tc main_v6_1) : S1024x3072.Idx → Elt F .bf16) shapeCasts_S1024x3072_S1x1024x3072 := by
  simp only [hostOps1, List.flatten_cons, List.flatten_nil, List.append_nil]
  after_results_simp <;> rfl

/-- A buffer no line writes and the kernel only reads ends as launched. -/
theorem kept (c : Dev nD) (b : Ref sig .tc) (h7 : b ≠ main_v7) (h8 : b ≠ main_v8) (hR : b ∉ RR) (hw : ∀ w, Pipeline.arrRef spec0 w ≠ b) :
    StableHlo.after (List.flatten [hostOps1]) (left m c) (Proc.devRef .tc b) = V m c b := by
  have e : ∀ W : Valuation τ sig (Elt F), StableHlo.after (List.flatten [hostOps1]) W (Proc.devRef .tc b) = W (Proc.devRef .tc b) := fun W =>
    StableHlo.after_of_forall_not_mem _ _ (List.forall_iff_forall_mem.mp (by
      simp only [hostOps1, List.flatten_cons, List.flatten_nil, List.append_nil, List.cons_append, List.nil_append, List.Forall, StableHlo.reshape_writes, Finset.mem_singleton]
      exact ⟨StableHlo.devRef_ne_of_ne h7, StableHlo.devRef_ne_of_ne h8⟩))
  rw [e]
  unfold left
  rw [Pipeline.withArrays_of_ne _ c _ _ b hw, Pipeline.withR_of_not_mem _ _ _ _ _ hR]

theorem arg0_kept (c : Dev nD) : (dats m 0 c).arrAt 0 cfg0.N = m ((c.tc : Thread nD τ).loc main_arg0) := by
  rw [(dats m 0 c).arrAt_in 0 rfl _, A_eq]
  exact V_main_arg0 m c

/-- Every run ends, with the arguments as they were, the results the kernel's rows, and every semaphore at rest. -/
theorem run (h : InRange m) : θ_run defs (onTc (τ := τ) (main (F := F))) ⟨m, fun _ => 0, ρ⟩ (fun r => (∀ c : Dev nD,
      (r.2.mem ((c.tc : Thread nD τ).loc main_v7) = shapeCast S1x1024x3072 (inp m c).outV shapeCasts_S1024x3072_S1x1024x3072
        ∧ r.2.mem ((c.tc : Thread nD τ).loc main_v8) = shapeCast S1x1024x3072 (inp m c).embV shapeCasts_S1024x3072_S1x1024x3072)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => by
      obtain ⟨hA, hB⟩ := hr.1 c
      refine ⟨⟨?_, ?_⟩, ?_, ?_, ?_, ?_, ?_⟩
      · rw [hB main_v7 (by decide), after_out, left_out]
      · rw [hB main_v8 (by decide), after_emb, left_emb]
      · exact (hA 0).trans (arg0_kept m c)
      · rw [hB main_arg1 (by decide), kept m c main_arg1 (by decide) (by decide) (by decide) (by decide), V_main_arg1]
      · rw [hB main_arg2 (by decide), kept m c main_arg2 (by decide) (by decide) (by decide) (by decide), V_main_arg2]
      · rw [hB main_arg3 (by decide), kept m c main_arg3 (by decide) (by decide) (by decide) (by decide), V_main_arg3]
      · rw [hB main_arg4 (by decide), kept m c main_arg4 (by decide) (by decide) (by decide) (by decide), V_main_arg4], hr.2⟩)
    (run_main m ρ (ok_of_inRange m h))

end Cert.Kernel.Emb
end
-- ==== Proof.IdealSteps.lean ====
/- The kernel's steps as programs of their own: start a group's row copies, wait for them, dequantise a group, normalise
   a group, select the per-token parameters; each a short program over a row number, iterated. The printed kernel
   unrolls them; `Unrolled.lean` proves that it is their composition. -/
module

public import proofs.«01_k».proof.Proof.Gen.KernelIdeal.Skeleton

@[expose] public section

set_option maxRecDepth 16384

noncomputable section

namespace Cert.KernelIdeal.Emb

open Idealize.ShloMosaic Idealize.SL.Sem Cert.KernelIdeal.Gen

variable {F : FTy → Type} [FloatOps F] [Named F]

/-- The kernel's programs. -/
abbrev P (F : FTy → Type) [FloatOps F] (α : Type) := Prog (TpuEff nD τ sig (Elt F) Λ₀ .tc) α

/-- Run `f` at each of a list in turn. -/
def each {n : ℕ} (f : Fin n → P F Unit) : List (Fin n) → P F Unit
  | [] => pure ()
  | i :: l => f i >>= fun _ => each f l

/-- Run `f` at each of a list in turn, carrying a value. -/
def fold {n : ℕ} {σ : Type} (f : Fin n → σ → P F σ) : List (Fin n) → σ → P F σ
  | [], a => pure a
  | i :: l, a => f i a >>= fun b => fold f l b

/-- Rows `0 … 31` of a group. -/
def l32 : List (Fin 32) := [0,1,2,3,4,5,6,7,8,9,10,11,12,13,14,15,16,17,18,19,20,21,22,23,24,25,26,27,28,29,30,31]
/-- The column tiles. -/
def l24 : List (Fin 24) := [0,1,2,3,4,5,6,7,8,9,10,11,12,13,14,15,16,17,18,19,20,21,22,23]
/-- The chunks of 128 tokens. -/
def l8 : List (Fin 8) := [0,1,2,3,4,5,6,7]

/-! ## Row copies -/

/-- The table row (of packed words) that token id `v` lies in. -/
def offT (v : BitVec 32) : Fin 2 → ℕ := ![(Scalar.shrui v 2#32).toNat, 0]

/-- Read token `oI`'s id and start the copy of its table row into row `oD`, on semaphore cell `oS`. -/
def startRow (arg0 : Memref sig .tc .smem S1x1024 .i32) (arg1 : Memref sig .tc .hbm S2016x3072 .i32)
    (arg8 : Memref sig .tc .vmem S1024x3072 .i32) (arg15 : DmaSems sig S8)
    (C : BitVec 32 → Prop) (dC : ∀ v, Decidable (C v)) (hC : ∀ v, C v → ∀ a, offT v a + S1x3072.size a ≤ S2016x3072.size a)
    (oI : Fin 2 → ℕ) (hI : ∀ a, oI a + S1x1.size a ≤ S1x1024.size a)
    (oS : Fin 1 → ℕ) (hS : ∀ a, oS a + S1.size a ≤ S8.size a)
    (oD : Fin 2 → ℕ) (hD : ∀ a, oD a + S1x3072.size a ≤ S1024x3072.size a) : P F Unit := do
  let v : Elt F .i32 ← smemLoad arg0 (Rect.unit (s := S1x1024) oI S1x1.size hI) numel1_S1x1 rfl
  have hw : C v := (← Prog.lift (TpuEff.assume (C v) (dC v))).down
  Prog.lift (.enqueueDma (arg1.slice (Rect.unit (s := S2016x3072) (offT v) S1x3072.size (hC v hw)) (fun _ => rfl))
    (.here (arg8.slice (Rect.unit (s := S1024x3072) oD S1x3072.size hD) (fun _ => rfl)))
    (.dma ((arg15.slice (Rect.unit (s := S8) oS S1.size hS)).squeeze S_ squeezes_S1_S_).sem)
    (View.wordExact_bits rfl) (View.wordExact_bits rfl) ⟨Or.inl rfl, trivial⟩)

/-- The index word of row `i` of group `g`. -/
def rowWord (g : BitVec 32) (i : Fin 32) : BitVec 32 := Scalar.addi (Scalar.muli g 32#32) (BitVec.ofNat 32 i.val)

/-- `g mod 8` as the kernel computes it: the remainder, moved into range when negative. -/
def cellWord (g : BitVec 32) : BitVec 32 :=
  let n : BitVec 32 := Scalar.select (Scalar.cmpi .eq 8#32 0#32) 1#32 8#32
  let r : BitVec 32 := Scalar.remsi g n
  Scalar.select (Scalar.andi (Scalar.xori (Scalar.cmpi .slt r 0#32) (Scalar.cmpi .slt n 0#32)) (Scalar.cmpi .ne r 0#32)) (Scalar.addi r n) r

/-- Start the copies of 32 rows, the tokens `r i`, on semaphore cell `c`. -/
def startRows (arg0 : Memref sig .tc .smem S1x1024 .i32) (arg1 : Memref sig .tc .hbm S2016x3072 .i32)
    (arg8 : Memref sig .tc .vmem S1024x3072 .i32) (arg15 : DmaSems sig S8)
    (C : BitVec 32 → Prop) (dC : ∀ v, Decidable (C v)) (hC : ∀ v, C v → ∀ a, offT v a + S1x3072.size a ≤ S2016x3072.size a)
    (r : Fin 32 → ℕ) (c : ℕ) (hI : ∀ i, ∀ a, (![0, r i] : Fin 2 → ℕ) a + S1x1.size a ≤ S1x1024.size a)
    (hS : ∀ a, (![c] : Fin 1 → ℕ) a + S1.size a ≤ S8.size a)
    (hD : ∀ i, ∀ a, (![r i, 0] : Fin 2 → ℕ) a + S1x3072.size a ≤ S1024x3072.size a) : P F Unit :=
  each (fun i => startRow arg0 arg1 arg8 arg15 C dC hC ![0, r i] (hI i) ![c] hS ![r i, 0] (hD i)) l32

/-- Wait on semaphore cell `oS` for one row's bytes. -/
def waitRow (arg1 : Memref sig .tc .hbm S2016x3072 .i32) (arg8 : Memref sig .tc .vmem S1024x3072 .i32) (arg15 : DmaSems sig S8)
    (oS : Fin 1 → ℕ) (hS : ∀ a, oS a + S1.size a ≤ S8.size a)
    (oD : Fin 2 → ℕ) (hD : ∀ a, oD a + S1x3072.size a ≤ S1024x3072.size a) : P F Unit :=
  Prog.lift (.waitDma2 ((arg15.slice (Rect.unit (s := S8) oS S1.size hS)).squeeze S_ squeezes_S1_S_).sem
    (arg1.slice (Rect.unit (s := S2016x3072) ![0, 0] S1x3072.size inb_S2016x3072_S1x3072_0_0) (fun _ => rfl))
    (arg8.slice (Rect.unit (s := S1024x3072) oD S1x3072.size hD) (fun _ => rfl))
    (View.wordExact_bits rfl) (View.wordExact_bits rfl))

/-- Wait on semaphore cell `c` for the 32 rows `r i`. -/
def waitRows (arg1 : Memref sig .tc .hbm S2016x3072 .i32) (arg8 : Memref sig .tc .vmem S1024x3072 .i32) (arg15 : DmaSems sig S8)
    (r : Fin 32 → ℕ) (c : ℕ) (hS : ∀ a, (![c] : Fin 1 → ℕ) a + S1.size a ≤ S8.size a)
    (hD : ∀ i, ∀ a, (![r i, 0] : Fin 2 → ℕ) a + S1x3072.size a ≤ S1024x3072.size a) : P F Unit :=
  each (fun i => waitRow arg1 arg8 arg15 ![c] hS ![r i, 0] (hD i)) l32

/-! ## Dequantise -/

/-- One tile dequantised: the code byte of each word, less the zero point, times the scale. -/
def embTile (shift : Vec F S32x128 .i32) (scale zero : Vec F S32x128 .bf16) (w : Vec F S32x128 .i32) : FVec F S32x128 .bf16 :=
  mulf (subf (truncf .bf16 (sitofp .f32 (shrsi (shli w shift) (broadcast S32x128 24#32))) bitsLt_bf16_f32) zero) scale

/-- The squares of one tile added to the running sum. -/
def sqAdd (sq : FVec F S32x128 .f32) (e : FVec F S32x128 .bf16) : FVec F S32x128 .f32 :=
  addf sq (mulf (extf .f32 e bitsLt_bf16_f32) (extf .f32 e bitsLt_bf16_f32))

/-- A row block's tile `j` lies in the buffer. -/
abbrev TileIn (r : ℕ) (j : ℕ) : Prop := ∀ a, (![r, 128 * j] : Fin 2 → ℕ) a + S32x128.size a ≤ S1024x3072.size a
/-- … and covers whole packed rows. -/
abbrev TilePacked (r : ℕ) (j : ℕ) (h : TileIn r j) : Prop :=
  (Rect.unit (s := S1024x3072) ![r, 128 * j] S32x128.size h).PackedRows (EltTy.packing .bf16)

/-- Dequantise tile `j` of rows `r …`, and add its squares. -/
def dqTile (arg8 : Memref sig .tc .vmem S1024x3072 .i32) (arg9 : Memref sig .tc .vmem S1024x3072 .bf16) (harg9 : arg9.IsWhole)
    (r : ℕ) (hB : ∀ j : Fin 24, TileIn r j) (hP : ∀ j : Fin 24, TilePacked r j (hB j))
    (shift : Vec F S32x128 .i32) (scale zero : Vec F S32x128 .bf16) (j : Fin 24) (sq : FVec F S32x128 .f32) : P F (FVec F S32x128 .f32) := do
  let w : Vec F S32x128 .i32 ← Prog.lift (.load arg8 (Rect.unit (s := S1024x3072) ![r, 128 * j.val] S32x128.size (hB j)).toLoadRect (View.loadsAt_vmem h_S32x128))
  let _ : Vec F S32x128 .bf16 ← Prog.lift (.load arg9 (Rect.unit (s := S1024x3072) ![r, 128 * j.val] S32x128.size (hB j)).toLoadRect (View.loadsAt_vmem h_S32x128))
  Prog.lift (.store arg9 (Rect.unit (s := S1024x3072) ![r, 128 * j.val] S32x128.size (hB j))
    (shapeCast S32x128 (embTile shift scale zero w) shapeCasts_S32x128_S32x128) Finset.univ
    (View.stores_vmem h_S32x128 (harg9.storeExact_slice rfl _ (hP j)) (fun _ => rfl)) (.inl rfl))
  pure (sqAdd sq (embTile shift scale zero w))

/-- The zero sum of squares. -/
def sqZero : FVec F S32x128 .f32 := broadcast S32x128 (Scalar.ofBits .f32 0x00000000#32)

/-- Dequantise rows `r …`; the result is the rows' sums of squares, per lane. -/
def dqRows (arg8 : Memref sig .tc .vmem S1024x3072 .i32) (arg9 : Memref sig .tc .vmem S1024x3072 .bf16) (harg9 : arg9.IsWhole)
    (arg12 : Memref sig .tc .vmem S1024x128 .i32) (arg13 arg14 : Memref sig .tc .vmem S1024x128 .bf16)
    (r : ℕ) (hC : ∀ a, (![r, 0] : Fin 2 → ℕ) a + S32x128.size a ≤ S1024x128.size a)
    (hB : ∀ j : Fin 24, TileIn r j) (hP : ∀ j : Fin 24, TilePacked r j (hB j)) : P F (FVec F S32x128 .f32) := do
  let shift : Vec F S32x128 .i32 ← Prog.lift (.load arg12 (Rect.unit (s := S1024x128) ![r, 0] S32x128.size hC).toLoadRect (View.loadsAt_vmem h_S32x128))
  let scale : Vec F S32x128 .bf16 ← Prog.lift (.load arg13 (Rect.unit (s := S1024x128) ![r, 0] S32x128.size hC).toLoadRect (View.loadsAt_vmem h_S32x128))
  let zero : Vec F S32x128 .bf16 ← Prog.lift (.load arg14 (Rect.unit (s := S1024x128) ![r, 0] S32x128.size hC).toLoadRect (View.loadsAt_vmem h_S32x128))
  fold (dqTile arg8 arg9 harg9 r hB hP shift scale zero) l24 sqZero

/-- Write a group's sums of squares to slot `c`. -/
def sqStore (arg11 : Memref sig .tc .vmem S2x32x128 .f32) (c : ℕ)
    (hQ : ∀ a, (![c, 0, 0] : Fin 3 → ℕ) a + S1x32x128.size a ≤ S2x32x128.size a) (sq : FVec F S32x128 .f32) : P F Unit := do
  let _ : Vec F S1x32x128 .f32 ← Prog.lift (.load arg11 (Rect.unit (s := S2x32x128) ![c, 0, 0] S1x32x128.size hQ).toLoadRect (View.loadsAt_vmem h_S1x32x128))
  Prog.lift (.store arg11 (Rect.unit (s := S2x32x128) ![c, 0, 0] S1x32x128.size hQ)
    (shapeCast S1x32x128 sq shapeCasts_S32x128_S1x32x128) Finset.univ (View.stores_vmem_bits_univ h_S1x32x128 rfl) (.inl rfl))

/-- Dequantise rows `r …`, their sums of squares to slot `c`. -/
def dequant (arg8 : Memref sig .tc .vmem S1024x3072 .i32) (arg9 : Memref sig .tc .vmem S1024x3072 .bf16) (harg9 : arg9.IsWhole)
    (arg11 : Memref sig .tc .vmem S2x32x128 .f32)
    (arg12 : Memref sig .tc .vmem S1024x128 .i32) (arg13 arg14 : Memref sig .tc .vmem S1024x128 .bf16)
    (r c : ℕ) (hC : ∀ a, (![r, 0] : Fin 2 → ℕ) a + S32x128.size a ≤ S1024x128.size a)
    (hB : ∀ j : Fin 24, TileIn r j) (hP : ∀ j : Fin 24, TilePacked r j (hB j))
    (hQ : ∀ a, (![c, 0, 0] : Fin 3 → ℕ) a + S1x32x128.size a ≤ S2x32x128.size a) : P F Unit := do
  let sq ← dqRows arg8 arg9 harg9 arg12 arg13 arg14 r hC hB hP
  sqStore arg11 c hQ sq

/-! ## Normalise -/

/-- The rows' factors `1 / √(mean of squares + ε)` from their sums of squares. -/
def factor (sq : Vec F S1x32x128 .f32) : FVec F S32x128 .f32 := k0_pay67 sq

/-- One tile normalised. -/
def outTile (f : FVec F S32x128 .f32) (x : Vec F S32x128 .bf16) (w : Vec F S1x128 .bf16) : FVec F S32x128 .bf16 :=
  truncf .bf16 (mulf (mulf (extf .f32 x bitsLt_bf16_f32) f)
    (broadcastTo S32x128 (extf .f32 (shapeCast S1x128 w shapeCasts_S1x128_S1x128) bitsLt_bf16_f32) broadcasts_S1x128_S32x128)) bitsLt_bf16_f32

theorem weight_inb (j : Fin 24) : ∀ a, (![0, 128 * j.val] : Fin 2 → ℕ) a + S1x128.size a ≤ S1x3072.size a := by
  revert j; decide

/-- Normalise tile `j` of rows `r …`. -/
def nmTile (arg5 : Memref sig .tc .vmem S1x3072 .bf16) (arg9 : Memref sig .tc .vmem S1024x3072 .bf16)
    (arg10 : Memref sig .tc .vmem S1024x3072 .bf16) (harg10 : arg10.IsWhole)
    (r : ℕ) (hB : ∀ j : Fin 24, TileIn r j) (hP : ∀ j : Fin 24, TilePacked r j (hB j)) (f : FVec F S32x128 .f32) (j : Fin 24) : P F Unit := do
  let x : Vec F S32x128 .bf16 ← Prog.lift (.load arg9 (Rect.unit (s := S1024x3072) ![r, 128 * j.val] S32x128.size (hB j)).toLoadRect (View.loadsAt_vmem h_S32x128))
  let w : Vec F S1x128 .bf16 ← Prog.lift (.load arg5 (Rect.unit (s := S1x3072) ![0, 128 * j.val] S1x128.size (weight_inb j)).toLoadRect (View.loadsAt_vmem h_S1x128))
  let _ : Vec F S32x128 .bf16 ← Prog.lift (.load arg10 (Rect.unit (s := S1024x3072) ![r, 128 * j.val] S32x128.size (hB j)).toLoadRect (View.loadsAt_vmem h_S32x128))
  Prog.lift (.store arg10 (Rect.unit (s := S1024x3072) ![r, 128 * j.val] S32x128.size (hB j))
    (shapeCast S32x128 (outTile f x w) shapeCasts_S32x128_S32x128) Finset.univ
    (View.stores_vmem h_S32x128 (harg10.storeExact_slice rfl _ (hP j)) (fun _ => rfl)) (.inl rfl))

/-- Normalise rows `r …` by the sums of squares in slot `c`. -/
def normalise (arg5 : Memref sig .tc .vmem S1x3072 .bf16) (arg9 : Memref sig .tc .vmem S1024x3072 .bf16)
    (arg10 : Memref sig .tc .vmem S1024x3072 .bf16) (harg10 : arg10.IsWhole) (arg11 : Memref sig .tc .vmem S2x32x128 .f32)
    (r c : ℕ) (hB : ∀ j : Fin 24, TileIn r j) (hP : ∀ j : Fin 24, TilePacked r j (hB j))
    (hQ : ∀ a, (![c, 0, 0] : Fin 3 → ℕ) a + S1x32x128.size a ≤ S2x32x128.size a) : P F Unit := do
  let s : Vec F S1x32x128 .f32 ← Prog.lift (.load arg11 (Rect.unit (s := S2x32x128) ![c, 0, 0] S1x32x128.size hQ).toLoadRect (View.loadsAt_vmem h_S1x32x128))
  each (nmTile arg5 arg9 arg10 harg10 r hB hP (factor s)) l24

/-! ## Copy a group out -/

/-- A row block lies in the buffer. -/
abbrev BlockIn (r : ℕ) : Prop := ∀ a, (![r, 0] : Fin 2 → ℕ) a + S32x3072.size a ≤ S1024x3072.size a

/-- Start the copy of rows `r …` of `src` to the same rows of `dst`. -/
def copyOut (src : Memref sig .tc .vmem S1024x3072 .bf16) (hsrc : src.IsWhole) (dst : Memref sig .tc .hbm S1024x3072 .bf16) (hdst : dst.IsWhole)
    (sem : DmaSems sig S_) (r : ℕ) (hB : BlockIn r)
    (hW : (Rect.unit (s := S1024x3072) ![r, 0] S32x3072.size hB).WholeWords (EltTy.packing .bf16)) : P F Unit :=
  Prog.lift (.enqueueDma (src.slice (Rect.unit (s := S1024x3072) ![r, 0] S32x3072.size hB) (fun _ => rfl))
    (.here (dst.slice (Rect.unit (s := S1024x3072) ![r, 0] S32x3072.size hB) (fun _ => rfl)))
    (.dma sem.sem) (hsrc.wordExact_slice rfl _ hW) (hdst.wordExact_slice rfl _ hW) ⟨Or.inl rfl, trivial⟩)

/-! ## The per-token parameters -/

/-- A chunk of ids, one per row, across the lanes. -/
def idRows (ids : Vec F S1x128 .i32) : IVec S128x128 32 :=
  transpose S128x128 [1, 0] (broadcastTo S128x128 (shapeCast S1x128 ids shapeCasts_S1x128_S1x128) broadcasts_S1x128_S128x128) transposes_S128x128_p1_0_S128x128

/-- The 63 parameter rows: scales and zero points side by side. -/
def params (scale : Vec F S63x128 .f32) (zero : Vec F S63x128 .bf16) : FVec F S63x256 .bf16 :=
  concatenate S63x256 1 [⟨S63x128, truncf .bf16 (shapeCast S63x128 scale shapeCasts_S63x128_S63x128) bitsLt_bf16_f32⟩,
    ⟨S63x128, shapeCast S63x128 zero shapeCasts_S63x128_S63x128⟩] concatenates_S63x128_S63x128_S63x256_d1

/-- Each id's parameter row: a one-hot product. -/
def selRows (p : FVec F S63x256 .bf16) (ids : IVec S128x128 32) : FVec F S128x256 .f32 :=
  matmul dot_S128x63_S63x256_S128x256_1_0_0_1_n_n none
    (truncf .bf16 (sitofp .f32 (extui 32 (cmpi .eq (iota .tc S128x63 32 [1] iota_S128x63_d1_w32)
      (extractStridedSlice S128x63 ![0, 0] (shrui ids (broadcast S128x128 7#32)) slices_S128x128_o0_0_S128x63)) natLt_1_32)) bitsLt_bf16_f32)
    p (constant S128x256 .f32 0x00000000#32)

/-- The id's lane of its parameter row. -/
def hit (ids : IVec S128x128 32) : IVec S128x128 1 :=
  cmpi .eq (iota .tc S128x128 32 [1] iota_S128x128_d1_w32) (andi ids (broadcast S128x128 127#32))

/-- The id's entry of 128 lanes, across a row of lanes. -/
def selLane (ids : IVec S128x128 32) (rows : FVec F S128x128 .f32) : FVec F S128x128 .bf16 :=
  truncf .bf16 (broadcastTo S128x128 (shapeCast S128x1 (shapeCast S128x1 (multiReduction .add [1] S128
    (select (hit ids) rows (broadcast S128x128 (Scalar.ofBits .f32 0x00000000#32) : FVec F S128x128 .f32)) 0x00000000#32 reduces_S128x128_S128 (.inl rfl) rfl) shapeCasts_S128_S128x1)
    shapeCasts_S128x1_S128x1) broadcasts_S128x1_S128x128) bitsLt_bf16_f32

/-- The chunk's scales, zero points, and shift amounts. -/
def scaleOf (p : FVec F S63x256 .bf16) (ids : Vec F S1x128 .i32) : FVec F S128x128 .bf16 :=
  selLane (idRows (F := F) ids) (extractStridedSlice S128x128 ![0, 0] (selRows p (idRows (F := F) ids)) slices_S128x256_o0_0_S128x128)
@[inherit_doc scaleOf] def zeroOf (p : FVec F S63x256 .bf16) (ids : Vec F S1x128 .i32) : FVec F S128x128 .bf16 :=
  selLane (idRows (F := F) ids) (extractStridedSlice S128x128 ![0, 128] (selRows p (idRows (F := F) ids)) slices_S128x256_o0_128_S128x128)
@[inherit_doc scaleOf] def shiftOf (ids : Vec F S1x128 .i32) : IVec S128x128 32 :=
  subi (broadcast S128x128 24#32) (muli (broadcast S128x128 8#32) (andi (idRows (F := F) ids) (broadcast S128x128 3#32)))

theorem ids_inb (c : Fin 8) : ∀ a, (![0, 128 * c.val] : Fin 2 → ℕ) a + S1x128.size a ≤ S1x1024.size a := by
  revert c; decide
theorem chunk_inb (c : Fin 8) : ∀ a, (![128 * c.val, 0] : Fin 2 → ℕ) a + S128x128.size a ≤ S1024x128.size a := by
  revert c; decide
theorem chunk_packed (c : Fin 8) :
    (Rect.unit (s := S1024x128) ![128 * c.val, 0] S128x128.size (chunk_inb c)).PackedRows (EltTy.packing .bf16) := by
  revert c; decide

/-- Select chunk `c`'s parameters. -/
def chunk (arg2 : Memref sig .tc .vmem S1x1024 .i32) (arg12 : Memref sig .tc .vmem S1024x128 .i32)
    (arg13 : Memref sig .tc .vmem S1024x128 .bf16) (harg13 : arg13.IsWhole) (arg14 : Memref sig .tc .vmem S1024x128 .bf16) (harg14 : arg14.IsWhole)
    (p : FVec F S63x256 .bf16) (c : Fin 8) : P F Unit := do
  let ids : Vec F S1x128 .i32 ← Prog.lift (.load arg2 (Rect.unit (s := S1x1024) ![0, 128 * c.val] S1x128.size (ids_inb c)).toLoadRect (View.loadsAt_vmem h_S1x128))
  let _ : Vec F S128x128 .bf16 ← Prog.lift (.load arg13 (Rect.unit (s := S1024x128) ![128 * c.val, 0] S128x128.size (chunk_inb c)).toLoadRect (View.loadsAt_vmem h_S128x128))
  Prog.lift (.store arg13 (Rect.unit (s := S1024x128) ![128 * c.val, 0] S128x128.size (chunk_inb c))
    (shapeCast S128x128 (scaleOf p ids) shapeCasts_S128x128_S128x128) Finset.univ
    (View.stores_vmem h_S128x128 (harg13.storeExact_slice rfl _ (chunk_packed c)) (fun _ => rfl)) (.inl rfl))
  let _ : Vec F S128x128 .bf16 ← Prog.lift (.load arg14 (Rect.unit (s := S1024x128) ![128 * c.val, 0] S128x128.size (chunk_inb c)).toLoadRect (View.loadsAt_vmem h_S128x128))
  Prog.lift (.store arg14 (Rect.unit (s := S1024x128) ![128 * c.val, 0] S128x128.size (chunk_inb c))
    (shapeCast S128x128 (zeroOf p ids) shapeCasts_S128x128_S128x128) Finset.univ
    (View.stores_vmem h_S128x128 (harg14.storeExact_slice rfl _ (chunk_packed c)) (fun _ => rfl)) (.inl rfl))
  let _ : Vec F S128x128 .i32 ← Prog.lift (.load arg12 (Rect.unit (s := S1024x128) ![128 * c.val, 0] S128x128.size (chunk_inb c)).toLoadRect (View.loadsAt_vmem h_S128x128))
  Prog.lift (.store arg12 (Rect.unit (s := S1024x128) ![128 * c.val, 0] S128x128.size (chunk_inb c))
    (shapeCast S128x128 (shiftOf (F := F) ids) shapeCasts_S128x128_S128x128) Finset.univ (View.stores_vmem_bits_univ h_S128x128 rfl) (.inl rfl))

/-- Load the parameter tables and select every chunk's parameters. -/
def chunks (arg2 : Memref sig .tc .vmem S1x1024 .i32) (arg3 : Memref sig .tc .vmem S63x128 .f32) (arg4 : Memref sig .tc .vmem S63x128 .bf16)
    (arg12 : Memref sig .tc .vmem S1024x128 .i32)
    (arg13 : Memref sig .tc .vmem S1024x128 .bf16) (harg13 : arg13.IsWhole) (arg14 : Memref sig .tc .vmem S1024x128 .bf16) (harg14 : arg14.IsWhole) : P F Unit := do
  let scale : Vec F S63x128 .f32 ← Prog.lift (.load arg3 (Rect.unit (s := S63x128) ![0, 0] S63x128.size inb_S63x128_S63x128_0_0).toLoadRect (View.loadsAt_vmem h_S63x128))
  let zero : Vec F S63x128 .bf16 ← Prog.lift (.load arg4 (Rect.unit (s := S63x128) ![0, 0] S63x128.size inb_S63x128_S63x128_0_0).toLoadRect (View.loadsAt_vmem h_S63x128))
  each (chunk arg2 arg12 arg13 harg13 arg14 harg14 (params scale zero)) l8

end Cert.KernelIdeal.Emb
end
-- ==== Proof.IdealValues.lean ====
/- What the kernel's buffers hold, as functions of the arrays it is given: the gathered rows of words, the per-token
   shift amounts, scales and zero points, the dequantised rows, their sums of squares, and the normalised rows. -/
module

public import proofs.«01_k».proof.Proof.IdealSteps
public import proofs.«01_k».proof.Proof.Hold

@[expose] public section

set_option maxRecDepth 16384

noncomputable section

namespace Cert.KernelIdeal.Emb

open Idealize.ShloMosaic Idealize.SL.Sem Cert.KernelIdeal.Gen Cert.Emb

variable {F : FTy → Type} [FloatOps F] [Named F]

/-- The arrays the kernel is given. -/
structure Args (F : FTy → Type) [FloatOps F] where
  /-- the token ids -/
  ids : S1x1024.Idx → Elt F .i32
  /-- the table, four rows of codes packed to a row of words -/
  table : S2016x3072.Idx → Elt F .i32
  /-- the rows' scales, 128 to a row -/
  scale : S63x128.Idx → Elt F .f32
  /-- the rows' zero points, 128 to a row -/
  zero : S63x128.Idx → Elt F .bf16
  /-- the weight -/
  weight : S1x3072.Idx → Elt F .bf16

variable (A : Args F)

/-- The row of packed words that token `t`'s row of codes lies in. -/
def Args.row (t : ℕ) : ℕ := (Scalar.shrui (A.ids (mk2 1 1024 0 t)) 2#32).toNat

/-- The gathered rows of words. -/
def Args.words (x : S1024x3072.Idx) : Elt F .i32 := A.table (mk2 2016 3072 (A.row (x 0)) (x 1))

/-- A chunk of 128 ids. -/
def Args.idChunk (c : ℕ) : Vec F S1x128 .i32 := fun y => A.ids (mk2 1 1024 0 (128 * c + (y 1 : ℕ)))

/-- The parameter rows. -/
def Args.params : FVec F S63x256 .bf16 := Emb.params A.scale A.zero

/-- The per-token shift amounts, each across a row of lanes. -/
def Args.shiftV (x : S1024x128.Idx) : Elt F .i32 :=
  shapeCast S128x128 (shiftOf (F := F) (A.idChunk ((x 0 : ℕ) / 128))) shapeCasts_S128x128_S128x128 (mk2 128 128 ((x 0 : ℕ) % 128) (x 1))
/-- The per-token scales. -/
def Args.scaleV (x : S1024x128.Idx) : Elt F .bf16 :=
  shapeCast S128x128 (scaleOf A.params (A.idChunk ((x 0 : ℕ) / 128))) shapeCasts_S128x128_S128x128 (mk2 128 128 ((x 0 : ℕ) % 128) (x 1))
/-- The per-token zero points. -/
def Args.zeroV (x : S1024x128.Idx) : Elt F .bf16 :=
  shapeCast S128x128 (zeroOf A.params (A.idChunk ((x 0 : ℕ) / 128))) shapeCasts_S128x128_S128x128 (mk2 128 128 ((x 0 : ℕ) % 128) (x 1))

/-- Element `y` of tile `j` of group `g`. -/
def tileIx (g j : ℕ) (y : S32x128.Idx) : S1024x3072.Idx := mk2 1024 3072 (32 * g + (y 0 : ℕ)) (128 * j + (y 1 : ℕ))
/-- Element `y` of group `g`'s parameters. -/
def prmIx (g : ℕ) (y : S32x128.Idx) : S1024x128.Idx := mk2 1024 128 (32 * g + (y 0 : ℕ)) (y 1 : ℕ)

/-- Tile `j` of group `g`, dequantised. -/
def Args.emb (g j : ℕ) : FVec F S32x128 .bf16 :=
  embTile (fun y => A.shiftV (prmIx g y)) (fun y => A.scaleV (prmIx g y)) (fun y => A.zeroV (prmIx g y)) (fun y => A.words (tileIx g j y))

/-- The dequantised rows. -/
def Args.embV (x : S1024x3072.Idx) : Elt F .bf16 :=
  shapeCast S32x128 (A.emb ((x 0 : ℕ) / 32) ((x 1 : ℕ) / 128)) shapeCasts_S32x128_S32x128 (mk2 32 128 ((x 0 : ℕ) % 32) ((x 1 : ℕ) % 128))

/-- Group `g`'s sums of squares after `n` tiles. -/
def Args.sq (g : ℕ) : ℕ → FVec F S32x128 .f32
  | 0 => sqZero
  | n + 1 => sqAdd (Args.sq g n) (A.emb g n)

/-- Group `g`'s sums of squares, as stored. -/
def Args.sqS (g : ℕ) : FVec F S1x32x128 .f32 := shapeCast S1x32x128 (A.sq g 24) shapeCasts_S32x128_S1x32x128

/-- Tile `j` of group `g`, normalised. -/
def Args.out (g j : ℕ) : FVec F S32x128 .bf16 :=
  outTile (factor (A.sqS g)) (fun y => A.embV (tileIx g j y)) (fun y => A.weight (mk2 1 3072 0 (128 * j + (y 1 : ℕ))))

/-- The normalised rows. -/
def Args.outV (x : S1024x3072.Idx) : Elt F .bf16 :=
  shapeCast S32x128 (A.out ((x 0 : ℕ) / 32) ((x 1 : ℕ) / 128)) shapeCasts_S32x128_S32x128 (mk2 32 128 ((x 0 : ℕ) % 32) ((x 1 : ℕ) % 128))

/-! ## Boxes as sets of indices -/

/-- The rows of a group. -/
def Blk (g : ℕ) : Finset S1024x3072.Idx := Finset.univ.filter fun x => 32 * g ≤ (x 0 : ℕ) ∧ (x 0 : ℕ) < 32 * g + 32
/-- One row. -/
def Row (t : ℕ) : Finset S1024x3072.Idx := Finset.univ.filter fun x => (x 0 : ℕ) = t
/-- The table row that token `t` names. -/
def Args.SRow (t : ℕ) : Finset S2016x3072.Idx := Finset.univ.filter fun x => (x 0 : ℕ) = A.row t

theorem row_set {t : ℕ} (h : ∀ a, (![t, 0] : Fin 2 → ℕ) a + S1x3072.size a ≤ S1024x3072.size a) :
    (Rect.unit (s := S1024x3072) ![t, 0] S1x3072.size h).set = Row t := by
  ext x
  have h1 : (x 1 : ℕ) < 3072 := (x 1).isLt
  rw [Rect.mem_set_unit, Row, Finset.mem_filter, Fin.forall_fin_two]
  simp
  omega

theorem srow_set {t : ℕ} (h : ∀ a, offT (A.ids (mk2 1 1024 0 t)) a + S1x3072.size a ≤ S2016x3072.size a) :
    (Rect.unit (s := S2016x3072) (offT (A.ids (mk2 1 1024 0 t))) S1x3072.size h).set = A.SRow t := by
  ext x
  have h1 : (x 1 : ℕ) < 3072 := (x 1).isLt
  rw [Rect.mem_set_unit, Args.SRow, Finset.mem_filter, Fin.forall_fin_two]
  simp [offT, Args.row]
  omega

theorem blk_set {g : ℕ} (h : BlockIn (32 * g)) :
    (Rect.unit (s := S1024x3072) ![32 * g, 0] S32x3072.size h).set = Blk g := by
  ext x
  have h1 : (x 1 : ℕ) < 3072 := (x 1).isLt
  rw [Rect.mem_set_unit, Blk, Finset.mem_filter, Fin.forall_fin_two]
  simp
  omega

theorem mem_tile {g j : ℕ} (h : TileIn (32 * g) j) {x : S1024x3072.Idx} :
    x ∈ (Rect.unit (s := S1024x3072) ![32 * g, 128 * j] S32x128.size h).set
      ↔ (32 * g ≤ (x 0 : ℕ) ∧ (x 0 : ℕ) < 32 * g + 32) ∧ 128 * j ≤ (x 1 : ℕ) ∧ (x 1 : ℕ) < 128 * j + 128 := by
  rw [Rect.mem_set_unit, Fin.forall_fin_two]
  simp

theorem tile_sub {g j : ℕ} (h : TileIn (32 * g) j) :
    (Rect.unit (s := S1024x3072) ![32 * g, 128 * j] S32x128.size h).set ⊆ Blk g := by
  intro x hx
  rw [mem_tile] at hx
  rw [Blk, Finset.mem_filter]
  exact ⟨Finset.mem_univ _, hx.1⟩

theorem tile_emb {g j : ℕ} (h : TileIn (32 * g) j) (y : S32x128.Idx) :
    (Rect.unit (s := S1024x3072) ![32 * g, 128 * j] S32x128.size h).emb y = tileIx g j y :=
  eq_mk2 _ (by rw [Rect.emb_apply]; simp) (by rw [Rect.emb_apply]; simp)

theorem prm_emb {g : ℕ} (h : ∀ a, (![32 * g, 0] : Fin 2 → ℕ) a + S32x128.size a ≤ S1024x128.size a) (y : S32x128.Idx) :
    (Rect.unit (s := S1024x128) ![32 * g, 0] S32x128.size h).emb y = prmIx g y :=
  eq_mk2 _ (by rw [Rect.emb_apply]; simp) (by rw [Rect.emb_apply]; simp)

theorem tileIx_zero {g j : ℕ} (h : TileIn (32 * g) j) (y : S32x128.Idx) : (tileIx g j y 0 : ℕ) = 32 * g + (y 0 : ℕ) := by
  rw [← tile_emb h, Rect.emb_apply]; simp
theorem tileIx_one {g j : ℕ} (h : TileIn (32 * g) j) (y : S32x128.Idx) : (tileIx g j y 1 : ℕ) = 128 * j + (y 1 : ℕ) := by
  rw [← tile_emb h, Rect.emb_apply]; simp

/-- A tile of the dequantised rows. -/
theorem embV_tile {g j : ℕ} (h : TileIn (32 * g) j) (y : S32x128.Idx) :
    A.embV (tileIx g j y) = shapeCast S32x128 (A.emb g j) shapeCasts_S32x128_S32x128 y := by
  have y0 : (y 0 : ℕ) < 32 := (y 0).isLt
  have y1 : (y 1 : ℕ) < 128 := (y 1).isLt
  have e : (mk2 32 128 ((tileIx g j y 0 : ℕ) % 32) ((tileIx g j y 1 : ℕ) % 128) : S32x128.Idx) = y :=
    (eq_mk2 y (by rw [tileIx_zero h]; omega) (by rw [tileIx_one h]; omega)).symm
  unfold Args.embV
  rw [e, show (tileIx g j y 0 : ℕ) / 32 = g by rw [tileIx_zero h]; omega, show (tileIx g j y 1 : ℕ) / 128 = j by rw [tileIx_one h]; omega]

/-- A tile of the normalised rows. -/
theorem outV_tile {g j : ℕ} (h : TileIn (32 * g) j) (y : S32x128.Idx) :
    A.outV (tileIx g j y) = shapeCast S32x128 (A.out g j) shapeCasts_S32x128_S32x128 y := by
  have y0 : (y 0 : ℕ) < 32 := (y 0).isLt
  have y1 : (y 1 : ℕ) < 128 := (y 1).isLt
  have e : (mk2 32 128 ((tileIx g j y 0 : ℕ) % 32) ((tileIx g j y 1 : ℕ) % 128) : S32x128.Idx) = y :=
    (eq_mk2 y (by rw [tileIx_zero h]; omega) (by rw [tileIx_one h]; omega)).symm
  unfold Args.outV
  rw [e, show (tileIx g j y 0 : ℕ) / 32 = g by rw [tileIx_zero h]; omega, show (tileIx g j y 1 : ℕ) / 128 = j by rw [tileIx_one h]; omega]

/-- A chunk of a buffer of parameters. -/
theorem chunk_emb (c : Fin 8) (y : S128x128.Idx) :
    (Rect.unit (s := S1024x128) ![128 * c.val, 0] S128x128.size (chunk_inb c)).emb y = mk2 1024 128 (128 * c.val + (y 0 : ℕ)) (y 1 : ℕ) :=
  eq_mk2 _ (by rw [Rect.emb_apply]; simp) (by rw [Rect.emb_apply]; simp)

theorem mem_chunk (c : Fin 8) {x : S1024x128.Idx} :
    x ∈ (Rect.unit (s := S1024x128) ![128 * c.val, 0] S128x128.size (chunk_inb c)).set
      ↔ 128 * c.val ≤ (x 0 : ℕ) ∧ (x 0 : ℕ) < 128 * c.val + 128 := by
  have h1 : (x 1 : ℕ) < 128 := (x 1).isLt
  rw [Rect.mem_set_unit, Fin.forall_fin_two]
  simp
  omega

/-- Reading a function of chunk and place at a chunk's element. -/
theorem chunk_read {α : Type} (f : ℕ → S128x128.Idx → α) (c : Fin 8) (y : S128x128.Idx) :
    (fun x : S1024x128.Idx => f ((x 0 : ℕ) / 128) (mk2 128 128 ((x 0 : ℕ) % 128) (x 1)))
      ((Rect.unit (s := S1024x128) ![128 * c.val, 0] S128x128.size (chunk_inb c)).emb y) = f c.val y := by
  have y0 : (y 0 : ℕ) < 128 := (y 0).isLt
  have hc : c.val < 8 := c.isLt
  have e0 : ((Rect.unit (s := S1024x128) ![128 * c.val, 0] S128x128.size (chunk_inb c)).emb y 0 : ℕ) = 128 * c.val + (y 0 : ℕ) := by
    rw [Rect.emb_apply]; simp
  have e1 : ((Rect.unit (s := S1024x128) ![128 * c.val, 0] S128x128.size (chunk_inb c)).emb y 1 : ℕ) = (y 1 : ℕ) := by
    rw [Rect.emb_apply]; simp
  have e : (mk2 128 128 ((((Rect.unit (s := S1024x128) ![128 * c.val, 0] S128x128.size (chunk_inb c)).emb y 0 : ℕ)) % 128)
      ((Rect.unit (s := S1024x128) ![128 * c.val, 0] S128x128.size (chunk_inb c)).emb y 1 : ℕ) : S128x128.Idx) = y :=
    (eq_mk2 y (by rw [e0]; omega) e1.symm).symm
  show f _ _ = _
  rw [e, e0, show (128 * c.val + (y 0 : ℕ)) / 128 = c.val by omega]

theorem ids_emb (c : Fin 8) (y : S1x128.Idx) :
    (Rect.unit (s := S1x1024) ![0, 128 * c.val] S1x128.size (ids_inb c)).emb y = mk2 1 1024 0 (128 * c.val + (y 1 : ℕ)) := by
  have y0 : (y 0 : ℕ) < 1 := (y 0).isLt
  exact eq_mk2 _ (by rw [Rect.emb_apply]; simp; omega) (by rw [Rect.emb_apply]; simp)

theorem weight_emb (j : Fin 24) (y : S1x128.Idx) :
    (Rect.unit (s := S1x3072) ![0, 128 * j.val] S1x128.size (weight_inb j)).emb y = mk2 1 3072 0 (128 * j.val + (y 1 : ℕ)) := by
  have y0 : (y 0 : ℕ) < 1 := (y 0).isLt
  exact eq_mk2 _ (by rw [Rect.emb_apply]; simp; omega) (by rw [Rect.emb_apply]; simp)

/-- The rows of a group, one by one. -/
theorem blk_rows (g : ℕ) : Blk g = (Finset.univ : Finset (Fin 32)).biUnion fun i => Row (32 * g + i.val) := by
  ext x
  simp only [Blk, Row, Finset.mem_filter, Finset.mem_univ, true_and, Finset.mem_biUnion]
  constructor
  · intro h
    exact ⟨⟨(x 0 : ℕ) - 32 * g, by omega⟩, by show (x 0 : ℕ) = 32 * g + ((x 0 : ℕ) - 32 * g); omega⟩
  · rintro ⟨i, hi⟩
    have := i.isLt
    omega

theorem rows_disjoint (g : ℕ) : ∀ t ∈ (Finset.univ : Finset (Fin 32)), ∀ t' ∈ (Finset.univ : Finset (Fin 32)), t ≠ t' →
    Disjoint (Row (32 * g + t.val)) (Row (32 * g + t'.val)) := by
  intro t _ t' _ hne
  rw [Finset.disjoint_left]
  intro x hx hx'
  simp only [Row, Finset.mem_filter, Finset.mem_univ, true_and] at hx hx'
  exact hne (Fin.ext (by omega))

/-- A whole buffer, group by group. -/
theorem univ_blks : (Finset.univ : Finset S1024x3072.Idx) = (Finset.range 32).biUnion Blk := by
  ext x
  have h : (x 0 : ℕ) < 1024 := (x 0).isLt
  simp only [Blk, Finset.mem_filter, Finset.mem_univ, true_and, Finset.mem_biUnion, Finset.mem_range, true_iff]
  exact ⟨(x 0 : ℕ) / 32, by omega, by omega⟩

theorem blks_disjoint : ∀ t ∈ Finset.range 32, ∀ t' ∈ Finset.range 32, t ≠ t' → Disjoint (Blk t) (Blk t') := by
  intro t _ t' _ hne
  rw [Finset.disjoint_left]
  intro x hx hx'
  simp only [Blk, Finset.mem_filter, Finset.mem_univ, true_and] at hx hx'
  omega

end Cert.KernelIdeal.Emb
end
-- ==== Proof.IdealRows.lean ====
/- The steps run: what each step of the kernel needs and what it leaves, over buffers held by their values. The row
   copies of a group as one batch on the group's semaphore cell; the per-token parameters chunk by chunk. -/
module

public import proofs.«01_k».proof.Proof.IdealValues
public import Idealize.ShloMosaic.Lib.Pipeline.FrameSuffixV

@[expose] public section

set_option maxRecDepth 16384

noncomputable section

namespace Cert.KernelIdeal.Emb

open Idealize.ShloMosaic Cert.KernelIdeal.Gen Cert.Emb
open Idealize.SL
open Idealize.SL.RA Idealize.SL.Sem Idealize.SL.ProofMode
open Idealize.SL.BI (sProp bigSep bigSep_insert bigSep_mono bigSep_empty bigSep_congr bigSep_sep Storable)
open scoped Idealize.SL.BI
open Idealize.SL.BI.BIBase Idealize.SL.BI.Laws

variable {F : FTy → Type} [FloatOps F] [Named F]

abbrev 𝒱₀ : Variants := Variants.none
/-- Where the copies' counters live. -/
abbrev EC : UEmb Counters (MT nD τ sig Unit (Elt F) ℕ (Pipeline.UD sig nD τ) ℕ) := countersEmb (U := Pipeline.UD sig nD τ)

local notation "𝕄" => MT nD τ sig Unit (Elt F) ℕ (Pipeline.UD sig nD τ) ℕ

variable (d : Dev nD)

local notation "WP" => wp frame (wpE defs₀ 𝒱₀ (d.tc) none) Set.univ

variable {α β σ : Type}

/-! ## Programs in sequence -/

theorem wp_seq {p : P F α} {k : α → P F β} {I : sProp (MT nD τ sig Unit (Elt F) ℕ (Pipeline.UD sig nD τ) ℕ)}
    {J : α → sProp (MT nD τ sig Unit (Elt F) ℕ (Pipeline.UD sig nD τ) ℕ)}
    {Q : β → sProp (MT nD τ sig Unit (Elt F) ℕ (Pipeline.UD sig nD τ) ℕ)}
    (hp : I ⊢ WP p J) : I ⊢ iprop((∀ a, J a -∗ WP (k a) Q) -∗ WP (p >>= k) Q) := by
  rw [wp_bind]
  iintro HI HK
  iapply (wp_wand_r frame (wpE defs₀ 𝒱₀ (d.tc) none) Set.univ)
  isplitl [HI]
  · iapply hp; iexact HI
  · iexact HK

theorem wp_last {p : P F α} {I : sProp (MT nD τ sig Unit (Elt F) ℕ (Pipeline.UD sig nD τ) ℕ)}
    {J Q : α → sProp (MT nD τ sig Unit (Elt F) ℕ (Pipeline.UD sig nD τ) ℕ)}
    (hp : I ⊢ WP p J) : I ⊢ iprop((∀ a, J a -∗ Q a) -∗ WP p Q) := by
  iintro HI HK
  iapply (wp_wand_r frame (wpE defs₀ 𝒱₀ (d.tc) none) Set.univ)
  isplitl [HI]
  · iapply hp; iexact HI
  · iexact HK

theorem each_wp {n : ℕ} (f : Fin n → P F Unit) (I : ℕ → sProp (MT nD τ sig Unit (Elt F) ℕ (Pipeline.UD sig nD τ) ℕ))
    (hf : ∀ i : Fin n, I i.val ⊢ WP (f i) fun _ => I (i.val + 1)) :
    ∀ (l : List (Fin n)) (b : ℕ), (∀ j (h : j < l.length), (l[j]).val = b + j) → I b ⊢ WP (each f l) fun _ => I (b + l.length)
  | [], b, _ => by
    show I b ⊢ WP (pure ()) _
    rw [show (pure () : P F Unit) = .ret () from rfl, wp_ret]
    exact BI.fupd_intro
  | i :: l, b, h => by
    have hi : i.val = b := h 0 (Nat.zero_lt_succ _)
    show I b ⊢ WP (f i >>= fun _ => each f l) _
    rw [wp_bind, ← hi]
    refine (hf i).trans (wp_mono _ _ _ fun _ => ?_)
    have h' := each_wp f I hf l (b + 1) fun j hj => by
      have := h (j + 1) (by simpa using hj)
      simp only [List.getElem_cons_succ] at this
      omega
    rw [hi]
    refine h'.trans (Entails.of_eq ?_)
    rw [List.length_cons, show b + 1 + l.length = b + (l.length + 1) by omega]

theorem fold_wp {n : ℕ} (f : Fin n → σ → P F σ) (a : ℕ → σ) (I : ℕ → sProp (MT nD τ sig Unit (Elt F) ℕ (Pipeline.UD sig nD τ) ℕ))
    (hf : ∀ i : Fin n, I i.val ⊢ WP (f i (a i.val)) fun b => iprop(⌜b = a (i.val + 1)⌝ ∗ I (i.val + 1))) :
    ∀ (l : List (Fin n)) (b : ℕ), (∀ j (h : j < l.length), (l[j]).val = b + j) →
      I b ⊢ WP (fold f l (a b)) fun r => iprop(⌜r = a (b + l.length)⌝ ∗ I (b + l.length))
  | [], b, _ => by
    show I b ⊢ WP (pure (a b)) _
    rw [show (pure (a b) : P F σ) = .ret (a b) from rfl, wp_ret]
    iintro H
    imodintro
    isplitr
    · ipureintro; rfl
    · iexact H
  | i :: l, b, h => by
    have hi : i.val = b := h 0 (Nat.zero_lt_succ _)
    show I b ⊢ WP (f i (a b) >>= fun b => fold f l b) _
    rw [wp_bind, ← hi]
    refine (hf i).trans (wp_mono _ _ _ fun r => ?_)
    have h' := fold_wp f a I hf l (b + 1) fun j hj => by
      have := h (j + 1) (by simpa using hj)
      simp only [List.getElem_cons_succ] at this
      omega
    rw [hi]
    iintro ⟨%hr, HI⟩
    subst hr
    rw [List.length_cons, show b + (l.length + 1) = b + 1 + l.length by omega]
    iapply h'
    iexact HI

theorem l32_val : ∀ j (h : j < l32.length), (l32[j]).val = 0 + j := by decide
theorem l24_val : ∀ j (h : j < l24.length), (l24[j]).val = 0 + j := by decide
theorem l8_val : ∀ j (h : j < l8.length), (l8[j]).val = 0 + j := by decide

/-! ## One operation -/

section Ops

variable {sp sp' : Space} {s : Shape} {e : EltTy} {S : Finset s.Idx} {q : PosShare TreeShare} {V V' : s.Idx → Elt F e}
variable {Q : β → sProp (MT nD τ sig Unit (Elt F) ℕ (Pipeline.UD sig nD τ) ℕ)}

theorem load_bind {cs : CoreSpace} {m : Memref sig .tc cs s e} {r : Rect s} {hl : m.view.LoadsAt r.toLoadRect}
    {k : (r.shape.Idx → Elt F e) → P F β} (hA : r.set ⊆ S) :
    (Hold (d.tc) m S q V : sProp 𝕄) ⊢ iprop((Hold (d.tc) m S q V -∗ WP (k fun x => V (r.emb x)) Q)
      -∗ WP (Prog.lift (.load m r.toLoadRect hl) >>= k) Q) :=
  hold_load (c := d.tc) (defs := defs₀) 𝒱₀ none (k := k) hA

/-- A load of known values. -/
theorem load_val {cs : CoreSpace} {m : Memref sig .tc cs s e} {r : Rect s} {hl : m.view.LoadsAt r.toLoadRect} {v : r.shape.Idx → Elt F e}
    {k : (r.shape.Idx → Elt F e) → P F β} (hA : r.set ⊆ S) (hv : (fun x => V (r.emb x)) = v) :
    (Hold (d.tc) m S q V : sProp 𝕄) ⊢ iprop((Hold (d.tc) m S q V -∗ WP (k v) Q)
      -∗ WP (Prog.lift (.load m r.toLoadRect hl) >>= k) Q) := by
  subst hv
  exact hold_load (c := d.tc) (defs := defs₀) 𝒱₀ none (k := k) hA

theorem smem_bind {m : Memref sig .tc .smem s e} {r : Rect s} {h1 : r.shape.numel = 1} {hp : e.packing = 1}
    {k : Elt F e → P F β} (hA : r.set ⊆ S) :
    (Hold (d.tc) m S q V : sProp 𝕄) ⊢ iprop((Hold (d.tc) m S q V -∗ WP (k (V (r.emb (Shape.Idx.first (h1.symm ▸ Nat.one_pos))))) Q)
      -∗ WP (smemLoad m r h1 hp >>= k) Q) :=
  hold_load (c := d.tc) (defs := defs₀) 𝒱₀ none (k := fun f => k (f (Shape.Idx.first (h1.symm ▸ Nat.one_pos)))) hA

theorem store_lift {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    (hA : r.set ⊆ S) (hin : ∀ y, V' (r.emb y) = w y) (hout : ∀ x ∈ S, x ∉ r.set → V' x = V x) :
    (Hold (d.tc) m S fullShare V : sProp 𝕄) ⊢ WP (Prog.lift (.store m r w Finset.univ hx hm) : P F PUnit) fun _ => Hold (d.tc) m S fullShare V' := by
  iintro H
  iapply (hold_store (c := d.tc) (defs := defs₀) 𝒱₀ none (k := .ret) (w := w) (hx := hx) (hm := hm) hA hin hout) $$ H
  iintro H
  rw [wp_ret]
  imodintro
  iexact H

theorem dma_lift {n : ℕ} {sm : Memref sig .tc sp s e} {dm : Memref sig .tc sp' s e} {sl : SemLoc sig}
    {hsrc : sm.view.WordExact} {hdst : dm.view.WordExact} {hsem : DmaTarget.Typed (nD := nD) sp sl (.here (p := Proc.tc (τ := τ)) dm)}
    {D : Fin n → sProp (MT nD τ sig Unit (Elt F) ℕ (Pipeline.UD sig nD τ) ℕ)} {j u : ℕ}
    (N : ℕ) (hN : dm.view.amount sl = N) (hj : j < n) (hu : u ≤ j * N) {T : s.Idx → Elt F e}
    (hD : iprop(Hold (d.tc) dm Finset.univ fullShare T ∗ Hold (d.tc) sm Finset.univ q T) ⊢ D ⟨j, hj⟩) :
    iprop(Hold (d.tc) sm Finset.univ q T ∗ Any (d.tc) dm Finset.univ ∗ Transfers.Batch EC (d.tc) sl () N D j u)
      ⊢ WP (Prog.lift (.enqueueDma sm (.here dm) sl hsrc hdst hsem) : P F PUnit) fun _ => Transfers.Batch EC (d.tc) sl () N D (j + 1) u := by
  iintro H
  iapply (hold_dma (c := d.tc) (defs := defs₀) 𝒱₀ none (k := .ret) EC () N hN hj hu hD) $$ H
  iintro H
  rw [wp_ret]
  imodintro
  iexact H

theorem assume_bind {C : Prop} {dC : Decidable C} {k : PLift C → P F β} (h : C) :
    WP (k ⟨h⟩) Q ⊢ WP (Prog.lift (TpuEff.assume C dC) >>= k) Q :=
  wp_assume 𝒱₀ (d.tc) none Set.univ (k := k) h

end Ops

/-! ## A group's row copies -/

section Rows

variable (A : Args F) (arg0 : Memref sig .tc .smem S1x1024 .i32) (arg1 : Memref sig .tc .hbm S2016x3072 .i32)
variable (arg8 : Memref sig .tc .vmem S1024x3072 .i32) (arg15 : DmaSems sig S8)

/-- The core owes nothing, whatever it has waited for. -/
def Ow : sProp 𝕄 := iprop(∃ W, owes (d.tc) 0 W)

/-- Token `t`'s share of the table. -/
def tq (t : ℕ) : PosShare TreeShare := Transfers.shareTokN fullShare t

theorem cell_inb (g : ℕ) : ∀ a, (![g % 8] : Fin 1 → ℕ) a + S1.size a ≤ S8.size a := by
  intro a
  have : g % 8 < 8 := Nat.mod_lt _ (by omega)
  obtain rfl : a = 0 := Subsingleton.elim _ _
  show g % 8 + 1 ≤ 8
  omega

/-- The semaphore cell of group `g`. -/
def cell (g : ℕ) : DmaSem sig := ((arg15.slice (Rect.unit (s := S8) ![g % 8] S1.size (cell_inb g))).squeeze S_ squeezes_S1_S_).sem

/-- One row's bytes. -/
def rowN : ℕ := (arg8.slice (Rect.unit (s := S1024x3072) ![0, 0] S1x3072.size (by decide)) (fun _ => rfl)).view.dmaCredit

/-- A row's copy landed. -/
def RowOut (t : ℕ) : sProp 𝕄 :=
  iprop(Hold (d.tc) arg8 (Row t) fullShare A.words ∗ Hold (d.tc) arg1 (A.SRow t) (tq t) A.table)
/-- A row's copy not started. -/
def RowIn (t : ℕ) : sProp 𝕄 :=
  iprop(Any (d.tc) arg8 (Row t) ∗ Hold (d.tc) arg1 (A.SRow t) (tq t) A.table)

/-- Group `g`: not started, -/
def InG (g : ℕ) : sProp 𝕄 := iprop(Any (d.tc) arg8 (Blk g) ∗ bigSep (Finset.univ : Finset (Fin 32)) fun i => Hold (d.tc) arg1 (A.SRow (32 * g + i.val)) (tq (32 * g + i.val)) A.table)
/-- in flight, -/
def Flight (g : ℕ) : sProp 𝕄 :=
  Transfers.Batch EC (d.tc) (.dma (cell arg15 g)) () (rowN arg8) (fun i : Fin 32 => RowOut d A arg1 arg8 (32 * g + i.val)) 32 0
/-- arrived. -/
def OutG (g : ℕ) : sProp 𝕄 := iprop(Hold (d.tc) arg8 (Blk g) fullShare A.words ∗ bigSep (Finset.univ : Finset (Fin 32)) fun i => Hold (d.tc) arg1 (A.SRow (32 * g + i.val)) (tq (32 * g + i.val)) A.table)

instance rowOut_storable (t : ℕ) : Storable (upEmb : UEmb _ 𝕄) (RowOut d A arg1 arg8 t) := by
  unfold RowOut; infer_instance

theorem inG_rows (g : ℕ) : (InG d A arg1 arg8 g : sProp 𝕄) ⊢ bigSep (Finset.univ : Finset (Fin 32)) fun i => RowIn d A arg1 arg8 (32 * g + i.val) := by
  unfold InG RowIn
  refine Entails.trans ?_ (Entails.of_eq (bigSep_sep _ _ _).symm)
  rw [blk_rows]
  exact BI.Laws.sep_mono (any_split _ _ (rows_disjoint g)) .rfl

theorem outG_rows (g : ℕ) : (bigSep (Finset.univ : Finset (Fin 32)) fun i => RowOut d A arg1 arg8 (32 * g + i.val)) ⊢ (OutG d A arg1 arg8 g : sProp 𝕄) := by
  unfold OutG RowOut
  refine Entails.trans (Entails.of_eq (bigSep_sep _ _ _)) ?_
  rw [blk_rows]
  exact BI.Laws.sep_mono (Entails.of_eq (hold_biUnion _ _ (rows_disjoint g)).symm) .rfl

/-- A copied row holds the words of the row its token names. -/
theorem row_words {t : ℕ} (ht : t < 1024) (h : ∀ a, offT (A.ids (mk2 1 1024 0 t)) a + S1x3072.size a ≤ S2016x3072.size a)
    (h' : ∀ a, (![t, 0] : Fin 2 → ℕ) a + S1x3072.size a ≤ S1024x3072.size a) (y : S1x3072.Idx) :
    A.table ((Rect.unit (s := S2016x3072) (offT (A.ids (mk2 1 1024 0 t))) S1x3072.size h).emb y)
      = A.words ((Rect.unit (s := S1024x3072) ![t, 0] S1x3072.size h').emb y) := by
  have y0 : (y 0 : ℕ) < 1 := (y 0).isLt
  have e0 : ((Rect.unit (s := S1024x3072) ![t, 0] S1x3072.size h').emb y 0 : ℕ) = t := by
    rw [Rect.emb_apply]; simp; omega
  have e1 : ((Rect.unit (s := S1024x3072) ![t, 0] S1x3072.size h').emb y 1 : ℕ) = (y 1 : ℕ) := by
    rw [Rect.emb_apply]; simp
  unfold Args.words
  rw [e0, e1]
  exact congrArg A.table (eq_mk2 _ (by rw [Rect.emb_apply]; simp [offT, Args.row]; omega) (by rw [Rect.emb_apply]; simp [offT]))

/-- Every token's row lies in the table. -/
def Args.Ok : Prop := ∀ t, t < 1024 → ∀ a, offT (A.ids (mk2 1 1024 0 t)) a + S1x3072.size a ≤ S2016x3072.size a

variable (hok : A.Ok) {q₀ : PosShare TreeShare}

include hok in
theorem startRows_wp (g : ℕ) (hg : g < 32) {C : BitVec 32 → Prop} {dC : ∀ v, Decidable (C v)}
    {hC : ∀ v, C v → ∀ a, offT v a + S1x3072.size a ≤ S2016x3072.size a}
    (hC' : ∀ v, (∀ a, offT v a + S1x3072.size a ≤ S2016x3072.size a) → C v)
    {r : Fin 32 → ℕ} {c : ℕ} (hr : ∀ i, r i = 32 * g + i.val) (hc : c = g % 8)
    {hI : ∀ i, ∀ a, (![0, r i] : Fin 2 → ℕ) a + S1x1.size a ≤ S1x1024.size a}
    {hS : ∀ a, (![c] : Fin 1 → ℕ) a + S1.size a ≤ S8.size a}
    {hD : ∀ i, ∀ a, (![r i, 0] : Fin 2 → ℕ) a + S1x3072.size a ≤ S1024x3072.size a} :
    iprop(Hold (d.tc) arg0 Finset.univ q₀ A.ids ∗ InG d A arg1 arg8 g ∗ semVal (d.tc, .dma (cell arg15 g)) 0)
      ⊢ WP (startRows arg0 arg1 arg8 arg15 C dC hC r c hI hS hD)
          fun _ => iprop(Hold (d.tc) arg0 Finset.univ q₀ A.ids ∗ Flight d A arg1 arg8 arg15 g) := by
  obtain rfl : r = fun i => 32 * g + i.val := funext hr
  subst hc
  let I : ℕ → sProp 𝕄 := fun n => iprop(Hold (d.tc) arg0 Finset.univ q₀ A.ids
    ∗ (bigSep (Transfers.pending n) fun i : Fin 32 => RowIn d A arg1 arg8 (32 * g + i.val))
    ∗ Transfers.Batch EC (d.tc) (.dma (cell arg15 g)) () (rowN arg8) (fun i : Fin 32 => RowOut d A arg1 arg8 (32 * g + i.val)) n 0)
  have hstep : ∀ i : Fin 32, I i.val ⊢ WP (startRow arg0 arg1 arg8 arg15 C dC hC ![0, 32 * g + i.val] (hI i) ![g % 8] hS ![32 * g + i.val, 0] (hD i)) fun _ => I (i.val + 1) := by
    intro i
    have ht : 32 * g + i.val < 1024 := by omega
    have hrow := hok _ ht
    show iprop(Hold (d.tc) arg0 Finset.univ q₀ A.ids ∗ (bigSep (Transfers.pending i.val) fun i : Fin 32 => RowIn d A arg1 arg8 (32 * g + i.val))
      ∗ Transfers.Batch EC (d.tc) (.dma (cell arg15 g)) () (rowN arg8) (fun i : Fin 32 => RowOut d A arg1 arg8 (32 * g + i.val)) i.val 0) ⊢ _
    rw [Transfers.bigSep_pending_step _ i.val i.isLt]
    unfold RowIn
    iintro ⟨H0, ⟨⟨H8, H1⟩, HI⟩, HB⟩
    unfold startRow
    have ev : ∀ x : (Rect.unit (s := S1x1024) ![0, 32 * g + i.val] S1x1.size (hI i)).shape.Idx,
        A.ids ((Rect.unit (s := S1x1024) ![0, 32 * g + i.val] S1x1.size (hI i)).emb x) = A.ids (mk2 1 1024 0 (32 * g + i.val)) := fun x => by
      have x0 : (x 0 : ℕ) < 1 := (x 0).isLt
      have x1 : (x 1 : ℕ) < 1 := (x 1).isLt
      exact congrArg A.ids (eq_mk2 _ (by rw [Rect.emb_apply]; simp; omega) (by rw [Rect.emb_apply]; simp; omega))
    iapply (smem_bind d (m := arg0) (Finset.subset_univ _)) $$ H0
    iintro H0
    rw [ev]
    iapply (assume_bind d (hC' _ hrow))
    ihave H8' := (Entails.of_eq (congrArg (Any (d.tc) arg8) (row_set (hD i)).symm)) $$ H8
    ihave H8s := (any_slice (c := d.tc) (m := arg8) (r := Rect.unit (s := S1024x3072) ![32 * g + i.val, 0] S1x3072.size (hD i)) (fun _ => rfl)) $$ H8'
    have e1 : (Hold (d.tc) arg1 (A.SRow (32 * g + i.val)) (tq (32 * g + i.val)) A.table : sProp 𝕄)
        = Hold (d.tc) (arg1.slice (Rect.unit (s := S2016x3072) (offT (A.ids (mk2 1 1024 0 (32 * g + i.val)))) S1x3072.size hrow) (fun _ => rfl)) Finset.univ (tq (32 * g + i.val))
            (fun y => A.words ((Rect.unit (s := S1024x3072) ![32 * g + i.val, 0] S1x3072.size (hD i)).emb y)) := by
      rw [← srow_set A hrow, hold_slice (fun _ => rfl)]
      exact hold_congr fun y _ => row_words A ht hrow (hD i) y
    have e8 : (Hold (d.tc) arg8 (Row (32 * g + i.val)) fullShare A.words : sProp 𝕄)
        = Hold (d.tc) (arg8.slice (Rect.unit (s := S1024x3072) ![32 * g + i.val, 0] S1x3072.size (hD i)) (fun _ => rfl)) Finset.univ fullShare
            (fun y => A.words ((Rect.unit (s := S1024x3072) ![32 * g + i.val, 0] S1x3072.size (hD i)).emb y)) := by
      rw [← row_set (hD i), hold_slice (fun _ => rfl)]
    ihave H1' := (Entails.of_eq e1) $$ H1
    iapply (wp_wand_r frame (wpE defs₀ 𝒱₀ (d.tc) none) Set.univ)
    isplitl [H1' H8s HB]
    · iapply (dma_lift d (D := fun i : Fin 32 => RowOut d A arg1 arg8 (32 * g + i.val)) (rowN arg8) rfl i.isLt (Nat.zero_le _)
        (by
          show _ ⊢ RowOut d A arg1 arg8 (32 * g + i.val)
          unfold RowOut
          rw [e1, e8]
          exact .rfl))
      isplitl [H1']; · iexact H1'
      isplitl [H8s]; · iexact H8s
      iexact HB
    · iintro %_ HB
      isplitl [H0]; · iexact H0
      isplitl [HI]; · unfold RowIn; iexact HI
      iexact HB
  iintro ⟨H0, HI, HS⟩
  imod (Transfers.batch_alloc' EC (d.tc) () (rowN arg8) (fun i : Fin 32 => RowOut d A arg1 arg8 (32 * g + i.val)) (E := Set.univ)) $$ HS with HB
  ihave HR := ((inG_rows d A arg1 arg8 g).trans (Entails.of_eq (Transfers.bigSep_pending_zero _))) $$ HI
  iapply (wp_wand_r frame (wpE defs₀ 𝒱₀ (d.tc) none) Set.univ)
  isplitl [H0 HR HB]
  · iapply (each_wp d _ I hstep l32 0 l32_val)
    isplitl [H0]; · iexact H0
    isplitl [HR]; · iexact HR
    iexact HB
  · iintro %_ ⟨H0, -, HB⟩
    isplitl [H0]; · iexact H0
    unfold Flight
    iexact HB

/-- Wait for a group's rows. -/
theorem waitRows_wp (g : ℕ) {r : Fin 32 → ℕ} {c : ℕ} (hc : c = g % 8)
    {hS : ∀ a, (![c] : Fin 1 → ℕ) a + S1.size a ≤ S8.size a}
    {hD : ∀ i, ∀ a, (![r i, 0] : Fin 2 → ℕ) a + S1x3072.size a ≤ S1024x3072.size a} :
    iprop(Flight d A arg1 arg8 arg15 g ∗ Ow d)
      ⊢ WP (waitRows arg1 arg8 arg15 r c hS hD : P F Unit)
          fun _ => iprop(OutG d A arg1 arg8 g ∗ semVal (d.tc, .dma (cell arg15 g)) 0 ∗ Ow d) := by
  subst hc
  have hN0 : 0 < rowN arg8 := View.dmaCredit_pos _ (by decide)
  let I : ℕ → sProp 𝕄 := fun n => if n < 32 then
      iprop(Transfers.Batch EC (d.tc) (.dma (cell arg15 g)) () (rowN arg8) (fun i : Fin 32 => RowOut d A arg1 arg8 (32 * g + i.val)) 32 (n * rowN arg8) ∗ Ow d)
    else iprop(OutG d A arg1 arg8 g ∗ semVal (d.tc, .dma (cell arg15 g)) 0 ∗ Ow d)
  have hstep : ∀ i : Fin 32, I i.val ⊢ WP (waitRow arg1 arg8 arg15 ![g % 8] hS ![r i, 0] (hD i) : P F Unit) fun _ => I (i.val + 1) := by
    intro i
    rw [show I i.val = _ from if_pos i.isLt]
    unfold Ow waitRow
    iintro ⟨HB, ⟨%W, HO⟩⟩
    by_cases hi : i.val + 1 < 32
    · rw [show I (i.val + 1) = _ from if_pos hi]
      iapply (Transfers.wp_waitBatch EC 𝒱₀ (d.tc) none (srcw := arg1.slice (Rect.unit (s := S2016x3072) ![0, 0] S1x3072.size inb_S2016x3072_S1x3072_0_0) (fun _ => rfl))
        (dstw := arg8.slice (Rect.unit (s := S1024x3072) ![r i, 0] S1x3072.size (hD i)) (fun _ => rfl)) (hsrc := View.wordExact_bits rfl) (hdst := View.wordExact_bits rfl)
        (sem := cell arg15 g) (k := .ret) () (N := rowN arg8) rfl (D := fun i : Fin 32 => RowOut d A arg1 arg8 (32 * g + i.val)) (u := i.val * rowN arg8)
        (by have := Nat.mul_lt_mul_of_pos_right hi hN0; rw [Nat.mul_comm (rowN arg8)]; rw [Nat.add_mul, Nat.one_mul] at this; exact this) (W := W)) $$ [HB HO]
      · isplitl [HB]; · iexact HB
        iexact HO
      iintro ⟨HB, HO⟩
      rw [wp_ret]
      imodintro
      rw [Nat.add_mul, Nat.one_mul]
      isplitl [HB]; · iexact HB
      unfold Ow
      iexists _; iexact HO
    · rw [show I (i.val + 1) = _ from if_neg hi]
      have hi' : i.val = 31 := by omega
      have hu : i.val * rowN arg8 + rowN arg8 = rowN arg8 * 32 := by rw [hi']; omega
      iapply (Transfers.wp_waitBatchLast EC 𝒱₀ (d.tc) none (srcw := arg1.slice (Rect.unit (s := S2016x3072) ![0, 0] S1x3072.size inb_S2016x3072_S1x3072_0_0) (fun _ => rfl))
        (dstw := arg8.slice (Rect.unit (s := S1024x3072) ![r i, 0] S1x3072.size (hD i)) (fun _ => rfl)) (hsrc := View.wordExact_bits rfl) (hdst := View.wordExact_bits rfl)
        (sem := cell arg15 g) (k := .ret) () (N := rowN arg8) rfl hN0 (D := fun i : Fin 32 => RowOut d A arg1 arg8 (32 * g + i.val)) (u := i.val * rowN arg8)
        hu (W := W)) $$ [HB HO]
      · isplitl [HB]; · iexact HB
        iexact HO
      iintro ⟨HB, HS, HO⟩
      rw [wp_ret]
      imodintro
      isplitl [HB]
      · iapply (outG_rows d A arg1 arg8 g); iexact HB
      isplitl [HS]; · iexact HS
      unfold Ow
      iexists _; iexact HO
  have h := each_wp d _ I hstep l32 0 l32_val
  rw [show I 0 = _ from if_pos (by decide), show I (0 + l32.length) = _ from if_neg (by decide), Nat.zero_mul] at h
  exact h

end Rows

end Cert.KernelIdeal.Emb
end
-- ==== Proof.IdealTiles.lean ====
/- The steps run, tile by tile: the per-token parameters selected, a group dequantised, normalised, and copied out. -/
module

public import proofs.«01_k».proof.Proof.IdealRows

@[expose] public section

set_option maxRecDepth 16384

noncomputable section

namespace Cert.KernelIdeal.Emb

open Idealize.ShloMosaic Cert.KernelIdeal.Gen Cert.Emb
open Idealize.SL
open Idealize.SL.RA Idealize.SL.Sem Idealize.SL.ProofMode
open Idealize.SL.BI (sProp bigSep bigSep_insert bigSep_mono bigSep_empty bigSep_congr bigSep_sep Storable)
open scoped Idealize.SL.BI
open Idealize.SL.BI.BIBase Idealize.SL.BI.Laws

variable {F : FTy → Type} [FloatOps F] [Named F]

local notation "𝕄" => MT nD τ sig Unit (Elt F) ℕ (Pipeline.UD sig nD τ) ℕ

variable (d : Dev nD)

local notation "WP" => wp frame (wpE defs₀ 𝒱₀ (d.tc) none) Set.univ

variable {α β σ : Type} (A : Args F)

/-- The part of a buffer below `n` (by `f`) new, the rest old. -/
def mix {s : Shape} {α : Type} (f : s.Idx → ℕ) (n : ℕ) (V V' : s.Idx → α) (x : s.Idx) : α := if f x < n then V' x else V x

theorem mix_zero {s : Shape} {α : Type} (f : s.Idx → ℕ) (V V' : s.Idx → α) : mix f 0 V V' = V :=
  funext fun x => if_neg (Nat.not_lt_zero _)

theorem mix_full {s : Shape} {α : Type} {f : s.Idx → ℕ} {n : ℕ} (h : ∀ x, f x < n) (V V' : s.Idx → α) : mix f n V V' = V' :=
  funext fun x => if_pos (h x)

/-- A box of the next stretch stored. -/
theorem mix_store {cs : CoreSpace} {s : Shape} {e : EltTy} {S : Finset s.Idx} {V V' : s.Idx → Elt F e} (f : s.Idx → ℕ) (n n' : ℕ)
    {m : Memref sig .tc cs s e} {r : Rect s} {w : r.shape.Idx → Elt F e}
    {hx : (m.access r).Stores Finset.univ} {hm : (Finset.univ : Finset r.shape.Idx) = Finset.univ ∨ ∀ a, r.stride a = 1}
    (hA : r.set ⊆ S) (hin : ∀ y, V' (r.emb y) = w y) (hset : ∀ x ∈ S, x ∈ r.set ↔ n ≤ f x ∧ f x < n') (hn : n ≤ n') :
    (Hold (d.tc) m S fullShare (mix f n V V') : sProp 𝕄) ⊢ WP (Prog.lift (.store m r w Finset.univ hx hm) : P F PUnit)
      fun _ => Hold (d.tc) m S fullShare (mix f n' V V') := by
  refine store_lift d hA (fun y => ?_) fun x hx hr => ?_
  · have h : r.emb y ∈ r.set := by
      rw [← Rect.map_emb_univ]; exact Finset.mem_map.mpr ⟨y, Finset.mem_univ _, rfl⟩
    rw [mix, if_pos ((hset _ (hA h)).mp h).2, hin]
  · have h : ¬ (n ≤ f x ∧ f x < n') := fun h => hr ((hset x hx).mpr h)
    unfold mix
    by_cases h1 : f x < n
    · rw [if_pos h1, if_pos (by omega)]
    · rw [if_neg h1, if_neg (by omega)]

/-! ## The per-token parameters -/

section Chunks

variable (arg2 : Memref sig .tc .vmem S1x1024 .i32) (arg3 : Memref sig .tc .vmem S63x128 .f32) (arg4 : Memref sig .tc .vmem S63x128 .bf16)
  (arg12 : Memref sig .tc .vmem S1024x128 .i32)
  (arg13 : Memref sig .tc .vmem S1024x128 .bf16) (harg13 : arg13.IsWhole) (arg14 : Memref sig .tc .vmem S1024x128 .bf16) (harg14 : arg14.IsWhole)
  {q2 q3 q4 : PosShare TreeShare}

/-- A row number. -/
def row1 (x : S1024x128.Idx) : ℕ := (x 0 : ℕ)

theorem chunk_wp (c : Fin 8) (V12 : S1024x128.Idx → Elt F .i32) (V13 V14 : S1024x128.Idx → Elt F .bf16) :
    (iprop(Hold (d.tc) arg2 Finset.univ q2 A.ids ∗ Hold (d.tc) arg12 Finset.univ fullShare (mix row1 (128 * c.val) V12 A.shiftV)
        ∗ Hold (d.tc) arg13 Finset.univ fullShare (mix row1 (128 * c.val) V13 A.scaleV) ∗ Hold (d.tc) arg14 Finset.univ fullShare (mix row1 (128 * c.val) V14 A.zeroV)) : sProp 𝕄)
      ⊢ WP (chunk arg2 arg12 arg13 harg13 arg14 harg14 A.params c) fun _ =>
        iprop(Hold (d.tc) arg2 Finset.univ q2 A.ids ∗ Hold (d.tc) arg12 Finset.univ fullShare (mix row1 (128 * (c.val + 1)) V12 A.shiftV)
        ∗ Hold (d.tc) arg13 Finset.univ fullShare (mix row1 (128 * (c.val + 1)) V13 A.scaleV) ∗ Hold (d.tc) arg14 Finset.univ fullShare (mix row1 (128 * (c.val + 1)) V14 A.zeroV)) := by
  have hset : ∀ x ∈ (Finset.univ : Finset S1024x128.Idx),
      x ∈ (Rect.unit (s := S1024x128) ![128 * c.val, 0] S128x128.size (chunk_inb c)).set ↔ 128 * c.val ≤ row1 x ∧ row1 x < 128 * (c.val + 1) := by
    intro x _
    rw [mem_chunk c, row1, Nat.mul_add, Nat.mul_one]
  have hids : (fun y : S1x128.Idx => A.ids ((Rect.unit (s := S1x1024) ![0, 128 * c.val] S1x128.size (ids_inb c)).emb y)) = A.idChunk c.val :=
    funext fun y => congrArg A.ids (ids_emb c y)
  iintro ⟨H2, H12, H13, H14⟩
  unfold chunk
  iapply (load_val d (m := arg2) (Finset.subset_univ _) hids) $$ H2
  iintro H2
  iapply (load_bind d (m := arg13) (Finset.subset_univ _)) $$ H13
  iintro H13
  iapply (wp_seq d (mix_store d row1 _ (128 * (c.val + 1)) (m := arg13) (Finset.subset_univ _)
    (fun y => chunk_read (fun c z => shapeCast S128x128 (scaleOf A.params (A.idChunk c)) shapeCasts_S128x128_S128x128 z) c y) hset (by omega))) $$ H13
  iintro %_ H13
  iapply (load_bind d (m := arg14) (Finset.subset_univ _)) $$ H14
  iintro H14
  iapply (wp_seq d (mix_store d row1 _ (128 * (c.val + 1)) (m := arg14) (Finset.subset_univ _)
    (fun y => chunk_read (fun c z => shapeCast S128x128 (zeroOf A.params (A.idChunk c)) shapeCasts_S128x128_S128x128 z) c y) hset (by omega))) $$ H14
  iintro %_ H14
  iapply (load_bind d (m := arg12) (Finset.subset_univ _)) $$ H12
  iintro H12
  iapply (wp_last d (mix_store d row1 _ (128 * (c.val + 1)) (m := arg12) (Finset.subset_univ _)
      (fun y => chunk_read (fun c z => shapeCast S128x128 (shiftOf (F := F) (A.idChunk c)) shapeCasts_S128x128_S128x128 z) c y) hset (by omega))) $$ H12
  iintro %_ H12
  isplitl [H2]; · iexact H2
  isplitl [H12]; · iexact H12
  isplitl [H13]; · iexact H13
  iexact H14

/-- Every token's parameters selected. -/
theorem chunks_wp :
    (iprop(Hold (d.tc) arg2 Finset.univ q2 A.ids ∗ Hold (d.tc) arg3 Finset.univ q3 A.scale ∗ Hold (d.tc) arg4 Finset.univ q4 A.zero
        ∗ Any (d.tc) arg12 Finset.univ ∗ Any (d.tc) arg13 Finset.univ ∗ Any (d.tc) arg14 Finset.univ) : sProp 𝕄)
      ⊢ WP (chunks arg2 arg3 arg4 arg12 arg13 harg13 arg14 harg14) fun _ =>
        iprop(Hold (d.tc) arg2 Finset.univ q2 A.ids ∗ Hold (d.tc) arg3 Finset.univ q3 A.scale ∗ Hold (d.tc) arg4 Finset.univ q4 A.zero
        ∗ Hold (d.tc) arg12 Finset.univ fullShare A.shiftV ∗ Hold (d.tc) arg13 Finset.univ fullShare A.scaleV ∗ Hold (d.tc) arg14 Finset.univ fullShare A.zeroV) := by
  unfold Any
  iintro ⟨H2, H3, H4, ⟨%V12, H12⟩, ⟨%V13, H13⟩, ⟨%V14, H14⟩⟩
  have emb63 : ∀ y : S63x128.Idx, (Rect.unit (s := S63x128) ![0, 0] S63x128.size inb_S63x128_S63x128_0_0).emb y = y := fun y => by
    funext a
    refine Fin.ext ?_
    rw [Rect.emb_apply]
    revert a
    rw [Fin.forall_fin_two]
    exact ⟨by simp, by simp⟩
  have hs : (fun y : S63x128.Idx => A.scale ((Rect.unit (s := S63x128) ![0, 0] S63x128.size inb_S63x128_S63x128_0_0).emb y)) = A.scale :=
    funext fun y => congrArg A.scale (emb63 y)
  have hz : (fun y : S63x128.Idx => A.zero ((Rect.unit (s := S63x128) ![0, 0] S63x128.size inb_S63x128_S63x128_0_0).emb y)) = A.zero :=
    funext fun y => congrArg A.zero (emb63 y)
  have h := each_wp d (chunk arg2 arg12 arg13 harg13 arg14 harg14 A.params)
    (fun n => iprop(Hold (d.tc) arg2 Finset.univ q2 A.ids ∗ Hold (d.tc) arg12 Finset.univ fullShare (mix row1 (128 * n) V12 A.shiftV)
        ∗ Hold (d.tc) arg13 Finset.univ fullShare (mix row1 (128 * n) V13 A.scaleV) ∗ Hold (d.tc) arg14 Finset.univ fullShare (mix row1 (128 * n) V14 A.zeroV)))
    (fun c => chunk_wp d A arg2 arg12 arg13 harg13 arg14 harg14 c V12 V13 V14) l8 0 l8_val
  have hf : ∀ x : S1024x128.Idx, row1 x < 128 * (0 + l8.length) := fun x => (x 0).isLt
  rw [mix_full hf, mix_full hf, mix_full hf, Nat.mul_zero, mix_zero, mix_zero, mix_zero] at h
  unfold chunks
  iapply (load_val d (m := arg3) (Finset.subset_univ _) hs) $$ H3
  iintro H3
  iapply (load_val d (m := arg4) (Finset.subset_univ _) hz) $$ H4
  iintro H4
  iapply (wp_last d h) $$ [H2 H12 H13 H14]
  · isplitl [H2]; · iexact H2
    isplitl [H12]; · iexact H12
    isplitl [H13]; · iexact H13
    iexact H14
  iintro %_ ⟨H2, H12, H13, H14⟩
  isplitl [H2]; · iexact H2
  isplitl [H3]; · iexact H3
  isplitl [H4]; · iexact H4
  isplitl [H12]; · iexact H12
  isplitl [H13]; · iexact H13
  iexact H14

end Chunks

/-! ## A group dequantised -/

section Dequant

variable (arg8 : Memref sig .tc .vmem S1024x3072 .i32) (arg9 : Memref sig .tc .vmem S1024x3072 .bf16) (harg9 : arg9.IsWhole)
  (arg11 : Memref sig .tc .vmem S2x32x128 .f32)
  (arg12 : Memref sig .tc .vmem S1024x128 .i32) (arg13 arg14 : Memref sig .tc .vmem S1024x128 .bf16)
  {q8 q9 q12 q13 q14 : PosShare TreeShare}

/-- A column number. -/
def col (x : S1024x3072.Idx) : ℕ := (x 1 : ℕ)

theorem col_lt (x : S1024x3072.Idx) : col x < 128 * 24 := (x 1).isLt

theorem tile_set {g j : ℕ} (h : TileIn (32 * g) j) : ∀ x ∈ Blk g,
    x ∈ (Rect.unit (s := S1024x3072) ![32 * g, 128 * j] S32x128.size h).set ↔ 128 * j ≤ col x ∧ col x < 128 * (j + 1) := by
  intro x hx
  rw [Blk, Finset.mem_filter] at hx
  rw [mem_tile, col, Nat.mul_add, Nat.mul_one]
  exact ⟨fun h => h.2, fun h => ⟨hx.2, h⟩⟩

theorem dqTile_wp (g : ℕ) {hB : ∀ j : Fin 24, TileIn (32 * g) j} {hP : ∀ j : Fin 24, TilePacked (32 * g) j (hB j)} (j : Fin 24)
    (V9 : S1024x3072.Idx → Elt F .bf16) :
    (iprop(Hold (d.tc) arg8 (Blk g) q8 A.words ∗ Hold (d.tc) arg9 (Blk g) fullShare (mix col (128 * j.val) V9 A.embV)) : sProp 𝕄)
      ⊢ WP (dqTile arg8 arg9 harg9 (32 * g) hB hP (fun y => A.shiftV (prmIx g y)) (fun y => A.scaleV (prmIx g y)) (fun y => A.zeroV (prmIx g y)) j (A.sq g j.val) : P F _)
        fun b => iprop(⌜b = A.sq g (j.val + 1)⌝ ∗ Hold (d.tc) arg8 (Blk g) q8 A.words ∗ Hold (d.tc) arg9 (Blk g) fullShare (mix col (128 * (j.val + 1)) V9 A.embV)) := by
  have hw : (fun y : S32x128.Idx => A.words ((Rect.unit (s := S1024x3072) ![32 * g, 128 * j.val] S32x128.size (hB j)).emb y)) = fun y => A.words (tileIx g j.val y) :=
    funext fun y => congrArg A.words (tile_emb (hB j) y)
  iintro ⟨H8, H9⟩
  unfold dqTile
  iapply (load_val d (m := arg8) (tile_sub (hB j)) hw) $$ H8
  iintro H8
  iapply (load_bind d (m := arg9) (tile_sub (hB j))) $$ H9
  iintro H9
  iapply (wp_seq d (mix_store d col _ (128 * (j.val + 1)) (m := arg9) (tile_sub (hB j))
    (fun y => (congrArg A.embV (tile_emb (hB j) y)).trans (embV_tile A (hB j) y)) (tile_set (hB j)) (by omega))) $$ H9
  iintro %_ H9
  rw [show (pure (sqAdd (A.sq g j.val) (embTile (fun y => A.shiftV (prmIx g y)) (fun y => A.scaleV (prmIx g y)) (fun y => A.zeroV (prmIx g y))
    fun y => A.words (tileIx g j.val y))) : P F (FVec F S32x128 .f32)) = .ret (A.sq g (j.val + 1)) from rfl, wp_ret]
  imodintro
  isplitr
  · ipureintro; rfl
  isplitl [H8]; · iexact H8
  iexact H9

/-- A group's rows dequantised; the result is their sums of squares. -/
theorem dqRows_wp (g : ℕ) {r : ℕ} (hr : r = 32 * g) {hC : ∀ a, (![r, 0] : Fin 2 → ℕ) a + S32x128.size a ≤ S1024x128.size a}
    {hB : ∀ j : Fin 24, TileIn r j} {hP : ∀ j : Fin 24, TilePacked r j (hB j)} :
    (iprop(Hold (d.tc) arg8 (Blk g) q8 A.words ∗ Any (d.tc) arg9 (Blk g) ∗ Hold (d.tc) arg12 Finset.univ q12 A.shiftV
        ∗ Hold (d.tc) arg13 Finset.univ q13 A.scaleV ∗ Hold (d.tc) arg14 Finset.univ q14 A.zeroV) : sProp 𝕄)
      ⊢ WP (dqRows arg8 arg9 harg9 arg12 arg13 arg14 r hC hB hP : P F _) fun b => iprop(⌜b = A.sq g 24⌝
        ∗ Hold (d.tc) arg8 (Blk g) q8 A.words ∗ Hold (d.tc) arg9 (Blk g) fullShare A.embV ∗ Hold (d.tc) arg12 Finset.univ q12 A.shiftV
        ∗ Hold (d.tc) arg13 Finset.univ q13 A.scaleV ∗ Hold (d.tc) arg14 Finset.univ q14 A.zeroV) := by
  subst hr
  have h12 : (fun y : S32x128.Idx => A.shiftV ((Rect.unit (s := S1024x128) ![32 * g, 0] S32x128.size hC).emb y)) = fun y => A.shiftV (prmIx g y) :=
    funext fun y => congrArg A.shiftV (prm_emb hC y)
  have h13 : (fun y : S32x128.Idx => A.scaleV ((Rect.unit (s := S1024x128) ![32 * g, 0] S32x128.size hC).emb y)) = fun y => A.scaleV (prmIx g y) :=
    funext fun y => congrArg A.scaleV (prm_emb hC y)
  have h14 : (fun y : S32x128.Idx => A.zeroV ((Rect.unit (s := S1024x128) ![32 * g, 0] S32x128.size hC).emb y)) = fun y => A.zeroV (prmIx g y) :=
    funext fun y => congrArg A.zeroV (prm_emb hC y)
  unfold Any
  iintro ⟨H8, ⟨%V9, H9⟩, H12, H13, H14⟩
  have h := fold_wp d (dqTile arg8 arg9 harg9 (32 * g) hB hP (fun y => A.shiftV (prmIx g y)) (fun y => A.scaleV (prmIx g y)) (fun y => A.zeroV (prmIx g y)))
    (A.sq g) (fun n => iprop(Hold (d.tc) arg8 (Blk g) q8 A.words ∗ Hold (d.tc) arg9 (Blk g) fullShare (mix col (128 * n) V9 A.embV)))
    (fun j => dqTile_wp d A arg8 arg9 harg9 g j V9) l24 0 l24_val
  rw [Nat.mul_zero, mix_zero, show 0 + l24.length = 24 from rfl, mix_full col_lt] at h
  unfold dqRows
  iapply (load_val d (m := arg12) (Finset.subset_univ _) h12) $$ H12
  iintro H12
  iapply (load_val d (m := arg13) (Finset.subset_univ _) h13) $$ H13
  iintro H13
  iapply (load_val d (m := arg14) (Finset.subset_univ _) h14) $$ H14
  iintro H14
  iapply (wp_last d h) $$ [H8 H9]
  · isplitl [H8]; · iexact H8
    iexact H9
  iintro %_ ⟨%hb, H8, H9⟩
  isplitr
  · ipureintro; exact hb
  isplitl [H8]; · iexact H8
  isplitl [H9]; · iexact H9
  isplitl [H12]; · iexact H12
  isplitl [H13]; · iexact H13
  iexact H14

/-- A slot of the sums of squares. -/
def Slot (c : ℕ) : Finset S2x32x128.Idx := Finset.univ.filter fun x => (x 0 : ℕ) = c

/-- A slot's element. -/
def slotIx (x : S2x32x128.Idx) : S1x32x128.Idx := fun i => match i with
  | ⟨0, _⟩ => (0 : Fin 1)
  | ⟨1, _⟩ => (x 1 : Fin 32)
  | ⟨2, _⟩ => (x 2 : Fin 128)

/-- Group `g`'s sums of squares, in any slot. -/
def Args.sqV (g : ℕ) (x : S2x32x128.Idx) : Elt F .f32 := A.sqS g (slotIx x)

theorem slot_set {c : ℕ} (h : ∀ a, (![c, 0, 0] : Fin 3 → ℕ) a + S1x32x128.size a ≤ S2x32x128.size a) :
    (Rect.unit (s := S2x32x128) ![c, 0, 0] S1x32x128.size h).set = Slot c := by
  ext x
  have h1 : (x 1 : ℕ) < 32 := (x 1).isLt
  have h2 : (x 2 : ℕ) < 128 := (x 2).isLt
  rw [Rect.mem_set_unit, Slot, Finset.mem_filter]
  simp only [Finset.mem_univ, true_and]
  constructor
  · intro hx
    have := hx 0
    simp at this
    omega
  · intro hx a
    match a with
    | ⟨0, _⟩ => show c ≤ (x 0 : ℕ) ∧ (x 0 : ℕ) < c + 1; omega
    | ⟨1, _⟩ => show 0 ≤ (x 1 : ℕ) ∧ (x 1 : ℕ) < 0 + 32; omega
    | ⟨2, _⟩ => show 0 ≤ (x 2 : ℕ) ∧ (x 2 : ℕ) < 0 + 128; omega

theorem slot_emb {c : ℕ} (h : ∀ a, (![c, 0, 0] : Fin 3 → ℕ) a + S1x32x128.size a ≤ S2x32x128.size a) (y : S1x32x128.Idx) :
    slotIx ((Rect.unit (s := S2x32x128) ![c, 0, 0] S1x32x128.size h).emb y) = y := by
  funext a
  refine Fin.ext ?_
  match a with
  | ⟨0, _⟩ => have y0 : (y 0 : ℕ) < 1 := (y 0).isLt; show 0 = (y 0 : ℕ); omega
  | ⟨1, _⟩ => show ((Rect.unit (s := S2x32x128) ![c, 0, 0] S1x32x128.size h).emb y 1 : ℕ) = (y 1 : ℕ); rw [Rect.emb_apply]; simp
  | ⟨2, _⟩ => show ((Rect.unit (s := S2x32x128) ![c, 0, 0] S1x32x128.size h).emb y 2 : ℕ) = (y 2 : ℕ); rw [Rect.emb_apply]; simp

/-- A group's sums of squares stored. -/
theorem sqStore_wp (g c : ℕ) {c' : ℕ} (hc : c' = c) {hQ : ∀ a, (![c', 0, 0] : Fin 3 → ℕ) a + S1x32x128.size a ≤ S2x32x128.size a} :
    (Any (d.tc) arg11 (Slot c) : sProp 𝕄) ⊢ WP (sqStore arg11 c' hQ (A.sq g 24)) fun _ => Hold (d.tc) arg11 (Slot c) fullShare (A.sqV g) := by
  subst hc
  unfold Any sqStore
  iintro ⟨%V, H⟩
  iapply (load_bind d (m := arg11) (slot_set hQ).subset) $$ H
  iintro H
  iapply (store_lift d (m := arg11) (V' := A.sqV g) (slot_set hQ).subset (fun y => congrArg (A.sqS g) (slot_emb hQ y))
    (fun x hx hr => absurd ((slot_set hQ).symm ▸ hx) hr)) $$ H

/-- A group dequantised, its sums of squares stored. -/
theorem dequant_wp (g c : ℕ) {r c' : ℕ} (hr : r = 32 * g) (hc : c' = c) {hC : ∀ a, (![r, 0] : Fin 2 → ℕ) a + S32x128.size a ≤ S1024x128.size a}
    {hB : ∀ j : Fin 24, TileIn r j} {hP : ∀ j : Fin 24, TilePacked r j (hB j)}
    {hQ : ∀ a, (![c', 0, 0] : Fin 3 → ℕ) a + S1x32x128.size a ≤ S2x32x128.size a} :
    (iprop((Hold (d.tc) arg8 (Blk g) q8 A.words ∗ Any (d.tc) arg9 (Blk g) ∗ Hold (d.tc) arg12 Finset.univ q12 A.shiftV
        ∗ Hold (d.tc) arg13 Finset.univ q13 A.scaleV ∗ Hold (d.tc) arg14 Finset.univ q14 A.zeroV) ∗ Any (d.tc) arg11 (Slot c)) : sProp 𝕄)
      ⊢ WP (dequant arg8 arg9 harg9 arg11 arg12 arg13 arg14 r c' hC hB hP hQ : P F Unit) fun _ => iprop(
        (Hold (d.tc) arg8 (Blk g) q8 A.words ∗ Hold (d.tc) arg9 (Blk g) fullShare A.embV ∗ Hold (d.tc) arg12 Finset.univ q12 A.shiftV
        ∗ Hold (d.tc) arg13 Finset.univ q13 A.scaleV ∗ Hold (d.tc) arg14 Finset.univ q14 A.zeroV) ∗ Hold (d.tc) arg11 (Slot c) fullShare (A.sqV g)) := by
  unfold dequant
  iintro ⟨H, HQ⟩
  iapply (wp_seq d (dqRows_wp d A arg8 arg9 harg9 arg12 arg13 arg14 g hr)) $$ H
  iintro %_ ⟨%hb, H⟩
  subst hb
  iapply (wp_last d (sqStore_wp d A arg11 g c hc)) $$ HQ
  iintro %_ HQ
  isplitl [H]; · iexact H
  iexact HQ

end Dequant

/-! ## A group normalised -/

section Normalise

variable (arg5 : Memref sig .tc .vmem S1x3072 .bf16) (arg9 : Memref sig .tc .vmem S1024x3072 .bf16)
  (arg10 : Memref sig .tc .vmem S1024x3072 .bf16) (harg10 : arg10.IsWhole) (arg11 : Memref sig .tc .vmem S2x32x128 .f32)
  {q5 q9 q11 : PosShare TreeShare}

theorem nmTile_wp (g : ℕ) {hB : ∀ j : Fin 24, TileIn (32 * g) j} {hP : ∀ j : Fin 24, TilePacked (32 * g) j (hB j)} (j : Fin 24)
    (V10 : S1024x3072.Idx → Elt F .bf16) :
    (iprop(Hold (d.tc) arg5 Finset.univ q5 A.weight ∗ Hold (d.tc) arg9 (Blk g) q9 A.embV ∗ Hold (d.tc) arg10 (Blk g) fullShare (mix col (128 * j.val) V10 A.outV)) : sProp 𝕄)
      ⊢ WP (nmTile arg5 arg9 arg10 harg10 (32 * g) hB hP (factor (A.sqS g)) j : P F Unit)
        fun _ => iprop(Hold (d.tc) arg5 Finset.univ q5 A.weight ∗ Hold (d.tc) arg9 (Blk g) q9 A.embV ∗ Hold (d.tc) arg10 (Blk g) fullShare (mix col (128 * (j.val + 1)) V10 A.outV)) := by
  have hx : (fun y : S32x128.Idx => A.embV ((Rect.unit (s := S1024x3072) ![32 * g, 128 * j.val] S32x128.size (hB j)).emb y)) = fun y => A.embV (tileIx g j.val y) :=
    funext fun y => congrArg A.embV (tile_emb (hB j) y)
  have hw : (fun y : S1x128.Idx => A.weight ((Rect.unit (s := S1x3072) ![0, 128 * j.val] S1x128.size (weight_inb j)).emb y))
      = fun y => A.weight (mk2 1 3072 0 (128 * j.val + (y 1 : ℕ))) :=
    funext fun y => congrArg A.weight (weight_emb j y)
  iintro ⟨H5, H9, H10⟩
  unfold nmTile
  iapply (load_val d (m := arg9) (tile_sub (hB j)) hx) $$ H9
  iintro H9
  iapply (load_val d (m := arg5) (Finset.subset_univ _) hw) $$ H5
  iintro H5
  iapply (load_bind d (m := arg10) (tile_sub (hB j))) $$ H10
  iintro H10
  iapply (wp_last d (mix_store d col _ (128 * (j.val + 1)) (m := arg10) (tile_sub (hB j))
      (fun y => (congrArg A.outV (tile_emb (hB j) y)).trans (outV_tile A (hB j) y)) (tile_set (hB j)) (by omega))) $$ H10
  iintro %_ H10
  isplitl [H5]; · iexact H5
  isplitl [H9]; · iexact H9
  iexact H10

/-- A group's rows normalised. -/
theorem normalise_wp (g c : ℕ) {r c' : ℕ} (hr : r = 32 * g) (hc : c' = c) {hB : ∀ j : Fin 24, TileIn r j} {hP : ∀ j : Fin 24, TilePacked r j (hB j)}
    {hQ : ∀ a, (![c', 0, 0] : Fin 3 → ℕ) a + S1x32x128.size a ≤ S2x32x128.size a} :
    (iprop(Hold (d.tc) arg5 Finset.univ q5 A.weight ∗ Hold (d.tc) arg9 (Blk g) q9 A.embV ∗ Any (d.tc) arg10 (Blk g) ∗ Hold (d.tc) arg11 (Slot c) q11 (A.sqV g)) : sProp 𝕄)
      ⊢ WP (normalise arg5 arg9 arg10 harg10 arg11 r c' hB hP hQ : P F Unit) fun _ =>
        iprop(Hold (d.tc) arg5 Finset.univ q5 A.weight ∗ Hold (d.tc) arg9 (Blk g) q9 A.embV ∗ Hold (d.tc) arg10 (Blk g) fullShare A.outV ∗ Hold (d.tc) arg11 (Slot c) q11 (A.sqV g)) := by
  subst hr; subst hc
  have hs : (fun y : S1x32x128.Idx => A.sqV g ((Rect.unit (s := S2x32x128) ![c', 0, 0] S1x32x128.size hQ).emb y)) = A.sqS g :=
    funext fun y => congrArg (A.sqS g) (slot_emb hQ y)
  unfold Any
  iintro ⟨H5, H9, ⟨%V10, H10⟩, H11⟩
  have h := each_wp d (nmTile arg5 arg9 arg10 harg10 (32 * g) hB hP (factor (A.sqS g)))
    (fun n => iprop(Hold (d.tc) arg5 Finset.univ q5 A.weight ∗ Hold (d.tc) arg9 (Blk g) q9 A.embV ∗ Hold (d.tc) arg10 (Blk g) fullShare (mix col (128 * n) V10 A.outV)))
    (fun j => nmTile_wp d A arg5 arg9 arg10 harg10 g j V10) l24 0 l24_val
  rw [Nat.mul_zero, mix_zero, show 0 + l24.length = 24 from rfl, mix_full col_lt] at h
  unfold normalise
  iapply (load_val d (m := arg11) (slot_set hQ).subset hs) $$ H11
  iintro H11
  iapply (wp_last d h) $$ [H5 H9 H10]
  · isplitl [H5]; · iexact H5
    isplitl [H9]; · iexact H9
    iexact H10
  iintro %_ ⟨H5, H9, H10⟩
  isplitl [H5]; · iexact H5
  isplitl [H9]; · iexact H9
  isplitl [H10]; · iexact H10
  iexact H11

end Normalise

/-! ## The copies out -/

section Out

variable (src : Memref sig .tc .vmem S1024x3072 .bf16) (hsrc : src.IsWhole) (dst : Memref sig .tc .hbm S1024x3072 .bf16) (hdst : dst.IsWhole)
  (sem : DmaSems sig S_) (q : PosShare TreeShare) (V : S1024x3072.Idx → Elt F .bf16)

/-- One row block's bytes. -/
def blkN : ℕ := (dst.slice (Rect.unit (s := S1024x3072) ![0, 0] S32x3072.size (by decide)) (fun _ => rfl)).view.dmaCredit

/-- Group `j`'s copy landed. -/
def BlkOut (j : ℕ) : sProp 𝕄 := iprop(Hold (d.tc) dst (Blk j) fullShare V ∗ Hold (d.tc) src (Blk j) q V)

instance blkOut_storable (j : ℕ) : Storable (upEmb : UEmb _ 𝕄) (BlkOut d src dst q V j) := by
  unfold BlkOut; infer_instance

/-- The copies out, `n` of them started, none waited for. -/
def Outs (n : ℕ) : sProp 𝕄 := Transfers.Batch EC (d.tc) (.dma sem.sem) () (blkN dst) (fun i : Fin 32 => BlkOut d src dst q V i.val) n 0

theorem outs_start {E : Set ℕ} : (semVal (d.tc, .dma sem.sem) 0 : sProp 𝕄) ⊢ iprop(|={E}=> Outs d src dst sem q V 0) :=
  Transfers.batch_alloc' EC (d.tc) () (blkN dst) (fun i : Fin 32 => BlkOut d src dst q V i.val)

theorem copyOut_wp (g : ℕ) (hg : g < 32) {r : ℕ} (hr : r = 32 * g) {hB : BlockIn r}
    {hW : (Rect.unit (s := S1024x3072) ![r, 0] S32x3072.size hB).WholeWords (EltTy.packing .bf16)} :
    (iprop(Hold (d.tc) src (Blk g) q V ∗ Any (d.tc) dst (Blk g) ∗ Outs d src dst sem q V g) : sProp 𝕄)
      ⊢ WP (copyOut src hsrc dst hdst sem r hB hW : P F Unit) fun _ => Outs d src dst sem q V (g + 1) := by
  subst hr
  unfold copyOut Outs
  have e : ∀ {sp : Space} (m : Memref sig .tc sp S1024x3072 .bf16) (q : PosShare TreeShare), (Hold (d.tc) m (Blk g) q V : sProp 𝕄)
      = Hold (d.tc) (m.slice (Rect.unit (s := S1024x3072) ![32 * g, 0] S32x3072.size hB) (fun _ => rfl)) Finset.univ q
          (fun y => V ((Rect.unit (s := S1024x3072) ![32 * g, 0] S32x3072.size hB).emb y)) := by
    intro sp m q
    rw [← blk_set hB, hold_slice (fun _ => rfl)]
  iintro ⟨HS, HD, HB⟩
  ihave HD' := (Entails.of_eq (congrArg (Any (d.tc) dst) (blk_set hB).symm)) $$ HD
  ihave HDs := (any_slice (c := d.tc) (m := dst) (r := Rect.unit (s := S1024x3072) ![32 * g, 0] S32x3072.size hB) (fun _ => rfl)) $$ HD'
  ihave HS' := (Entails.of_eq (e src q)) $$ HS
  iapply (dma_lift d (D := fun i : Fin 32 => BlkOut d src dst q V i.val) (blkN dst) rfl hg (Nat.zero_le _)
    (by
      show _ ⊢ BlkOut d src dst q V g
      unfold BlkOut
      rw [e dst, e src]))
  isplitl [HS']; · iexact HS'
  isplitl [HDs]; · iexact HDs
  iexact HB

/-- Wait for all the copies out by one wait for the whole buffer. -/
theorem waitOut_wp {h1 : src.view.WordExact} {h2 : dst.view.WordExact} :
    (iprop(Outs d src dst sem q V 32 ∗ Ow d) : sProp 𝕄)
      ⊢ WP (Prog.lift (.waitDma2 sem.sem src dst h1 h2) : P F Unit)
          fun _ => iprop((bigSep (Finset.univ : Finset (Fin 32)) fun i => BlkOut d src dst q V i.val) ∗ semVal (d.tc, .dma sem.sem) 0 ∗ Ow d) := by
  have hN0 : 0 < blkN dst := View.dmaCredit_pos _ (by decide)
  unfold Outs Ow
  iintro ⟨HB, ⟨%W, HO⟩⟩
  iapply (Transfers.wp_waitBatchAll EC 𝒱₀ (d.tc) none (srcw := src) (dstw := dst) (hsrc := h1) (hdst := h2) (sem := sem.sem) (k := .ret) () (N := blkN dst) rfl hN0 (D := fun i : Fin 32 => BlkOut d src dst q V i.val) (u := 0)
    (by
      rw [Nat.zero_add]
      show RefSig.tileCredit S1024x3072 .bf16 = RefSig.tileCredit S32x3072 .bf16 * 32
      decide) (W := W)) $$ [HB HO]
  · isplitl [HB]; · iexact HB
    iexact HO
  iintro ⟨HB, HS, HO⟩
  rw [wp_ret]
  imodintro
  isplitl [HB]; · iexact HB
  isplitl [HS]; · iexact HS
  iexists _; iexact HO

end Out

end Cert.KernelIdeal.Emb
end
-- ==== Proof.IdealUnrolled.lean ====
/- The printed kernel is the composition of the steps of `Steps.lean`: its loops' regions and its body unroll them. -/
module

public import proofs.«01_k».proof.Proof.IdealSteps

@[expose] public section

set_option maxRecDepth 65536

noncomputable section

namespace Cert.KernelIdeal.Emb

open Idealize.ShloMosaic Idealize.SL.Sem Cert.KernelIdeal.Gen

variable {F : FTy → Type} [FloatOps F] [Named F]

set_option maxHeartbeats 4000000 in
/-- A prologue trip starts one group's row copies. -/
theorem t1_body_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (k : Fin k0_t1_loop.trips) (u : Unit) (hI hS hD) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k u
      = startRows arg0 arg1 arg8 arg15 k0_chk1 k0_chk1.dec (fun _ h => h) (fun i => (rowWord (Scf.iv 0#32 1#32 k) i).toNat)
          (cellWord (Scf.iv 0#32 1#32 k)).toNat hI hS hD := rfl

/-- `n mod 2` as the kernel computes it. -/
def slotWord (g : BitVec 32) : BitVec 32 :=
  let n : BitVec 32 := Scalar.select (Scalar.cmpi .eq 2#32 0#32) 1#32 2#32
  let r : BitVec 32 := Scalar.remsi g n
  Scalar.select (Scalar.andi (Scalar.xori (Scalar.cmpi .slt r 0#32) (Scalar.cmpi .slt n 0#32)) (Scalar.cmpi .ne r 0#32)) (Scalar.addi r n) r

/-- The group of trip `k` of the main loop. -/
def grp (k : Fin k0_t2_loop.trips) : BitVec 32 := Scf.iv 1#32 1#32 k
/-- The group before it. -/
def prv (k : Fin k0_t2_loop.trips) : BitVec 32 := Scalar.subi (grp k) 1#32
/-- The group started ahead of it. -/
def nxt (k : Fin k0_t2_loop.trips) : BitVec 32 := Scalar.subi (Scalar.addi (grp k) 8#32) 1#32

/-- A composition whose first step is itself one, associated to the right. -/
theorem reassoc {α β γ} {x : P F α} {t : P F β} (f : α → P F β) (g : β → P F γ) {r : α → P F γ}
    (ht : t = Prog.bind x f) (h : ∀ a, Prog.bind (f a) g = r a) : Prog.bind t g = Prog.bind x r := by
  subst ht; rw [show Prog.bind (Prog.bind x f) g = Prog.bind x (fun a => Prog.bind (f a) g) from Prog.bind_assoc x f g]
  exact congrArg _ (funext h)

set_option maxHeartbeats 400000 in
/-- The trip's statements around the start of the group ahead, that part given. -/
theorem t2_around (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k0_t2 : Fin k0_t2_loop.trips) (u : Unit) (p50 : BitVec 32 → BitVec 32 → BitVec 32 → Prog (TpuEff nD τ sig (Elt F) Λ₀ .tc) (Σ' (v1788 : BitVec 32) (v1790 : Vec F S32x128 .i32) (v1792 : Vec F S32x128 .bf16) (v1794 : Vec F S32x128 .bf16) (v1811 : FVec F S32x128 .f32), FVec F S32x128 .f32))
    (he : ∀ a b c, k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 a b c = p50 a b c) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k0_t2 u = (do
      let ⟨arg18, v1296, c2_i32_469⟩ : Σ' (arg18 : BitVec 32) (v1296 : BitVec 32), BitVec 32 ← k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 1#32 1#32 k0_t2
      let ⟨c8_i32_492, v1330⟩ : Σ' (c8_i32_492 : BitVec 32), BitVec 1 ← k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1296 c2_i32_469
      let ⟨v1363, v1364, c0_i32_517⟩ : Σ' (v1363 : BitVec 32) (v1364 : BitVec 32), BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 c8_i32_492 v1330
      let ⟨v1395, v1396, v1397, v1398, c0_i32_541⟩ : Σ' (v1395 : BitVec 32) (v1396 : BitVec 32) (v1397 : BitVec 1) (v1398 : BitVec 1), BitVec 32 ← k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1363 v1364 c0_i32_517
      let ⟨v1428, v1433, v1434⟩ : Σ' (v1428 : BitVec 32) (v1433 : BitVec 1), BitVec 32 ← k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1395 v1396 v1397 v1398 c0_i32_541
      k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1428 v1433 v1434
      k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18
      let ⟨v1536, c17_i32_634⟩ : Σ' (v1536 : BitVec 32), BitVec 32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18
      let ⟨c8_i32_657, v1570⟩ : Σ' (c8_i32_657 : BitVec 32), BitVec 1 ← k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1536 c17_i32_634
      let ⟨v1603, v1604, c0_i32_682⟩ : Σ' (v1603 : BitVec 32) (v1604 : BitVec 32), BitVec 32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 c8_i32_657 v1570
      let ⟨v1635, v1636, v1637, v1638, c0_i32_706⟩ : Σ' (v1635 : BitVec 32) (v1636 : BitVec 32) (v1637 : BitVec 1) (v1638 : BitVec 1), BitVec 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1603 v1604 c0_i32_682
      let ⟨v1668, v1673, v1674⟩ : Σ' (v1668 : BitVec 32) (v1673 : BitVec 1), BitVec 32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1635 v1636 v1637 v1638 c0_i32_706
      k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1668 v1673 v1674
      k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18
      let ⟨v1776, c32_i32_799⟩ : Σ' (v1776 : BitVec 32), BitVec 32 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18
      let ⟨v1788, v1790, v1792, v1794, v1811, v1817⟩ : Σ' (v1788 : BitVec 32) (v1790 : Vec F S32x128 .i32) (v1792 : Vec F S32x128 .bf16) (v1794 : Vec F S32x128 .bf16) (v1811 : FVec F S32x128 .f32), FVec F S32x128 .f32 ← p50 arg18 v1776 c32_i32_799
      let ⟨v1859, v1865⟩ : Σ' (v1859 : FVec F S32x128 .f32), FVec F S32x128 .f32 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v1811 v1817
      let ⟨v1907, v1913⟩ : Σ' (v1907 : FVec F S32x128 .f32), FVec F S32x128 .f32 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v1859 v1865
      let ⟨v1955, v1961⟩ : Σ' (v1955 : FVec F S32x128 .f32), FVec F S32x128 .f32 ← k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v1907 v1913
      let ⟨v2003, v2009⟩ : Σ' (v2003 : FVec F S32x128 .f32), FVec F S32x128 .f32 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v1955 v1961
      let ⟨v2051, v2057⟩ : Σ' (v2051 : FVec F S32x128 .f32), FVec F S32x128 .f32 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v2003 v2009
      let ⟨v2099, v2105⟩ : Σ' (v2099 : FVec F S32x128 .f32), FVec F S32x128 .f32 ← k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v2051 v2057
      let ⟨v2147, v2153⟩ : Σ' (v2147 : FVec F S32x128 .f32), FVec F S32x128 .f32 ← k0_part57 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v1788 v1790 v1792 v1794 v2099 v2105
      let ⟨v2194, v2196⟩ : Σ' (v2194 : BitVec 32), BitVec 32 ← k0_part58 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 arg18 v1788 v1790 v1792 v1794 v2147 v2153
      let ⟨v2218, v2236, v2237⟩ : Σ' (v2218 : FVec F S32x128 .f32) (v2236 : FVec F S32x128 .f32), Vec F S1x128 .bf16 ← k0_part59 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2194 v2196
      let ⟨v2278, v2282⟩ : Σ' (v2278 : FVec F S32x128 .f32), FVec F S32x128 .f32 ← k0_part60 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2236 v2237
      let v2326 : FVec F S32x128 .bf16 ← k0_part61 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2278 v2282
      let v2368 : FVec F S32x128 .bf16 ← k0_part62 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2326
      k0_part63 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2368
      let v2459 : FVec F S32x128 .f32 ← k0_part64 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218
      let v2502 : FVec F S32x128 .f32 ← k0_part65 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2459
      let ⟨v2544, v2547⟩ : Σ' (v2544 : FVec F S32x128 .f32), FVec F S1x128 .f32 ← k0_part66 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 v2196 v2218 v2502
      let v2552 : Vec F S32x128 .bf16 ← Prog.lift (.load arg10 (Rect.unit (s := S1024x3072) (k0_off310 k0_t2) S32x128.size (k0_off310_inb k0_t2)).toLoadRect (View.loadsAt_vmem h_S32x128))
      Prog.lift (.store arg10 (Rect.unit (s := S1024x3072) (k0_off310 k0_t2) S32x128.size (k0_off310_inb k0_t2)) (k0_pay231 v2544 v2547) Finset.univ (View.stores_vmem h_S32x128 (harg10.storeExact_slice rfl _ (k0_off310_packedbf16 k0_t2)) (fun _ => rfl)) (.inl rfl))
      let v2560 : Memref sig .tc .hbm S32x3072 .bf16 := arg6.slice (Rect.unit (s := S1024x3072) (k0_off131 k0_t2) S32x3072.size (k0_off131_inb k0_t2)) (fun _ => rfl)
      let v2561 : Memref sig .tc .vmem S32x3072 .bf16 := arg10.slice (Rect.unit (s := S1024x3072) (k0_off131 k0_t2) S32x3072.size (k0_off131_inb k0_t2)) (fun _ => rfl)
      Prog.lift (.enqueueDma v2561 (.here v2560) (.dma arg17.sem) (harg10.wordExact_slice rfl _ (k0_off131_wordsbf16 k0_t2)) (harg6.wordExact_slice rfl _ (k0_off131_wordsbf16 k0_t2)) ⟨Or.inl rfl, trivial⟩)
      pure ⟨⟩) := by
  have e : p50 = fun a b c => k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t2 a b c := funext fun a => funext fun b => funext fun c => (he a b c).symm
  rw [e]; rfl

set_option maxHeartbeats 400000 in
theorem part50_pos (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k0_t2 : Fin k0_t2_loop.trips) (arg18 a b) (h : k0_cond1 k0_t2 = 1#1) (hI' hS' hD') :
    k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (F := F) k0_t2 arg18 a b = (do
      let v1781 : Memref sig .tc .hbm S32x3072 .bf16 := arg7.slice (Rect.unit (s := S1024x3072) (k0_off131 k0_t2) S32x3072.size (k0_off131_inb k0_t2)) (fun _ => rfl)
      let v1782 : Memref sig .tc .vmem S32x3072 .bf16 := arg9.slice (Rect.unit (s := S1024x3072) (k0_off131 k0_t2) S32x3072.size (k0_off131_inb k0_t2)) (fun _ => rfl)
      Prog.lift (.enqueueDma v1782 (.here v1781) (.dma arg16.sem) (harg9.wordExact_slice rfl _ (k0_off131_wordsbf16 k0_t2)) (harg7.wordExact_slice rfl _ (k0_off131_wordsbf16 k0_t2)) ⟨Or.inl rfl, trivial⟩)
      startRows arg0 arg1 arg8 arg15 (k0_chk33 k0_t2) (k0_chk33.dec k0_t2) (fun _ hc => hc h) (fun i => (rowWord (nxt k0_t2) i).toNat)
            (cellWord (nxt k0_t2)).toNat hI' hS' hD'
      let v1787 : BitVec 32 := Scalar.muli arg18 32#32
      let v1788 : BitVec 32 := v1787
      let v1790 : Vec F S32x128 .i32 ← Prog.lift (.load arg12 (Rect.unit (s := S1024x128) (k0_off260 k0_t2) S32x128.size (k0_off260_inb k0_t2)).toLoadRect (View.loadsAt_vmem h_S32x128))
      let v1792 : Vec F S32x128 .bf16 ← Prog.lift (.load arg13 (Rect.unit (s := S1024x128) (k0_off260 k0_t2) S32x128.size (k0_off260_inb k0_t2)).toLoadRect (View.loadsAt_vmem h_S32x128))
      let v1794 : Vec F S32x128 .bf16 ← Prog.lift (.load arg14 (Rect.unit (s := S1024x128) (k0_off260 k0_t2) S32x128.size (k0_off260_inb k0_t2)).toLoadRect (View.loadsAt_vmem h_S32x128))
      let v1797 : Vec F S32x128 .i32 ← Prog.lift (.load arg8 (Rect.unit (s := S1024x3072) (k0_off261 k0_t2) S32x128.size (k0_off261_inb k0_t2)).toLoadRect (View.loadsAt_vmem h_S32x128))
      let v1806 : Vec F S32x128 .bf16 ← Prog.lift (.load arg9 (Rect.unit (s := S1024x3072) (k0_off261 k0_t2) S32x128.size (k0_off261_inb k0_t2)).toLoadRect (View.loadsAt_vmem h_S32x128))
      Prog.lift (.store arg9 (Rect.unit (s := S1024x3072) (k0_off261 k0_t2) S32x128.size (k0_off261_inb k0_t2)) (k0_pay3 v1790 v1792 v1794 v1797) Finset.univ (View.stores_vmem h_S32x128 (harg9.storeExact_slice rfl _ (k0_off261_packedbf16 k0_t2)) (fun _ => rfl)) (.inl rfl))
      let v1813 : Vec F S32x128 .i32 ← Prog.lift (.load arg8 (Rect.unit (s := S1024x3072) (k0_off262 k0_t2) S32x128.size (k0_off262_inb k0_t2)).toLoadRect (View.loadsAt_vmem h_S32x128))
      pure ⟨v1788, v1790, v1792, v1794, k0_pay4 v1790 v1792 v1794 v1797, k0_pay5 v1790 v1813⟩) :=
  (congrArg (Prog.op _) (funext fun _ => dif_pos h)).trans rfl

set_option maxHeartbeats 400000 in
theorem part50_neg (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k0_t2 : Fin k0_t2_loop.trips) (arg18 a b) (h : ¬ k0_cond1 k0_t2 = 1#1)  :
    k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (F := F) k0_t2 arg18 a b = (do
      let v1781 : Memref sig .tc .hbm S32x3072 .bf16 := arg7.slice (Rect.unit (s := S1024x3072) (k0_off131 k0_t2) S32x3072.size (k0_off131_inb k0_t2)) (fun _ => rfl)
      let v1782 : Memref sig .tc .vmem S32x3072 .bf16 := arg9.slice (Rect.unit (s := S1024x3072) (k0_off131 k0_t2) S32x3072.size (k0_off131_inb k0_t2)) (fun _ => rfl)
      Prog.lift (.enqueueDma v1782 (.here v1781) (.dma arg16.sem) (harg9.wordExact_slice rfl _ (k0_off131_wordsbf16 k0_t2)) (harg7.wordExact_slice rfl _ (k0_off131_wordsbf16 k0_t2)) ⟨Or.inl rfl, trivial⟩)
      pure ()
      let v1787 : BitVec 32 := Scalar.muli arg18 32#32
      let v1788 : BitVec 32 := v1787
      let v1790 : Vec F S32x128 .i32 ← Prog.lift (.load arg12 (Rect.unit (s := S1024x128) (k0_off260 k0_t2) S32x128.size (k0_off260_inb k0_t2)).toLoadRect (View.loadsAt_vmem h_S32x128))
      let v1792 : Vec F S32x128 .bf16 ← Prog.lift (.load arg13 (Rect.unit (s := S1024x128) (k0_off260 k0_t2) S32x128.size (k0_off260_inb k0_t2)).toLoadRect (View.loadsAt_vmem h_S32x128))
      let v1794 : Vec F S32x128 .bf16 ← Prog.lift (.load arg14 (Rect.unit (s := S1024x128) (k0_off260 k0_t2) S32x128.size (k0_off260_inb k0_t2)).toLoadRect (View.loadsAt_vmem h_S32x128))
      let v1797 : Vec F S32x128 .i32 ← Prog.lift (.load arg8 (Rect.unit (s := S1024x3072) (k0_off261 k0_t2) S32x128.size (k0_off261_inb k0_t2)).toLoadRect (View.loadsAt_vmem h_S32x128))
      let v1806 : Vec F S32x128 .bf16 ← Prog.lift (.load arg9 (Rect.unit (s := S1024x3072) (k0_off261 k0_t2) S32x128.size (k0_off261_inb k0_t2)).toLoadRect (View.loadsAt_vmem h_S32x128))
      Prog.lift (.store arg9 (Rect.unit (s := S1024x3072) (k0_off261 k0_t2) S32x128.size (k0_off261_inb k0_t2)) (k0_pay3 v1790 v1792 v1794 v1797) Finset.univ (View.stores_vmem h_S32x128 (harg9.storeExact_slice rfl _ (k0_off261_packedbf16 k0_t2)) (fun _ => rfl)) (.inl rfl))
      let v1813 : Vec F S32x128 .i32 ← Prog.lift (.load arg8 (Rect.unit (s := S1024x3072) (k0_off262 k0_t2) S32x128.size (k0_off262_inb k0_t2)).toLoadRect (View.loadsAt_vmem h_S32x128))
      pure ⟨v1788, v1790, v1792, v1794, k0_pay4 v1790 v1792 v1794 v1797, k0_pay5 v1790 v1813⟩) :=
  (congrArg (Prog.op _) (funext fun _ => dif_neg h)).trans rfl

set_option maxHeartbeats 400000 in
/-- A trip of the main loop: wait for the group's rows, copy the group before out, start a group ahead, dequantise the
    group, normalise the group before and copy that out. -/
theorem t2_body_eq_pos (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k : Fin k0_t2_loop.trips) (u : Unit) (h : k0_cond1 k = 1#1) (hS hD hB hW) (hI' hS' hD') (hC hT hP hQ hT' hP' hQ') :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u
      = (do
        waitRows arg1 arg8 arg15 (fun i => (rowWord (grp k) i).toNat) (cellWord (grp k)).toNat hS hD
        copyOut arg9 harg9 arg7 harg7 arg16 (Scalar.muli (prv k) 32#32).toNat hB hW
        startRows arg0 arg1 arg8 arg15 (k0_chk33 k) (k0_chk33.dec k) (fun _ hc => hc h) (fun i => (rowWord (nxt k) i).toNat)
            (cellWord (nxt k)).toNat hI' hS' hD'
        dequant arg8 arg9 harg9 arg11 arg12 arg13 arg14 (Scalar.muli (grp k) 32#32).toNat (slotWord (grp k)).toNat hC hT hP hQ
        normalise arg5 arg9 arg10 harg10 arg11 (Scalar.muli (prv k) 32#32).toNat (slotWord (prv k)).toNat hT' hP' hQ'
        copyOut arg10 harg10 arg6 harg6 arg17 (Scalar.muli (prv k) 32#32).toNat hB hW) :=
  (t2_around arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u _ (fun a b c => part50_pos arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k a b c h hI' hS' hD')).trans rfl

set_option maxHeartbeats 400000 in
/-- A trip with no group left to start. -/
theorem t2_body_eq_neg (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (k : Fin k0_t2_loop.trips) (u : Unit) (h : ¬ k0_cond1 k = 1#1) (hS hD hB hW)  (hC hT hP hQ hT' hP' hQ') :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u
      = (do
        waitRows arg1 arg8 arg15 (fun i => (rowWord (grp k) i).toNat) (cellWord (grp k)).toNat hS hD
        copyOut arg9 harg9 arg7 harg7 arg16 (Scalar.muli (prv k) 32#32).toNat hB hW
        dequant arg8 arg9 harg9 arg11 arg12 arg13 arg14 (Scalar.muli (grp k) 32#32).toNat (slotWord (grp k)).toNat hC hT hP hQ
        normalise arg5 arg9 arg10 harg10 arg11 (Scalar.muli (prv k) 32#32).toNat (slotWord (prv k)).toNat hT' hP' hQ'
        copyOut arg10 harg10 arg6 harg6 arg17 (Scalar.muli (prv k) 32#32).toNat hB hW) :=
  (t2_around arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u _ (fun a b c => part50_neg arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k a b c h)).trans rfl

set_option maxHeartbeats 400000 in
/-- The body from the main loop on. -/
theorem tail_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (v906 : FVec F S1x32x128 .f32) (hB hW hT' hP' hQ') :
    (do
      let ⟨v912, v923, v941⟩ : Σ' (v912 : BitVec 32) (v923 : FVec F S32x128 .f32), FVec F S32x128 .f32 ← (do
          Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906)
          let v910 : Memref sig .tc .hbm S32x3072 .bf16 := arg7.slice (Rect.unit (s := S1024x3072) ![992, 0] S32x3072.size inb_S1024x3072_S32x3072_992_0) (fun _ => rfl)
          let v911 : Memref sig .tc .vmem S32x3072 .bf16 := arg9.slice (Rect.unit (s := S1024x3072) ![992, 0] S32x3072.size inb_S1024x3072_S32x3072_992_0) (fun _ => rfl)
          Prog.lift (.enqueueDma v911 (.here v910) (.dma arg16.sem) (harg9.wordExact_slice rfl _ wordsbf16_S1024x3072_S32x3072_992_0) (harg7.wordExact_slice rfl _ wordsbf16_S1024x3072_S32x3072_992_0) ⟨Or.inl rfl, trivial⟩)
          let v912 : BitVec 32 := 992#32
          let v913 : Vec F S1x32x128 .f32 ← Prog.lift (.load arg11 (Rect.unit (s := S2x32x128) ![1, 0, 0] S1x32x128.size inb_S2x32x128_S1x32x128_1_0_0).toLoadRect (View.loadsAt_vmem h_S1x32x128))
          let v925 : Vec F S32x128 .bf16 ← Prog.lift (.load arg9 (Rect.unit (s := S1024x3072) ![992, 0] S32x128.size inb_S1024x3072_S32x128_992_0).toLoadRect (View.loadsAt_vmem h_S32x128))
          let v928 : Vec F S1x128 .bf16 ← Prog.lift (.load arg5 (Rect.unit (s := S1x3072) ![0, 0] S1x128.size inb_S1x3072_S1x128_0_0).toLoadRect (View.loadsAt_vmem h_S1x128))
          let v935 : Vec F S32x128 .bf16 ← Prog.lift (.load arg10 (Rect.unit (s := S1024x3072) ![992, 0] S32x128.size inb_S1024x3072_S32x128_992_0).toLoadRect (View.loadsAt_vmem h_S32x128))
          Prog.lift (.store arg10 (Rect.unit (s := S1024x3072) ![992, 0] S32x128.size inb_S1024x3072_S32x128_992_0) (k0_pay233 v913 v925 v928) Finset.univ (View.stores_vmem h_S32x128 (harg10.storeExact_slice rfl _ packedbf16_S1024x3072_S32x128_992_0) (fun _ => rfl)) (.inl rfl))
          let v939 : Vec F S32x128 .bf16 ← Prog.lift (.load arg9 (Rect.unit (s := S1024x3072) ![992, 128] S32x128.size inb_S1024x3072_S32x128_992_128).toLoadRect (View.loadsAt_vmem h_S32x128))
          pure ⟨v912, k0_pay232 v913, k0_pay234 v913 v939⟩ : Prog (TpuEff nD τ sig (Elt F) Λ₀ .tc) (Σ' (v912 : BitVec 32) (v923 : FVec F S32x128 .f32), FVec F S32x128 .f32))
      let ⟨v983, v985⟩ : Σ' (v983 : FVec F S32x128 .f32), FVec F S1x128 .bf16 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v941
      let v1030 : FVec F S32x128 .f32 ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v983 v985
      let v1073 : FVec F S32x128 .bf16 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1030
      let v1119 : FVec F S32x128 .bf16 ← k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1073
      k0_part95 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1119
      let v1207 : FVec F S32x128 .f32 ← k0_part96 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923
      let ⟨v1249, v1250⟩ : Σ' (v1249 : FVec F S32x128 .f32), Vec F S1x128 .bf16 ← k0_part97 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1207
      let v1257 : Vec F S32x128 .bf16 ← Prog.lift (.load arg10 (Rect.unit (s := S1024x3072) ![992, 2944] S32x128.size inb_S1024x3072_S32x128_992_2944).toLoadRect (View.loadsAt_vmem h_S32x128))
      Prog.lift (.store arg10 (Rect.unit (s := S1024x3072) ![992, 2944] S32x128.size inb_S1024x3072_S32x128_992_2944) (k0_pay1 v1249 v1250) Finset.univ (View.stores_vmem h_S32x128 (harg10.storeExact_slice rfl _ packedbf16_S1024x3072_S32x128_992_2944) (fun _ => rfl)) (.inl rfl))
      let v1262 : Memref sig .tc .hbm S32x3072 .bf16 := arg6.slice (Rect.unit (s := S1024x3072) ![992, 0] S32x3072.size inb_S1024x3072_S32x3072_992_0) (fun _ => rfl)
      let v1263 : Memref sig .tc .vmem S32x3072 .bf16 := arg10.slice (Rect.unit (s := S1024x3072) ![992, 0] S32x3072.size inb_S1024x3072_S32x3072_992_0) (fun _ => rfl)
      Prog.lift (.enqueueDma v1263 (.here v1262) (.dma arg17.sem) (harg10.wordExact_slice rfl _ wordsbf16_S1024x3072_S32x3072_992_0) (harg6.wordExact_slice rfl _ wordsbf16_S1024x3072_S32x3072_992_0) ⟨Or.inl rfl, trivial⟩)
      Prog.lift (.waitDma2 arg16.sem arg9 arg7 harg9.wordExact harg7.wordExact)
      Prog.lift (.waitDma2 arg17.sem arg10 arg6 harg10.wordExact harg6.wordExact)
      pure ⟨⟩) = (do
        Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906)
        copyOut arg9 harg9 arg7 harg7 arg16 992 hB hW
        normalise arg5 arg9 arg10 harg10 arg11 992 1 hT' hP' hQ'
        copyOut arg10 harg10 arg6 harg6 arg17 992 hB hW
        Prog.lift (.waitDma2 arg16.sem arg9 arg7 harg9.wordExact harg7.wordExact)
        Prog.lift (.waitDma2 arg17.sem arg10 arg6 harg10.wordExact harg6.wordExact)) := reassoc _ _ rfl (fun _ => rfl)

set_option maxHeartbeats 400000 in
/-- The statements after the prologue's loop select the parameters and wait for rows 0 to 26, whatever follows. -/
theorem head_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (hS : ∀ a, (![0] : Fin 1 → ℕ) a + S1.size a ≤ S8.size a) (hD : ∀ i : Fin 32, ∀ a, (![i.val, 0] : Fin 2 → ℕ) a + S1x3072.size a ≤ S1024x3072.size a) (K : P F Unit) : Prog.bind (do
      let v1 : Vec F S63x128 .f32 ← Prog.lift (.load arg3 (Rect.unit (s := S63x128) ![0, 0] S63x128.size inb_S63x128_S63x128_0_0).toLoadRect (View.loadsAt_vmem h_S63x128))
      let v4 : Vec F S63x128 .bf16 ← Prog.lift (.load arg4 (Rect.unit (s := S63x128) ![0, 0] S63x128.size inb_S63x128_S63x128_0_0).toLoadRect (View.loadsAt_vmem h_S63x128))
      have v7 : IVec S128x128 32 := iota .tc S128x128 32 [1] iota_S128x128_d1_w32
      let v8 : Vec F S1x128 .i32 ← Prog.lift (.load arg2 (Rect.unit (s := S1x1024) ![0, 0] S1x128.size inb_S1x1024_S1x128_0_0).toLoadRect (View.loadsAt_vmem h_S1x128))
      let v37 : Vec F S128x128 .bf16 ← Prog.lift (.load arg13 (Rect.unit (s := S1024x128) ![0, 0] S128x128.size inb_S1024x128_S128x128_0_0).toLoadRect (View.loadsAt_vmem h_S128x128))
      pure ⟨k0_pay100 v1 v4, v7, k0_pay101 v8, k0_pay104 v1 v4 v8, k0_pay105 v1 v4 v8⟩ : P F _) (fun x => do
      let ⟨v6, v7, v11, v33, v39⟩ : Σ' (v6 : FVec F S63x256 .bf16) (v7 : IVec S128x128 32) (v11 : IVec S128x128 32) (v33 : FVec F S128x1 .f32), FVec F S128x128 .bf16 := x
      let ⟨v58, v75, v80⟩ : Σ' (v58 : IVec S128x128 32) (v75 : FVec F S128x1 .f32), FVec F S128x1 .f32 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v11 v33 v39
      let ⟨v105, v114, v117, v121⟩ : Σ' (v105 : IVec S128x128 32) (v114 : FVec F S128x256 .f32) (v117 : IVec S128x128 1), FVec F S128 .f32 ← k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v58 v75 v80
      let ⟨v152, v161, v162⟩ : Σ' (v152 : IVec S128x128 32) (v161 : FVec F S128x256 .f32), IVec S128x128 32 ← k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v105 v114 v117 v121
      let ⟨v199, v200, v203⟩ : Σ' (v199 : IVec S128x128 32) (v200 : IVec S128x63 32), IVec S128x63 32 ← k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v7 v152 v161 v162
      let v243 : Vec F S1x128 .i32 ← k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v199 v200 v203
      let v286 : IVec S128x128 32 ← k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v243
      let ⟨v293, v328⟩ : Σ' (v293 : IVec S128x128 32), IVec S128x128 32 ← k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v286
      let ⟨v340, v371⟩ : Σ' (v340 : IVec S128x128 32), FVec F S128x128 .bf16 ← k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v293 v328
      k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v340 v371
      k0_part77 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part78 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part79 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      K) = (do
        chunks arg2 arg3 arg4 arg12 arg13 harg13 arg14 harg14
        each (fun i : Fin 32 => waitRow (F := F) arg1 arg8 arg15 ![0] hS ![i.val, 0] (hD i)) (l32.take 27)
        K) := rfl

set_option maxHeartbeats 400000 in
/-- Then they wait for the others and dequantise the group. -/
theorem first_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (hS : ∀ a, (![0] : Fin 1 → ℕ) a + S1.size a ≤ S8.size a) (hD : ∀ i : Fin 32, ∀ a, (![i.val, 0] : Fin 2 → ℕ) a + S1x3072.size a ≤ S1024x3072.size a) (hC hT hP hQ) (K : FVec F S1x32x128 .f32 → P F Unit) : (do
      let ⟨v512, v514, v516, v518, v519, v522, v523⟩ : Σ' (v512 : BitVec 32) (v514 : Vec F S32x128 .i32) (v516 : Vec F S32x128 .bf16) (v518 : Vec F S32x128 .bf16) (v519 : FVec F S32x128 .f32) (v522 : IVec S32x128 32), IVec S32x128 32 ← k0_part81 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      let ⟨v567, v570, v571⟩ : Σ' (v567 : FVec F S32x128 .f32) (v570 : IVec S32x128 32), IVec S32x128 32 ← k0_part82 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v519 v522 v523
      let ⟨v615, v618, v619⟩ : Σ' (v615 : FVec F S32x128 .f32) (v618 : IVec S32x128 32), IVec S32x128 32 ← k0_part83 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v567 v570 v571
      let ⟨v663, v666, v667⟩ : Σ' (v663 : FVec F S32x128 .f32) (v666 : IVec S32x128 32), IVec S32x128 32 ← k0_part84 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v615 v618 v619
      let ⟨v711, v714, v715⟩ : Σ' (v711 : FVec F S32x128 .f32) (v714 : IVec S32x128 32), IVec S32x128 32 ← k0_part85 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v663 v666 v667
      let ⟨v759, v762, v763⟩ : Σ' (v759 : FVec F S32x128 .f32) (v762 : IVec S32x128 32), IVec S32x128 32 ← k0_part86 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v711 v714 v715
      let ⟨v807, v810, v811⟩ : Σ' (v807 : FVec F S32x128 .f32) (v810 : IVec S32x128 32), IVec S32x128 32 ← k0_part87 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v759 v762 v763
      let ⟨v855, v858, v859⟩ : Σ' (v855 : FVec F S32x128 .f32) (v858 : IVec S32x128 32), IVec S32x128 32 ← k0_part88 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v807 v810 v811
      let v906 : FVec F S1x32x128 .f32 ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v855 v858 v859
      K v906 : P F Unit) = (do
        each (fun i : Fin 32 => waitRow (F := F) arg1 arg8 arg15 ![0] hS ![i.val, 0] (hD i)) (l32.drop 27)
        let sq ← dqRows arg8 arg9 harg9 arg12 arg13 arg14 0 hC hT hP
        let _ : Vec F S1x32x128 .f32 ← Prog.lift (.load arg11 (Rect.unit (s := S2x32x128) ![0, 0, 0] S1x32x128.size hQ).toLoadRect (View.loadsAt_vmem h_S1x32x128))
        K (shapeCast S1x32x128 sq shapeCasts_S32x128_S1x32x128)) := rfl

set_option maxHeartbeats 400000 in
theorem joined_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (hS : ∀ a, (![0] : Fin 1 → ℕ) a + S1.size a ≤ S8.size a) (hD : ∀ i : Fin 32, ∀ a, (![i.val, 0] : Fin 2 → ℕ) a + S1x3072.size a ≤ S1024x3072.size a) (hC hT hP hQ) (K : FVec F S1x32x128 .f32 → P F Unit) : (do
        each (fun i : Fin 32 => waitRow (F := F) arg1 arg8 arg15 ![0] hS ![i.val, 0] (hD i)) (l32.take 27)
        each (fun i : Fin 32 => waitRow (F := F) arg1 arg8 arg15 ![0] hS ![i.val, 0] (hD i)) (l32.drop 27)
        let sq ← dqRows arg8 arg9 harg9 arg12 arg13 arg14 0 hC hT hP
        let _ : Vec F S1x32x128 .f32 ← Prog.lift (.load arg11 (Rect.unit (s := S2x32x128) ![0, 0, 0] S1x32x128.size hQ).toLoadRect (View.loadsAt_vmem h_S1x32x128))
        let v906 : FVec F S1x32x128 .f32 := shapeCast S1x32x128 sq shapeCasts_S32x128_S1x32x128
        Prog.lift (.store arg11 (Rect.unit (s := S2x32x128) ![0, 0, 0] S1x32x128.size inb_S2x32x128_S1x32x128_0_0_0) v906 Finset.univ (View.stores_vmem_bits_univ h_S1x32x128 rfl) (.inl rfl))
        K v906 : P F Unit) = (do
        waitRows arg1 arg8 arg15 (fun i => i.val) 0 hS hD
        let sq ← dqRows arg8 arg9 harg9 arg12 arg13 arg14 0 hC hT hP
        sqStore arg11 0 hQ sq
        K (shapeCast S1x32x128 sq shapeCasts_S32x128_S1x32x128)) := rfl

set_option maxHeartbeats 400000 in
/-- The kernel's body. -/
theorem body_eq (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_) (hS : ∀ a, (![0] : Fin 1 → ℕ) a + S1.size a ≤ S8.size a) (hD : ∀ i : Fin 32, ∀ a, (![i.val, 0] : Fin 2 → ℕ) a + S1x3072.size a ≤ S1024x3072.size a) (hC hT hP hQ) (hB hW hT' hP' hQ') :
    cc0_embed_rmsnorm (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      = (do
        Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17)
        chunks arg2 arg3 arg4 arg12 arg13 harg13 arg14 harg14
        waitRows arg1 arg8 arg15 (fun i => i.val) 0 hS hD
        let sq ← dqRows arg8 arg9 harg9 arg12 arg13 arg14 0 hC hT hP
        sqStore arg11 0 hQ sq
        Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (shapeCast S1x32x128 sq shapeCasts_S32x128_S1x32x128))
        copyOut arg9 harg9 arg7 harg7 arg16 992 hB hW
        normalise arg5 arg9 arg10 harg10 arg11 992 1 hT' hP' hQ'
        copyOut arg10 harg10 arg6 harg6 arg17 992 hB hW
        Prog.lift (.waitDma2 arg16.sem arg9 arg7 harg9.wordExact harg7.wordExact)
        Prog.lift (.waitDma2 arg17.sem arg10 arg6 harg10.wordExact harg6.wordExact)) := by
  let K : FVec F S1x32x128 .f32 → P F Unit := fun v906 => (do
      let ⟨v912, v923, v941⟩ : Σ' (v912 : BitVec 32) (v923 : FVec F S32x128 .f32), FVec F S32x128 .f32 ← (do
          Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906)
          let v910 : Memref sig .tc .hbm S32x3072 .bf16 := arg7.slice (Rect.unit (s := S1024x3072) ![992, 0] S32x3072.size inb_S1024x3072_S32x3072_992_0) (fun _ => rfl)
          let v911 : Memref sig .tc .vmem S32x3072 .bf16 := arg9.slice (Rect.unit (s := S1024x3072) ![992, 0] S32x3072.size inb_S1024x3072_S32x3072_992_0) (fun _ => rfl)
          Prog.lift (.enqueueDma v911 (.here v910) (.dma arg16.sem) (harg9.wordExact_slice rfl _ wordsbf16_S1024x3072_S32x3072_992_0) (harg7.wordExact_slice rfl _ wordsbf16_S1024x3072_S32x3072_992_0) ⟨Or.inl rfl, trivial⟩)
          let v912 : BitVec 32 := 992#32
          let v913 : Vec F S1x32x128 .f32 ← Prog.lift (.load arg11 (Rect.unit (s := S2x32x128) ![1, 0, 0] S1x32x128.size inb_S2x32x128_S1x32x128_1_0_0).toLoadRect (View.loadsAt_vmem h_S1x32x128))
          let v925 : Vec F S32x128 .bf16 ← Prog.lift (.load arg9 (Rect.unit (s := S1024x3072) ![992, 0] S32x128.size inb_S1024x3072_S32x128_992_0).toLoadRect (View.loadsAt_vmem h_S32x128))
          let v928 : Vec F S1x128 .bf16 ← Prog.lift (.load arg5 (Rect.unit (s := S1x3072) ![0, 0] S1x128.size inb_S1x3072_S1x128_0_0).toLoadRect (View.loadsAt_vmem h_S1x128))
          let v935 : Vec F S32x128 .bf16 ← Prog.lift (.load arg10 (Rect.unit (s := S1024x3072) ![992, 0] S32x128.size inb_S1024x3072_S32x128_992_0).toLoadRect (View.loadsAt_vmem h_S32x128))
          Prog.lift (.store arg10 (Rect.unit (s := S1024x3072) ![992, 0] S32x128.size inb_S1024x3072_S32x128_992_0) (k0_pay233 v913 v925 v928) Finset.univ (View.stores_vmem h_S32x128 (harg10.storeExact_slice rfl _ packedbf16_S1024x3072_S32x128_992_0) (fun _ => rfl)) (.inl rfl))
          let v939 : Vec F S32x128 .bf16 ← Prog.lift (.load arg9 (Rect.unit (s := S1024x3072) ![992, 128] S32x128.size inb_S1024x3072_S32x128_992_128).toLoadRect (View.loadsAt_vmem h_S32x128))
          pure ⟨v912, k0_pay232 v913, k0_pay234 v913 v939⟩ : Prog (TpuEff nD τ sig (Elt F) Λ₀ .tc) (Σ' (v912 : BitVec 32) (v923 : FVec F S32x128 .f32), FVec F S32x128 .f32))
      let ⟨v983, v985⟩ : Σ' (v983 : FVec F S32x128 .f32), FVec F S1x128 .bf16 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v941
      let v1030 : FVec F S32x128 .f32 ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v983 v985
      let v1073 : FVec F S32x128 .bf16 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1030
      let v1119 : FVec F S32x128 .bf16 ← k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1073
      k0_part95 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1119
      let v1207 : FVec F S32x128 .f32 ← k0_part96 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923
      let ⟨v1249, v1250⟩ : Σ' (v1249 : FVec F S32x128 .f32), Vec F S1x128 .bf16 ← k0_part97 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v912 v923 v1207
      let v1257 : Vec F S32x128 .bf16 ← Prog.lift (.load arg10 (Rect.unit (s := S1024x3072) ![992, 2944] S32x128.size inb_S1024x3072_S32x128_992_2944).toLoadRect (View.loadsAt_vmem h_S32x128))
      Prog.lift (.store arg10 (Rect.unit (s := S1024x3072) ![992, 2944] S32x128.size inb_S1024x3072_S32x128_992_2944) (k0_pay1 v1249 v1250) Finset.univ (View.stores_vmem h_S32x128 (harg10.storeExact_slice rfl _ packedbf16_S1024x3072_S32x128_992_2944) (fun _ => rfl)) (.inl rfl))
      let v1262 : Memref sig .tc .hbm S32x3072 .bf16 := arg6.slice (Rect.unit (s := S1024x3072) ![992, 0] S32x3072.size inb_S1024x3072_S32x3072_992_0) (fun _ => rfl)
      let v1263 : Memref sig .tc .vmem S32x3072 .bf16 := arg10.slice (Rect.unit (s := S1024x3072) ![992, 0] S32x3072.size inb_S1024x3072_S32x3072_992_0) (fun _ => rfl)
      Prog.lift (.enqueueDma v1263 (.here v1262) (.dma arg17.sem) (harg10.wordExact_slice rfl _ wordsbf16_S1024x3072_S32x3072_992_0) (harg6.wordExact_slice rfl _ wordsbf16_S1024x3072_S32x3072_992_0) ⟨Or.inl rfl, trivial⟩)
      Prog.lift (.waitDma2 arg16.sem arg9 arg7 harg9.wordExact harg7.wordExact)
      Prog.lift (.waitDma2 arg17.sem arg10 arg6 harg10.wordExact harg6.wordExact)
      pure ⟨⟩)
  refine (reassoc (x := Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17))
    (t := k0_part67 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17)
    (fun _ => (do
      let v1 : Vec F S63x128 .f32 ← Prog.lift (.load arg3 (Rect.unit (s := S63x128) ![0, 0] S63x128.size inb_S63x128_S63x128_0_0).toLoadRect (View.loadsAt_vmem h_S63x128))
      let v4 : Vec F S63x128 .bf16 ← Prog.lift (.load arg4 (Rect.unit (s := S63x128) ![0, 0] S63x128.size inb_S63x128_S63x128_0_0).toLoadRect (View.loadsAt_vmem h_S63x128))
      have v7 : IVec S128x128 32 := iota .tc S128x128 32 [1] iota_S128x128_d1_w32
      let v8 : Vec F S1x128 .i32 ← Prog.lift (.load arg2 (Rect.unit (s := S1x1024) ![0, 0] S1x128.size inb_S1x1024_S1x128_0_0).toLoadRect (View.loadsAt_vmem h_S1x128))
      let v37 : Vec F S128x128 .bf16 ← Prog.lift (.load arg13 (Rect.unit (s := S1024x128) ![0, 0] S128x128.size inb_S1024x128_S128x128_0_0).toLoadRect (View.loadsAt_vmem h_S128x128))
      pure ⟨k0_pay100 v1 v4, v7, k0_pay101 v8, k0_pay104 v1 v4 v8, k0_pay105 v1 v4 v8⟩ : Prog (TpuEff nD τ sig (Elt F) Λ₀ .tc) (Σ' (v6 : FVec F S63x256 .bf16) (v7 : IVec S128x128 32) (v11 : IVec S128x128 32) (v33 : FVec F S128x1 .f32), FVec F S128x128 .bf16)))
    (fun x => do
      let ⟨v6, v7, v11, v33, v39⟩ : Σ' (v6 : FVec F S63x256 .bf16) (v7 : IVec S128x128 32) (v11 : IVec S128x128 32) (v33 : FVec F S128x1 .f32), FVec F S128x128 .bf16 := x
      let ⟨v58, v75, v80⟩ : Σ' (v58 : IVec S128x128 32) (v75 : FVec F S128x1 .f32), FVec F S128x1 .f32 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v11 v33 v39
      let ⟨v105, v114, v117, v121⟩ : Σ' (v105 : IVec S128x128 32) (v114 : FVec F S128x256 .f32) (v117 : IVec S128x128 1), FVec F S128 .f32 ← k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v58 v75 v80
      let ⟨v152, v161, v162⟩ : Σ' (v152 : IVec S128x128 32) (v161 : FVec F S128x256 .f32), IVec S128x128 32 ← k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v105 v114 v117 v121
      let ⟨v199, v200, v203⟩ : Σ' (v199 : IVec S128x128 32) (v200 : IVec S128x63 32), IVec S128x63 32 ← k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v7 v152 v161 v162
      let v243 : Vec F S1x128 .i32 ← k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v199 v200 v203
      let v286 : IVec S128x128 32 ← k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v243
      let ⟨v293, v328⟩ : Σ' (v293 : IVec S128x128 32), IVec S128x128 32 ← k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v286
      let ⟨v340, v371⟩ : Σ' (v340 : IVec S128x128 32), FVec F S128x128 .bf16 ← k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v6 v7 v293 v328
      k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v340 v371
      k0_part77 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part78 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part79 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      k0_part80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      let ⟨v512, v514, v516, v518, v519, v522, v523⟩ : Σ' (v512 : BitVec 32) (v514 : Vec F S32x128 .i32) (v516 : Vec F S32x128 .bf16) (v518 : Vec F S32x128 .bf16) (v519 : FVec F S32x128 .f32) (v522 : IVec S32x128 32), IVec S32x128 32 ← k0_part81 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17
      let ⟨v567, v570, v571⟩ : Σ' (v567 : FVec F S32x128 .f32) (v570 : IVec S32x128 32), IVec S32x128 32 ← k0_part82 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v519 v522 v523
      let ⟨v615, v618, v619⟩ : Σ' (v615 : FVec F S32x128 .f32) (v618 : IVec S32x128 32), IVec S32x128 32 ← k0_part83 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v567 v570 v571
      let ⟨v663, v666, v667⟩ : Σ' (v663 : FVec F S32x128 .f32) (v666 : IVec S32x128 32), IVec S32x128 32 ← k0_part84 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v615 v618 v619
      let ⟨v711, v714, v715⟩ : Σ' (v711 : FVec F S32x128 .f32) (v714 : IVec S32x128 32), IVec S32x128 32 ← k0_part85 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v663 v666 v667
      let ⟨v759, v762, v763⟩ : Σ' (v759 : FVec F S32x128 .f32) (v762 : IVec S32x128 32), IVec S32x128 32 ← k0_part86 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v711 v714 v715
      let ⟨v807, v810, v811⟩ : Σ' (v807 : FVec F S32x128 .f32) (v810 : IVec S32x128 32), IVec S32x128 32 ← k0_part87 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v759 v762 v763
      let ⟨v855, v858, v859⟩ : Σ' (v855 : FVec F S32x128 .f32) (v858 : IVec S32x128 32), IVec S32x128 32 ← k0_part88 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v807 v810 v811
      let v906 : FVec F S1x32x128 .f32 ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v512 v514 v516 v518 v855 v858 v859
      Prog.lift (.store arg11 (Rect.unit (s := S2x32x128) ![0, 0, 0] S1x32x128.size inb_S2x32x128_S1x32x128_0_0_0) v906 Finset.univ (View.stores_vmem_bits_univ h_S1x32x128 rfl) (.inl rfl))
      K v906) rfl (fun _ => head_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hS hD _)).trans ?_
  refine congrArg (Prog.bind _) (funext fun _ => congrArg (Prog.bind _) (funext fun _ => ?_))
  refine (congrArg (Prog.bind _) (funext fun _ => first_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hS hD hC hT hP hQ (fun v906 => do
        Prog.lift (.store arg11 (Rect.unit (s := S2x32x128) ![0, 0, 0] S1x32x128.size inb_S2x32x128_S1x32x128_0_0_0) v906 Finset.univ (View.stores_vmem_bits_univ h_S1x32x128 rfl) (.inl rfl))
        K v906))).trans ?_
  refine (joined_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hS hD hC hT hP hQ K).trans ?_
  have e : K = _ := funext fun v906 => tail_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 hB hW hT' hP' hQ'
  rw [e]

end Cert.KernelIdeal.Emb
end
-- ==== Proof.IdealMain.lean ====
/- The kernel's body run: the first copies started, the parameters selected, the first group dequantised, one trip per
   further group, and the last group's copies out waited for. The groups' states between trips are one list. -/
module

public import proofs.«01_k».proof.Proof.IdealTiles
public import proofs.«01_k».proof.Proof.IdealUnrolled
public import Idealize.ShloMosaic.Lib.PageRing.Basic

@[expose] public section

set_option maxRecDepth 16384

noncomputable section

namespace Cert.KernelIdeal.Emb

open Idealize.ShloMosaic Cert.KernelIdeal.Gen Cert.Emb
open Idealize.SL
open Idealize.SL.RA Idealize.SL.Sem Idealize.SL.ProofMode
open Idealize.SL.BI (sProp bigSep bigSep_insert bigSep_mono bigSep_empty bigSep_congr bigSep_sep bigSep_singleton bigSep_sdiff_split bigSep_map Storable)
open scoped Idealize.SL.BI
open Idealize.SL.BI.BIBase Idealize.SL.BI.Laws

variable {F : FTy → Type} [FloatOps F] [Named F]

local notation "𝕄" => MT nD τ sig Unit (Elt F) ℕ (Pipeline.UD sig nD τ) ℕ

variable (d : Dev nD)

local notation "WP" => wp frame (wpE defs₀ 𝒱₀ (d.tc) none) Set.univ

/-! ## Lists of resources -/

section Lists

variable {M : Type} [URA M]

/-- Some entries of a list taken out, to be put back changed. -/
theorem focus {S T : Finset ℕ} (hT : T ⊆ S) (Φ Ψ : ℕ → sProp M) (h : ∀ j ∈ S, j ∉ T → Φ j = Ψ j) :
    bigSep S Φ ⊢ iprop(bigSep T Φ ∗ (bigSep T Ψ -∗ bigSep S Ψ)) := by
  have e : ∀ Φ : ℕ → sProp M, bigSep S Φ = iprop(bigSep T Φ ∗ bigSep (S \ T) Φ) := fun Φ => bigSep_sdiff_split hT
  rw [e Φ, e Ψ,
    bigSep_congr (s := S \ T) (Φ := Φ) (Ψ := Ψ) fun j hj => h j (Finset.mem_sdiff.mp hj).1 (Finset.mem_sdiff.mp hj).2]
  iintro ⟨H, HR⟩
  isplitl [H]; · iexact H
  iintro H
  isplitl [H]; · iexact H
  iexact HR

theorem one_entry (a : ℕ) (Φ : ℕ → sProp M) : bigSep {a} Φ = Φ a := bigSep_singleton

theorem two_entries {a b : ℕ} (h : a ≠ b) (Φ : ℕ → sProp M) : bigSep {a, b} Φ = iprop(Φ a ∗ Φ b) := by
  rw [bigSep_insert (by simpa using h), one_entry]; rfl

theorem three_entries {a b c : ℕ} (h : a ≠ b) (h' : a ≠ c) (h'' : b ≠ c) (Φ : ℕ → sProp M) : bigSep {a, b, c} Φ = iprop(Φ a ∗ Φ b ∗ Φ c) := by
  rw [bigSep_insert (by simpa using ⟨h, h'⟩), two_entries h'']; rfl

theorem fin_range (n : ℕ) (Φ : ℕ → sProp M) : (bigSep (Finset.univ : Finset (Fin n)) fun i => Φ i.val) = bigSep (Finset.range n) Φ := by
  rw [← Nat.Iio_eq_range, ← Fin.map_valEmbedding_univ, bigSep_map]; rfl

theorem swap_sep (X Y Z : sProp M) : iprop(X ∗ Y ∗ Z) = iprop(Y ∗ X ∗ Z) := by
  have h : ∀ X Y Z : sProp M, iprop(X ∗ Y ∗ Z) ⊢ iprop(Y ∗ X ∗ Z) := by
    intro X Y Z
    iintro ⟨H, H', H''⟩
    isplitl [H']; · iexact H'
    isplitl [H]; · iexact H
    iexact H''
  exact Idealize.SL.BI.Entails.antisymm (h X Y Z) (h Y X Z)

theorem assoc_sep (X Y Z : sProp M) : iprop((X ∗ Y) ∗ Z) = iprop(X ∗ Y ∗ Z) := by
  exact Idealize.SL.BI.Entails.antisymm Idealize.SL.BI.sep_assoc Idealize.SL.BI.sep_assoc'

theorem emp_list (S : Finset ℕ) : (emp : sProp M) ⊢ bigSep S fun _ => (emp : sProp M) := by
  induction S using Finset.induction_on with
  | empty => rw [bigSep_empty]; exact .rfl
  | insert a s ha ih =>
    have e : bigSep (insert a s) (fun _ => (emp : sProp M)) = iprop(emp ∗ bigSep s fun _ => (emp : sProp M)) := bigSep_insert ha
    rw [e]
    iintro H
    isplitl []; · iempintro
    iapply ih; iexact H

theorem list_sep (S : Finset ℕ) (Φ Ψ : ℕ → sProp M) : bigSep S (fun j => iprop(Φ j ∗ Ψ j)) = iprop(bigSep S Φ ∗ bigSep S Ψ) := bigSep_sep S Φ Ψ

/-- A list of some entries is one of all, the others empty. -/
theorem list_first {m n : ℕ} (h : m ≤ n) (Φ : ℕ → sProp M) :
    bigSep (Finset.range m) Φ ⊢ bigSep (Finset.range n) fun j => if j < m then Φ j else iprop(emp) := by
  have e : ∀ Ψ : ℕ → sProp M, bigSep (Finset.range n) Ψ = iprop(bigSep (Finset.range m) Ψ ∗ bigSep (Finset.range n \ Finset.range m) Ψ) :=
    fun Ψ => bigSep_sdiff_split (Finset.range_subset_range.mpr h)
  rw [e, bigSep_congr (s := Finset.range m) (Ψ := Φ) (fun j hj => if_pos (Finset.mem_range.mp hj)),
    bigSep_congr (s := Finset.range n \ Finset.range m) (Ψ := fun _ => (emp : sProp M)) (fun j hj => if_neg fun hj' => (Finset.mem_sdiff.mp hj).2 (Finset.mem_range.mpr hj'))]
  iintro H
  isplitl [H]; · iexact H
  iapply (emp_list (M := M)); iempintro

/-- A list's last entries. -/
theorem list_last {m n : ℕ} (Φ : ℕ → sProp M) :
    (bigSep (Finset.range (n + m)) fun j => if n ≤ j then Φ j else iprop(emp)) ⊢ bigSep (Finset.range m) fun j => Φ (n + j) := by
  have e : ∀ Ψ : ℕ → sProp M, bigSep (Finset.range (n + m)) Ψ
      = iprop(bigSep ((Finset.range m).map (addLeftEmbedding n)) Ψ ∗ bigSep (Finset.range (n + m) \ (Finset.range m).map (addLeftEmbedding n)) Ψ) :=
    fun Ψ => bigSep_sdiff_split fun j hj => by
      obtain ⟨i, hi, rfl⟩ := Finset.mem_map.mp hj
      simpa using hi
  rw [e, bigSep_map]
  iintro ⟨H, -⟩
  have e' : bigSep (Finset.range m) (fun j => (fun j => if n ≤ j then Φ j else iprop(emp)) (addLeftEmbedding n j)) = bigSep (Finset.range m) fun j => Φ (n + j) :=
    bigSep_congr fun j _ => if_pos (Nat.le_add_right n j)
  ihave H' := (Entails.of_eq e') $$ H
  iexact H'

end Lists

/-! ## The words of the loops -/

theorem row_first (k : Fin k0_t1_loop.trips) (i : Fin 32) : (rowWord (Scf.iv 0#32 1#32 k) i).toNat = 32 * k.val + i.val :=
  (by decide +kernel : ∀ (k : Fin k0_t1_loop.trips) (i : Fin 32), (rowWord (Scf.iv 0#32 1#32 k) i).toNat = 32 * k.val + i.val) k i
theorem cell_first (k : Fin k0_t1_loop.trips) : (cellWord (Scf.iv 0#32 1#32 k)).toNat = k.val % 8 :=
  (by decide +kernel : ∀ k : Fin k0_t1_loop.trips, (cellWord (Scf.iv 0#32 1#32 k)).toNat = k.val % 8) k
theorem row_grp (k : Fin k0_t2_loop.trips) (i : Fin 32) : (rowWord (grp k) i).toNat = 32 * (k.val + 1) + i.val :=
  (by decide +kernel : ∀ (k : Fin k0_t2_loop.trips) (i : Fin 32), (rowWord (grp k) i).toNat = 32 * (k.val + 1) + i.val) k i
theorem cell_grp (k : Fin k0_t2_loop.trips) : (cellWord (grp k)).toNat = (k.val + 1) % 8 :=
  (by decide +kernel : ∀ k : Fin k0_t2_loop.trips, (cellWord (grp k)).toNat = (k.val + 1) % 8) k
theorem row_nxt (k : Fin k0_t2_loop.trips) (i : Fin 32) : (rowWord (nxt k) i).toNat = 32 * (k.val + 8) + i.val :=
  (by decide +kernel : ∀ (k : Fin k0_t2_loop.trips) (i : Fin 32), (rowWord (nxt k) i).toNat = 32 * (k.val + 8) + i.val) k i
theorem cell_nxt (k : Fin k0_t2_loop.trips) : (cellWord (nxt k)).toNat = (k.val + 8) % 8 :=
  (by decide +kernel : ∀ k : Fin k0_t2_loop.trips, (cellWord (nxt k)).toNat = (k.val + 8) % 8) k
theorem base_grp (k : Fin k0_t2_loop.trips) : (Scalar.muli (grp k) 32#32).toNat = 32 * (k.val + 1) :=
  (by decide +kernel : ∀ k : Fin k0_t2_loop.trips, (Scalar.muli (grp k) 32#32).toNat = 32 * (k.val + 1)) k
theorem base_prv (k : Fin k0_t2_loop.trips) : (Scalar.muli (prv k) 32#32).toNat = 32 * k.val :=
  (by decide +kernel : ∀ k : Fin k0_t2_loop.trips, (Scalar.muli (prv k) 32#32).toNat = 32 * k.val) k
theorem slot_grp (k : Fin k0_t2_loop.trips) : (slotWord (grp k)).toNat = (k.val + 1) % 2 :=
  (by decide +kernel : ∀ k : Fin k0_t2_loop.trips, (slotWord (grp k)).toNat = (k.val + 1) % 2) k
theorem slot_prv (k : Fin k0_t2_loop.trips) : (slotWord (prv k)).toNat = k.val % 2 :=
  (by decide +kernel : ∀ k : Fin k0_t2_loop.trips, (slotWord (prv k)).toNat = k.val % 2) k
/-- A trip starts a group's copies exactly when that group exists. -/
theorem more_iff (k : Fin k0_t2_loop.trips) : k0_cond1 k = 1#1 ↔ k.val + 8 < 32 :=
  (by decide +kernel : ∀ k : Fin k0_t2_loop.trips, k0_cond1 k = 1#1 ↔ k.val + 8 < 32) k
theorem trips_first : k0_t1_loop.trips = 8 := by decide +kernel
theorem trips_main : k0_t2_loop.trips = 31 := by decide +kernel

/-! ## Boxes in range -/

theorem row_in {r : ℕ} (h : r < 1024) : ∀ a, (![r, 0] : Fin 2 → ℕ) a + S1x3072.size a ≤ S1024x3072.size a := by
  rw [Fin.forall_fin_two]
  exact ⟨by simp; omega, by simp⟩
theorem id_in {r : ℕ} (h : r < 1024) : ∀ a, (![0, r] : Fin 2 → ℕ) a + S1x1.size a ≤ S1x1024.size a := by
  rw [Fin.forall_fin_two]
  exact ⟨by simp, by simp; omega⟩
theorem cell_in {c : ℕ} (h : c < 8) : ∀ a, (![c] : Fin 1 → ℕ) a + S1.size a ≤ S8.size a := by
  intro a
  obtain rfl : a = 0 := Subsingleton.elim _ _
  show c + 1 ≤ 8
  omega
theorem block_in {r g : ℕ} (hr : r = 32 * g) (hg : g < 32) : BlockIn r := by
  subst hr
  rw [BlockIn, Fin.forall_fin_two]
  exact ⟨by simp; omega, by simp⟩
theorem block_words {r g : ℕ} (hr : r = 32 * g) (hg : g < 32) (hB : BlockIn r) :
    (Rect.unit (s := S1024x3072) ![r, 0] S32x3072.size hB).WholeWords (EltTy.packing .bf16) := by
  subst hr
  exact (by decide +kernel : ∀ g : Fin 32, (Rect.unit (s := S1024x3072) ![32 * g.val, 0] S32x3072.size (block_in rfl g.isLt)).WholeWords (EltTy.packing .bf16)) ⟨g, hg⟩
theorem tile_in {r g : ℕ} (hr : r = 32 * g) (hg : g < 32) (j : Fin 24) : TileIn r j := by
  subst hr
  have := j.isLt
  rw [TileIn, Fin.forall_fin_two]
  exact ⟨by simp; omega, by simp; omega⟩
theorem tile_packed {r g : ℕ} (hr : r = 32 * g) (hg : g < 32) (j : Fin 24) (hB : TileIn r j) : TilePacked r j hB := by
  subst hr
  exact (by decide +kernel : ∀ (g : Fin 32) (j : Fin 24), TilePacked (32 * g.val) j (tile_in rfl g.isLt j)) ⟨g, hg⟩ j
theorem prm_in {r g : ℕ} (hr : r = 32 * g) (hg : g < 32) : ∀ a, (![r, 0] : Fin 2 → ℕ) a + S32x128.size a ≤ S1024x128.size a := by
  subst hr
  rw [Fin.forall_fin_two]
  exact ⟨by simp; omega, by simp⟩
theorem slot_in {c : ℕ} (h : c < 2) : ∀ a, (![c, 0, 0] : Fin 3 → ℕ) a + S1x32x128.size a ≤ S2x32x128.size a := by
  intro a
  match a with
  | ⟨0, _⟩ => show c + 1 ≤ 2; omega
  | ⟨1, _⟩ => show 0 + 32 ≤ 32; omega
  | ⟨2, _⟩ => show 0 + 128 ≤ 128; omega

section Body

variable (A : Args F)
variable (arg0 : Memref sig .tc .smem S1x1024 .i32) (harg0 : arg0.IsWhole) (arg1 : Memref sig .tc .hbm S2016x3072 .i32) (harg1 : arg1.IsWhole) (arg2 : Memref sig .tc .vmem S1x1024 .i32) (harg2 : arg2.IsWhole) (arg3 : Memref sig .tc .vmem S63x128 .f32) (harg3 : arg3.IsWhole) (arg4 : Memref sig .tc .vmem S63x128 .bf16) (harg4 : arg4.IsWhole) (arg5 : Memref sig .tc .vmem S1x3072 .bf16) (harg5 : arg5.IsWhole) (arg6 : Memref sig .tc .hbm S1024x3072 .bf16) (harg6 : arg6.IsWhole) (arg7 : Memref sig .tc .hbm S1024x3072 .bf16) (harg7 : arg7.IsWhole) (arg8 : Memref sig .tc .vmem S1024x3072 .i32) (harg8 : arg8.IsWhole) (arg9 : Memref sig .tc .vmem S1024x3072 .bf16) (harg9 : arg9.IsWhole) (arg10 : Memref sig .tc .vmem S1024x3072 .bf16) (harg10 : arg10.IsWhole) (arg11 : Memref sig .tc .vmem S2x32x128 .f32) (harg11 : arg11.IsWhole) (arg12 : Memref sig .tc .vmem S1024x128 .i32) (harg12 : arg12.IsWhole) (arg13 : Memref sig .tc .vmem S1024x128 .bf16) (harg13 : arg13.IsWhole) (arg14 : Memref sig .tc .vmem S1024x128 .bf16) (harg14 : arg14.IsWhole) (arg15 : DmaSems sig S8) (arg16 : DmaSems sig S_) (arg17 : DmaSems sig S_)

/-! ## The groups between trips -/

/-- A group's semaphore cell at rest. -/
def Rest (j : ℕ) : sProp 𝕄 := semVal (d.tc, .dma (cell arg15 j)) 0

theorem cell_congr {j j' : ℕ} (h : j % 8 = j' % 8) : cell arg15 j = cell arg15 j' := by
  have e : ∀ (c c' : ℕ) (hc hc'), c = c' → ((arg15.slice (Rect.unit (s := S8) ![c] S1.size hc)).squeeze S_ squeezes_S1_S_).sem
      = ((arg15.slice (Rect.unit (s := S8) ![c'] S1.size hc')).squeeze S_ squeezes_S1_S_).sem := by
    intro c c' hc hc' h; subst h; rfl
  exact e _ _ _ _ h

/-- A group's part of the buffers nothing has been written to yet. -/
def Free (j : ℕ) : sProp 𝕄 := iprop(Any (d.tc) arg10 (Blk j) ∗ Any (d.tc) arg6 (Blk j) ∗ Any (d.tc) arg7 (Blk j))

/-- A group done, its copies out on the way. -/
def Done (j : ℕ) : sProp 𝕄 :=
  iprop(OutG d A arg1 arg8 j ∗ Hold (d.tc) arg9 (Blk j) fullShare.right A.embV ∗ (if 24 ≤ j then Rest (F := F) d arg15 j else iprop(emp)))
/-- A group dequantised. -/
def Half (j : ℕ) : sProp 𝕄 :=
  iprop(OutG d A arg1 arg8 j ∗ Hold (d.tc) arg9 (Blk j) fullShare A.embV ∗ Rest (F := F) d arg15 j ∗ Free (F := F) d arg6 arg7 arg10 j)
/-- A group on its way in, or not yet. -/
def Ahead (k j : ℕ) : sProp 𝕄 :=
  iprop((if j < k + 8 then Flight d A arg1 arg8 arg15 j else InG d A arg1 arg8 j) ∗ Any (d.tc) arg9 (Blk j) ∗ Free (F := F) d arg6 arg7 arg10 j)

/-- Group `j` when group `k` is the last dequantised. -/
def St (k j : ℕ) : sProp 𝕄 :=
  if j < k then Done d A arg1 arg8 arg9 arg15 j
  else if j = k then Half d A arg1 arg6 arg7 arg8 arg9 arg10 arg15 j
  else Ahead d A arg1 arg6 arg7 arg8 arg9 arg10 arg15 k j

local notation "ST" => St d A arg1 arg6 arg7 arg8 arg9 arg10 arg15

theorem st_done {k j : ℕ} (h : j < k) : ST k j = Done d A arg1 arg8 arg9 arg15 j := if_pos h
theorem st_half (k : ℕ) : ST k k = Half d A arg1 arg6 arg7 arg8 arg9 arg10 arg15 k := by
  unfold St; rw [if_neg (lt_irrefl _), if_pos rfl]
theorem st_ahead {k j : ℕ} (h : k < j) : ST k j = Ahead d A arg1 arg6 arg7 arg8 arg9 arg10 arg15 k j := by
  unfold St; rw [if_neg (by omega), if_neg (by omega)]

theorem st_same {k j : ℕ} (h1 : j ≠ k) (h2 : j ≠ k + 1) (h3 : j ≠ k + 8) : ST k j = ST (k + 1) j := by
  by_cases h : j < k
  · rw [st_done d A _ _ _ _ _ _ _ h, st_done d A _ _ _ _ _ _ _ (by omega)]
  · rw [st_ahead d A _ _ _ _ _ _ _ (by omega : k < j), st_ahead d A _ _ _ _ _ _ _ (by omega : k + 1 < j)]
    unfold Ahead
    by_cases h' : j < k + 8
    · rw [if_pos h', if_pos (by omega)]
    · rw [if_neg h', if_neg (by omega)]

/-- What every trip reads. -/
def Fixed (q0 q5 : PosShare TreeShare) : sProp 𝕄 :=
  iprop(Hold (d.tc) arg0 Finset.univ q0 A.ids ∗ Hold (d.tc) arg5 Finset.univ q5 A.weight
    ∗ Hold (d.tc) arg12 Finset.univ fullShare A.shiftV ∗ Hold (d.tc) arg13 Finset.univ fullShare A.scaleV ∗ Hold (d.tc) arg14 Finset.univ fullShare A.zeroV)

/-- The slots and the copies out at entry of trip `k`. -/
def Moving (k : ℕ) : sProp 𝕄 :=
  iprop(Hold (d.tc) arg11 (Slot (k % 2)) fullShare (A.sqV k) ∗ Any (d.tc) arg11 (Slot ((k + 1) % 2))
    ∗ Outs d arg9 arg7 arg16 fullShare.left A.embV k ∗ Outs d arg10 arg6 arg17 fullShare A.outV k ∗ Ow (F := F) d)

/-- Before trip `k`. -/
def Inv (q0 q5 : PosShare TreeShare) (k : ℕ) : sProp 𝕄 :=
  iprop(bigSep (Finset.range 32) (ST k) ∗ Moving d A arg6 arg7 arg9 arg10 arg11 arg16 arg17 k ∗ Fixed d A arg0 arg5 arg12 arg13 arg14 q0 q5)

variable {q0 q5 : PosShare TreeShare} (hok : A.Ok)

/-- A trip from the dequantisation on. -/
theorem rest_wp (k : ℕ) (hk : k + 1 < 32) {r r' c c' : ℕ} (hr : r = 32 * (k + 1)) (hr' : r' = 32 * k) (hc : c = (k + 1) % 2) (hc' : c' = k % 2)
    {hC hT hP hQ hT' hP' hQ' hB hW} :
    (iprop(OutG d A arg1 arg8 (k + 1) ∗ Any (d.tc) arg9 (Blk (k + 1)) ∗ Hold (d.tc) arg9 (Blk k) fullShare.right A.embV
        ∗ Any (d.tc) arg10 (Blk k) ∗ Any (d.tc) arg6 (Blk k)
        ∗ Hold (d.tc) arg11 (Slot (k % 2)) fullShare (A.sqV k) ∗ Any (d.tc) arg11 (Slot ((k + 1) % 2)) ∗ Outs d arg10 arg6 arg17 fullShare A.outV k
        ∗ Fixed d A arg0 arg5 arg12 arg13 arg14 q0 q5) : sProp 𝕄)
      ⊢ WP (do
        dequant arg8 arg9 harg9 arg11 arg12 arg13 arg14 r c hC hT hP hQ
        normalise arg5 arg9 arg10 harg10 arg11 r' c' hT' hP' hQ'
        copyOut arg10 harg10 arg6 harg6 arg17 r' hB hW : P F Unit) fun _ =>
        iprop(OutG d A arg1 arg8 (k + 1) ∗ Hold (d.tc) arg9 (Blk (k + 1)) fullShare A.embV ∗ Hold (d.tc) arg9 (Blk k) fullShare.right A.embV
        ∗ Hold (d.tc) arg11 (Slot ((k + 1) % 2)) fullShare (A.sqV (k + 1)) ∗ Any (d.tc) arg11 (Slot ((k + 1 + 1) % 2)) ∗ Outs d arg10 arg6 arg17 fullShare A.outV (k + 1)
        ∗ Fixed d A arg0 arg5 arg12 arg13 arg14 q0 q5) := by
  unfold Fixed OutG
  iintro ⟨⟨H8, HT⟩, H9, H9r, H10, H6, HQ, HQ', HO, H0, H5, H12, H13, H14⟩
  iapply (wp_seq d (dequant_wp d A arg8 arg9 harg9 arg11 arg12 arg13 arg14 (k + 1) ((k + 1) % 2) hr hc)) $$ [H8 H9 H12 H13 H14 HQ']
  · isplitl [H8 H9 H12 H13 H14]
    · isplitl [H8]; · iexact H8
      isplitl [H9]; · iexact H9
      isplitl [H12]; · iexact H12
      isplitl [H13]; · iexact H13
      iexact H14
    iexact HQ'
  iintro %_ ⟨⟨H8, H9, H12, H13, H14⟩, HQ'⟩
  iapply (wp_seq d (normalise_wp d A arg5 arg9 arg10 harg10 arg11 k (k % 2) hr' hc')) $$ [H5 H9r H10 HQ]
  · isplitl [H5]; · iexact H5
    isplitl [H9r]; · iexact H9r
    isplitl [H10]; · iexact H10
    iexact HQ
  iintro %_ ⟨H5, H9r, H10, HQ⟩
  iapply (wp_last d (copyOut_wp d arg10 harg10 arg6 harg6 arg17 fullShare A.outV k (by omega) hr')) $$ [H10 H6 HO]
  · isplitl [H10]; · iexact H10
    isplitl [H6]; · iexact H6
    iexact HO
  iintro %_ HO
  isplitl [H8 HT]
  · isplitl [H8]; · iexact H8
    iexact HT
  isplitl [H9]; · iexact H9
  isplitl [H9r]; · iexact H9r
  isplitl [HQ']; · iexact HQ'
  isplitl [HQ]
  · rw [show (k + 1 + 1) % 2 = k % 2 by omega]
    iapply (any_of_hold (c := d.tc)) $$ HQ
  isplitl [HO]; · iexact HO
  isplitl [H0]; · iexact H0
  isplitl [H5]; · iexact H5
  isplitl [H12]; · iexact H12
  isplitl [H13]; · iexact H13
  iexact H14

include hok in
theorem trip_wp (v906 : FVec F S1x32x128 .f32) (k : Fin k0_t2_loop.trips) (u : Unit) :
    Inv d A arg0 arg1 arg5 arg6 arg7 arg8 arg9 arg10 arg11 arg12 arg13 arg14 arg15 arg16 arg17 q0 q5 k.val
      ⊢ WP (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u)
        fun _ => Inv d A arg0 arg1 arg5 arg6 arg7 arg8 arg9 arg10 arg11 arg12 arg13 arg14 arg15 arg16 arg17 q0 q5 (k.val + 1) := by
  have hk : k.val < 31 := trips_main ▸ k.isLt
  have hS : ∀ a, (![(cellWord (grp k)).toNat] : Fin 1 → ℕ) a + S1.size a ≤ S8.size a := cell_in (by rw [cell_grp]; omega)
  have hD : ∀ i : Fin 32, ∀ a, (![(rowWord (grp k) i).toNat, 0] : Fin 2 → ℕ) a + S1x3072.size a ≤ S1024x3072.size a := fun i => row_in (by rw [row_grp]; omega)
  have hB : BlockIn (Scalar.muli (prv k) 32#32).toNat := block_in (base_prv k) (by omega)
  have hW := block_words (base_prv k) (by omega) hB
  have hC := prm_in (base_grp k) (by omega)
  have hT := tile_in (base_grp k) (by omega)
  have hP := fun j : Fin 24 => tile_packed (base_grp k) (by omega) j (hT j)
  have hQ := slot_in (c := (slotWord (grp k)).toNat) (by rw [slot_grp]; omega)
  have hT' := tile_in (base_prv k) (by omega)
  have hP' := fun j : Fin 24 => tile_packed (base_prv k) (by omega) j (hT' j)
  have hQ' := slot_in (c := (slotWord (prv k)).toNat) (by rw [slot_prv]; omega)
  have eA : ST k.val (k.val + 1) = iprop(Flight d A arg1 arg8 arg15 (k.val + 1) ∗ Any (d.tc) arg9 (Blk (k.val + 1)) ∗ Free (F := F) d arg6 arg7 arg10 (k.val + 1)) := by
    rw [st_ahead d A _ _ _ _ _ _ _ (by omega : k.val < k.val + 1), Ahead, if_pos (by omega)]
  by_cases h : k0_cond1 k = 1#1
  · have h32 := (more_iff k).mp h
    have hI' : ∀ i : Fin 32, ∀ a, (![0, (rowWord (nxt k) i).toNat] : Fin 2 → ℕ) a + S1x1.size a ≤ S1x1024.size a := fun i => id_in (by rw [row_nxt]; omega)
    have hS' : ∀ a, (![(cellWord (nxt k)).toNat] : Fin 1 → ℕ) a + S1.size a ≤ S8.size a := cell_in (by rw [cell_nxt]; omega)
    have hD' : ∀ i : Fin 32, ∀ a, (![(rowWord (nxt k) i).toNat, 0] : Fin 2 → ℕ) a + S1x3072.size a ≤ S1024x3072.size a := fun i => row_in (by rw [row_nxt]; omega)
    rw [t2_body_eq_pos (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u h hS hD hB hW hI' hS' hD' hC hT hP hQ hT' hP' hQ']
    have eN : ST k.val (k.val + 8) = iprop(InG d A arg1 arg8 (k.val + 8) ∗ Any (d.tc) arg9 (Blk (k.val + 8)) ∗ Free (F := F) d arg6 arg7 arg10 (k.val + 8)) := by
      rw [st_ahead d A _ _ _ _ _ _ _ (by omega : k.val < k.val + 8), Ahead, if_neg (by omega)]
    have eN' : ST (k.val + 1) (k.val + 8) = iprop(Flight d A arg1 arg8 arg15 (k.val + 8) ∗ Any (d.tc) arg9 (Blk (k.val + 8)) ∗ Free (F := F) d arg6 arg7 arg10 (k.val + 8)) := by
      rw [st_ahead d A _ _ _ _ _ _ _ (by omega : k.val + 1 < k.val + 8), Ahead, if_pos (by omega)]
    have hf := focus (S := Finset.range 32) (T := {k.val, k.val + 1, k.val + 8}) (by
        intro j hj
        simp only [Finset.mem_insert, Finset.mem_singleton] at hj
        rw [Finset.mem_range]; omega) (ST k.val) (ST (k.val + 1)) (by
        intro j _ hj
        simp only [Finset.mem_insert, Finset.mem_singleton, not_or] at hj
        exact st_same d A arg1 arg6 arg7 arg8 arg9 arg10 arg15 hj.1 hj.2.1 hj.2.2)
    rw [three_entries (by omega) (by omega) (by omega), three_entries (by omega) (by omega) (by omega), st_half, st_half, eA, eN, eN',
      st_done d A _ _ _ _ _ _ _ (by omega : k.val < k.val + 1)] at hf
    unfold Inv Moving Fixed
    iintro ⟨HS, ⟨HQ, HQ', HE, HO, HW⟩, H0, H5, H12, H13, H14⟩
    ihave HS' := hf $$ HS
    unfold Half Done Free
    icases HS' with ⟨⟨⟨HG, H9, HR, H10, H6, H7⟩, ⟨HF, H9n, H10n, H6n, H7n⟩, HN, H9m, HFm⟩, HK⟩
    iapply (wp_seq d (waitRows_wp d A arg1 arg8 arg15 (k.val + 1) (cell_grp k))) $$ [HF HW]
    · isplitl [HF]; · iexact HF
      iexact HW
    iintro %_ ⟨HGn, HRn, HW⟩
    ihave H9' := (Entails.of_eq (hold_half (c := d.tc))) $$ H9
    icases H9' with ⟨H9l, H9r⟩
    iapply (wp_seq d (copyOut_wp d arg9 harg9 arg7 harg7 arg16 fullShare.left A.embV k.val (by omega) (base_prv k))) $$ [H9l H7 HE]
    · isplitl [H9l]; · iexact H9l
      isplitl [H7]; · iexact H7
      iexact HE
    iintro %_ HE
    iapply (wp_seq d (startRows_wp d A arg0 arg1 arg8 arg15 hok (k.val + 8) h32 (fun v hv _ => hv) (row_nxt k) (cell_nxt k))) $$ [H0 HN HR]
    · isplitl [H0]; · iexact H0
      isplitl [HN]; · iexact HN
      unfold Rest
      rw [cell_congr arg15 (show (k.val + 8) % 8 = k.val % 8 by omega)]
      iexact HR
    iintro %_ ⟨H0, HFn⟩
    iapply (wp_last d (rest_wp d A arg0 arg1 arg5 arg6 harg6 arg8 arg9 harg9 arg10 harg10 arg11 arg12 arg13 arg14 arg17 (q0 := q0) (q5 := q5) k.val (by omega) (base_grp k) (base_prv k) (slot_grp k) (slot_prv k))) $$ [HGn H9n H9r H10 H6 HQ HQ' HO H0 H5 H12 H13 H14]
    · unfold Fixed
      isplitl [HGn]; · iexact HGn
      isplitl [H9n]; · iexact H9n
      isplitl [H9r]; · iexact H9r
      isplitl [H10]; · iexact H10
      isplitl [H6]; · iexact H6
      isplitl [HQ]; · iexact HQ
      isplitl [HQ']; · iexact HQ'
      isplitl [HO]; · iexact HO
      isplitl [H0]; · iexact H0
      isplitl [H5]; · iexact H5
      isplitl [H12]; · iexact H12
      isplitl [H13]; · iexact H13
      iexact H14
    iintro %_ ⟨HGn, H9n, H9r, HQ, HQ', HO, HC⟩
    isplitl [HK HG H9r HGn H9n HRn H10n H6n H7n HFn H9m HFm]
    · iapply HK
      isplitl [HG H9r]
      · isplitl [HG]; · iexact HG
        isplitl [H9r]; · iexact H9r
        rw [if_neg (by omega)]
        iempintro
      isplitl [HGn H9n HRn H10n H6n H7n]
      · isplitl [HGn]; · iexact HGn
        isplitl [H9n]; · iexact H9n
        isplitl [HRn]; · unfold Rest; iexact HRn
        isplitl [H10n]; · iexact H10n
        isplitl [H6n]; · iexact H6n
        iexact H7n
      isplitl [HFn]; · iexact HFn
      isplitl [H9m]; · iexact H9m
      iexact HFm
    isplitl [HQ HQ' HE HO HW]
    · isplitl [HQ]; · iexact HQ
      isplitl [HQ']; · iexact HQ'
      isplitl [HE]; · iexact HE
      isplitl [HO]; · iexact HO
      iexact HW
    unfold Fixed
    iexact HC
  · have h32 : ¬ k.val + 8 < 32 := fun h' => h ((more_iff k).mpr h')
    rw [t2_body_eq_neg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 v906 k u h hS hD hB hW hC hT hP hQ hT' hP' hQ']
    have hf := focus (S := Finset.range 32) (T := {k.val, k.val + 1}) (by
        intro j hj
        simp only [Finset.mem_insert, Finset.mem_singleton] at hj
        rw [Finset.mem_range]; omega) (ST k.val) (ST (k.val + 1)) (by
        intro j hj' hj
        simp only [Finset.mem_insert, Finset.mem_singleton, not_or] at hj
        rw [Finset.mem_range] at hj'
        exact st_same d A arg1 arg6 arg7 arg8 arg9 arg10 arg15 hj.1 hj.2 (by omega))
    rw [two_entries (by omega), two_entries (by omega), st_half, st_half, eA,
      st_done d A _ _ _ _ _ _ _ (by omega : k.val < k.val + 1)] at hf
    unfold Inv Moving Fixed
    iintro ⟨HS, ⟨HQ, HQ', HE, HO, HW⟩, H0, H5, H12, H13, H14⟩
    ihave HS' := hf $$ HS
    unfold Half Done Free
    icases HS' with ⟨⟨⟨HG, H9, HR, H10, H6, H7⟩, HF, H9n, H10n, H6n, H7n⟩, HK⟩
    iapply (wp_seq d (waitRows_wp d A arg1 arg8 arg15 (k.val + 1) (cell_grp k))) $$ [HF HW]
    · isplitl [HF]; · iexact HF
      iexact HW
    iintro %_ ⟨HGn, HRn, HW⟩
    ihave H9' := (Entails.of_eq (hold_half (c := d.tc))) $$ H9
    icases H9' with ⟨H9l, H9r⟩
    iapply (wp_seq d (copyOut_wp d arg9 harg9 arg7 harg7 arg16 fullShare.left A.embV k.val (by omega) (base_prv k))) $$ [H9l H7 HE]
    · isplitl [H9l]; · iexact H9l
      isplitl [H7]; · iexact H7
      iexact HE
    iintro %_ HE
    iapply (wp_last d (rest_wp d A arg0 arg1 arg5 arg6 harg6 arg8 arg9 harg9 arg10 harg10 arg11 arg12 arg13 arg14 arg17 (q0 := q0) (q5 := q5) k.val (by omega) (base_grp k) (base_prv k) (slot_grp k) (slot_prv k))) $$ [HGn H9n H9r H10 H6 HQ HQ' HO H0 H5 H12 H13 H14]
    · unfold Fixed
      isplitl [HGn]; · iexact HGn
      isplitl [H9n]; · iexact H9n
      isplitl [H9r]; · iexact H9r
      isplitl [H10]; · iexact H10
      isplitl [H6]; · iexact H6
      isplitl [HQ]; · iexact HQ
      isplitl [HQ']; · iexact HQ'
      isplitl [HO]; · iexact HO
      isplitl [H0]; · iexact H0
      isplitl [H5]; · iexact H5
      isplitl [H12]; · iexact H12
      isplitl [H13]; · iexact H13
      iexact H14
    iintro %_ ⟨HGn, H9n, H9r, HQ, HQ', HO, HC⟩
    isplitl [HK HG HR H9r HGn H9n HRn H10n H6n H7n]
    · iapply HK
      isplitl [HG HR H9r]
      · isplitl [HG]; · iexact HG
        isplitl [H9r]; · iexact H9r
        rw [if_pos (by omega)]
        iexact HR
      isplitl [HGn]; · iexact HGn
      isplitl [H9n]; · iexact H9n
      isplitl [HRn]; · unfold Rest; iexact HRn
      isplitl [H10n]; · iexact H10n
      isplitl [H6n]; · iexact H6n
      iexact H7n
    isplitl [HQ HQ' HE HO HW]
    · isplitl [HQ]; · iexact HQ
      isplitl [HQ']; · iexact HQ'
      isplitl [HE]; · iexact HE
      isplitl [HO]; · iexact HO
      iexact HW
    unfold Fixed
    iexact HC

/-! ## The table's shares -/

/-- What of the table no copy reads. -/
def Others : sProp 𝕄 :=
  iprop(Hold (d.tc) arg1 Finset.univ (Transfers.shareDrop fullShare 1024) A.table
    ∗ bigSep (Finset.range 1024) fun t => Hold (d.tc) arg1 (Finset.univ \ A.SRow t) (tq t) A.table)

theorem table_shares : (Hold (d.tc) arg1 Finset.univ fullShare A.table : sProp 𝕄)
    = iprop((bigSep (Finset.range 32) fun g => bigSep (Finset.univ : Finset (Fin 32)) fun i => Hold (d.tc) arg1 (A.SRow (32 * g + i.val)) (tq (32 * g + i.val)) A.table)
      ∗ Others d A arg1) := by
  have h1 : (Hold (d.tc) arg1 Finset.univ fullShare A.table : sProp 𝕄)
      = iprop(Hold (d.tc) arg1 Finset.univ (Transfers.shareDrop fullShare 1024) A.table
        ∗ bigSep (Finset.range 1024) fun t => Hold (d.tc) arg1 Finset.univ (tq t) A.table) := by
    unfold Hold tq
    exact BI.Entails.antisymm (Transfers.pointsTo_toks_range fullShare 1024).1 (Transfers.pointsTo_toks_range fullShare 1024).2
  have h2 : ∀ t, (Hold (d.tc) arg1 Finset.univ (tq t) A.table : sProp 𝕄)
      = iprop(Hold (d.tc) arg1 (A.SRow t) (tq t) A.table ∗ Hold (d.tc) arg1 (Finset.univ \ A.SRow t) (tq t) A.table) := fun t => by
    rw [← hold_union Finset.disjoint_sdiff, Finset.union_sdiff_of_subset (Finset.subset_univ _)]
  have h3 : (bigSep (Finset.range 1024) fun t => (Hold (d.tc) arg1 (A.SRow t) (tq t) A.table : sProp 𝕄))
      = bigSep (Finset.range 32) fun g => bigSep (Finset.univ : Finset (Fin 32)) fun i => Hold (d.tc) arg1 (A.SRow (32 * g + i.val)) (tq (32 * g + i.val)) A.table := by
    rw [show (1024 : ℕ) = 32 * 32 from rfl, PageRing.bigSep_range_mul]
    exact bigSep_congr fun g _ => (fin_range 32 fun i => Hold (d.tc) arg1 (A.SRow (32 * g + i)) (tq (32 * g + i)) A.table).symm
  rw [h1, bigSep_congr (s := Finset.range 1024) (fun t _ => h2 t), list_sep, h3]
  unfold Others
  exact swap_sep _ _ _

/-! ## Slots -/

theorem slots_univ : (Finset.univ : Finset S2x32x128.Idx) = Slot 0 ∪ Slot 1 := by
  ext x
  have h : (x 0 : ℕ) < 2 := (x 0).isLt
  simp only [Slot, Finset.mem_univ, Finset.mem_union, Finset.mem_filter, true_and, true_iff]
  omega

theorem slots_disjoint : Disjoint (Slot 0) (Slot 1) := by
  rw [Finset.disjoint_left]
  intro x hx hx'
  simp only [Slot, Finset.mem_filter, Finset.mem_univ, true_and] at hx hx'
  omega

theorem slots_split : (Any (d.tc) arg11 Finset.univ : sProp 𝕄) ⊢ iprop(Any (d.tc) arg11 (Slot 0) ∗ Any (d.tc) arg11 (Slot 1)) := by
  rw [slots_univ]
  unfold Any
  iintro ⟨%V, H⟩
  ihave H' := (Entails.of_eq (hold_union (c := d.tc) slots_disjoint)) $$ H
  icases H' with ⟨H0, H1⟩
  isplitl [H0]
  · iexists V; iexact H0
  · iexists V; iexact H1

theorem slots_join : (iprop(Any (d.tc) arg11 (Slot 0) ∗ Any (d.tc) arg11 (Slot 1)) : sProp 𝕄) ⊢ Any (d.tc) arg11 Finset.univ := by
  rw [slots_univ]
  unfold Any
  iintro ⟨⟨%V, H0⟩, ⟨%V', H1⟩⟩
  iexists (fun x => if x ∈ Slot 0 then V x else V' x)
  iapply (Entails.of_eq (hold_union (c := d.tc) slots_disjoint).symm)
  isplitl [H0]
  · iapply (Entails.of_eq (hold_congr (c := d.tc) (V := V) (V' := fun x => if x ∈ Slot 0 then V x else V' x) fun x hx => (if_pos hx).symm)) $$ H0
  · iapply (Entails.of_eq (hold_congr (c := d.tc) (V := V') (V' := fun x => if x ∈ Slot 0 then V x else V' x)
      fun x hx => (if_neg (Finset.disjoint_right.mp slots_disjoint hx)).symm)) $$ H1

/-! ## The first copies -/

/-- Group `j` when the copies of the first `k` groups have been started. -/
def Pt (k j : ℕ) : sProp 𝕄 :=
  if j < k then Flight d A arg1 arg8 arg15 j else iprop(InG d A arg1 arg8 j ∗ (if j < 8 then Rest (F := F) d arg15 j else iprop(emp)))

include hok in
theorem first_trip (k : Fin k0_t1_loop.trips) (u : Unit) :
    (iprop(bigSep (Finset.range 32) (Pt d A arg1 arg8 arg15 k.val) ∗ Hold (d.tc) arg0 Finset.univ q0 A.ids) : sProp 𝕄)
      ⊢ WP (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k u)
        fun _ => iprop(bigSep (Finset.range 32) (Pt d A arg1 arg8 arg15 (k.val + 1)) ∗ Hold (d.tc) arg0 Finset.univ q0 A.ids) := by
  have hk : k.val < 8 := trips_first ▸ k.isLt
  rw [t1_body_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k u (fun i => id_in (by rw [row_first]; omega)) (cell_in (by rw [cell_first]; omega)) (fun i => row_in (by rw [row_first]; omega))]
  have hf := focus (S := Finset.range 32) (T := {k.val}) (by
      intro j hj
      rw [Finset.mem_singleton] at hj
      rw [Finset.mem_range]; omega) (Pt d A arg1 arg8 arg15 k.val) (Pt d A arg1 arg8 arg15 (k.val + 1)) (by
      intro j _ hj
      rw [Finset.mem_singleton] at hj
      unfold Pt
      by_cases h : j < k.val
      · rw [if_pos h, if_pos (by omega)]
      · rw [if_neg h, if_neg (show ¬ j < k.val + 1 by omega)])
  rw [one_entry, one_entry] at hf
  have e : Pt d A arg1 arg8 arg15 k.val k.val = iprop(InG d A arg1 arg8 k.val ∗ Rest (F := F) d arg15 k.val) := by
    unfold Pt; rw [if_neg (lt_irrefl _), if_pos hk]
  have e' : Pt d A arg1 arg8 arg15 (k.val + 1) k.val = Flight d A arg1 arg8 arg15 k.val := by
    unfold Pt; rw [if_pos (by omega)]
  rw [e, e'] at hf
  iintro ⟨HS, H0⟩
  ihave HS' := hf $$ HS
  unfold Rest
  icases HS' with ⟨⟨HI, HR⟩, HK⟩
  iapply (wp_last d (startRows_wp d A arg0 arg1 arg8 arg15 hok k.val (by omega) (fun v hv => hv) (row_first k) (cell_first k))) $$ [H0 HI HR]
  · isplitl [H0]; · iexact H0
    isplitl [HI]; · iexact HI
    iexact HR
  iintro %_ ⟨H0, HF⟩
  isplitl [HK HF]
  · iapply HK; iexact HF
  iexact H0

/-- The groups before the first wait, from the buffers as they come. -/
theorem groups_start :
    (iprop(Hold (d.tc) arg1 Finset.univ fullShare A.table ∗ Any (d.tc) arg8 Finset.univ ∗ bigSep (Finset.range 8) (Rest (F := F) d arg15)) : sProp 𝕄)
      ⊢ iprop(bigSep (Finset.range 32) (Pt d A arg1 arg8 arg15 0) ∗ Others d A arg1) := by
  have e : bigSep (Finset.range 32) (Pt d A arg1 arg8 arg15 0) = iprop((bigSep (Finset.range 32) fun j => Any (d.tc) arg8 (Blk j))
      ∗ (bigSep (Finset.range 32) fun g => bigSep (Finset.univ : Finset (Fin 32)) fun i => Hold (d.tc) arg1 (A.SRow (32 * g + i.val)) (tq (32 * g + i.val)) A.table)
      ∗ bigSep (Finset.range 32) fun j => if j < 8 then Rest (F := F) d arg15 j else iprop(emp)) := by
    rw [bigSep_congr (s := Finset.range 32) (Φ := Pt d A arg1 arg8 arg15 0) (Ψ := fun j => iprop(InG d A arg1 arg8 j ∗ (if j < 8 then Rest (F := F) d arg15 j else iprop(emp)))) (fun j _ => if_neg (Nat.not_lt_zero j)),
      list_sep]
    unfold InG
    rw [list_sep]
    exact assoc_sep _ _ _
  rw [e, table_shares]
  iintro ⟨⟨HT, HO⟩, H8, HR⟩
  isplitr [HO]
  · isplitl [H8]
    · iapply (any_split (c := d.tc) (m := arg8) (Finset.range 32) Blk blks_disjoint)
      rw [← univ_blks]; iexact H8
    isplitl [HT]; · iexact HT
    iapply (list_first (by omega)); iexact HR
  iexact HO

/-- The groups before the first trip, all but the first's. -/
theorem groups_ahead :
    (iprop(bigSep (Finset.range 32) (Pt d A arg1 arg8 arg15 8) ∗ Any (d.tc) arg9 Finset.univ ∗ Any (d.tc) arg10 Finset.univ
        ∗ Any (d.tc) arg6 Finset.univ ∗ Any (d.tc) arg7 Finset.univ) : sProp 𝕄)
      ⊢ bigSep (Finset.range 32) (Ahead d A arg1 arg6 arg7 arg8 arg9 arg10 arg15 0) := by
  have e : bigSep (Finset.range 32) (Ahead d A arg1 arg6 arg7 arg8 arg9 arg10 arg15 0)
      = iprop((bigSep (Finset.range 32) fun j => if j < 0 + 8 then Flight d A arg1 arg8 arg15 j else InG d A arg1 arg8 j)
        ∗ (bigSep (Finset.range 32) fun j => Any (d.tc) arg9 (Blk j)) ∗ (bigSep (Finset.range 32) fun j => Any (d.tc) arg10 (Blk j))
        ∗ (bigSep (Finset.range 32) fun j => Any (d.tc) arg6 (Blk j)) ∗ bigSep (Finset.range 32) fun j => Any (d.tc) arg7 (Blk j)) := by
    unfold Ahead Free
    rw [list_sep, list_sep, list_sep, list_sep]
  have hs : ∀ {sp : Space} (m : Memref sig .tc sp S1024x3072 .bf16), (Any (d.tc) m Finset.univ : sProp 𝕄) ⊢ bigSep (Finset.range 32) fun j => Any (d.tc) m (Blk j) := by
    intro sp m
    rw [univ_blks]
    exact any_split (c := d.tc) (m := m) (Finset.range 32) Blk blks_disjoint
  have hm : (bigSep (Finset.range 32) (Pt d A arg1 arg8 arg15 8) : sProp 𝕄)
      ⊢ bigSep (Finset.range 32) fun j => if j < 0 + 8 then Flight d A arg1 arg8 arg15 j else InG d A arg1 arg8 j := by
    refine bigSep_mono fun j _ => ?_
    have hj : (Pt d A arg1 arg8 arg15 8 j : sProp 𝕄) ⊢ if j < 0 + 8 then Flight d A arg1 arg8 arg15 j else InG d A arg1 arg8 j := by
      unfold Pt
      by_cases h : j < 8
      · rw [if_pos h, if_pos (by omega)]
      · rw [if_neg h, if_neg h, if_neg (show ¬ j < 0 + 8 by omega)]
        iintro ⟨H, -⟩
        iexact H
    exact hj
  rw [e]
  iintro ⟨HP, H9, H10, H6, H7⟩
  isplitl [HP]
  · iapply hm; iexact HP
  isplitl [H9]; · iapply (hs arg9); iexact H9
  isplitl [H10]; · iapply (hs arg10); iexact H10
  isplitl [H6]; · iapply (hs arg6); iexact H6
  iapply (hs arg7); iexact H7

/-! ## The end -/

/-- All groups done and all copies out arrived: the buffers whole again. -/
theorem groups_end :
    (iprop(bigSep (Finset.range 32) (ST 32) ∗ Others d A arg1
        ∗ (bigSep (Finset.univ : Finset (Fin 32)) fun i => BlkOut d arg9 arg7 fullShare.left A.embV i.val)
        ∗ (bigSep (Finset.univ : Finset (Fin 32)) fun i => BlkOut d arg10 arg6 fullShare A.outV i.val)) : sProp 𝕄)
      ⊢ iprop(Hold (d.tc) arg1 Finset.univ fullShare A.table ∗ Hold (d.tc) arg6 Finset.univ fullShare A.outV ∗ Hold (d.tc) arg7 Finset.univ fullShare A.embV
        ∗ Any (d.tc) arg8 Finset.univ ∗ Any (d.tc) arg9 Finset.univ ∗ Any (d.tc) arg10 Finset.univ ∗ bigSep (Finset.range 8) (Rest (F := F) d arg15)) := by
  have hj : ∀ {sp : Space} {e : EltTy} (m : Memref sig .tc sp S1024x3072 e) (V : S1024x3072.Idx → Elt F e),
      (Hold (d.tc) m Finset.univ fullShare V : sProp 𝕄) = bigSep (Finset.range 32) fun j => Hold (d.tc) m (Blk j) fullShare V := by
    intro sp e m V
    rw [univ_blks, hold_biUnion (c := d.tc) (Finset.range 32) Blk blks_disjoint]
  have e : bigSep (Finset.range 32) (ST 32) = iprop(((bigSep (Finset.range 32) fun j => Hold (d.tc) arg8 (Blk j) fullShare A.words)
      ∗ bigSep (Finset.range 32) fun g => bigSep (Finset.univ : Finset (Fin 32)) fun i => Hold (d.tc) arg1 (A.SRow (32 * g + i.val)) (tq (32 * g + i.val)) A.table)
      ∗ (bigSep (Finset.range 32) fun j => Hold (d.tc) arg9 (Blk j) fullShare.right A.embV)
      ∗ bigSep (Finset.range 32) fun j => if 24 ≤ j then Rest (F := F) d arg15 j else iprop(emp)) := by
    rw [bigSep_congr (s := Finset.range 32) (Φ := ST 32) (Ψ := Done d A arg1 arg8 arg9 arg15) (fun j hj => st_done d A _ _ _ _ _ _ _ (Finset.mem_range.mp hj))]
    unfold Done OutG
    rw [list_sep, list_sep, list_sep]
  have e9 : (Hold (d.tc) arg9 Finset.univ fullShare A.embV : sProp 𝕄)
      = iprop((bigSep (Finset.range 32) fun j => Hold (d.tc) arg9 (Blk j) fullShare.left A.embV) ∗ bigSep (Finset.range 32) fun j => Hold (d.tc) arg9 (Blk j) fullShare.right A.embV) := by
    rw [hj, ← list_sep]
    exact bigSep_congr fun j _ => hold_half
  have h8 : (bigSep (Finset.range 32) fun j => if 24 ≤ j then Rest (F := F) d arg15 j else iprop(emp)) ⊢ bigSep (Finset.range 8) (Rest (F := F) d arg15) := by
    refine (list_last (m := 8) (n := 24) (Rest (F := F) d arg15)).trans (Entails.of_eq (bigSep_congr fun j _ => ?_))
    unfold Rest
    rw [cell_congr arg15 (show (24 + j) % 8 = j % 8 by omega)]
  rw [fin_range 32 fun i => BlkOut d arg9 arg7 fullShare.left A.embV i, fin_range 32 fun i => BlkOut d arg10 arg6 fullShare A.outV i, e]
  unfold BlkOut
  rw [list_sep, list_sep, table_shares, hj arg6, hj arg7]
  iintro ⟨⟨⟨H8, HT⟩, H9r, HR⟩, HO, ⟨H7, H9l⟩, H6, H10⟩
  isplitl [HT HO]
  · isplitl [HT]; · iexact HT
    iexact HO
  isplitl [H6]; · iexact H6
  isplitl [H7]; · iexact H7
  isplitl [H8]
  · iapply (any_of_hold (c := d.tc) (V := A.words))
    rw [hj arg8]; iexact H8
  isplitl [H9l H9r]
  · iapply (any_of_hold (c := d.tc) (V := A.embV))
    rw [e9]
    isplitl [H9l]; · iexact H9l
    iexact H9r
  isplitl [H10]
  · iapply (any_of_hold (c := d.tc) (V := A.outV))
    rw [hj arg10]; iexact H10
  iapply h8; iexact HR

/-! ## The body -/

/-- What the body is given: its inputs' contents, the results' and the scratch's buffers whole, and all semaphores at rest. -/
def Pre (q0 q2 q3 q4 q5 : PosShare TreeShare) : sProp 𝕄 :=
  iprop(Hold (d.tc) arg0 Finset.univ q0 A.ids ∗ Hold (d.tc) arg1 Finset.univ fullShare A.table
    ∗ (Hold (d.tc) arg2 Finset.univ q2 A.ids ∗ Hold (d.tc) arg3 Finset.univ q3 A.scale ∗ Hold (d.tc) arg4 Finset.univ q4 A.zero)
    ∗ Hold (d.tc) arg5 Finset.univ q5 A.weight
    ∗ (Any (d.tc) arg6 Finset.univ ∗ Any (d.tc) arg7 Finset.univ)
    ∗ (Any (d.tc) arg8 Finset.univ ∗ Any (d.tc) arg9 Finset.univ ∗ Any (d.tc) arg10 Finset.univ ∗ Any (d.tc) arg11 Finset.univ
      ∗ Any (d.tc) arg12 Finset.univ ∗ Any (d.tc) arg13 Finset.univ ∗ Any (d.tc) arg14 Finset.univ)
    ∗ bigSep (Finset.range 8) (Rest (F := F) d arg15) ∗ semVal (d.tc, .dma arg16.sem) 0 ∗ semVal (d.tc, .dma arg17.sem) 0 ∗ Ow (F := F) d)

/-- What the body leaves: the same, the results written. -/
def Post (q0 q2 q3 q4 q5 : PosShare TreeShare) : sProp 𝕄 :=
  iprop(Hold (d.tc) arg0 Finset.univ q0 A.ids ∗ Hold (d.tc) arg1 Finset.univ fullShare A.table
    ∗ (Hold (d.tc) arg2 Finset.univ q2 A.ids ∗ Hold (d.tc) arg3 Finset.univ q3 A.scale ∗ Hold (d.tc) arg4 Finset.univ q4 A.zero)
    ∗ Hold (d.tc) arg5 Finset.univ q5 A.weight
    ∗ (Hold (d.tc) arg6 Finset.univ fullShare A.outV ∗ Hold (d.tc) arg7 Finset.univ fullShare A.embV)
    ∗ (Any (d.tc) arg8 Finset.univ ∗ Any (d.tc) arg9 Finset.univ ∗ Any (d.tc) arg10 Finset.univ ∗ Any (d.tc) arg11 Finset.univ
      ∗ Any (d.tc) arg12 Finset.univ ∗ Any (d.tc) arg13 Finset.univ ∗ Any (d.tc) arg14 Finset.univ)
    ∗ bigSep (Finset.range 8) (Rest (F := F) d arg15) ∗ semVal (d.tc, .dma arg16.sem) 0 ∗ semVal (d.tc, .dma arg17.sem) 0 ∗ Ow (F := F) d)

variable {q2 q3 q4 : PosShare TreeShare}

include hok in
/-- The body writes the normalised rows and the dequantised rows, and gives everything else back. -/
theorem body_wp :
    Pre d A arg0 arg1 arg2 arg3 arg4 arg5 arg6 arg7 arg8 arg9 arg10 arg11 arg12 arg13 arg14 arg15 arg16 arg17 q0 q2 q3 q4 q5
      ⊢ WP (cc0_embed_rmsnorm (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17) fun _ =>
        Post d A arg0 arg1 arg2 arg3 arg4 arg5 arg6 arg7 arg8 arg9 arg10 arg11 arg12 arg13 arg14 arg15 arg16 arg17 q0 q2 q3 q4 q5 := by
  have r0 : (0 : ℕ) = 32 * 0 := rfl
  have r31 : (992 : ℕ) = 32 * 31 := rfl
  have hB := block_in r31 (by omega)
  have hT := tile_in r0 (by omega)
  have hT' := tile_in r31 (by omega)
  rw [body_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (cell_in (c := 0) (by omega)) (fun i => row_in (by have := i.isLt; omega)) (prm_in r0 (by omega)) hT (fun j => tile_packed r0 (by omega) j (hT j))
    (slot_in (by omega)) hB (block_words r31 (by omega) hB) hT' (fun j => tile_packed r31 (by omega) j (hT' j)) (slot_in (by omega))]
  unfold Pre Post
  iintro ⟨H0, H1, ⟨H2, H3, H4⟩, H5, ⟨H6, H7⟩, ⟨H8, H9, H10, H11, H12, H13, H14⟩, HR, HS16, HS17, HW⟩
  ihave HG := (groups_start d A arg1 arg8 arg15) $$ [H1 H8 HR]
  · isplitl [H1]; · iexact H1
    isplitl [H8]; · iexact H8
    iexact HR
  icases HG with ⟨HP, HOth⟩
  iapply (Scf.wp_for_bind frame (wpE defs₀ 𝒱₀ (d.tc) none) Set.univ _ _ _ k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17)
    (fun n _ => iprop(bigSep (Finset.range 32) (Pt d A arg1 arg8 arg15 n) ∗ Hold (d.tc) arg0 Finset.univ q0 A.ids))
    (fun k u => first_trip d A arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hok k u)) $$ [HP H0]
  · isplitl [HP]; · iexact HP
    iexact H0
  iintro %_ ⟨HP, H0⟩
  ihave HP' := (Entails.of_eq (congrArg (fun n => bigSep (Finset.range 32) (Pt d A arg1 arg8 arg15 n)) trips_first)) $$ HP
  ihave HA := (groups_ahead d A arg1 arg6 arg7 arg8 arg9 arg10 arg15) $$ [HP' H9 H10 H6 H7]
  · isplitl [HP']; · iexact HP'
    isplitl [H9]; · iexact H9
    isplitl [H10]; · iexact H10
    isplitl [H6]; · iexact H6
    iexact H7
  have hf := focus (S := Finset.range 32) (T := {0}) (by decide) (Ahead d A arg1 arg6 arg7 arg8 arg9 arg10 arg15 0) (ST 0) (by
      intro j _ hj
      rw [Finset.mem_singleton] at hj
      exact (st_ahead d A arg1 arg6 arg7 arg8 arg9 arg10 arg15 (by omega)).symm)
  have eA : Ahead d A arg1 arg6 arg7 arg8 arg9 arg10 arg15 0 0 = iprop(Flight d A arg1 arg8 arg15 0 ∗ Any (d.tc) arg9 (Blk 0) ∗ Free (F := F) d arg6 arg7 arg10 0) := by
    rw [Ahead, if_pos (by omega)]
  rw [one_entry, one_entry, eA, st_half] at hf
  ihave HA' := hf $$ HA
  unfold Half OutG
  icases HA' with ⟨⟨HF, H9, HFr⟩, HK⟩
  iapply (wp_seq d (chunks_wp d A arg2 arg3 arg4 arg12 arg13 harg13 arg14 harg14)) $$ [H2 H3 H4 H12 H13 H14]
  · isplitl [H2]; · iexact H2
    isplitl [H3]; · iexact H3
    isplitl [H4]; · iexact H4
    isplitl [H12]; · iexact H12
    isplitl [H13]; · iexact H13
    iexact H14
  iintro %_ ⟨H2, H3, H4, H12, H13, H14⟩
  iapply (wp_seq d (waitRows_wp d A arg1 arg8 arg15 0 rfl)) $$ [HF HW]
  · isplitl [HF]; · iexact HF
    iexact HW
  unfold OutG
  iintro %_ ⟨⟨H8, HT⟩, HR, HW⟩
  iapply (wp_seq d (dqRows_wp d A arg8 arg9 harg9 arg12 arg13 arg14 0 r0)) $$ [H8 H9 H12 H13 H14]
  · isplitl [H8]; · iexact H8
    isplitl [H9]; · iexact H9
    isplitl [H12]; · iexact H12
    isplitl [H13]; · iexact H13
    iexact H14
  iintro %b ⟨%hb, H8, H9, H12, H13, H14⟩
  subst hb
  ihave H11' := (slots_split d arg11) $$ H11
  icases H11' with ⟨HQ, HQ'⟩
  iapply (wp_seq d (sqStore_wp d A arg11 0 0 rfl)) $$ [HQ]
  · iexact HQ
  iintro %_ HQ
  imod (outs_start d arg9 arg7 arg16 fullShare.left A.embV (E := Set.univ)) $$ HS16 with HE
  imod (outs_start d arg10 arg6 arg17 fullShare A.outV (E := Set.univ)) $$ HS17 with HO
  iapply (Scf.wp_for_bind frame (wpE defs₀ 𝒱₀ (d.tc) none) Set.univ _ _ _ k0_t2_ok ⟨⟩ _
    (fun n _ => Inv d A arg0 arg1 arg5 arg6 arg7 arg8 arg9 arg10 arg11 arg12 arg13 arg14 arg15 arg16 arg17 q0 q5 n)
    (fun k u => trip_wp d A arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 hok _ k u)) $$ [H0 H5 H8 HT HR HK H9 HFr HQ HQ' HE HO HW H12 H13 H14]
  · unfold Inv Moving Fixed
    isplitl [H8 HT HR HK H9 HFr]
    · iapply HK
      isplitl [H8 HT]
      · isplitl [H8]; · iexact H8
        iexact HT
      isplitl [H9]; · iexact H9
      isplitl [HR]; · unfold Rest; iexact HR
      iexact HFr
    isplitl [HQ HQ' HE HO HW]
    · isplitl [HQ]; · iexact HQ
      isplitl [HQ']; · iexact HQ'
      isplitl [HE]; · iexact HE
      isplitl [HO]; · iexact HO
      iexact HW
    isplitl [H0]; · iexact H0
    isplitl [H5]; · iexact H5
    isplitl [H12]; · iexact H12
    isplitl [H13]; · iexact H13
    iexact H14
  iintro %_ HI
  ihave HI' := (Entails.of_eq (congrArg (fun n => Inv d A arg0 arg1 arg5 arg6 arg7 arg8 arg9 arg10 arg11 arg12 arg13 arg14 arg15 arg16 arg17 q0 q5 n) trips_main)) $$ HI
  have hl := focus (S := Finset.range 32) (T := {31}) (by decide) (ST 31) (ST 32) (by
      intro j hj' hj
      rw [Finset.mem_singleton] at hj
      rw [Finset.mem_range] at hj'
      rw [st_done d A _ _ _ _ _ _ _ (by omega : j < 31), st_done d A _ _ _ _ _ _ _ (by omega : j < 32)])
  rw [one_entry, one_entry, st_half, st_done d A _ _ _ _ _ _ _ (by omega : 31 < 32)] at hl
  unfold Inv Moving Fixed
  icases HI' with ⟨HS, ⟨HQ, HQ', HE, HO, HW⟩, H0, H5, H12, H13, H14⟩
  ihave HS' := hl $$ HS
  unfold Half Done Free
  icases HS' with ⟨⟨HG, H9, HR, H10, H6, H7⟩, HK⟩
  ihave H9' := (Entails.of_eq (hold_half (c := d.tc))) $$ H9
  icases H9' with ⟨H9l, H9r⟩
  iapply (wp_seq d (copyOut_wp d arg9 harg9 arg7 harg7 arg16 fullShare.left A.embV 31 (by omega) r31)) $$ [H9l H7 HE]
  · isplitl [H9l]; · iexact H9l
    isplitl [H7]; · iexact H7
    iexact HE
  iintro %_ HE
  iapply (wp_seq d (normalise_wp d A arg5 arg9 arg10 harg10 arg11 31 1 r31 rfl)) $$ [H5 H9r H10 HQ]
  · isplitl [H5]; · iexact H5
    isplitl [H9r]; · iexact H9r
    isplitl [H10]; · iexact H10
    iexact HQ
  iintro %_ ⟨H5, H9r, H10, HQ⟩
  iapply (wp_seq d (copyOut_wp d arg10 harg10 arg6 harg6 arg17 fullShare A.outV 31 (by omega) r31)) $$ [H10 H6 HO]
  · isplitl [H10]; · iexact H10
    isplitl [H6]; · iexact H6
    iexact HO
  iintro %_ HO
  iapply (wp_seq d (waitOut_wp d arg9 arg7 arg16 fullShare.left A.embV)) $$ [HE HW]
  · isplitl [HE]; · iexact HE
    iexact HW
  iintro %_ ⟨HE, HS16, HW⟩
  iapply (wp_last d (waitOut_wp d arg10 arg6 arg17 fullShare A.outV)) $$ [HO HW]
  · isplitl [HO]; · iexact HO
    iexact HW
  iintro %_ ⟨HO, HS17, HW⟩
  ihave HX := (groups_end d A arg1 arg6 arg7 arg8 arg9 arg10 arg15) $$ [HK HG H9r HR HOth HE HO]
  · isplitl [HK HG H9r HR]
    · iapply HK
      isplitl [HG]; · iexact HG
      isplitl [H9r]; · iexact H9r
      rw [if_pos (by omega)]
      iexact HR
    isplitl [HOth]; · iexact HOth
    isplitl [HE]; · iexact HE
    iexact HO
  icases HX with ⟨H1, H6, H7, H8, H9, H10, HR⟩
  isplitl [H0]; · iexact H0
  isplitl [H1]; · iexact H1
  isplitl [H2 H3 H4]
  · isplitl [H2]; · iexact H2
    isplitl [H3]; · iexact H3
    iexact H4
  isplitl [H5]; · iexact H5
  isplitl [H6 H7]
  · isplitl [H6]; · iexact H6
    iexact H7
  isplitl [H8 H9 H10 HQ HQ' H12 H13 H14]
  · isplitl [H8]; · iexact H8
    isplitl [H9]; · iexact H9
    isplitl [H10]; · iexact H10
    isplitl [HQ HQ']
    · iapply (slots_join d arg11)
      isplitl [HQ']; · iexact HQ'
      iapply (any_of_hold (c := d.tc)) $$ HQ
    isplitl [H12]; · iapply (any_of_hold (c := d.tc)) $$ H12
    isplitl [H13]; · iapply (any_of_hold (c := d.tc)) $$ H13
    iapply (any_of_hold (c := d.tc)) $$ H14
  isplitl [HR]; · iexact HR
  isplitl [HS16]; · iexact HS16
  isplitl [HS17]; · iexact HS17
  iexact HW

end Body

end Cert.KernelIdeal.Emb
end
-- ==== Proof.IdealLaunch.lean ====
/- The program's run: the host lines before the kernel, the kernel on its buffers as they find them, the host lines
   after it. It ends with the arguments as they were, every semaphore at rest, and the results the kernel's rows. -/
module

public import proofs.«01_k».proof.Proof.IdealMain
public import proofs.«01_k».proof.Proof.Owns
public import proofs.«01_k».proof.Proof.Gen.KernelIdeal.Frame

@[expose] public section

set_option maxRecDepth 16384

noncomputable section

namespace Cert.KernelIdeal.Emb

open Idealize.ShloMosaic Idealize.ShloMosaic.TcCoe Idealize.ShloMosaic.Tactic Cert.KernelIdeal.Gen Cert.Emb
open Idealize.SL
open Idealize.SL.RA Idealize.SL.Sem Idealize.SL.ProofMode
open Idealize.SL.BI (sProp bigSep bigSep_insert bigSep_mono bigSep_empty bigSep_congr bigSep_singleton)
open scoped Idealize.SL.BI
open Idealize.SL.BI.BIBase Idealize.SL.BI.Laws
open Idealize.ShloMosaic.Pipeline (Dat Cfg Window BodyObligation BodyObligationLoose)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the kernel is given and gives -/

/-- The kernel's inputs as the lines before it leave them. -/
def inp (c : Dev nD) : Args F where
  ids := iblk m c 0 t0_0
  table := V m c main_v2
  scale := iblk m c 2 t0_0
  zero := iblk m c 3 t0_0
  weight := iblk m c 4 t0_0

/-- The tokens are staged twice, to the same contents. -/
theorem ids_twice (c : Dev nD) : (iblk m c 1 t0_0 : S1x1024.Idx → Elt F .i32) = (inp m c).ids := rfl

/-- The buffers the kernel copies rows out of, and those it copies rows to. -/
def HH : Finset (Ref sig .tc) := {main_v2}
def RR : Finset (Ref sig .tc) := {main_v6_0, main_v6_1}
theorem HH_sub : HH ⊆ Pipeline.restRefsP sig Pipeline.Prefetch.none spec0 := by decide
theorem RR_sub : RR ⊆ Pipeline.restRefsP sig Pipeline.Prefetch.none spec0 \ HH := by decide

/-- The kernel's own semaphores: the eight cells of the copies in, and one each for the copies out. -/
def semAt (j : ℕ) : DmaSem sig := if j < 8 then cell cc0_scratch7 j else if j = 8 then cc0_scratch8.sem else cc0_scratch9.sem
def osem (k : Fin 10) : SemLoc sig := .dma (semAt k.val)
theorem osem_facts : Pipeline.OwnSemFacts spec0 osem := by decide

/-- What the kernel leaves: the results' rows. -/
def outs (c : Dev nD) : (b : Ref sig .tc) → Buf (Elt F) ((c.tc : Thread nD τ).loc b) :=
  Function.update (Function.update (V m c) main_v6_0 (inp m c).outV) main_v6_1 (inp m c).embV

theorem outs_out (c : Dev nD) : outs m c main_v6_0 = (inp m c).outV := by
  unfold outs
  rw [Function.update_of_ne (by decide), Function.update_self]
theorem outs_emb (c : Dev nD) : outs m c main_v6_1 = (inp m c).embV := by
  unfold outs
  rw [Function.update_self]

/-- The invariant's results: as found, then as left. -/
def Res (t : Fin (cfg0.N + 1)) (c : Dev nD) (b : Ref sig .tc) : Buf (Elt F) ((c.tc : Thread nD τ).loc b) :=
  if t = 0 then V m c b else outs m c b

theorem Res_zero : Res m 0 = V m := by
  funext c b; unfold Res; rw [if_pos rfl]
theorem Res_succ (t : Fin cfg0.N) : Res m t.succ = outs m := by
  funext c b; unfold Res; rw [if_neg (Fin.succ_ne_zero t)]
theorem Res_last : Res m (Fin.last cfg0.N) = outs m := by
  rw [show Fin.last cfg0.N = Fin.succ t0_0 from rfl, Res_succ]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Pipeline.ΦDRV osem spec0 HH RR (V m) (Res m t) c
  q w := Pipeline.shareOf spec0 w
  owed _ := 0

theorem A_eq (c : Dev nD) (w : Fin cfg0.W) : (dats m 0 c).A w = V m c (Pipeline.arrRef spec0 w) := by
  dsimp only [dats]

/-- An input's staging buffer holds its block. -/
theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_4 (c : Dev nD) (t : Fin cfg0.N) (d) : (dats m 0 c).before 4 t d = iblk m c 4 t := by
  unfold Dat.before; rw [if_pos (fetch0_4 t)]; unfold Dat.fetched Dat.blockOf iblk; dsimp only [dats]; rfl

/-! ## The body's obligation -/

theorem ownSems_eq (c : Dev nD) : (Pipeline.ownSems0 (Ix := Unit) (Name := ℕ) (U := Pipeline.UD sig nD τ) (Lvl := ℕ) (Val := Elt F) (τ := τ) osem c : sProp 𝕄)
    = iprop(semVal (c.tc, .dma cc0_scratch9.sem) 0 ∗ semVal (c.tc, .dma cc0_scratch8.sem) 0 ∗ bigSep (Finset.range 8) (Rest (F := F) c cc0_scratch7)) := by
  unfold Pipeline.ownSems0 osem
  rw [fin_range 10 fun j => (semVal ((c.tc : Thread nD τ), .dma (semAt j)) 0 : sProp 𝕄)]
  have e : ∀ (n : ℕ) (Φ : ℕ → sProp 𝕄), bigSep (Finset.range (n + 1)) Φ = iprop(Φ n ∗ bigSep (Finset.range n) Φ) := fun n Φ => by
    rw [Finset.range_add_one]
    exact bigSep_insert Finset.notMem_range_self
  rw [e, e]
  have e8 : bigSep (Finset.range 8) (fun j => (semVal ((c.tc : Thread nD τ), .dma (semAt j)) 0 : sProp 𝕄)) = bigSep (Finset.range 8) (Rest (F := F) c cc0_scratch7) :=
    bigSep_congr fun j hj => by
      unfold Rest semAt
      rw [if_pos (Finset.mem_range.mp hj)]
  rw [e8]
  rfl

theorem HH_eq (c : Dev nD) (Φ : Ref sig .tc → sProp 𝕄) : bigSep HH Φ = Φ main_v2 := bigSep_singleton
theorem RR_eq (c : Dev nD) (Φ : Ref sig .tc → sProp 𝕄) : bigSep RR Φ = iprop(Φ main_v6_0 ∗ Φ main_v6_1) := by
  unfold RR
  rw [bigSep_insert (by decide), bigSep_singleton]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem any_of_buf (c : Dev nD) (b : Ref sig .tc) :
    (iprop(∃ f : Buf (Elt F) ((c : Thread nD τ).loc b), ((c : Thread nD τ).loc b) ↦{fullShare} f) : sProp 𝕄) ⊢ Any (c.tc) (Memref.whole b) Finset.univ := by
  unfold Any
  iintro ⟨%f, H⟩
  iexists f
  iapply (Entails.of_eq (hold_whole (c.tc) b fullShare f)) $$ H

theorem buf_of_any (c : Dev nD) (b : Ref sig .tc) :
    (Any (c.tc) (Memref.whole b) Finset.univ : sProp 𝕄) ⊢ iprop(∃ f : Buf (Elt F) ((c : Thread nD τ).loc b), ((c : Thread nD τ).loc b) ↦{fullShare} f) := by
  unfold Any
  iintro ⟨%f, H⟩
  iexists f
  iapply (Entails.of_eq (hold_whole (c.tc) b fullShare f).symm) $$ H

set_option maxHeartbeats 1600000 in
theorem body_sound (hok : ∀ c, (inp m c).Ok) (c : Dev nD) (t : Fin cfg0.N) :
    bodyPre m c t ⊢ wp frame (wpE (defs₀ (F := F)) 𝒱₀ (c : Thread nD τ) none) Set.univ (bodyAt0 t) (fun _ => bodyPost m c t) := by
  obtain rfl := fin_N0 t
  unfold bodyPre bodyPost
  rw [show (dats m 0 c).Φ (Fin.castSucc t0_0) = Pipeline.ΦDRV osem spec0 HH RR (V m) (Res m (Fin.castSucc t0_0)) c from rfl,
    show (dats m 0 c).Φ (Fin.succ t0_0) = Pipeline.ΦDRV osem spec0 HH RR (V m) (Res m (Fin.succ t0_0)) c from rfl]
  unfold Pipeline.ΦDRV Dat.owesAt Pipeline.owesWithin
  rw [scopedRest0_eq, ownSems_eq, HH_eq c, RR_eq c, RR_eq c,
    show (dats m 0 c).owed (Fin.castSucc t0_0) = 0 from rfl, show (dats m 0 c).owed (Fin.succ t0_0) = 0 from rfl,
    Res_succ, outs_out, outs_emb]
  have hT : ((c.tc : Thread nD τ).loc main_v2 ↦{fullShare} V m c main_v2 : sProp 𝕄) = Hold (c.tc) (Memref.whole main_v2) Finset.univ fullShare (inp m c).table :=
    hold_whole (c.tc) main_v2 fullShare (V m c main_v2)
  have hX : ((c.tc : Thread nD τ).loc main_v6_0 ↦{fullShare} (inp m c).outV : sProp 𝕄) = Hold (c.tc) (Memref.whole main_v6_0) Finset.univ fullShare (inp m c).outV :=
    hold_whole (c.tc) main_v6_0 fullShare (inp m c).outV
  have hY : ((c.tc : Thread nD τ).loc main_v6_1 ↦{fullShare} (inp m c).embV : sProp 𝕄) = Hold (c.tc) (Memref.whole main_v6_1) Finset.univ fullShare (inp m c).embV :=
    hold_whole (c.tc) main_v6_1 fullShare (inp m c).embV
  have h := body_wp c (inp m c) (st0_0 t0_0) (hstage0_0 0) (Memref.whole main_v2) (Memref.isWhole_whole _) (st0_1 t0_0) (hstage0_1 0) (st0_2 t0_0) (hstage0_2 0)
    (st0_3 t0_0) (hstage0_3 0) (st0_4 t0_0) (hstage0_4 0) (Memref.whole main_v6_0) (Memref.isWhole_whole _) (Memref.whole main_v6_1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scratch8 cc0_scratch9 (hok c)
    (q0 := fullShare) (q2 := fullShare) (q3 := fullShare) (q4 := fullShare) (q5 := fullShare)
  iintro ⟨⟨⟨HS0, HS1, HS2, HS3, HS4, HS5, HS6⟩, ⟨HQ9, HQ8, HQ⟩, HT, HX, HY⟩, ⟨%W, -, HW⟩, ⟨%d0, H0⟩, ⟨%d1, H1⟩, ⟨%d2, H2⟩, ⟨%d3, H3⟩, ⟨%d4, H4⟩⟩
  rw [before_0, before_1, before_2, before_3, before_4]
  iapply (wp_last c h) $$ [HS0 HS1 HS2 HS3 HS4 HS5 HS6 HQ9 HQ8 HQ HT HX HY HW H0 H1 H2 H3 H4]
  · unfold Pre Ow
    isplitl [H0]; · iapply (hold_of_owns (c.tc)); iexact H0
    isplitl [HT]; · iapply (Entails.of_eq hT) $$ HT
    isplitl [H1 H2 H3]
    · isplitl [H1]; · iapply (hold_of_owns (c.tc)); iexact H1
      isplitl [H2]; · iapply (hold_of_owns (c.tc)); iexact H2
      iapply (hold_of_owns (c.tc)); iexact H3
    isplitl [H4]; · iapply (hold_of_owns (c.tc)); iexact H4
    isplitl [HX HY]
    · isplitl [HX]
      · iapply (any_of_buf c main_v6_0); iexists _; iexact HX
      iapply (any_of_buf c main_v6_1); iexists _; iexact HY
    isplitl [HS0 HS1 HS2 HS3 HS4 HS5 HS6]
    · isplitl [HS0]; · iapply (any_of_buf c cc0_scratch0); iexact HS0
      isplitl [HS1]; · iapply (any_of_buf c cc0_scratch1); iexact HS1
      isplitl [HS2]; · iapply (any_of_buf c cc0_scratch2); iexact HS2
      isplitl [HS3]; · iapply (any_of_buf c cc0_scratch3); iexact HS3
      isplitl [HS4]; · iapply (any_of_buf c cc0_scratch4); iexact HS4
      isplitl [HS5]; · iapply (any_of_buf c cc0_scratch5); iexact HS5
      iapply (any_of_buf c cc0_scratch6); iexact HS6
    isplitl [HQ]; · iexact HQ
    isplitl [HQ8]; · iexact HQ8
    isplitl [HQ9]; · iexact HQ9
    iexists W; iexact HW
  unfold Post Ow
  iintro %_ ⟨H0, HT, ⟨H1, H2, H3⟩, H4, ⟨HX, HY⟩, ⟨HS0, HS1, HS2, HS3, HS4, HS5, HS6⟩, HQ, HQ8, HQ9, ⟨%W', HW⟩⟩
  isplitl [HT HX HY HS0 HS1 HS2 HS3 HS4 HS5 HS6 HQ HQ8 HQ9]
  · isplitl [HS0 HS1 HS2 HS3 HS4 HS5 HS6]
    · isplitl [HS0]; · iapply (buf_of_any c cc0_scratch0); iexact HS0
      isplitl [HS1]; · iapply (buf_of_any c cc0_scratch1); iexact HS1
      isplitl [HS2]; · iapply (buf_of_any c cc0_scratch2); iexact HS2
      isplitl [HS3]; · iapply (buf_of_any c cc0_scratch3); iexact HS3
      isplitl [HS4]; · iapply (buf_of_any c cc0_scratch4); iexact HS4
      isplitl [HS5]; · iapply (buf_of_any c cc0_scratch5); iexact HS5
      iapply (buf_of_any c cc0_scratch6); iexact HS6
    isplitl [HQ HQ8 HQ9]
    · isplitl [HQ9]; · iexact HQ9
      isplitl [HQ8]; · iexact HQ8
      iexact HQ
    isplitl [HT]; · iapply (Entails.of_eq hT.symm) $$ HT
    isplitl [HX]; · iapply (Entails.of_eq hX.symm) $$ HX
    iapply (Entails.of_eq hY.symm) $$ HY
  isplitl [HW]
  · iexists W'; isplitr; · ipureintro; exact fun _ _ => Or.inl trivial
    iexact HW
  isplitl [H0]; · iapply (owns_of_hold (c.tc)); iexact H0
  isplitl [H1]; · iapply (owns_of_hold (c.tc)); iexact H1
  isplitl [H2]; · iapply (owns_of_hold (c.tc)); iexact H2
  isplitl [H3]; · iapply (owns_of_hold (c.tc)); iexact H3
  iapply (owns_of_hold (c.tc)); iexact H4

theorem defs₀_row (t : Fin cfg0.N) : defs₀ (F := F) .tc cfg0.body (cfg0.bodyArgs t (cfg0.slots t)) = bodyAt0 t := by
  unfold defs₀; rw [Defs.onTc_tc]

theorem body_obligation (hok : ∀ c, (inp m c).Ok) (c : Dev nD) : BodyObligation (dats (F := F) m 0 c) (defs₀ (F := F)) 𝒱₀ () Set.univ := fun t => by
  rw [bigSep_W0, bigSep_W0, defs₀_row]
  exact triple_restated (body_sound m hok c t) rfl .rfl fun _ => .rfl

/-! ## The run -/

theorem main_around : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers as the kernel leaves them. -/
abbrev left (c : Dev nD) : Valuation τ sig (Elt F) :=
  Pipeline.withArrays spec0 c (Pipeline.withR (V0 m c) RR c (outs m c)) fun w => (dats m 0 c).arrAt w cfg0.N

theorem start (c : Dev nD) (X : sProp 𝕄) : (iprop(Pipeline.ΦDRV osem spec0 HH RR (V m) (V m) c ∗ X) : sProp 𝕄) ⊢ (dats m 0 c).Φ 0 := by
  rw [show (dats m 0 c).Φ 0 = Pipeline.ΦDRV osem spec0 HH RR (V m) (Res m 0) c from rfl, Res_zero]
  iintro ⟨H, -⟩
  iexact H

theorem finish (c : Dev nD) : (dats m 0 c).Φ (Fin.last cfg0.N) ⊢ (Pipeline.ΦDRV osem spec0 HH RR (V m) (outs m) c : sProp 𝕄) := by
  rw [show (dats m 0 c).Φ (Fin.last cfg0.N) = Pipeline.ΦDRV osem spec0 HH RR (V m) (Res m (Fin.last cfg0.N)) c from rfl, Res_last]

set_option backward.isDefEq.respectTransparency.types false in
theorem run_main (hok : ∀ c, (inp m c).Ok) : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefsP sig Pipeline.Prefetch.none spec0, r.2.mem ((c.tc : Thread nD τ).loc b) = StableHlo.after (List.flatten [hostOps1]) (left m c) (Proc.devRef .tc b))
      ∧ r.2.sem = fun _ => 0) :=
  Pipeline.θ_run_frameP_dmaR_aroundV_shared (fun q => (cfgs q).toPCfg (Val := Elt F)) (fun q => (cfgs q).toPCfg_adm) (dats m) (0 : Fin 1) launch₀0.toP osem defs₀ 𝒱₀
    osem_facts HH RR HH_sub RR_sub m ρ main
    (hbody := fun c => (body_obligation m hok c).loose) (hq := fun _ _ _ => rfl) (howed := fun _ _ => rfl) (V₀ := V0 m) (opss := [hostOps1])
    (hsub := sfx_sub) (hfresh := sfx_fresh) (hkeep := sfx_keeps) (G := outs m) (hmain := main_around m) (hA := A_eq m) (hpf := fun _ k => k.elim0)
    (hin := fun c => start m c _) (hout := finish m) (Q' := _) (hQ' := fun _ h => h)

end Cert.KernelIdeal.Emb
end
-- ==== Proof.IdealRun.lean ====
/- The program's run, read at its arguments and results: what the lines before the kernel give it, and what the lines after
   it make of the rows it leaves. -/
module

public import proofs.«01_k».proof.Proof.IdealLaunch
public import proofs.«01_k».proof.Pre_ids_name_rows
public import Idealize.ShloMosaic.Lib.StableHlo.Run

@[expose] public section

set_option maxRecDepth 16384

noncomputable section

namespace Cert.KernelIdeal.Emb

open Idealize.ShloMosaic Idealize.ShloMosaic.TcCoe Idealize.ShloMosaic.StableHlo Cert.KernelIdeal.Gen Cert.Emb Idealize.SL.Sem

variable {F : FTy → Type} [FloatOps F] [Named F]
variable (m : (ℓ : Loc nD τ sig) → Buf (Elt F) ℓ) (ρ : Dev nD → PrngReg)

/-! ## What the kernel is given -/

theorem inp_ids (c : Dev nD) : (inp m c).ids = m ((c.tc : Thread nD τ).loc main_arg0) := by
  have h : (inp m c).ids = V m c main_arg0 := by
    have hz : (fun a => (win0_0.index t0_0) a * main_arg0.ty.shape.size a) = fun _ => 0 := funext fun a => by fin_cases a <;> decide
    exact Memref.read_access_unit_zero (Elt F) main_arg0 hz (fun a => by fin_cases a <;> decide) (V m c main_arg0)
  rw [h, V_main_arg0]

theorem inp_table (c : Dev nD) : (inp m c).table
    = Host.bitcastConvertWiden S2016x3072 32 (transpose S2016x3072x4 [0, 2, 1] (shapeCast S2016x4x3072 (m ((c.tc : Thread nD τ).loc main_arg1) : S8064x3072.Idx → BitVec 8)
        shapeCasts_S8064x3072_S2016x4x3072) transposes_S2016x4x3072_S2016x3072x4_0_2_1) splits_S2016x3072_w32_S2016x3072x4_w8 := by
  show V m c main_v2 = _
  simp only [V, V0, hostOps0, List.flatten_cons, List.flatten_nil, List.append_nil]
  after_results_simp <;> rfl

theorem inp_scale (c : Dev nD) : (inp m c).scale = shapeCast S63x128 (m ((c.tc : Thread nD τ).loc main_arg2) : S8064.Idx → Elt F .f32) shapeCasts_S8064_S63x128 := by
  have h : (inp m c).scale = V m c main_v3 := by
    have hz : (fun a => (win0_2.index t0_0) a * main_v3.ty.shape.size a) = fun _ => 0 := funext fun a => by fin_cases a <;> decide
    exact Memref.read_access_unit_zero (Elt F) main_v3 hz (fun a => by fin_cases a <;> decide) (V m c main_v3)
  rw [h]
  simp only [V, V0, hostOps0, List.flatten_cons, List.flatten_nil, List.append_nil]
  after_results_simp <;> rfl

theorem inp_zero (c : Dev nD) : (inp m c).zero = shapeCast S63x128 (m ((c.tc : Thread nD τ).loc main_arg3) : S8064.Idx → Elt F .bf16) shapeCasts_S8064_S63x128 := by
  have h : (inp m c).zero = V m c main_v4 := by
    have hz : (fun a => (win0_3.index t0_0) a * main_v4.ty.shape.size a) = fun _ => 0 := funext fun a => by fin_cases a <;> decide
    exact Memref.read_access_unit_zero (Elt F) main_v4 hz (fun a => by fin_cases a <;> decide) (V m c main_v4)
  rw [h]
  simp only [V, V0, hostOps0, List.flatten_cons, List.flatten_nil, List.append_nil]
  after_results_simp <;> rfl

theorem inp_weight (c : Dev nD) : (inp m c).weight = shapeCast S1x3072 (m ((c.tc : Thread nD τ).loc main_arg4) : S3072.Idx → Elt F .bf16) shapeCasts_S3072_S1x3072 := by
  have h : (inp m c).weight = V m c main_v5 := by
    have hz : (fun a => (win0_4.index t0_0) a * main_v5.ty.shape.size a) = fun _ => 0 := funext fun a => by fin_cases a <;> decide
    exact Memref.read_access_unit_zero (Elt F) main_v5 hz (fun a => by fin_cases a <;> decide) (V m c main_v5)
  rw [h]
  simp only [V, V0, hostOps0, List.flatten_cons, List.flatten_nil, List.append_nil]
  after_results_simp <;> rfl

/-! ## The precondition: every id names a row -/

/-- Every token names a row of the table. -/
def InRange : Prop := ∀ (c : Dev nD) (x : S1x1024.Idx), (m ((c.tc : Thread nD τ).loc main_arg0) x : BitVec 32).toNat < 8064

theorem inRange_of_pre [hPre : Cert.Pre_ids_name_rows.Facts] (h : ∀ c : Dev nD, Cert.Pre_ids_name_rows.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) : InRange m := by
  intro c x
  have e := congrFun (h c) x
  have k : ∀ v : BitVec 32, IntOp.andi (IntOp.cmpi .sge v 0#32) (IntOp.cmpi .slt v 8064#32) = 1#1 → v.toNat < 8064 := by
    intro v hv
    have b : ∀ a b : Bool, BitVec.ofBool a &&& BitVec.ofBool b = 1#1 → a = true ∧ b = true := by decide
    obtain ⟨h0, h1⟩ := b _ _ hv
    rw [BitVec.sle_iff_toInt_le] at h0
    rw [BitVec.slt_iff_toInt_lt] at h1
    have e0 : (0#32 : BitVec 32).toInt = 0 := by decide
    have e1 : (8064#32 : BitVec 32).toInt = 8064 := by decide
    rw [e0] at h0
    rw [e1] at h1
    rw [BitVec.toInt_eq_toNat_cond] at h0 h1
    split at h0 <;> split at h1 <;> omega
  exact k _ e

theorem ok_of_inRange (h : InRange m) (c : Dev nD) : (inp m c).Ok := by
  intro t ht a
  have hv := h c (mk2 1 1024 0 t)
  rw [inp_ids]
  have k : ∀ v : BitVec 32, v.toNat < 8064 → (Scalar.shrui v 2#32).toNat + 1 ≤ 2016 := by
    intro v hv
    have e : (Scalar.shrui v 2#32).toNat = v.toNat / 4 := by
      show (v >>> (2#32 : BitVec 32).toNat).toNat = _
      rw [BitVec.toNat_ushiftRight, Nat.shiftRight_eq_div_pow]; rfl
    omega
  fin_cases a
  · exact k _ hv
  · show 0 + 3072 ≤ 3072
    omega

/-! ## The run -/

theorem left_out (c : Dev nD) : left m c (Proc.devRef .tc main_v6_0) = (inp m c).outV := by
  unfold left
  rw [Pipeline.withArrays_of_ne _ c _ _ main_v6_0 (by exact (by decide : ∀ w, Pipeline.arrRef spec0 w ≠ main_v6_0)), Pipeline.withR_of_mem _ _ _ _ _ (by decide), outs_out]
theorem left_emb (c : Dev nD) : left m c (Proc.devRef .tc main_v6_1) = (inp m c).embV := by
  unfold left
  rw [Pipeline.withArrays_of_ne _ c _ _ main_v6_1 (by exact (by decide : ∀ w, Pipeline.arrRef spec0 w ≠ main_v6_1)), Pipeline.withR_of_mem _ _ _ _ _ (by decide), outs_emb]

theorem after_out (W : Valuation τ sig (Elt F)) : StableHlo.after (List.flatten [hostOps1]) W (Proc.devRef .tc main_v7)
    = shapeCast S1x1024x3072 (W (Proc.devRef .tc main_v6_0) : S1024x3072.Idx → Elt F .bf16) shapeCasts_S1024x3072_S1x1024x3072 := by
  simp only [hostOps1, List.flatten_cons, List.flatten_nil, List.append_nil]
  after_results_simp <;> rfl
theorem after_emb (W : Valuation τ sig (Elt F)) : StableHlo.after (List.flatten [hostOps1]) W (Proc.devRef .tc main_v8)
    = shapeCast S1x1024x3072 (W (Proc.devRef .tc main_v6_1) : S1024x3072.Idx → Elt F .bf16) shapeCasts_S1024x3072_S1x1024x3072 := by
  simp only [hostOps1, List.flatten_cons, List.flatten_nil, List.append_nil]
  after_results_simp <;> rfl

/-- A buffer no line writes and the kernel only reads ends as launched. -/
theorem kept (c : Dev nD) (b : Ref sig .tc) (h7 : b ≠ main_v7) (h8 : b ≠ main_v8) (hR : b ∉ RR) (hw : ∀ w, Pipeline.arrRef spec0 w ≠ b) :
    StableHlo.after (List.flatten [hostOps1]) (left m c) (Proc.devRef .tc b) = V m c b := by
  have e : ∀ W : Valuation τ sig (Elt F), StableHlo.after (List.flatten [hostOps1]) W (Proc.devRef .tc b) = W (Proc.devRef .tc b) := fun W =>
    StableHlo.after_of_forall_not_mem _ _ (List.forall_iff_forall_mem.mp (by
      simp only [hostOps1, List.flatten_cons, List.flatten_nil, List.append_nil, List.cons_append, List.nil_append, List.Forall, StableHlo.reshape_writes, Finset.mem_singleton]
      exact ⟨StableHlo.devRef_ne_of_ne h7, StableHlo.devRef_ne_of_ne h8⟩))
  rw [e]
  unfold left
  rw [Pipeline.withArrays_of_ne _ c _ _ b hw, Pipeline.withR_of_not_mem _ _ _ _ _ hR]

theorem arg0_kept (c : Dev nD) : (dats m 0 c).arrAt 0 cfg0.N = m ((c.tc : Thread nD τ).loc main_arg0) := by
  rw [(dats m 0 c).arrAt_in 0 rfl _, A_eq]
  exact V_main_arg0 m c

/-- Every run ends, with the arguments as they were, the results the kernel's rows, and every semaphore at rest. -/
theorem run (h : InRange m) : θ_run defs (onTc (τ := τ) (main (F := F))) ⟨m, fun _ => 0, ρ⟩ (fun r => (∀ c : Dev nD,
      (r.2.mem ((c.tc : Thread nD τ).loc main_v7) = shapeCast S1x1024x3072 (inp m c).outV shapeCasts_S1024x3072_S1x1024x3072
        ∧ r.2.mem ((c.tc : Thread nD τ).loc main_v8) = shapeCast S1x1024x3072 (inp m c).embV shapeCasts_S1024x3072_S1x1024x3072)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => by
      obtain ⟨hA, hB⟩ := hr.1 c
      refine ⟨⟨?_, ?_⟩, ?_, ?_, ?_, ?_, ?_⟩
      · rw [hB main_v7 (by decide), after_out, left_out]
      · rw [hB main_v8 (by decide), after_emb, left_emb]
      · exact (hA 0).trans (arg0_kept m c)
      · rw [hB main_arg1 (by decide), kept m c main_arg1 (by decide) (by decide) (by decide) (by decide), V_main_arg1]
      · rw [hB main_arg2 (by decide), kept m c main_arg2 (by decide) (by decide) (by decide) (by decide), V_main_arg2]
      · rw [hB main_arg3 (by decide), kept m c main_arg3 (by decide) (by decide) (by decide) (by decide), V_main_arg3]
      · rw [hB main_arg4 (by decide), kept m c main_arg4 (by decide) (by decide) (by decide) (by decide), V_main_arg4], hr.2⟩)
    (run_main m ρ (ok_of_inRange m h))

end Cert.KernelIdeal.Emb
end
-- ==== Proof.Select.lean ====
/- The kernel's steps read at an element, over the extended reals: the one-hot product and the lane selection are a
   look-up of the token's own entry, and the shifts of a packed word are the token's own code. -/
module

public import proofs.«01_k».proof.Proof.IdealValues
public import Idealize.ShloMosaic.Lib.Pointwise
public import Idealize.ShloMosaic.Lib.BitcastConvert

@[expose] public section

noncomputable section

namespace Cert.KernelIdeal.Emb

open Idealize.ShloMosaic Idealize.SL.Sem Cert.KernelIdeal.Gen Cert.Emb

/-- An index given by numbers in range is the index of those coordinates. -/
theorem mk2_eq {n m : ℕ} [NeZero n] [NeZero m] {a b : ℕ} (ha : a < n) (hb : b < m) :
    (mk2 n m a b : (⟨2, ![n, m]⟩ : Shape).Idx) = ix2 ⟨a, ha⟩ ⟨b, hb⟩ :=
  (eq_mk2 (n := n) (m := m) (ix2 ⟨a, ha⟩ ⟨b, hb⟩) rfl rfl).symm

/-- Whether a lane's number is a word that is itself a lane's number. -/
theorem cmpi_lane {n : ℕ} (hn : n ≤ 4096) (x : Fin n) {w : BitVec 32} {k : ℕ} (hk : k < n) (hw : w.toNat = k) :
    IntOp.cmpi .eq (BitVec.ofNat 32 x.val) w = if x = ⟨k, hk⟩ then 1#1 else 0#1 := by
  have hx := x.isLt
  have h : (BitVec.ofNat 32 x.val = w) ↔ x = ⟨k, hk⟩ := by
    rw [← BitVec.toNat_inj, BitVec.toNat_ofNat, hw, Nat.mod_eq_of_lt (by omega), Fin.ext_iff]
  unfold IntOp.cmpi
  by_cases e : x = ⟨k, hk⟩
  · rw [if_pos e]; simp [h.2 e]
  · rw [if_neg e, show (BitVec.ofNat 32 x.val == w) = false from beq_eq_false_iff_ne.2 fun g => e (h.1 g)]; rfl

/-- The sum over lanes of a value kept only at one lane is that lane's value. -/
theorem sum_select {n : ℕ} (hn : n ≤ 4096) (f : Fin n → EReal) {w : BitVec 32} {k : ℕ} (hk : k < n) (hw : w.toNat = k) :
    ∑ x : Fin n, Scalar.select (IntOp.cmpi .eq (BitVec.ofNat 32 x.val) w) (f x) 0 = f ⟨k, hk⟩ := by
  rw [Finset.sum_eq_single (⟨k, hk⟩ : Fin n)]
  · rw [cmpi_lane hn _ hk hw, if_pos rfl]; rfl
  · intro x _ hx
    rw [cmpi_lane hn _ hk hw, if_neg hx]; rfl
  · intro h; exact absurd (Finset.mem_univ _) h

/-- A one-hot row times a column is the column's entry there. -/
theorem sum_oneHot {n : ℕ} (hn : n ≤ 4096) (f : Fin n → EReal) {w : BitVec 32} {k : ℕ} (hk : k < n) (hw : w.toNat = k) :
    ∑ x : Fin n, (FloatOps.sitofp (F := Ideal) .f32 (BitVec.setWidth 32 (IntOp.cmpi .eq (BitVec.ofNat 32 x.val) w)) : EReal) * f x
      = f ⟨k, hk⟩ := by
  rw [Finset.sum_eq_single (⟨k, hk⟩ : Fin n)]
  · rw [cmpi_lane hn _ hk hw, if_pos rfl]
    show (((BitVec.setWidth 32 1#1).toInt : ℝ) : EReal) * _ = _
    rw [show (BitVec.setWidth 32 1#1).toInt = 1 by decide]; simp
  · intro x _ hx
    rw [cmpi_lane hn _ hk hw, if_neg hx]
    show (((BitVec.setWidth 32 0#1).toInt : ℝ) : EReal) * _ = _
    rw [show (BitVec.setWidth 32 0#1).toInt = 0 by decide]; simp
  · intro h; exact absurd (Finset.mem_univ _) h

/-- A chunk's ids, one per row. -/
theorem idRows_at (ids : Vec Ideal S1x128 .i32) (r l : Fin 128) : idRows (F := Ideal) ids (ix2 r l) = ids (ix2 0 r) := by
  pointwise [idRows]

/-- The parameter row of each id. -/
theorem selRows_at (p : FVec Ideal S63x256 .bf16) (ids : Vec Ideal S1x128 .i32) (r : Fin 128) (c : Fin 256) {k : ℕ}
    (hk : k < 8064) (h : (ids (ix2 0 r) : BitVec 32).toNat = k) :
    selRows p (idRows (F := Ideal) ids) (ix2 r c) = p (ix2 ⟨k / 128, by omega⟩ c) := by
  pointwise [selRows]
  simp only [idRows_at]
  refine sum_oneHot (by decide) (fun x => p (ix2 x c)) (by omega) ?_
  show (IntOp.shrui .vector (ids (ix2 0 r)) 7#32).toNat = _
  simp only [IntOp.shrui]
  rw [if_pos (by decide)]
  simp [Nat.shiftRight_eq_div_pow, h]

/-- The lane of each id. -/
theorem selLane_at (ids : Vec Ideal S1x128 .i32) (rows : FVec Ideal S128x128 .f32) (r l : Fin 128) {k : ℕ}
    (h : (ids (ix2 0 r) : BitVec 32).toNat = k) :
    selLane (idRows (F := Ideal) ids) rows (ix2 r l) = rows (ix2 r ⟨k % 128, by omega⟩) := by
  pointwise [selLane, hit]
  simp only [idRows_at]
  refine sum_select (by decide) (fun x => rows (ix2 r x)) (by omega) ?_
  show ((ids (ix2 0 r) : BitVec 32) &&& 127#32).toNat = _
  rw [BitVec.toNat_and, h]
  exact Nat.and_two_pow_sub_one_eq_mod k 7

/-- The parameter rows: scales, then zero points. -/
theorem params_scale (s : Vec Ideal S63x128 .f32) (z : Vec Ideal S63x128 .bf16) (r : Fin 63) (l : Fin 128) :
    params s z (ix2 r ⟨l.val, by omega⟩) = s (ix2 r l) := by
  have := l.isLt
  pointwise [params]
@[inherit_doc params_scale] theorem params_zero (s : Vec Ideal S63x128 .f32) (z : Vec Ideal S63x128 .bf16) (r : Fin 63) (l : Fin 128) :
    params s z (ix2 r ⟨128 + l.val, by omega⟩) = z (ix2 r l) := by
  pointwise [params]

/-- The chunk's scales are the ids' own. -/
theorem scaleOf_at (s : Vec Ideal S63x128 .f32) (z : Vec Ideal S63x128 .bf16) (ids : Vec Ideal S1x128 .i32) (r l : Fin 128) {k : ℕ}
    (hk : k < 8064) (h : (ids (ix2 0 r) : BitVec 32).toNat = k) :
    scaleOf (params s z) ids (ix2 r l) = s (ix2 ⟨k / 128, by omega⟩ ⟨k % 128, by omega⟩) := by
  unfold scaleOf
  rw [selLane_at ids _ r l h]
  have e : extractStridedSlice S128x128 ![0, 0] (selRows (params s z) (idRows (F := Ideal) ids)) slices_S128x256_o0_0_S128x128
      (ix2 r ⟨k % 128, by omega⟩) = selRows (params s z) (idRows (F := Ideal) ids) (ix2 r ⟨k % 128, by omega⟩) := by
    pointwise
  rw [e, selRows_at _ _ _ _ hk h]
  exact params_scale s z _ ⟨k % 128, by omega⟩
/-- The chunk's zero points are the ids' own. -/
theorem zeroOf_at (s : Vec Ideal S63x128 .f32) (z : Vec Ideal S63x128 .bf16) (ids : Vec Ideal S1x128 .i32) (r l : Fin 128) {k : ℕ}
    (hk : k < 8064) (h : (ids (ix2 0 r) : BitVec 32).toNat = k) :
    zeroOf (params s z) ids (ix2 r l) = z (ix2 ⟨k / 128, by omega⟩ ⟨k % 128, by omega⟩) := by
  unfold zeroOf
  rw [selLane_at ids _ r l h]
  have e : extractStridedSlice S128x128 ![0, 128] (selRows (params s z) (idRows (F := Ideal) ids)) slices_S128x256_o0_128_S128x128
      (ix2 r ⟨k % 128, by omega⟩) = selRows (params s z) (idRows (F := Ideal) ids) (ix2 r ⟨128 + k % 128, by omega⟩) := by
    pointwise
  rw [e, selRows_at _ _ _ _ hk h]
  exact params_zero s z _ ⟨k % 128, by omega⟩

/-- The shift amount brings byte `k % 4` to the top. -/
theorem shiftOf_at (ids : Vec Ideal S1x128 .i32) (r l : Fin 128) {k : ℕ} (h : (ids (ix2 0 r) : BitVec 32).toNat = k) :
    (shiftOf (F := Ideal) ids (ix2 r l)).toNat = 24 - 8 * (k % 4) := by
  have e : shiftOf (F := Ideal) ids (ix2 r l) = 24#32 - 8#32 * ((ids (ix2 0 r) : BitVec 32) &&& 3#32) := by
    pointwise [shiftOf]
    rw [idRows_at]; rfl
  have e3 : ((ids (ix2 0 r) : BitVec 32) &&& 3#32).toNat = k % 4 := by
    rw [BitVec.toNat_and, h]; exact Nat.and_two_pow_sub_one_eq_mod k 2
  have hk := Nat.mod_lt k (show 0 < 4 by decide)
  rw [e, BitVec.toNat_sub, BitVec.toNat_mul, e3]
  simp
  omega

/-- A byte brought to the top of its word and back down with its sign. -/
theorem shift_byte (w s : BitVec 32) (b : BitVec 8) (r : ℕ) (hr : r < 4) (hs : s.toNat = 24 - 8 * r)
    (h : ∀ q, q < 8 → w.getLsbD (8 * r + q) = b.getLsbD q) :
    IntOp.shrsi .vector (IntOp.shli .vector w s) 24#32 = b.signExtend 32 := by
  have hb : b.msb = b.getLsbD 7 := BitVec.msb_eq_getLsbD_last b
  unfold IntOp.shrsi IntOp.shli
  rw [if_pos (by decide), if_pos (by omega)]
  apply BitVec.eq_of_getLsbD_eq
  intro i hi
  have hm : (w <<< s).msb = b.getLsbD 7 := by
    rw [BitVec.msb_eq_getLsbD_last, BitVec.shiftLeft_eq', BitVec.getLsbD_shiftLeft, hs, ← h 7 (by omega)]
    simp only [show ¬ (32 - 1 < 24 - 8 * r) by omega, show (32 - 1 - (24 - 8 * r)) = 8 * r + 7 by omega]
    simp
  rw [BitVec.sshiftRight_eq', BitVec.getLsbD_sshiftRight, BitVec.getLsbD_signExtend, hm, hb,
    show (24#32 : BitVec 32).toNat = 24 from rfl, BitVec.shiftLeft_eq', BitVec.getLsbD_shiftLeft, hs]
  by_cases h8 : i < 8
  · rw [if_pos h8, if_pos (by omega), ← h i h8, show 24 + i - (24 - 8 * r) = 8 * r + i by omega]
    simp [hi, show 24 + i < 32 by omega, show ¬ (24 + i < 24 - 8 * r) by omega]
    try omega
  · rw [if_neg h8, if_neg (by omega)]
    simp [hi]
    try omega

/-- The table's words, four rows of codes to a row. -/
abbrev packed (codes : S8064x3072.Idx → BitVec 8) : S2016x3072.Idx → BitVec 32 :=
  Host.bitcastConvertWiden S2016x3072 32
    (transpose S2016x3072x4 [0, 2, 1] (shapeCast S2016x4x3072 codes shapeCasts_S8064x3072_S2016x4x3072)
      transposes_S2016x4x3072_S2016x3072x4_0_2_1) splits_S2016x3072_w32_S2016x3072x4_w8

/-- Byte `k % 4` of the words of row `k / 4` is row `k`'s code. -/
theorem packed_bit (codes : S8064x3072.Idx → BitVec 8) {k : ℕ} (hk : k < 8064) (j : Fin 3072) (q : ℕ) (hq : q < 8) :
    (packed codes (ix2 ⟨k / 4, by omega⟩ j)).getLsbD (8 * (k % 4) + q) = (codes (ix2 ⟨k, hk⟩ j)).getLsbD q := by
  rw [Host.bitcastConvertWiden_getLsbD _ _ _ _ _ _ (by omega)]
  have e : (splits_S2016x3072_w32_S2016x3072x4_w8).snoc (ix2 (⟨k / 4, by omega⟩ : Fin 2016) j)
      ⟨(8 * (k % 4) + q) / 8, (splits_S2016x3072_w32_S2016x3072x4_w8).div_lt (by omega)⟩
        = ix3 (⟨k / 4, by omega⟩ : Fin 2016) j (⟨k % 4, by omega⟩ : Fin 4) := by
    funext a
    apply Fin.ext
    match a with
    | ⟨0, h⟩ => exact Shape.SplitsWords.snoc_apply_val_of_lt _ _ _ ⟨0, h⟩ (show 0 < 2 by decide)
    | ⟨1, h⟩ => exact Shape.SplitsWords.snoc_apply_val_of_lt _ _ _ ⟨1, h⟩ (show 1 < 2 by decide)
    | ⟨2, h⟩ =>
      refine (congrArg Fin.val (Shape.SplitsWords.snoc_axis splits_S2016x3072_w32_S2016x3072x4_w8 _ _)).trans ?_
      show (8 * (k % 4) + q) / 8 = k % 4
      omega
  rw [e, show (8 * (k % 4) + q) % 8 = q by omega]
  congr 1
  pointwise
  congr 1
  apply congrArg (fun r => ix2 r j)
  apply Fin.ext
  show _ = k
  simp only []
  omega

end Cert.KernelIdeal.Emb
-- ==== Proof.Equation.lean ====
/- The kernel's two results at an element, over the extended reals: a row of codes dequantised, and that row divided by
   the root of its mean square and weighted. -/
module

public import proofs.«01_k».proof.Proof.Select

@[expose] public section

noncomputable section

namespace Cert.Emb

open Idealize.ShloMosaic

/-- Element `j` of table row `k`, dequantised: the code less the row's zero point, times the row's scale. -/
def deq (codes : (⟨2, ![8064, 3072]⟩ : Shape).Idx → BitVec 8) (scale zero : (⟨1, ![8064]⟩ : Shape).Idx → EReal)
    (k : Fin 8064) (j : Fin 3072) : EReal :=
  (((codes (ix2 k j)).toInt : ℝ) - zero (ix1 k)) * scale (ix1 k)

/-- Element `j` of a row, divided by the root of the row's mean square plus ε, times the weight. -/
def normed (row : Fin 3072 → EReal) (weight : (⟨1, ![3072]⟩ : Shape).Idx → EReal) (j : Fin 3072) : EReal :=
  row j * Ideal.rsqrt (Ideal.div (∑ x, row x * row x) ((3072 : ℝ) : EReal) + Ideal.ofBits .f32 0x358637BD#32) * weight (ix1 j)

end Cert.Emb

namespace Cert.KernelIdeal.Emb

open Idealize.ShloMosaic Idealize.SL.Sem Cert.KernelIdeal.Gen Cert.Emb

section
variable {A : Args Ideal} {codes : S8064x3072.Idx → BitVec 8} {scale : S8064.Idx → EReal} {zero : S8064.Idx → EReal}
  {weight : S3072.Idx → EReal}

/-- A chunk's own ids. -/
theorem idChunk_at (A : Args Ideal) (t : Fin 1024) :
    A.idChunk (t.val / 128) (ix2 0 (⟨t.val % 128, by omega⟩ : Fin 128)) = A.ids (ix2 0 t) := by
  have ht := t.isLt
  show A.ids (mk2 1 1024 0 (128 * (t.val / 128) + t.val % 128)) = _
  rw [Nat.div_add_mod, mk2_eq (by decide) ht]; rfl

/-- Token `t`'s scale is its row's. -/
theorem scaleV_at (hS : A.scale = shapeCast S63x128 scale shapeCasts_S8064_S63x128) (t : Fin 1024) (l : Fin 128) {k : ℕ} (hk : k < 8064)
    (h : (A.ids (ix2 0 t) : BitVec 32).toNat = k) : A.scaleV (ix2 t l) = scale (ix1 ⟨k, hk⟩) := by
  show shapeCast S128x128 (scaleOf A.params (A.idChunk (t.val / 128))) shapeCasts_S128x128_S128x128
    (mk2 128 128 (t.val % 128) l.val) = _
  rw [mk2_eq (by omega) l.isLt]
  pointwise
  unfold Args.params
  rw [scaleOf_at A.scale A.zero _ _ _ hk (by rw [idChunk_at]; exact h), hS]
  pointwise
  congr 2
  apply Fin.ext
  show _ = k
  simp only []
  omega

/-- Token `t`'s zero point is its row's. -/
theorem zeroV_at (hZ : A.zero = shapeCast S63x128 zero shapeCasts_S8064_S63x128) (t : Fin 1024) (l : Fin 128) {k : ℕ} (hk : k < 8064)
    (h : (A.ids (ix2 0 t) : BitVec 32).toNat = k) : A.zeroV (ix2 t l) = zero (ix1 ⟨k, hk⟩) := by
  show shapeCast S128x128 (zeroOf A.params (A.idChunk (t.val / 128))) shapeCasts_S128x128_S128x128
    (mk2 128 128 (t.val % 128) l.val) = _
  rw [mk2_eq (by omega) l.isLt]
  pointwise
  unfold Args.params
  rw [zeroOf_at A.scale A.zero _ _ _ hk (by rw [idChunk_at]; exact h), hZ]
  pointwise
  congr 2
  apply Fin.ext
  show _ = k
  simp only []
  omega

/-- Token `t`'s shift brings its own byte to the top. -/
theorem shiftV_at (t : Fin 1024) (l : Fin 128) {k : ℕ} (h : (A.ids (ix2 0 t) : BitVec 32).toNat = k) :
    (A.shiftV (ix2 t l) : BitVec 32).toNat = 24 - 8 * (k % 4) := by
  show (shapeCast S128x128 (shiftOf (F := Ideal) (A.idChunk (t.val / 128))) shapeCasts_S128x128_S128x128
    (mk2 128 128 (t.val % 128) l.val)).toNat = _
  rw [mk2_eq (by omega) l.isLt]
  pointwise
  exact shiftOf_at _ _ _ (by rw [idChunk_at]; exact h)

/-- Token `t`'s words are those of its row's four. -/
theorem words_at (t : Fin 1024) (j : Fin 3072) {k : ℕ} (hk : k < 8064) (h : (A.ids (ix2 0 t) : BitVec 32).toNat = k) :
    A.words (ix2 t j) = A.table (ix2 ⟨k / 4, by omega⟩ j) := by
  have e : A.row t.val = k / 4 := by
    unfold Args.row
    rw [mk2_eq (by decide) t.isLt]
    show (IntOp.shrui .scalar (A.ids (ix2 0 t)) 2#32).toNat = _
    simp only [IntOp.shrui]
    rw [if_pos (by decide)]
    simp [Nat.shiftRight_eq_div_pow, h]
  show A.table (mk2 2016 3072 (A.row t.val) j.val) = _
  rw [e, mk2_eq (by omega) j.isLt]

theorem tileIx_eq (t : Fin 1024) (j : Fin 3072) :
    tileIx (t.val / 32) (j.val / 128) (ix2 (⟨t.val % 32, by omega⟩ : Fin 32) (⟨j.val % 128, by omega⟩ : Fin 128)) = ix2 t j := by
  show mk2 1024 3072 (32 * (t.val / 32) + t.val % 32) (128 * (j.val / 128) + j.val % 128) = _
  rw [Nat.div_add_mod, Nat.div_add_mod, mk2_eq t.isLt j.isLt]

theorem prmIx_eq (t : Fin 1024) (l : Fin 128) :
    prmIx (t.val / 32) (ix2 (⟨t.val % 32, by omega⟩ : Fin 32) l) = ix2 t l := by
  show mk2 1024 128 (32 * (t.val / 32) + t.val % 32) l.val = _
  rw [Nat.div_add_mod, mk2_eq t.isLt l.isLt]

/-- The arrays of `A` are the packed codes and the parameters `scale`, `zero`, 128 to a row. -/
structure Holds (A : Args Ideal) (codes : S8064x3072.Idx → BitVec 8) (scale zero : S8064.Idx → EReal) : Prop where
  table : A.table = packed codes
  scale : A.scale = shapeCast S63x128 scale shapeCasts_S8064_S63x128
  zero : A.zero = shapeCast S63x128 zero shapeCasts_S8064_S63x128

/-- A tile's element is its row's code dequantised. -/
theorem emb_at (H : Holds A codes scale zero) (t : Fin 1024) (j : Fin 3072) {k : ℕ} (hk : k < 8064)
    (h : (A.ids (ix2 0 t) : BitVec 32).toNat = k) :
    A.emb (t.val / 32) (j.val / 128) (ix2 (⟨t.val % 32, by omega⟩ : Fin 32) (⟨j.val % 128, by omega⟩ : Fin 128))
      = deq codes scale zero ⟨k, hk⟩ j := by
  unfold Args.emb
  pointwise [embTile]
  rw [tileIx_eq, prmIx_eq, scaleV_at H.scale _ _ hk h, zeroV_at H.zero _ _ hk h, words_at _ _ hk h, H.table,
    shift_byte _ _ (codes (ix2 ⟨k, hk⟩ j)) (k % 4) (by omega) (shiftV_at _ _ h) (packed_bit codes hk j)]
  show ((((codes (ix2 ⟨k, hk⟩ j)).signExtend 32).toInt : ℝ) - zero (ix1 ⟨k, hk⟩) : EReal) * scale (ix1 ⟨k, hk⟩) = _
  rw [BitVec.toInt_signExtend_of_le (by decide)]
  rfl

/-- The dequantised rows. -/
theorem embV_at (H : Holds A codes scale zero) (t : Fin 1024) (j : Fin 3072) {k : ℕ} (hk : k < 8064)
    (h : (A.ids (ix2 0 t) : BitVec 32).toNat = k) : A.embV (ix2 t j) = deq codes scale zero ⟨k, hk⟩ j := by
  show shapeCast S32x128 (A.emb (t.val / 32) (j.val / 128)) shapeCasts_S32x128_S32x128 (mk2 32 128 (t.val % 32) (j.val % 128)) = _
  rw [mk2_eq (by omega) (by omega)]
  pointwise
  exact emb_at H t j hk h

/-- The running sums of squares are sums over tiles. -/
theorem sq_at (A : Args Ideal) (g : ℕ) (y : S32x128.Idx) (n : ℕ) :
    A.sq g n y = ∑ i ∈ Finset.range n, (A.emb g i y * A.emb g i y : EReal) := by
  induction n with
  | zero => show Ideal.ofBits .f32 0x00000000#32 = _; simp
  | succ n ih => rw [Finset.sum_range_succ, ← ih]; rfl

/-- A row's sums of squares over tiles and lanes are the sum over the row. -/
theorem sqS_at (H : Holds A codes scale zero) (t : Fin 1024) {k : ℕ} (hk : k < 8064)
    (h : (A.ids (ix2 0 t) : BitVec 32).toNat = k) :
    ∑ l : Fin 128, A.sqS (t.val / 32) (ix3 0 (⟨t.val % 32, by omega⟩ : Fin 32) l)
      = ∑ j : Fin 3072, (deq codes scale zero ⟨k, hk⟩ j * deq codes scale zero ⟨k, hk⟩ j : EReal) := by
  rw [Fin.sum_univ_tiles 24 128 rfl, Finset.sum_comm]
  refine Finset.sum_congr rfl fun l _ => ?_
  have hl := l.isLt
  unfold Args.sqS
  pointwise
  rw [sq_at, Finset.sum_range]
  refine Finset.sum_congr rfl fun i _ => ?_
  have hi := i.isLt
  have e := emb_at H t (⟨i.val * 128 + l.val, by omega⟩ : Fin 3072) hk h
  simp only [show (i.val * 128 + l.val) / 128 = i.val by omega, show (i.val * 128 + l.val) % 128 = l.val by omega] at e
  rw [e]

/-- The mean by the named reciprocal is the mean by division. -/
theorem mean_named (x : EReal) :
    x * (Named.named (F := Ideal) κ "inv_d" (φ := .f32) 0x39AAAAAB#32 : EReal) = Ideal.div x ((3072 : ℝ) : EReal) := by
  rw [Ideal.div_coe (by norm_num)]
  exact congrArg (x * ·) (IdealRules.named_const.ideal_named_scalar _ _ _ _ rfl)

/-- The normalised rows. -/
theorem outV_at (H : Holds A codes scale zero) (hW : A.weight = shapeCast S1x3072 weight shapeCasts_S3072_S1x3072)
    (t : Fin 1024) (j : Fin 3072) {k : ℕ} (hk : k < 8064) (h : (A.ids (ix2 0 t) : BitVec 32).toNat = k) :
    A.outV (ix2 t j) = normed (deq codes scale zero ⟨k, hk⟩) weight j := by
  have hw : A.weight (mk2 1 3072 0 (128 * (j.val / 128) + j.val % 128)) = weight (ix1 j) := by
    rw [Nat.div_add_mod, mk2_eq (by decide) j.isLt, hW]
    pointwise
  show shapeCast S32x128 (A.out (t.val / 32) (j.val / 128)) shapeCasts_S32x128_S32x128 (mk2 32 128 (t.val % 32) (j.val % 128)) = _
  rw [mk2_eq (by omega) (by omega)]
  unfold Args.out
  pointwise [outTile, factor, k0_pay67]
  rw [tileIx_eq, embV_at H t j hk h, mean_named]
  simp only [sqS_at H t hk h, hw]
  rfl

end

end Cert.KernelIdeal.Emb
-- ==== Proof.RefAt.lean ====
/- The reference's two results at an element: the gathers of an id in range are the table's row of that id. -/
module

public import proofs.«01_k».proof.Proof.Gen.ReferenceIdeal.Run
public import proofs.«01_k».proof.Proof.Equation
public import Idealize.ShloMosaic.Lib.ValueIdxCore

@[expose] public section

noncomputable section

namespace Cert.ReferenceIdeal.Value

open Idealize.ShloMosaic Idealize.SL.Sem Cert.ReferenceIdeal Cert.ReferenceIdeal.Gen Cert.Emb

/-- The ids as start indices, the negative ones wrapped. -/
abbrev starts (ids : S1x1024.Idx → BitVec 32) : IVec S1x1024x1 32 :=
  broadcastInDim S1x1024x1 ![0, 1] bcast_S1x1024_S1x1024x1_0_1
    (select (cmpi .slt ids (broadcastInDim S1x1024 ![] bcast_S_S1x1024 (constantI S_ 32 0#32)))
      (addi ids (broadcastInDim S1x1024 ![] bcast_S_S1x1024 (constantI S_ 32 8064#32))) ids)

/-- An id in range is its own start index. -/
theorem starts_at (ids : S1x1024.Idx → BitVec 32) (t : Fin 1024) {k : ℕ} (hk : k < 8064) (h : (ids (ix2 0 t)).toNat = k) :
    (starts ids (ix3 0 t 0)).toInt.toNat = k := by
  have hn : (ids (ix2 0 t)).toInt = k := by
    rw [BitVec.toInt_eq_toNat_of_lt (by omega), h]
  pointwise
  have e : IntOp.cmpi .slt (ids (ix2 0 t)) 0#32 = 0#1 := by
    unfold IntOp.cmpi
    rw [show (ids (ix2 0 t)).slt 0#32 = false by rw [BitVec.slt_eq_decide, hn]; simp]; rfl
  rw [e]
  show (ids (ix2 0 t)).toInt.toNat = k
  rw [hn]; rfl

/-- A gather of entries at an id in range. -/
theorem gather_at {α : Type} (x : S8064.Idx → α) (ids : S1x1024.Idx → BitVec 32) (t : Fin 1024) {k : ℕ} (hk : k < 8064)
    (h : (ids (ix2 0 t)).toNat = k) :
    Host.gather gather_S8064_S1x1024x1_S1x1024_n_0_n_n_0_2_1 x (starts ids) (ix2 0 t) = x (ix1 ⟨k, hk⟩) := by
  refine (ValueIdx.gather_take_apply (by decide) gather_S8064_S1x1024x1_S1x1024_n_0_n_n_0_2_1.wf x (starts ids) (ix2 0 t)).trans ?_
  have e : (ValueIdx.takeIdx (ix2 (0 : Fin 1) t) : S1x1024x1.Idx) = ix3 0 t 0 := by
    funext b
    match b with
    | ⟨0, _⟩ => rfl
    | ⟨1, _⟩ => rfl
    | ⟨2, _⟩ => rfl
  refine congrArg x (funext fun a => ?_)
  obtain rfl : a = 0 := Subsingleton.elim _ _
  apply Fin.ext
  show min (starts ids (ValueIdx.takeIdx (ix2 (0 : Fin 1) t))).toInt.toNat (8064 - 1) = k
  rw [e, starts_at ids t hk h]
  omega

/-- A gather of rows at an id in range. -/
theorem gather_row_at {α : Type} (x : S8064x3072.Idx → α) (ids : S1x1024.Idx → BitVec 32) (t : Fin 1024) (j : Fin 3072) {k : ℕ}
    (hk : k < 8064) (h : (ids (ix2 0 t)).toNat = k) :
    Host.gather gather_S8064x3072_S1x1024x1_S1x1024x3072_2_0_n_n_0_2_13072 x (starts ids) (ix3 0 t j) = x (ix2 ⟨k, hk⟩ j) := by
  unfold Host.gather
  refine congrArg x (funext fun a => Fin.ext ?_)
  show gather_S8064x3072_S1x1024x1_S1x1024x3072_2_0_n_n_0_2_13072.start (ix3 0 t j) (starts ids) a
    + gather_S8064x3072_S1x1024x1_S1x1024x3072_2_0_n_n_0_2_13072.batchCoord (ix3 0 t j) a
    + gather_S8064x3072_S1x1024x1_S1x1024x3072_2_0_n_n_0_2_13072.offCoord (ix3 0 t j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ gather_S8064x3072_S1x1024x1_S1x1024x3072_2_0_n_n_0_2_13072.startIndexMap from List.mem_singleton.mpr rfl)]
    have hsi : gather_S8064x3072_S1x1024x1_S1x1024x3072_2_0_n_n_0_2_13072.siIdx (ix3 0 t j)
        ⟨List.idxOf (⟨0, by decide⟩ : Fin 2) gather_S8064x3072_S1x1024x1_S1x1024x3072_2_0_n_n_0_2_13072.startIndexMap,
        List.idxOf_lt_length_iff.2 (List.mem_singleton.mpr rfl)⟩ = ix3 0 t 0 := by
      funext b; refine Fin.ext ?_
      match b with
      | ⟨0, _⟩ => rfl
      | ⟨1, _⟩ => rfl
      | ⟨2, _⟩ => rfl
    rw [hsi]
    show min (starts ids (ix3 0 t 0)).toInt.toNat (8064 - 1) = k
    rw [starts_at ids t hk h]
    omega
  | ⟨1, _⟩ =>
    unfold GatherDims.start
    rw [dif_neg (show ¬ (⟨1, by decide⟩ : Fin 2) ∈ gather_S8064x3072_S1x1024x1_S1x1024x3072_2_0_n_n_0_2_13072.startIndexMap from by decide)]
    simp only [Nat.zero_add]
    rfl

/-- The reference's dequantised rows, as its program composes them. -/
abbrev embTerm (ids : S1x1024.Idx → BitVec 32) (codes : S8064x3072.Idx → BitVec 8) (scale : FVec Ideal S8064 .f32) (zero : FVec Ideal S8064 .bf16) :
    FVec Ideal S1x1024x3072 .bf16 :=
  mulf (subf (sitofp .bf16 (extsi 32 (Host.gather gather_S8064x3072_S1x1024x1_S1x1024x3072_2_0_n_n_0_2_13072 codes (starts ids)) natLt_8_32))
      (broadcastInDim S1x1024x3072 ![0, 1, 2] bcast_S1x1024x1_S1x1024x3072_0_1_2 (broadcastInDim S1x1024x1 ![0, 1] bcast_S1x1024_S1x1024x1_0_1
        (Host.gather gather_S8064_S1x1024x1_S1x1024_n_0_n_n_0_2_1 zero (starts ids)))))
    (broadcastInDim S1x1024x3072 ![0, 1, 2] bcast_S1x1024x1_S1x1024x3072_0_1_2 (broadcastInDim S1x1024x1 ![0, 1] bcast_S1x1024_S1x1024x1_0_1
      (truncf .bf16 (Host.gather gather_S8064_S1x1024x1_S1x1024_n_0_n_n_0_2_1 scale (starts ids)) bitsLt_bf16_f32)))

/-- The reference's dequantised rows. -/
theorem emb_at (ids : S1x1024.Idx → BitVec 32) (codes : S8064x3072.Idx → BitVec 8) (scale : FVec Ideal S8064 .f32) (zero : FVec Ideal S8064 .bf16)
    (t : Fin 1024) (j : Fin 3072) {k : ℕ} (hk : k < 8064) (h : (ids (ix2 0 t)).toNat = k) :
    embTerm ids codes scale zero (ix3 0 t j) = deq codes scale zero ⟨k, hk⟩ j := by
  unfold embTerm
  pointwise
  rw [gather_at zero ids t hk h, gather_at scale ids t hk h, gather_row_at codes ids t j hk h]
  show ((((codes (ix2 ⟨k, hk⟩ j)).signExtend 32).toInt : ℝ) - zero (ix1 ⟨k, hk⟩) : EReal) * scale (ix1 ⟨k, hk⟩) = _
  rw [BitVec.toInt_signExtend_of_le (by decide)]
  rfl

/-- 3072.0 read exactly. -/
theorem ofBits_3072 : Ideal.ofBits .f32 0x45400000#32 = ((3072 : ℝ) : EReal) := by
  simp [Ideal.ofBits, Ideal.ieee]
  rw [← EReal.coe_mul]
  norm_num

/-- The reference's normalised rows. -/
theorem out_at (m : (ℓ : Loc nD τ sig) → Buf (Elt Ideal) ℓ) (c : Dev nD) (t : Fin 1024) (j : Fin 3072) {k : ℕ} (hk : k < 8064)
    (h : ((m ((c.tc : Thread nD τ).loc main_arg0) : S1x1024.Idx → BitVec 32) (ix2 0 t)).toNat = k) :
    (res_main_v45 m c : S1x1024x3072.Idx → EReal) (ix3 0 t j)
      = normed (deq (m ((c.tc : Thread nD τ).loc main_arg1)) (m ((c.tc : Thread nD τ).loc main_arg2)) (m ((c.tc : Thread nD τ).loc main_arg3)) ⟨k, hk⟩)
          (m ((c.tc : Thread nD τ).loc main_arg4)) j := by
  have e := fun x => emb_at (m ((c.tc : Thread nD τ).loc main_arg0)) (m ((c.tc : Thread nD τ).loc main_arg1)) (m ((c.tc : Thread nD τ).loc main_arg2))
    (m ((c.tc : Thread nD τ).loc main_arg3)) t x hk h
  have u : res_main_v45 m c = truncf .bf16 (mulf (mulf (extf .f32 (embTerm (m ((c.tc : Thread nD τ).loc main_arg0)) (m ((c.tc : Thread nD τ).loc main_arg1)) (m ((c.tc : Thread nD τ).loc main_arg2)) (m ((c.tc : Thread nD τ).loc main_arg3))) bitsLt_bf16_f32)
      (broadcastInDim S1x1024x3072 ![0, 1, 2] bcast_S1x1024x1_S1x1024x3072_0_1_2 (Host.rsqrt (addf (Host.divf
        (broadcastInDim S1x1024x1 ![0, 1] bcast_S1x1024_S1x1024x1_0_1 (Host.reduceAdd
          (mulf (extf .f32 (embTerm (m ((c.tc : Thread nD τ).loc main_arg0)) (m ((c.tc : Thread nD τ).loc main_arg1)) (m ((c.tc : Thread nD τ).loc main_arg2)) (m ((c.tc : Thread nD τ).loc main_arg3))) bitsLt_bf16_f32) (extf .f32 (embTerm (m ((c.tc : Thread nD τ).loc main_arg0)) (m ((c.tc : Thread nD τ).loc main_arg1)) (m ((c.tc : Thread nD τ).loc main_arg2)) (m ((c.tc : Thread nD τ).loc main_arg3))) bitsLt_bf16_f32))
          (constant S_ .f32 0x00000000#32) reducesTo_S1x1024x3072_S1x1024_d2 h_S_))
        (broadcastInDim S1x1024x1 ![] bcast_S_S1x1024x1 (constant S_ .f32 0x45400000#32)))
        (broadcastInDim S1x1024x1 ![] bcast_S_S1x1024x1 (constant S_ .f32 0x358637BD#32))))))
      (broadcastInDim S1x1024x3072 ![0, 1, 2] bcast_S1x1x3072_S1x1024x3072_0_1_2 (broadcastInDim S1x1x3072 ![2] bcast_S3072_S1x1x3072_2
        (extf .f32 (m ((c.tc : Thread nD τ).loc main_arg4)) bitsLt_bf16_f32)))) bitsLt_bf16_f32 := rfl
  rw [u]
  generalize embTerm (m ((c.tc : Thread nD τ).loc main_arg0)) (m ((c.tc : Thread nD τ).loc main_arg1)) (m ((c.tc : Thread nD τ).loc main_arg2))
    (m ((c.tc : Thread nD τ).loc main_arg3)) = E at e ⊢
  pointwise
  simp only [e, ofBits_3072]
  rfl

end Cert.ReferenceIdeal.Value
-- ==== Proof.Agree.lean ====
/- Both programs' results are the same function of their arguments. -/
module

public import proofs.«01_k».proof.Proof.IdealRun
public import proofs.«01_k».proof.Proof.RefAt

@[expose] public section

noncomputable section

namespace Cert.Proof

open Idealize.ShloMosaic Idealize.SL.Sem Cert.KernelIdeal.Emb Cert.Emb

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's arrays are its arguments, packed. -/
theorem holds : Holds (inp m c) (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) :=
  ⟨inp_table m c, inp_scale m c, inp_zero m c⟩

/-- The arguments of the two programs are the same. -/
structure Same : Prop where
  ids : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)
  codes : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)
  scale : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2)
  zero : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3)
  weight : m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4)

/-- The dequantised rows of the two programs are equal. -/
theorem emb_eq (h : InRange m) (hs : Same m m' c) :
    Cert.ReferenceIdeal.Value.embTerm (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      = shapeCast Cert.KernelIdeal.S1x1024x3072 (inp m c).embV Cert.KernelIdeal.Gen.facts.shapeCasts_S1024x3072_S1x1024x3072 := by
  rw [hs.ids, hs.codes, hs.scale, hs.zero]
  funext x
  obtain ⟨b, t, j, hx⟩ : ∃ (b : Fin 1) (t : Fin 1024) (j : Fin 3072), x = ix3 b t j := ⟨x 0, x 1, x 2, eq_ix3 x⟩
  subst hx
  obtain rfl : b = 0 := Subsingleton.elim _ _
  refine (Cert.ReferenceIdeal.Value.emb_at _ _ _ _ t j (h c (ix2 0 t)) rfl).trans ?_
  have e := embV_at (holds m c) t j (h c (ix2 0 t)) (by rw [inp_ids])
  refine e.symm.trans ?_
  pointwise

/-- The normalised rows of the two programs are equal. -/
theorem out_eq (h : InRange m) (hs : Same m m' c) :
    Cert.ReferenceIdeal.Value.res_main_v45 m' c
      = shapeCast Cert.KernelIdeal.S1x1024x3072 (inp m c).outV Cert.KernelIdeal.Gen.facts.shapeCasts_S1024x3072_S1x1024x3072 := by
  funext x
  obtain ⟨b, t, j, hx⟩ : ∃ (b : Fin 1) (t : Fin 1024) (j : Fin 3072), x = ix3 b t j := ⟨x 0, x 1, x 2, eq_ix3 x⟩
  subst hx
  obtain rfl : b = 0 := Subsingleton.elim _ _
  refine (Cert.ReferenceIdeal.Value.out_at m' c t j (h c (ix2 0 t)) (by rw [hs.ids])).trans ?_
  rw [hs.codes, hs.scale, hs.zero, hs.weight]
  have e := outV_at (holds m c) (inp_weight m c) t j (h c (ix2 0 t)) (by rw [inp_ids])
  refine e.symm.trans ?_
  pointwise

end Cert.Proof
-- ==== Proof.lean ====
/- The proof of the certificate's claim: the kernel and its idealization end with their arguments unchanged and their
   semaphores at rest, the named constant is the value it names, and the idealized kernel's two results are the
   idealized reference's. -/
module

public import proofs.«01_k».proof.Defs
public import proofs.«01_k».proof.Proof.Gen.Kernel.Skeleton
public import proofs.«01_k».proof.Proof.Gen.Kernel.Frame
public import proofs.«01_k».proof.Proof.Gen.KernelIdeal.Skeleton
public import proofs.«01_k».proof.Proof.Gen.KernelIdeal.Frame
public import proofs.«01_k».proof.Proof.Gen.ReferenceIdeal.Run
public import proofs.«01_k».proof.Proof.Run
public import proofs.«01_k».proof.Proof.IdealRun
public import proofs.«01_k».proof.Proof.Agree
public import Idealize.ShloMosaic.Lib.Quiescent

@[expose] public section

noncomputable section

namespace Cert.Proof

open Idealize.ShloMosaic Idealize.SL.Sem

/-- The precondition's side conditions. -/
theorem pre_facts : Cert.Pre_ids_name_rows.Facts where
  bcast_S_S1x1024 := by decide

/-- The kernel runs to its end, faults nowhere, and leaves its arguments and semaphores as they were. -/
theorem frame_p : Cert.quiescent_Kernel (hKernel := Cert.Kernel.Gen.facts) (hPre_ids_name_rows := pre_facts) := fun m ρ h =>
  (θ_run Cert.Kernel.defs _ _).mono (fun r hr => ⟨fun c => (hr.1 c).2, hr.2⟩)
    (Cert.Kernel.Emb.run m ρ (Cert.Kernel.Emb.inRange_of_pre (hPre := pre_facts) m h))

/-- The same of its idealization. -/
theorem frame_pi : Cert.quiescent_KernelIdeal (hKernelIdeal := Cert.KernelIdeal.Gen.facts) (hPre_ids_name_rows := pre_facts) := fun m ρ h =>
  (θ_run Cert.KernelIdeal.defs _ _).mono (fun r hr => ⟨fun c => (hr.1 c).2, hr.2⟩)
    (Cert.KernelIdeal.Emb.run m ρ (Cert.KernelIdeal.Emb.inRange_of_pre (hPre := pre_facts) m h))

/-- The reference likewise: it is operations on whole arrays, and declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The named constant is the value it names. -/
theorem preserves : Cert.preserves_Kernel_KernelIdeal :=
  IdealRules.named_const.statement Cert.KernelIdeal.κ "inv_d" .f32 0x39AAAAAB#32 ((1 / 3072 : ℝ) : EReal) rfl

/-- Over the extended reals the kernel's two results are the reference's. -/
theorem algebraic : Cert.algebraic_KernelIdeal_ReferenceIdeal (hKernelIdeal := Cert.KernelIdeal.Gen.facts)
    (hReferenceIdeal := Cert.ReferenceIdeal.Gen.facts) (hPre_ids_name_rows := pre_facts) := fun m g m' g' h hs => by
  have hr := Cert.KernelIdeal.Emb.inRange_of_pre (hPre := pre_facts) m h
  have same : ∀ c, Same m m' c := fun c => ⟨(hs c).1, (hs c).2.1, (hs c).2.2.1, (hs c).2.2.2.1, (hs c).2.2.2.2⟩
  exact ⟨_, _, (θ_run Cert.KernelIdeal.defs _ _).mono (fun r k c => ⟨(k.1 c).1.1, (k.1 c).1.2, (k.1 c).2⟩) (Cert.KernelIdeal.Emb.run m g hr),
    (θ_run Cert.ReferenceIdeal.defs _ _).mono (fun r k c => ⟨(k c).1.trans (out_eq m m' c hr (same c)),
      (k c).2.1.trans (emb_eq m m' c hr (same c)), (k c).2.2⟩) (Cert.ReferenceIdeal.Value.run (F := Ideal) m' g')⟩

theorem claim : Cert.Claim :=
  ⟨Cert.Kernel.Gen.facts, Cert.KernelIdeal.Gen.facts, Cert.ReferenceIdeal.Gen.facts, pre_facts, frame_p, frame_pi, frame_ri,
    fun m ρ _ => frame_ri m ρ trivial, preserves, algebraic⟩

end Cert.Proof

end
